-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Reference (m : (ℓ : Loc Cert.Reference.nD Cert.Reference.τ Cert.Reference.sig) → Buf (Elt Bits) ℓ) : Prop :=
  True

def Pre_Adam (m : (ℓ : Loc Cert.Adam.nD Cert.Adam.τ Cert.Adam.sig) → Buf (Elt Bits) ℓ) : Prop :=
  True

def Pre_AdamIdeal (m : (ℓ : Loc Cert.AdamIdeal.nD Cert.AdamIdeal.τ Cert.AdamIdeal.sig) → Buf (Elt Ideal) ℓ) : Prop :=
  True

def Pre_AdamReferenceIdeal (m : (ℓ : Loc Cert.AdamReferenceIdeal.nD Cert.AdamReferenceIdeal.τ Cert.AdamReferenceIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossReferenceIdeal (m : (ℓ : Loc Cert.LossReferenceIdeal.nD Cert.LossReferenceIdeal.τ Cert.LossReferenceIdeal.sig) → Buf (Elt Ideal) ℓ) : Prop :=
  True

def Pre_GradX (m : (ℓ : Loc Cert.GradX.nD Cert.GradX.τ Cert.GradX.sig) → Buf (Elt Bits) ℓ) : Prop :=
  True

def Pre_GradXIdeal (m : (ℓ : Loc Cert.GradXIdeal.nD Cert.GradXIdeal.τ Cert.GradXIdeal.sig) → Buf (Elt Ideal) ℓ) : Prop :=
  True

def Pre_GradXReferenceIdeal (m : (ℓ : Loc Cert.GradXReferenceIdeal.nD Cert.GradXReferenceIdeal.τ Cert.GradXReferenceIdeal.sig) → Buf (Elt Ideal) ℓ) : Prop :=
  True

def Pre_MlpIn (m : (ℓ : Loc Cert.MlpIn.nD Cert.MlpIn.τ Cert.MlpIn.sig) → Buf (Elt Bits) ℓ) : Prop :=
  True

def Pre_MlpInIdeal (m : (ℓ : Loc Cert.MlpInIdeal.nD Cert.MlpInIdeal.τ Cert.MlpInIdeal.sig) → Buf (Elt Ideal) ℓ) : Prop :=
  True

def Pre_MlpInReferenceIdeal (m : (ℓ : Loc Cert.MlpInReferenceIdeal.nD Cert.MlpInReferenceIdeal.τ Cert.MlpInReferenceIdeal.sig) → Buf (Elt Ideal) ℓ) : Prop :=
  True

def Pre_DownGrad (m : (ℓ : Loc Cert.DownGrad.nD Cert.DownGrad.τ Cert.DownGrad.sig) → Buf (Elt Bits) ℓ) : Prop :=
  True

def Pre_DownGradIdeal (m : (ℓ : Loc Cert.DownGradIdeal.nD Cert.DownGradIdeal.τ Cert.DownGradIdeal.sig) → Buf (Elt Ideal) ℓ) : Prop :=
  True

def Pre_DownGradReferenceIdeal (m : (ℓ : Loc Cert.DownGradReferenceIdeal.nD Cert.DownGradReferenceIdeal.τ Cert.DownGradReferenceIdeal.sig) → Buf (Elt Ideal) ℓ) : Prop :=
  True

def Pre_UpGrad (m : (ℓ : Loc Cert.UpGrad.nD Cert.UpGrad.τ Cert.UpGrad.sig) → Buf (Elt Bits) ℓ) : Prop :=
  True

def Pre_UpGradIdeal (m : (ℓ : Loc Cert.UpGradIdeal.nD Cert.UpGradIdeal.τ Cert.UpGradIdeal.sig) → Buf (Elt Ideal) ℓ) : Prop :=
  True

def Pre_UpGradReferenceIdeal (m : (ℓ : Loc Cert.UpGradReferenceIdeal.nD Cert.UpGradReferenceIdeal.τ Cert.UpGradReferenceIdeal.sig) → Buf (Elt Ideal) ℓ) : Prop :=
  True

def Pre_OutGrad (m : (ℓ : Loc Cert.OutGrad.nD Cert.OutGrad.τ Cert.OutGrad.sig) → Buf (Elt Bits) ℓ) : Prop :=
  True

def Pre_OutGradIdeal (m : (ℓ : Loc Cert.OutGradIdeal.nD Cert.OutGradIdeal.τ Cert.OutGradIdeal.sig) → Buf (Elt Ideal) ℓ) : Prop :=
  True

def Pre_OutGradReferenceIdeal (m : (ℓ : Loc Cert.OutGradReferenceIdeal.nD Cert.OutGradReferenceIdeal.τ Cert.OutGradReferenceIdeal.sig) → Buf (Elt Ideal) ℓ) : Prop :=
  True

def Pre_InGrad (m : (ℓ : Loc Cert.InGrad.nD Cert.InGrad.τ Cert.InGrad.sig) → Buf (Elt Bits) ℓ) : Prop :=
  True

def Pre_InGradIdeal (m : (ℓ : Loc Cert.InGradIdeal.nD Cert.InGradIdeal.τ Cert.InGradIdeal.sig) → Buf (Elt Ideal) ℓ) : Prop :=
  True

def Pre_InGradReferenceIdeal (m : (ℓ : Loc Cert.InGradReferenceIdeal.nD Cert.InGradReferenceIdeal.τ Cert.InGradReferenceIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpReferenceIdeal (m : (ℓ : Loc Cert.UpReferenceIdeal.nD Cert.UpReferenceIdeal.τ Cert.UpReferenceIdeal.sig) → Buf (Elt Ideal) ℓ) : Prop :=
  True

def Pre_Act (m : (ℓ : Loc Cert.Act.nD Cert.Act.τ Cert.Act.sig) → Buf (Elt Bits) ℓ) : Prop :=
  True

def Pre_ActIdeal (m : (ℓ : Loc Cert.ActIdeal.nD Cert.ActIdeal.τ Cert.ActIdeal.sig) → Buf (Elt Ideal) ℓ) : Prop :=
  True

def Pre_ActReferenceIdeal (m : (ℓ : Loc Cert.ActReferenceIdeal.nD Cert.ActReferenceIdeal.τ Cert.ActReferenceIdeal.sig) → Buf (Elt Ideal) ℓ) : Prop :=
  True

def Pre_ConvGrad (m : (ℓ : Loc Cert.ConvGrad.nD Cert.ConvGrad.τ Cert.ConvGrad.sig) → Buf (Elt Bits) ℓ) : Prop :=
  True

def Pre_ConvGradIdeal (m : (ℓ : Loc Cert.ConvGradIdeal.nD Cert.ConvGradIdeal.τ Cert.ConvGradIdeal.sig) → Buf (Elt Ideal) ℓ) : Prop :=
  True

def Pre_ConvGradReferenceIdeal (m : (ℓ : Loc Cert.ConvGradReferenceIdeal.nD Cert.ConvGradReferenceIdeal.τ Cert.ConvGradReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3)
      ∧ r.2.mem ((c.tc : Thread Cert.Reference.nD Cert.Reference.τ).loc Cert.Reference.main_arg4) = m ((c.tc : Thread Cert.Reference.nD Cert.Reference.τ).loc Cert.Reference.main_arg4))
      ∧ r.2.sem = fun _ => 0)

def quiescent_Adam [hAdam : Cert.Adam.Facts] : Prop :=
  ∀ (m : (ℓ : Loc Cert.Adam.nD Cert.Adam.τ Cert.Adam.sig) → Buf (Elt Bits) ℓ) (g : Dev Cert.Adam.nD → PrngReg), Pre_Adam m →
    θ_run (Cert.Adam.defs (F := Bits)) (onTc (τ := Cert.Adam.τ) (Cert.Adam.main (F := Bits))) ⟨m, fun _ => 0, g⟩ (fun r => (∀ c : Dev Cert.Adam.nD,
      r.2.mem ((c.tc : Thread Cert.Adam.nD Cert.Adam.τ).loc Cert.Adam.main_arg0) = m ((c.tc : Thread Cert.Adam.nD Cert.Adam.τ).loc Cert.Adam.main_arg0)
      ∧ r.2.mem ((c.tc : Thread Cert.Adam.nD Cert.Adam.τ).loc Cert.Adam.main_arg1) = m ((c.tc : Thread Cert.Adam.nD Cert.Adam.τ).loc Cert.Adam.main_arg1)
      ∧ r.2.mem ((c.tc : Thread Cert.Adam.nD Cert.Adam.τ).loc Cert.Adam.main_arg2) = m ((c.tc : Thread Cert.Adam.nD Cert.Adam.τ).loc Cert.Adam.main_arg2)
      ∧ r.2.mem ((c.tc : Thread Cert.Adam.nD Cert.Adam.τ).loc Cert.Adam.main_arg3) = m ((c.tc : Thread Cert.Adam.nD Cert.Adam.τ).loc Cert.Adam.main_arg3))
      ∧ r.2.sem = fun _ => 0)

def quiescent_AdamIdeal [hAdamIdeal : Cert.AdamIdeal.Facts] : Prop :=
  ∀ (m : (ℓ : Loc Cert.AdamIdeal.nD Cert.AdamIdeal.τ Cert.AdamIdeal.sig) → Buf (Elt Ideal) ℓ) (g : Dev Cert.AdamIdeal.nD → PrngReg), Pre_AdamIdeal m →
    θ_run (Cert.AdamIdeal.defs (F := Ideal)) (onTc (τ := Cert.AdamIdeal.τ) (Cert.AdamIdeal.main (F := Ideal))) ⟨m, fun _ => 0, g⟩ (fun r => (∀ c : Dev Cert.AdamIdeal.nD,
      r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
      ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
      ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
      ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ r.2.sem = fun _ => 0)

def quiescent_AdamReferenceIdeal [hAdamReferenceIdeal : Cert.AdamReferenceIdeal.Facts] : Prop :=
  ∀ (m : (ℓ : Loc Cert.AdamReferenceIdeal.nD Cert.AdamReferenceIdeal.τ Cert.AdamReferenceIdeal.sig) → Buf (Elt Ideal) ℓ) (g : Dev Cert.AdamReferenceIdeal.nD → PrngReg), Pre_AdamReferenceIdeal m →
    θ_run (Cert.AdamReferenceIdeal.defs (F := Ideal)) (onTc (τ := Cert.AdamReferenceIdeal.τ) (Cert.AdamReferenceIdeal.main (F := Ideal))) ⟨m, fun _ => 0, g⟩ (fun r => (∀ c : Dev Cert.AdamReferenceIdeal.nD,
      r.2.mem ((c.tc : Thread Cert.AdamReferenceIdeal.nD Cert.AdamReferenceIdeal.τ).loc Cert.AdamReferenceIdeal.main_arg0) = m ((c.tc : Thread Cert.AdamReferenceIdeal.nD Cert.AdamReferenceIdeal.τ).loc Cert.AdamReferenceIdeal.main_arg0)
      ∧ r.2.mem ((c.tc : Thread Cert.AdamReferenceIdeal.nD Cert.AdamReferenceIdeal.τ).loc Cert.AdamReferenceIdeal.main_arg1) = m ((c.tc : Thread Cert.AdamReferenceIdeal.nD Cert.AdamReferenceIdeal.τ).loc Cert.AdamReferenceIdeal.main_arg1)
      ∧ r.2.mem ((c.tc : Thread Cert.AdamReferenceIdeal.nD Cert.AdamReferenceIdeal.τ).loc Cert.AdamReferenceIdeal.main_arg2) = m ((c.tc : Thread Cert.AdamReferenceIdeal.nD Cert.AdamReferenceIdeal.τ).loc Cert.AdamReferenceIdeal.main_arg2)
      ∧ r.2.mem ((c.tc : Thread Cert.AdamReferenceIdeal.nD Cert.AdamReferenceIdeal.τ).loc Cert.AdamReferenceIdeal.main_arg3) = m ((c.tc : Thread Cert.AdamReferenceIdeal.nD Cert.AdamReferenceIdeal.τ).loc Cert.AdamReferenceIdeal.main_arg3))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2)
      ∧ r.2.mem ((c.tc : Thread Cert.Loss.nD Cert.Loss.τ).loc Cert.Loss.main_arg3) = m ((c.tc : Thread Cert.Loss.nD Cert.Loss.τ).loc Cert.Loss.main_arg3)
      ∧ r.2.mem ((c.tc : Thread Cert.Loss.nD Cert.Loss.τ).loc Cert.Loss.main_arg4) = m ((c.tc : Thread Cert.Loss.nD Cert.Loss.τ).loc Cert.Loss.main_arg4))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
      ∧ r.2.mem ((c.tc : Thread Cert.LossIdeal.nD Cert.LossIdeal.τ).loc Cert.LossIdeal.main_arg4) = m ((c.tc : Thread Cert.LossIdeal.nD Cert.LossIdeal.τ).loc Cert.LossIdeal.main_arg4))
      ∧ r.2.sem = fun _ => 0)

def quiescent_LossReferenceIdeal [hLossReferenceIdeal : Cert.LossReferenceIdeal.Facts] : Prop :=
  ∀ (m : (ℓ : Loc Cert.LossReferenceIdeal.nD Cert.LossReferenceIdeal.τ Cert.LossReferenceIdeal.sig) → Buf (Elt Ideal) ℓ) (g : Dev Cert.LossReferenceIdeal.nD → PrngReg), Pre_LossReferenceIdeal m →
    θ_run (Cert.LossReferenceIdeal.defs (F := Ideal)) (onTc (τ := Cert.LossReferenceIdeal.τ) (Cert.LossReferenceIdeal.main (F := Ideal))) ⟨m, fun _ => 0, g⟩ (fun r => (∀ c : Dev Cert.LossReferenceIdeal.nD,
      r.2.mem ((c.tc : Thread Cert.LossReferenceIdeal.nD Cert.LossReferenceIdeal.τ).loc Cert.LossReferenceIdeal.main_arg0) = m ((c.tc : Thread Cert.LossReferenceIdeal.nD Cert.LossReferenceIdeal.τ).loc Cert.LossReferenceIdeal.main_arg0)
      ∧ r.2.mem ((c.tc : Thread Cert.LossReferenceIdeal.nD Cert.LossReferenceIdeal.τ).loc Cert.LossReferenceIdeal.main_arg1) = m ((c.tc : Thread Cert.LossReferenceIdeal.nD Cert.LossReferenceIdeal.τ).loc Cert.LossReferenceIdeal.main_arg1)
      ∧ r.2.mem ((c.tc : Thread Cert.LossReferenceIdeal.nD Cert.LossReferenceIdeal.τ).loc Cert.LossReferenceIdeal.main_arg2) = m ((c.tc : Thread Cert.LossReferenceIdeal.nD Cert.LossReferenceIdeal.τ).loc Cert.LossReferenceIdeal.main_arg2)
      ∧ r.2.mem ((c.tc : Thread Cert.LossReferenceIdeal.nD Cert.LossReferenceIdeal.τ).loc Cert.LossReferenceIdeal.main_arg3) = m ((c.tc : Thread Cert.LossReferenceIdeal.nD Cert.LossReferenceIdeal.τ).loc Cert.LossReferenceIdeal.main_arg3)
      ∧ r.2.mem ((c.tc : Thread Cert.LossReferenceIdeal.nD Cert.LossReferenceIdeal.τ).loc Cert.LossReferenceIdeal.main_arg4) = m ((c.tc : Thread Cert.LossReferenceIdeal.nD Cert.LossReferenceIdeal.τ).loc Cert.LossReferenceIdeal.main_arg4))
      ∧ r.2.sem = fun _ => 0)

def quiescent_GradX [hGradX : Cert.GradX.Facts] : Prop :=
  ∀ (m : (ℓ : Loc Cert.GradX.nD Cert.GradX.τ Cert.GradX.sig) → Buf (Elt Bits) ℓ) (g : Dev Cert.GradX.nD → PrngReg), Pre_GradX m →
    θ_run (Cert.GradX.defs (F := Bits)) (onTc (τ := Cert.GradX.τ) (Cert.GradX.main (F := Bits))) ⟨m, fun _ => 0, g⟩ (fun r => (∀ c : Dev Cert.GradX.nD,
      r.2.mem ((c.tc : Thread Cert.GradX.nD Cert.GradX.τ).loc Cert.GradX.main_arg0) = m ((c.tc : Thread Cert.GradX.nD Cert.GradX.τ).loc Cert.GradX.main_arg0)
      ∧ r.2.mem ((c.tc : Thread Cert.GradX.nD Cert.GradX.τ).loc Cert.GradX.main_arg1) = m ((c.tc : Thread Cert.GradX.nD Cert.GradX.τ).loc Cert.GradX.main_arg1)
      ∧ r.2.mem ((c.tc : Thread Cert.GradX.nD Cert.GradX.τ).loc Cert.GradX.main_arg2) = m ((c.tc : Thread Cert.GradX.nD Cert.GradX.τ).loc Cert.GradX.main_arg2)
      ∧ r.2.mem ((c.tc : Thread Cert.GradX.nD Cert.GradX.τ).loc Cert.GradX.main_arg3) = m ((c.tc : Thread Cert.GradX.nD Cert.GradX.τ).loc Cert.GradX.main_arg3)
      ∧ r.2.mem ((c.tc : Thread Cert.GradX.nD Cert.GradX.τ).loc Cert.GradX.main_arg4) = m ((c.tc : Thread Cert.GradX.nD Cert.GradX.τ).loc Cert.GradX.main_arg4)
      ∧ r.2.mem ((c.tc : Thread Cert.GradX.nD Cert.GradX.τ).loc Cert.GradX.main_arg5) = m ((c.tc : Thread Cert.GradX.nD Cert.GradX.τ).loc Cert.GradX.main_arg5)
      ∧ r.2.mem ((c.tc : Thread Cert.GradX.nD Cert.GradX.τ).loc Cert.GradX.main_arg6) = m ((c.tc : Thread Cert.GradX.nD Cert.GradX.τ).loc Cert.GradX.main_arg6)
      ∧ r.2.mem ((c.tc : Thread Cert.GradX.nD Cert.GradX.τ).loc Cert.GradX.main_arg7) = m ((c.tc : Thread Cert.GradX.nD Cert.GradX.τ).loc Cert.GradX.main_arg7)
      ∧ r.2.mem ((c.tc : Thread Cert.GradX.nD Cert.GradX.τ).loc Cert.GradX.main_arg8) = m ((c.tc : Thread Cert.GradX.nD Cert.GradX.τ).loc Cert.GradX.main_arg8)
      ∧ r.2.mem ((c.tc : Thread Cert.GradX.nD Cert.GradX.τ).loc Cert.GradX.main_arg9) = m ((c.tc : Thread Cert.GradX.nD Cert.GradX.τ).loc Cert.GradX.main_arg9)
      ∧ r.2.mem ((c.tc : Thread Cert.GradX.nD Cert.GradX.τ).loc Cert.GradX.main_arg10) = m ((c.tc : Thread Cert.GradX.nD Cert.GradX.τ).loc Cert.GradX.main_arg10)
      ∧ r.2.mem ((c.tc : Thread Cert.GradX.nD Cert.GradX.τ).loc Cert.GradX.main_arg11) = m ((c.tc : Thread Cert.GradX.nD Cert.GradX.τ).loc Cert.GradX.main_arg11))
      ∧ r.2.sem = fun _ => 0)

def quiescent_GradXIdeal [hGradXIdeal : Cert.GradXIdeal.Facts] : Prop :=
  ∀ (m : (ℓ : Loc Cert.GradXIdeal.nD Cert.GradXIdeal.τ Cert.GradXIdeal.sig) → Buf (Elt Ideal) ℓ) (g : Dev Cert.GradXIdeal.nD → PrngReg), Pre_GradXIdeal m →
    θ_run (Cert.GradXIdeal.defs (F := Ideal)) (onTc (τ := Cert.GradXIdeal.τ) (Cert.GradXIdeal.main (F := Ideal))) ⟨m, fun _ => 0, g⟩ (fun r => (∀ c : Dev Cert.GradXIdeal.nD,
      r.2.mem ((c.tc : Thread Cert.GradXIdeal.nD Cert.GradXIdeal.τ).loc Cert.GradXIdeal.main_arg0) = m ((c.tc : Thread Cert.GradXIdeal.nD Cert.GradXIdeal.τ).loc Cert.GradXIdeal.main_arg0)
      ∧ r.2.mem ((c.tc : Thread Cert.GradXIdeal.nD Cert.GradXIdeal.τ).loc Cert.GradXIdeal.main_arg1) = m ((c.tc : Thread Cert.GradXIdeal.nD Cert.GradXIdeal.τ).loc Cert.GradXIdeal.main_arg1)
      ∧ r.2.mem ((c.tc : Thread Cert.GradXIdeal.nD Cert.GradXIdeal.τ).loc Cert.GradXIdeal.main_arg2) = m ((c.tc : Thread Cert.GradXIdeal.nD Cert.GradXIdeal.τ).loc Cert.GradXIdeal.main_arg2)
      ∧ r.2.mem ((c.tc : Thread Cert.GradXIdeal.nD Cert.GradXIdeal.τ).loc Cert.GradXIdeal.main_arg3) = m ((c.tc : Thread Cert.GradXIdeal.nD Cert.GradXIdeal.τ).loc Cert.GradXIdeal.main_arg3)
      ∧ r.2.mem ((c.tc : Thread Cert.GradXIdeal.nD Cert.GradXIdeal.τ).loc Cert.GradXIdeal.main_arg4) = m ((c.tc : Thread Cert.GradXIdeal.nD Cert.GradXIdeal.τ).loc Cert.GradXIdeal.main_arg4)
      ∧ r.2.mem ((c.tc : Thread Cert.GradXIdeal.nD Cert.GradXIdeal.τ).loc Cert.GradXIdeal.main_arg5) = m ((c.tc : Thread Cert.GradXIdeal.nD Cert.GradXIdeal.τ).loc Cert.GradXIdeal.main_arg5)
      ∧ r.2.mem ((c.tc : Thread Cert.GradXIdeal.nD Cert.GradXIdeal.τ).loc Cert.GradXIdeal.main_arg6) = m ((c.tc : Thread Cert.GradXIdeal.nD Cert.GradXIdeal.τ).loc Cert.GradXIdeal.main_arg6)
      ∧ r.2.mem ((c.tc : Thread Cert.GradXIdeal.nD Cert.GradXIdeal.τ).loc Cert.GradXIdeal.main_arg7) = m ((c.tc : Thread Cert.GradXIdeal.nD Cert.GradXIdeal.τ).loc Cert.GradXIdeal.main_arg7)
      ∧ r.2.mem ((c.tc : Thread Cert.GradXIdeal.nD Cert.GradXIdeal.τ).loc Cert.GradXIdeal.main_arg8) = m ((c.tc : Thread Cert.GradXIdeal.nD Cert.GradXIdeal.τ).loc Cert.GradXIdeal.main_arg8)
      ∧ r.2.mem ((c.tc : Thread Cert.GradXIdeal.nD Cert.GradXIdeal.τ).loc Cert.GradXIdeal.main_arg9) = m ((c.tc : Thread Cert.GradXIdeal.nD Cert.GradXIdeal.τ).loc Cert.GradXIdeal.main_arg9)
      ∧ r.2.mem ((c.tc : Thread Cert.GradXIdeal.nD Cert.GradXIdeal.τ).loc Cert.GradXIdeal.main_arg10) = m ((c.tc : Thread Cert.GradXIdeal.nD Cert.GradXIdeal.τ).loc Cert.GradXIdeal.main_arg10)
      ∧ r.2.mem ((c.tc : Thread Cert.GradXIdeal.nD Cert.GradXIdeal.τ).loc Cert.GradXIdeal.main_arg11) = m ((c.tc : Thread Cert.GradXIdeal.nD Cert.GradXIdeal.τ).loc Cert.GradXIdeal.main_arg11))
      ∧ r.2.sem = fun _ => 0)

def quiescent_GradXReferenceIdeal [hGradXReferenceIdeal : Cert.GradXReferenceIdeal.Facts] : Prop :=
  ∀ (m : (ℓ : Loc Cert.GradXReferenceIdeal.nD Cert.GradXReferenceIdeal.τ Cert.GradXReferenceIdeal.sig) → Buf (Elt Ideal) ℓ) (g : Dev Cert.GradXReferenceIdeal.nD → PrngReg), Pre_GradXReferenceIdeal m →
    θ_run (Cert.GradXReferenceIdeal.defs (F := Ideal)) (onTc (τ := Cert.GradXReferenceIdeal.τ) (Cert.GradXReferenceIdeal.main (F := Ideal))) ⟨m, fun _ => 0, g⟩ (fun r => (∀ c : Dev Cert.GradXReferenceIdeal.nD,
      r.2.mem ((c.tc : Thread Cert.GradXReferenceIdeal.nD Cert.GradXReferenceIdeal.τ).loc Cert.GradXReferenceIdeal.main_arg0) = m ((c.tc : Thread Cert.GradXReferenceIdeal.nD Cert.GradXReferenceIdeal.τ).loc Cert.GradXReferenceIdeal.main_arg0)
      ∧ r.2.mem ((c.tc : Thread Cert.GradXReferenceIdeal.nD Cert.GradXReferenceIdeal.τ).loc Cert.GradXReferenceIdeal.main_arg1) = m ((c.tc : Thread Cert.GradXReferenceIdeal.nD Cert.GradXReferenceIdeal.τ).loc Cert.GradXReferenceIdeal.main_arg1)
      ∧ r.2.mem ((c.tc : Thread Cert.GradXReferenceIdeal.nD Cert.GradXReferenceIdeal.τ).loc Cert.GradXReferenceIdeal.main_arg2) = m ((c.tc : Thread Cert.GradXReferenceIdeal.nD Cert.GradXReferenceIdeal.τ).loc Cert.GradXReferenceIdeal.main_arg2)
      ∧ r.2.mem ((c.tc : Thread Cert.GradXReferenceIdeal.nD Cert.GradXReferenceIdeal.τ).loc Cert.GradXReferenceIdeal.main_arg3) = m ((c.tc : Thread Cert.GradXReferenceIdeal.nD Cert.GradXReferenceIdeal.τ).loc Cert.GradXReferenceIdeal.main_arg3)
      ∧ r.2.mem ((c.tc : Thread Cert.GradXReferenceIdeal.nD Cert.GradXReferenceIdeal.τ).loc Cert.GradXReferenceIdeal.main_arg4) = m ((c.tc : Thread Cert.GradXReferenceIdeal.nD Cert.GradXReferenceIdeal.τ).loc Cert.GradXReferenceIdeal.main_arg4)
      ∧ r.2.mem ((c.tc : Thread Cert.GradXReferenceIdeal.nD Cert.GradXReferenceIdeal.τ).loc Cert.GradXReferenceIdeal.main_arg5) = m ((c.tc : Thread Cert.GradXReferenceIdeal.nD Cert.GradXReferenceIdeal.τ).loc Cert.GradXReferenceIdeal.main_arg5)
      ∧ r.2.mem ((c.tc : Thread Cert.GradXReferenceIdeal.nD Cert.GradXReferenceIdeal.τ).loc Cert.GradXReferenceIdeal.main_arg6) = m ((c.tc : Thread Cert.GradXReferenceIdeal.nD Cert.GradXReferenceIdeal.τ).loc Cert.GradXReferenceIdeal.main_arg6)
      ∧ r.2.mem ((c.tc : Thread Cert.GradXReferenceIdeal.nD Cert.GradXReferenceIdeal.τ).loc Cert.GradXReferenceIdeal.main_arg7) = m ((c.tc : Thread Cert.GradXReferenceIdeal.nD Cert.GradXReferenceIdeal.τ).loc Cert.GradXReferenceIdeal.main_arg7)
      ∧ r.2.mem ((c.tc : Thread Cert.GradXReferenceIdeal.nD Cert.GradXReferenceIdeal.τ).loc Cert.GradXReferenceIdeal.main_arg8) = m ((c.tc : Thread Cert.GradXReferenceIdeal.nD Cert.GradXReferenceIdeal.τ).loc Cert.GradXReferenceIdeal.main_arg8)
      ∧ r.2.mem ((c.tc : Thread Cert.GradXReferenceIdeal.nD Cert.GradXReferenceIdeal.τ).loc Cert.GradXReferenceIdeal.main_arg9) = m ((c.tc : Thread Cert.GradXReferenceIdeal.nD Cert.GradXReferenceIdeal.τ).loc Cert.GradXReferenceIdeal.main_arg9)
      ∧ r.2.mem ((c.tc : Thread Cert.GradXReferenceIdeal.nD Cert.GradXReferenceIdeal.τ).loc Cert.GradXReferenceIdeal.main_arg10) = m ((c.tc : Thread Cert.GradXReferenceIdeal.nD Cert.GradXReferenceIdeal.τ).loc Cert.GradXReferenceIdeal.main_arg10)
      ∧ r.2.mem ((c.tc : Thread Cert.GradXReferenceIdeal.nD Cert.GradXReferenceIdeal.τ).loc Cert.GradXReferenceIdeal.main_arg11) = m ((c.tc : Thread Cert.GradXReferenceIdeal.nD Cert.GradXReferenceIdeal.τ).loc Cert.GradXReferenceIdeal.main_arg11))
      ∧ r.2.sem = fun _ => 0)

def quiescent_MlpIn [hMlpIn : Cert.MlpIn.Facts] : Prop :=
  ∀ (m : (ℓ : Loc Cert.MlpIn.nD Cert.MlpIn.τ Cert.MlpIn.sig) → Buf (Elt Bits) ℓ) (g : Dev Cert.MlpIn.nD → PrngReg), Pre_MlpIn m →
    θ_run (Cert.MlpIn.defs (F := Bits)) (onTc (τ := Cert.MlpIn.τ) (Cert.MlpIn.main (F := Bits))) ⟨m, fun _ => 0, g⟩ (fun r => (∀ c : Dev Cert.MlpIn.nD,
      r.2.mem ((c.tc : Thread Cert.MlpIn.nD Cert.MlpIn.τ).loc Cert.MlpIn.main_arg0) = m ((c.tc : Thread Cert.MlpIn.nD Cert.MlpIn.τ).loc Cert.MlpIn.main_arg0)
      ∧ r.2.mem ((c.tc : Thread Cert.MlpIn.nD Cert.MlpIn.τ).loc Cert.MlpIn.main_arg1) = m ((c.tc : Thread Cert.MlpIn.nD Cert.MlpIn.τ).loc Cert.MlpIn.main_arg1)
      ∧ r.2.mem ((c.tc : Thread Cert.MlpIn.nD Cert.MlpIn.τ).loc Cert.MlpIn.main_arg2) = m ((c.tc : Thread Cert.MlpIn.nD Cert.MlpIn.τ).loc Cert.MlpIn.main_arg2)
      ∧ r.2.mem ((c.tc : Thread Cert.MlpIn.nD Cert.MlpIn.τ).loc Cert.MlpIn.main_arg3) = m ((c.tc : Thread Cert.MlpIn.nD Cert.MlpIn.τ).loc Cert.MlpIn.main_arg3)
      ∧ r.2.mem ((c.tc : Thread Cert.MlpIn.nD Cert.MlpIn.τ).loc Cert.MlpIn.main_arg4) = m ((c.tc : Thread Cert.MlpIn.nD Cert.MlpIn.τ).loc Cert.MlpIn.main_arg4)
      ∧ r.2.mem ((c.tc : Thread Cert.MlpIn.nD Cert.MlpIn.τ).loc Cert.MlpIn.main_arg5) = m ((c.tc : Thread Cert.MlpIn.nD Cert.MlpIn.τ).loc Cert.MlpIn.main_arg5)
      ∧ r.2.mem ((c.tc : Thread Cert.MlpIn.nD Cert.MlpIn.τ).loc Cert.MlpIn.main_arg6) = m ((c.tc : Thread Cert.MlpIn.nD Cert.MlpIn.τ).loc Cert.MlpIn.main_arg6))
      ∧ r.2.sem = fun _ => 0)

def quiescent_MlpInIdeal [hMlpInIdeal : Cert.MlpInIdeal.Facts] : Prop :=
  ∀ (m : (ℓ : Loc Cert.MlpInIdeal.nD Cert.MlpInIdeal.τ Cert.MlpInIdeal.sig) → Buf (Elt Ideal) ℓ) (g : Dev Cert.MlpInIdeal.nD → PrngReg), Pre_MlpInIdeal m →
    θ_run (Cert.MlpInIdeal.defs (F := Ideal)) (onTc (τ := Cert.MlpInIdeal.τ) (Cert.MlpInIdeal.main (F := Ideal))) ⟨m, fun _ => 0, g⟩ (fun r => (∀ c : Dev Cert.MlpInIdeal.nD,
      r.2.mem ((c.tc : Thread Cert.MlpInIdeal.nD Cert.MlpInIdeal.τ).loc Cert.MlpInIdeal.main_arg0) = m ((c.tc : Thread Cert.MlpInIdeal.nD Cert.MlpInIdeal.τ).loc Cert.MlpInIdeal.main_arg0)
      ∧ r.2.mem ((c.tc : Thread Cert.MlpInIdeal.nD Cert.MlpInIdeal.τ).loc Cert.MlpInIdeal.main_arg1) = m ((c.tc : Thread Cert.MlpInIdeal.nD Cert.MlpInIdeal.τ).loc Cert.MlpInIdeal.main_arg1)
      ∧ r.2.mem ((c.tc : Thread Cert.MlpInIdeal.nD Cert.MlpInIdeal.τ).loc Cert.MlpInIdeal.main_arg2) = m ((c.tc : Thread Cert.MlpInIdeal.nD Cert.MlpInIdeal.τ).loc Cert.MlpInIdeal.main_arg2)
      ∧ r.2.mem ((c.tc : Thread Cert.MlpInIdeal.nD Cert.MlpInIdeal.τ).loc Cert.MlpInIdeal.main_arg3) = m ((c.tc : Thread Cert.MlpInIdeal.nD Cert.MlpInIdeal.τ).loc Cert.MlpInIdeal.main_arg3)
      ∧ r.2.mem ((c.tc : Thread Cert.MlpInIdeal.nD Cert.MlpInIdeal.τ).loc Cert.MlpInIdeal.main_arg4) = m ((c.tc : Thread Cert.MlpInIdeal.nD Cert.MlpInIdeal.τ).loc Cert.MlpInIdeal.main_arg4)
      ∧ r.2.mem ((c.tc : Thread Cert.MlpInIdeal.nD Cert.MlpInIdeal.τ).loc Cert.MlpInIdeal.main_arg5) = m ((c.tc : Thread Cert.MlpInIdeal.nD Cert.MlpInIdeal.τ).loc Cert.MlpInIdeal.main_arg5)
      ∧ r.2.mem ((c.tc : Thread Cert.MlpInIdeal.nD Cert.MlpInIdeal.τ).loc Cert.MlpInIdeal.main_arg6) = m ((c.tc : Thread Cert.MlpInIdeal.nD Cert.MlpInIdeal.τ).loc Cert.MlpInIdeal.main_arg6))
      ∧ r.2.sem = fun _ => 0)

def quiescent_MlpInReferenceIdeal [hMlpInReferenceIdeal : Cert.MlpInReferenceIdeal.Facts] : Prop :=
  ∀ (m : (ℓ : Loc Cert.MlpInReferenceIdeal.nD Cert.MlpInReferenceIdeal.τ Cert.MlpInReferenceIdeal.sig) → Buf (Elt Ideal) ℓ) (g : Dev Cert.MlpInReferenceIdeal.nD → PrngReg), Pre_MlpInReferenceIdeal m →
    θ_run (Cert.MlpInReferenceIdeal.defs (F := Ideal)) (onTc (τ := Cert.MlpInReferenceIdeal.τ) (Cert.MlpInReferenceIdeal.main (F := Ideal))) ⟨m, fun _ => 0, g⟩ (fun r => (∀ c : Dev Cert.MlpInReferenceIdeal.nD,
      r.2.mem ((c.tc : Thread Cert.MlpInReferenceIdeal.nD Cert.MlpInReferenceIdeal.τ).loc Cert.MlpInReferenceIdeal.main_arg0) = m ((c.tc : Thread Cert.MlpInReferenceIdeal.nD Cert.MlpInReferenceIdeal.τ).loc Cert.MlpInReferenceIdeal.main_arg0)
      ∧ r.2.mem ((c.tc : Thread Cert.MlpInReferenceIdeal.nD Cert.MlpInReferenceIdeal.τ).loc Cert.MlpInReferenceIdeal.main_arg1) = m ((c.tc : Thread Cert.MlpInReferenceIdeal.nD Cert.MlpInReferenceIdeal.τ).loc Cert.MlpInReferenceIdeal.main_arg1)
      ∧ r.2.mem ((c.tc : Thread Cert.MlpInReferenceIdeal.nD Cert.MlpInReferenceIdeal.τ).loc Cert.MlpInReferenceIdeal.main_arg2) = m ((c.tc : Thread Cert.MlpInReferenceIdeal.nD Cert.MlpInReferenceIdeal.τ).loc Cert.MlpInReferenceIdeal.main_arg2)
      ∧ r.2.mem ((c.tc : Thread Cert.MlpInReferenceIdeal.nD Cert.MlpInReferenceIdeal.τ).loc Cert.MlpInReferenceIdeal.main_arg3) = m ((c.tc : Thread Cert.MlpInReferenceIdeal.nD Cert.MlpInReferenceIdeal.τ).loc Cert.MlpInReferenceIdeal.main_arg3)
      ∧ r.2.mem ((c.tc : Thread Cert.MlpInReferenceIdeal.nD Cert.MlpInReferenceIdeal.τ).loc Cert.MlpInReferenceIdeal.main_arg4) = m ((c.tc : Thread Cert.MlpInReferenceIdeal.nD Cert.MlpInReferenceIdeal.τ).loc Cert.MlpInReferenceIdeal.main_arg4)
      ∧ r.2.mem ((c.tc : Thread Cert.MlpInReferenceIdeal.nD Cert.MlpInReferenceIdeal.τ).loc Cert.MlpInReferenceIdeal.main_arg5) = m ((c.tc : Thread Cert.MlpInReferenceIdeal.nD Cert.MlpInReferenceIdeal.τ).loc Cert.MlpInReferenceIdeal.main_arg5)
      ∧ r.2.mem ((c.tc : Thread Cert.MlpInReferenceIdeal.nD Cert.MlpInReferenceIdeal.τ).loc Cert.MlpInReferenceIdeal.main_arg6) = m ((c.tc : Thread Cert.MlpInReferenceIdeal.nD Cert.MlpInReferenceIdeal.τ).loc Cert.MlpInReferenceIdeal.main_arg6))
      ∧ r.2.sem = fun _ => 0)

def quiescent_DownGrad [hDownGrad : Cert.DownGrad.Facts] : Prop :=
  ∀ (m : (ℓ : Loc Cert.DownGrad.nD Cert.DownGrad.τ Cert.DownGrad.sig) → Buf (Elt Bits) ℓ) (g : Dev Cert.DownGrad.nD → PrngReg), Pre_DownGrad m →
    θ_run (Cert.DownGrad.defs (F := Bits)) (onTc (τ := Cert.DownGrad.τ) (Cert.DownGrad.main (F := Bits))) ⟨m, fun _ => 0, g⟩ (fun r => (∀ c : Dev Cert.DownGrad.nD,
      r.2.mem ((c.tc : Thread Cert.DownGrad.nD Cert.DownGrad.τ).loc Cert.DownGrad.main_arg0) = m ((c.tc : Thread Cert.DownGrad.nD Cert.DownGrad.τ).loc Cert.DownGrad.main_arg0)
      ∧ r.2.mem ((c.tc : Thread Cert.DownGrad.nD Cert.DownGrad.τ).loc Cert.DownGrad.main_arg1) = m ((c.tc : Thread Cert.DownGrad.nD Cert.DownGrad.τ).loc Cert.DownGrad.main_arg1))
      ∧ r.2.sem = fun _ => 0)

def quiescent_DownGradIdeal [hDownGradIdeal : Cert.DownGradIdeal.Facts] : Prop :=
  ∀ (m : (ℓ : Loc Cert.DownGradIdeal.nD Cert.DownGradIdeal.τ Cert.DownGradIdeal.sig) → Buf (Elt Ideal) ℓ) (g : Dev Cert.DownGradIdeal.nD → PrngReg), Pre_DownGradIdeal m →
    θ_run (Cert.DownGradIdeal.defs (F := Ideal)) (onTc (τ := Cert.DownGradIdeal.τ) (Cert.DownGradIdeal.main (F := Ideal))) ⟨m, fun _ => 0, g⟩ (fun r => (∀ c : Dev Cert.DownGradIdeal.nD,
      r.2.mem ((c.tc : Thread Cert.DownGradIdeal.nD Cert.DownGradIdeal.τ).loc Cert.DownGradIdeal.main_arg0) = m ((c.tc : Thread Cert.DownGradIdeal.nD Cert.DownGradIdeal.τ).loc Cert.DownGradIdeal.main_arg0)
      ∧ r.2.mem ((c.tc : Thread Cert.DownGradIdeal.nD Cert.DownGradIdeal.τ).loc Cert.DownGradIdeal.main_arg1) = m ((c.tc : Thread Cert.DownGradIdeal.nD Cert.DownGradIdeal.τ).loc Cert.DownGradIdeal.main_arg1))
      ∧ r.2.sem = fun _ => 0)

def quiescent_DownGradReferenceIdeal [hDownGradReferenceIdeal : Cert.DownGradReferenceIdeal.Facts] : Prop :=
  ∀ (m : (ℓ : Loc Cert.DownGradReferenceIdeal.nD Cert.DownGradReferenceIdeal.τ Cert.DownGradReferenceIdeal.sig) → Buf (Elt Ideal) ℓ) (g : Dev Cert.DownGradReferenceIdeal.nD → PrngReg), Pre_DownGradReferenceIdeal m →
    θ_run (Cert.DownGradReferenceIdeal.defs (F := Ideal)) (onTc (τ := Cert.DownGradReferenceIdeal.τ) (Cert.DownGradReferenceIdeal.main (F := Ideal))) ⟨m, fun _ => 0, g⟩ (fun r => (∀ c : Dev Cert.DownGradReferenceIdeal.nD,
      r.2.mem ((c.tc : Thread Cert.DownGradReferenceIdeal.nD Cert.DownGradReferenceIdeal.τ).loc Cert.DownGradReferenceIdeal.main_arg0) = m ((c.tc : Thread Cert.DownGradReferenceIdeal.nD Cert.DownGradReferenceIdeal.τ).loc Cert.DownGradReferenceIdeal.main_arg0)
      ∧ r.2.mem ((c.tc : Thread Cert.DownGradReferenceIdeal.nD Cert.DownGradReferenceIdeal.τ).loc Cert.DownGradReferenceIdeal.main_arg1) = m ((c.tc : Thread Cert.DownGradReferenceIdeal.nD Cert.DownGradReferenceIdeal.τ).loc Cert.DownGradReferenceIdeal.main_arg1))
      ∧ r.2.sem = fun _ => 0)

def quiescent_UpGrad [hUpGrad : Cert.UpGrad.Facts] : Prop :=
  ∀ (m : (ℓ : Loc Cert.UpGrad.nD Cert.UpGrad.τ Cert.UpGrad.sig) → Buf (Elt Bits) ℓ) (g : Dev Cert.UpGrad.nD → PrngReg), Pre_UpGrad m →
    θ_run (Cert.UpGrad.defs (F := Bits)) (onTc (τ := Cert.UpGrad.τ) (Cert.UpGrad.main (F := Bits))) ⟨m, fun _ => 0, g⟩ (fun r => (∀ c : Dev Cert.UpGrad.nD,
      r.2.mem ((c.tc : Thread Cert.UpGrad.nD Cert.UpGrad.τ).loc Cert.UpGrad.main_arg0) = m ((c.tc : Thread Cert.UpGrad.nD Cert.UpGrad.τ).loc Cert.UpGrad.main_arg0)
      ∧ r.2.mem ((c.tc : Thread Cert.UpGrad.nD Cert.UpGrad.τ).loc Cert.UpGrad.main_arg1) = m ((c.tc : Thread Cert.UpGrad.nD Cert.UpGrad.τ).loc Cert.UpGrad.main_arg1))
      ∧ r.2.sem = fun _ => 0)

def quiescent_UpGradIdeal [hUpGradIdeal : Cert.UpGradIdeal.Facts] : Prop :=
  ∀ (m : (ℓ : Loc Cert.UpGradIdeal.nD Cert.UpGradIdeal.τ Cert.UpGradIdeal.sig) → Buf (Elt Ideal) ℓ) (g : Dev Cert.UpGradIdeal.nD → PrngReg), Pre_UpGradIdeal m →
    θ_run (Cert.UpGradIdeal.defs (F := Ideal)) (onTc (τ := Cert.UpGradIdeal.τ) (Cert.UpGradIdeal.main (F := Ideal))) ⟨m, fun _ => 0, g⟩ (fun r => (∀ c : Dev Cert.UpGradIdeal.nD,
      r.2.mem ((c.tc : Thread Cert.UpGradIdeal.nD Cert.UpGradIdeal.τ).loc Cert.UpGradIdeal.main_arg0) = m ((c.tc : Thread Cert.UpGradIdeal.nD Cert.UpGradIdeal.τ).loc Cert.UpGradIdeal.main_arg0)
      ∧ r.2.mem ((c.tc : Thread Cert.UpGradIdeal.nD Cert.UpGradIdeal.τ).loc Cert.UpGradIdeal.main_arg1) = m ((c.tc : Thread Cert.UpGradIdeal.nD Cert.UpGradIdeal.τ).loc Cert.UpGradIdeal.main_arg1))
      ∧ r.2.sem = fun _ => 0)

def quiescent_UpGradReferenceIdeal [hUpGradReferenceIdeal : Cert.UpGradReferenceIdeal.Facts] : Prop :=
  ∀ (m : (ℓ : Loc Cert.UpGradReferenceIdeal.nD Cert.UpGradReferenceIdeal.τ Cert.UpGradReferenceIdeal.sig) → Buf (Elt Ideal) ℓ) (g : Dev Cert.UpGradReferenceIdeal.nD → PrngReg), Pre_UpGradReferenceIdeal m →
    θ_run (Cert.UpGradReferenceIdeal.defs (F := Ideal)) (onTc (τ := Cert.UpGradReferenceIdeal.τ) (Cert.UpGradReferenceIdeal.main (F := Ideal))) ⟨m, fun _ => 0, g⟩ (fun r => (∀ c : Dev Cert.UpGradReferenceIdeal.nD,
      r.2.mem ((c.tc : Thread Cert.UpGradReferenceIdeal.nD Cert.UpGradReferenceIdeal.τ).loc Cert.UpGradReferenceIdeal.main_arg0) = m ((c.tc : Thread Cert.UpGradReferenceIdeal.nD Cert.UpGradReferenceIdeal.τ).loc Cert.UpGradReferenceIdeal.main_arg0)
      ∧ r.2.mem ((c.tc : Thread Cert.UpGradReferenceIdeal.nD Cert.UpGradReferenceIdeal.τ).loc Cert.UpGradReferenceIdeal.main_arg1) = m ((c.tc : Thread Cert.UpGradReferenceIdeal.nD Cert.UpGradReferenceIdeal.τ).loc Cert.UpGradReferenceIdeal.main_arg1))
      ∧ r.2.sem = fun _ => 0)

def quiescent_OutGrad [hOutGrad : Cert.OutGrad.Facts] : Prop :=
  ∀ (m : (ℓ : Loc Cert.OutGrad.nD Cert.OutGrad.τ Cert.OutGrad.sig) → Buf (Elt Bits) ℓ) (g : Dev Cert.OutGrad.nD → PrngReg), Pre_OutGrad m →
    θ_run (Cert.OutGrad.defs (F := Bits)) (onTc (τ := Cert.OutGrad.τ) (Cert.OutGrad.main (F := Bits))) ⟨m, fun _ => 0, g⟩ (fun r => (∀ c : Dev Cert.OutGrad.nD,
      r.2.mem ((c.tc : Thread Cert.OutGrad.nD Cert.OutGrad.τ).loc Cert.OutGrad.main_arg0) = m ((c.tc : Thread Cert.OutGrad.nD Cert.OutGrad.τ).loc Cert.OutGrad.main_arg0)
      ∧ r.2.mem ((c.tc : Thread Cert.OutGrad.nD Cert.OutGrad.τ).loc Cert.OutGrad.main_arg1) = m ((c.tc : Thread Cert.OutGrad.nD Cert.OutGrad.τ).loc Cert.OutGrad.main_arg1))
      ∧ r.2.sem = fun _ => 0)

def quiescent_OutGradIdeal [hOutGradIdeal : Cert.OutGradIdeal.Facts] : Prop :=
  ∀ (m : (ℓ : Loc Cert.OutGradIdeal.nD Cert.OutGradIdeal.τ Cert.OutGradIdeal.sig) → Buf (Elt Ideal) ℓ) (g : Dev Cert.OutGradIdeal.nD → PrngReg), Pre_OutGradIdeal m →
    θ_run (Cert.OutGradIdeal.defs (F := Ideal)) (onTc (τ := Cert.OutGradIdeal.τ) (Cert.OutGradIdeal.main (F := Ideal))) ⟨m, fun _ => 0, g⟩ (fun r => (∀ c : Dev Cert.OutGradIdeal.nD,
      r.2.mem ((c.tc : Thread Cert.OutGradIdeal.nD Cert.OutGradIdeal.τ).loc Cert.OutGradIdeal.main_arg0) = m ((c.tc : Thread Cert.OutGradIdeal.nD Cert.OutGradIdeal.τ).loc Cert.OutGradIdeal.main_arg0)
      ∧ r.2.mem ((c.tc : Thread Cert.OutGradIdeal.nD Cert.OutGradIdeal.τ).loc Cert.OutGradIdeal.main_arg1) = m ((c.tc : Thread Cert.OutGradIdeal.nD Cert.OutGradIdeal.τ).loc Cert.OutGradIdeal.main_arg1))
      ∧ r.2.sem = fun _ => 0)

def quiescent_OutGradReferenceIdeal [hOutGradReferenceIdeal : Cert.OutGradReferenceIdeal.Facts] : Prop :=
  ∀ (m : (ℓ : Loc Cert.OutGradReferenceIdeal.nD Cert.OutGradReferenceIdeal.τ Cert.OutGradReferenceIdeal.sig) → Buf (Elt Ideal) ℓ) (g : Dev Cert.OutGradReferenceIdeal.nD → PrngReg), Pre_OutGradReferenceIdeal m →
    θ_run (Cert.OutGradReferenceIdeal.defs (F := Ideal)) (onTc (τ := Cert.OutGradReferenceIdeal.τ) (Cert.OutGradReferenceIdeal.main (F := Ideal))) ⟨m, fun _ => 0, g⟩ (fun r => (∀ c : Dev Cert.OutGradReferenceIdeal.nD,
      r.2.mem ((c.tc : Thread Cert.OutGradReferenceIdeal.nD Cert.OutGradReferenceIdeal.τ).loc Cert.OutGradReferenceIdeal.main_arg0) = m ((c.tc : Thread Cert.OutGradReferenceIdeal.nD Cert.OutGradReferenceIdeal.τ).loc Cert.OutGradReferenceIdeal.main_arg0)
      ∧ r.2.mem ((c.tc : Thread Cert.OutGradReferenceIdeal.nD Cert.OutGradReferenceIdeal.τ).loc Cert.OutGradReferenceIdeal.main_arg1) = m ((c.tc : Thread Cert.OutGradReferenceIdeal.nD Cert.OutGradReferenceIdeal.τ).loc Cert.OutGradReferenceIdeal.main_arg1))
      ∧ r.2.sem = fun _ => 0)

def quiescent_InGrad [hInGrad : Cert.InGrad.Facts] : Prop :=
  ∀ (m : (ℓ : Loc Cert.InGrad.nD Cert.InGrad.τ Cert.InGrad.sig) → Buf (Elt Bits) ℓ) (g : Dev Cert.InGrad.nD → PrngReg), Pre_InGrad m →
    θ_run (Cert.InGrad.defs (F := Bits)) (onTc (τ := Cert.InGrad.τ) (Cert.InGrad.main (F := Bits))) ⟨m, fun _ => 0, g⟩ (fun r => (∀ c : Dev Cert.InGrad.nD,
      r.2.mem ((c.tc : Thread Cert.InGrad.nD Cert.InGrad.τ).loc Cert.InGrad.main_arg0) = m ((c.tc : Thread Cert.InGrad.nD Cert.InGrad.τ).loc Cert.InGrad.main_arg0)
      ∧ r.2.mem ((c.tc : Thread Cert.InGrad.nD Cert.InGrad.τ).loc Cert.InGrad.main_arg1) = m ((c.tc : Thread Cert.InGrad.nD Cert.InGrad.τ).loc Cert.InGrad.main_arg1))
      ∧ r.2.sem = fun _ => 0)

def quiescent_InGradIdeal [hInGradIdeal : Cert.InGradIdeal.Facts] : Prop :=
  ∀ (m : (ℓ : Loc Cert.InGradIdeal.nD Cert.InGradIdeal.τ Cert.InGradIdeal.sig) → Buf (Elt Ideal) ℓ) (g : Dev Cert.InGradIdeal.nD → PrngReg), Pre_InGradIdeal m →
    θ_run (Cert.InGradIdeal.defs (F := Ideal)) (onTc (τ := Cert.InGradIdeal.τ) (Cert.InGradIdeal.main (F := Ideal))) ⟨m, fun _ => 0, g⟩ (fun r => (∀ c : Dev Cert.InGradIdeal.nD,
      r.2.mem ((c.tc : Thread Cert.InGradIdeal.nD Cert.InGradIdeal.τ).loc Cert.InGradIdeal.main_arg0) = m ((c.tc : Thread Cert.InGradIdeal.nD Cert.InGradIdeal.τ).loc Cert.InGradIdeal.main_arg0)
      ∧ r.2.mem ((c.tc : Thread Cert.InGradIdeal.nD Cert.InGradIdeal.τ).loc Cert.InGradIdeal.main_arg1) = m ((c.tc : Thread Cert.InGradIdeal.nD Cert.InGradIdeal.τ).loc Cert.InGradIdeal.main_arg1))
      ∧ r.2.sem = fun _ => 0)

def quiescent_InGradReferenceIdeal [hInGradReferenceIdeal : Cert.InGradReferenceIdeal.Facts] : Prop :=
  ∀ (m : (ℓ : Loc Cert.InGradReferenceIdeal.nD Cert.InGradReferenceIdeal.τ Cert.InGradReferenceIdeal.sig) → Buf (Elt Ideal) ℓ) (g : Dev Cert.InGradReferenceIdeal.nD → PrngReg), Pre_InGradReferenceIdeal m →
    θ_run (Cert.InGradReferenceIdeal.defs (F := Ideal)) (onTc (τ := Cert.InGradReferenceIdeal.τ) (Cert.InGradReferenceIdeal.main (F := Ideal))) ⟨m, fun _ => 0, g⟩ (fun r => (∀ c : Dev Cert.InGradReferenceIdeal.nD,
      r.2.mem ((c.tc : Thread Cert.InGradReferenceIdeal.nD Cert.InGradReferenceIdeal.τ).loc Cert.InGradReferenceIdeal.main_arg0) = m ((c.tc : Thread Cert.InGradReferenceIdeal.nD Cert.InGradReferenceIdeal.τ).loc Cert.InGradReferenceIdeal.main_arg0)
      ∧ r.2.mem ((c.tc : Thread Cert.InGradReferenceIdeal.nD Cert.InGradReferenceIdeal.τ).loc Cert.InGradReferenceIdeal.main_arg1) = m ((c.tc : Thread Cert.InGradReferenceIdeal.nD Cert.InGradReferenceIdeal.τ).loc Cert.InGradReferenceIdeal.main_arg1))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpReferenceIdeal [hUpReferenceIdeal : Cert.UpReferenceIdeal.Facts] : Prop :=
  ∀ (m : (ℓ : Loc Cert.UpReferenceIdeal.nD Cert.UpReferenceIdeal.τ Cert.UpReferenceIdeal.sig) → Buf (Elt Ideal) ℓ) (g : Dev Cert.UpReferenceIdeal.nD → PrngReg), Pre_UpReferenceIdeal m →
    θ_run (Cert.UpReferenceIdeal.defs (F := Ideal)) (onTc (τ := Cert.UpReferenceIdeal.τ) (Cert.UpReferenceIdeal.main (F := Ideal))) ⟨m, fun _ => 0, g⟩ (fun r => (∀ c : Dev Cert.UpReferenceIdeal.nD,
      r.2.mem ((c.tc : Thread Cert.UpReferenceIdeal.nD Cert.UpReferenceIdeal.τ).loc Cert.UpReferenceIdeal.main_arg0) = m ((c.tc : Thread Cert.UpReferenceIdeal.nD Cert.UpReferenceIdeal.τ).loc Cert.UpReferenceIdeal.main_arg0)
      ∧ r.2.mem ((c.tc : Thread Cert.UpReferenceIdeal.nD Cert.UpReferenceIdeal.τ).loc Cert.UpReferenceIdeal.main_arg1) = m ((c.tc : Thread Cert.UpReferenceIdeal.nD Cert.UpReferenceIdeal.τ).loc Cert.UpReferenceIdeal.main_arg1))
      ∧ r.2.sem = fun _ => 0)

def quiescent_Act [hAct : Cert.Act.Facts] : Prop :=
  ∀ (m : (ℓ : Loc Cert.Act.nD Cert.Act.τ Cert.Act.sig) → Buf (Elt Bits) ℓ) (g : Dev Cert.Act.nD → PrngReg), Pre_Act m →
    θ_run (Cert.Act.defs (F := Bits)) (onTc (τ := Cert.Act.τ) (Cert.Act.main (F := Bits))) ⟨m, fun _ => 0, g⟩ (fun r => (∀ c : Dev Cert.Act.nD,
      r.2.mem ((c.tc : Thread Cert.Act.nD Cert.Act.τ).loc Cert.Act.main_arg0) = m ((c.tc : Thread Cert.Act.nD Cert.Act.τ).loc Cert.Act.main_arg0)
      ∧ r.2.mem ((c.tc : Thread Cert.Act.nD Cert.Act.τ).loc Cert.Act.main_arg1) = m ((c.tc : Thread Cert.Act.nD Cert.Act.τ).loc Cert.Act.main_arg1)
      ∧ r.2.mem ((c.tc : Thread Cert.Act.nD Cert.Act.τ).loc Cert.Act.main_arg2) = m ((c.tc : Thread Cert.Act.nD Cert.Act.τ).loc Cert.Act.main_arg2))
      ∧ r.2.sem = fun _ => 0)

def quiescent_ActIdeal [hActIdeal : Cert.ActIdeal.Facts] : Prop :=
  ∀ (m : (ℓ : Loc Cert.ActIdeal.nD Cert.ActIdeal.τ Cert.ActIdeal.sig) → Buf (Elt Ideal) ℓ) (g : Dev Cert.ActIdeal.nD → PrngReg), Pre_ActIdeal m →
    θ_run (Cert.ActIdeal.defs (F := Ideal)) (onTc (τ := Cert.ActIdeal.τ) (Cert.ActIdeal.main (F := Ideal))) ⟨m, fun _ => 0, g⟩ (fun r => (∀ c : Dev Cert.ActIdeal.nD,
      r.2.mem ((c.tc : Thread Cert.ActIdeal.nD Cert.ActIdeal.τ).loc Cert.ActIdeal.main_arg0) = m ((c.tc : Thread Cert.ActIdeal.nD Cert.ActIdeal.τ).loc Cert.ActIdeal.main_arg0)
      ∧ r.2.mem ((c.tc : Thread Cert.ActIdeal.nD Cert.ActIdeal.τ).loc Cert.ActIdeal.main_arg1) = m ((c.tc : Thread Cert.ActIdeal.nD Cert.ActIdeal.τ).loc Cert.ActIdeal.main_arg1)
      ∧ r.2.mem ((c.tc : Thread Cert.ActIdeal.nD Cert.ActIdeal.τ).loc Cert.ActIdeal.main_arg2) = m ((c.tc : Thread Cert.ActIdeal.nD Cert.ActIdeal.τ).loc Cert.ActIdeal.main_arg2))
      ∧ r.2.sem = fun _ => 0)

def quiescent_ActReferenceIdeal [hActReferenceIdeal : Cert.ActReferenceIdeal.Facts] : Prop :=
  ∀ (m : (ℓ : Loc Cert.ActReferenceIdeal.nD Cert.ActReferenceIdeal.τ Cert.ActReferenceIdeal.sig) → Buf (Elt Ideal) ℓ) (g : Dev Cert.ActReferenceIdeal.nD → PrngReg), Pre_ActReferenceIdeal m →
    θ_run (Cert.ActReferenceIdeal.defs (F := Ideal)) (onTc (τ := Cert.ActReferenceIdeal.τ) (Cert.ActReferenceIdeal.main (F := Ideal))) ⟨m, fun _ => 0, g⟩ (fun r => (∀ c : Dev Cert.ActReferenceIdeal.nD,
      r.2.mem ((c.tc : Thread Cert.ActReferenceIdeal.nD Cert.ActReferenceIdeal.τ).loc Cert.ActReferenceIdeal.main_arg0) = m ((c.tc : Thread Cert.ActReferenceIdeal.nD Cert.ActReferenceIdeal.τ).loc Cert.ActReferenceIdeal.main_arg0)
      ∧ r.2.mem ((c.tc : Thread Cert.ActReferenceIdeal.nD Cert.ActReferenceIdeal.τ).loc Cert.ActReferenceIdeal.main_arg1) = m ((c.tc : Thread Cert.ActReferenceIdeal.nD Cert.ActReferenceIdeal.τ).loc Cert.ActReferenceIdeal.main_arg1)
      ∧ r.2.mem ((c.tc : Thread Cert.ActReferenceIdeal.nD Cert.ActReferenceIdeal.τ).loc Cert.ActReferenceIdeal.main_arg2) = m ((c.tc : Thread Cert.ActReferenceIdeal.nD Cert.ActReferenceIdeal.τ).loc Cert.ActReferenceIdeal.main_arg2))
      ∧ r.2.sem = fun _ => 0)

def quiescent_ConvGrad [hConvGrad : Cert.ConvGrad.Facts] : Prop :=
  ∀ (m : (ℓ : Loc Cert.ConvGrad.nD Cert.ConvGrad.τ Cert.ConvGrad.sig) → Buf (Elt Bits) ℓ) (g : Dev Cert.ConvGrad.nD → PrngReg), Pre_ConvGrad m →
    θ_run (Cert.ConvGrad.defs (F := Bits)) (onTc (τ := Cert.ConvGrad.τ) (Cert.ConvGrad.main (F := Bits))) ⟨m, fun _ => 0, g⟩ (fun r => (∀ c : Dev Cert.ConvGrad.nD,
      r.2.mem ((c.tc : Thread Cert.ConvGrad.nD Cert.ConvGrad.τ).loc Cert.ConvGrad.main_arg0) = m ((c.tc : Thread Cert.ConvGrad.nD Cert.ConvGrad.τ).loc Cert.ConvGrad.main_arg0)
      ∧ r.2.mem ((c.tc : Thread Cert.ConvGrad.nD Cert.ConvGrad.τ).loc Cert.ConvGrad.main_arg1) = m ((c.tc : Thread Cert.ConvGrad.nD Cert.ConvGrad.τ).loc Cert.ConvGrad.main_arg1)
      ∧ r.2.mem ((c.tc : Thread Cert.ConvGrad.nD Cert.ConvGrad.τ).loc Cert.ConvGrad.main_arg2) = m ((c.tc : Thread Cert.ConvGrad.nD Cert.ConvGrad.τ).loc Cert.ConvGrad.main_arg2)
      ∧ r.2.mem ((c.tc : Thread Cert.ConvGrad.nD Cert.ConvGrad.τ).loc Cert.ConvGrad.main_arg3) = m ((c.tc : Thread Cert.ConvGrad.nD Cert.ConvGrad.τ).loc Cert.ConvGrad.main_arg3)
      ∧ r.2.mem ((c.tc : Thread Cert.ConvGrad.nD Cert.ConvGrad.τ).loc Cert.ConvGrad.main_arg4) = m ((c.tc : Thread Cert.ConvGrad.nD Cert.ConvGrad.τ).loc Cert.ConvGrad.main_arg4))
      ∧ r.2.sem = fun _ => 0)

def quiescent_ConvGradIdeal [hConvGradIdeal : Cert.ConvGradIdeal.Facts] : Prop :=
  ∀ (m : (ℓ : Loc Cert.ConvGradIdeal.nD Cert.ConvGradIdeal.τ Cert.ConvGradIdeal.sig) → Buf (Elt Ideal) ℓ) (g : Dev Cert.ConvGradIdeal.nD → PrngReg), Pre_ConvGradIdeal m →
    θ_run (Cert.ConvGradIdeal.defs (F := Ideal)) (onTc (τ := Cert.ConvGradIdeal.τ) (Cert.ConvGradIdeal.main (F := Ideal))) ⟨m, fun _ => 0, g⟩ (fun r => (∀ c : Dev Cert.ConvGradIdeal.nD,
      r.2.mem ((c.tc : Thread Cert.ConvGradIdeal.nD Cert.ConvGradIdeal.τ).loc Cert.ConvGradIdeal.main_arg0) = m ((c.tc : Thread Cert.ConvGradIdeal.nD Cert.ConvGradIdeal.τ).loc Cert.ConvGradIdeal.main_arg0)
      ∧ r.2.mem ((c.tc : Thread Cert.ConvGradIdeal.nD Cert.ConvGradIdeal.τ).loc Cert.ConvGradIdeal.main_arg1) = m ((c.tc : Thread Cert.ConvGradIdeal.nD Cert.ConvGradIdeal.τ).loc Cert.ConvGradIdeal.main_arg1)
      ∧ r.2.mem ((c.tc : Thread Cert.ConvGradIdeal.nD Cert.ConvGradIdeal.τ).loc Cert.ConvGradIdeal.main_arg2) = m ((c.tc : Thread Cert.ConvGradIdeal.nD Cert.ConvGradIdeal.τ).loc Cert.ConvGradIdeal.main_arg2)
      ∧ r.2.mem ((c.tc : Thread Cert.ConvGradIdeal.nD Cert.ConvGradIdeal.τ).loc Cert.ConvGradIdeal.main_arg3) = m ((c.tc : Thread Cert.ConvGradIdeal.nD Cert.ConvGradIdeal.τ).loc Cert.ConvGradIdeal.main_arg3)
      ∧ r.2.mem ((c.tc : Thread Cert.ConvGradIdeal.nD Cert.ConvGradIdeal.τ).loc Cert.ConvGradIdeal.main_arg4) = m ((c.tc : Thread Cert.ConvGradIdeal.nD Cert.ConvGradIdeal.τ).loc Cert.ConvGradIdeal.main_arg4))
      ∧ r.2.sem = fun _ => 0)

def quiescent_ConvGradReferenceIdeal [hConvGradReferenceIdeal : Cert.ConvGradReferenceIdeal.Facts] : Prop :=
  ∀ (m : (ℓ : Loc Cert.ConvGradReferenceIdeal.nD Cert.ConvGradReferenceIdeal.τ Cert.ConvGradReferenceIdeal.sig) → Buf (Elt Ideal) ℓ) (g : Dev Cert.ConvGradReferenceIdeal.nD → PrngReg), Pre_ConvGradReferenceIdeal m →
    θ_run (Cert.ConvGradReferenceIdeal.defs (F := Ideal)) (onTc (τ := Cert.ConvGradReferenceIdeal.τ) (Cert.ConvGradReferenceIdeal.main (F := Ideal))) ⟨m, fun _ => 0, g⟩ (fun r => (∀ c : Dev Cert.ConvGradReferenceIdeal.nD,
      r.2.mem ((c.tc : Thread Cert.ConvGradReferenceIdeal.nD Cert.ConvGradReferenceIdeal.τ).loc Cert.ConvGradReferenceIdeal.main_arg0) = m ((c.tc : Thread Cert.ConvGradReferenceIdeal.nD Cert.ConvGradReferenceIdeal.τ).loc Cert.ConvGradReferenceIdeal.main_arg0)
      ∧ r.2.mem ((c.tc : Thread Cert.ConvGradReferenceIdeal.nD Cert.ConvGradReferenceIdeal.τ).loc Cert.ConvGradReferenceIdeal.main_arg1) = m ((c.tc : Thread Cert.ConvGradReferenceIdeal.nD Cert.ConvGradReferenceIdeal.τ).loc Cert.ConvGradReferenceIdeal.main_arg1)
      ∧ r.2.mem ((c.tc : Thread Cert.ConvGradReferenceIdeal.nD Cert.ConvGradReferenceIdeal.τ).loc Cert.ConvGradReferenceIdeal.main_arg2) = m ((c.tc : Thread Cert.ConvGradReferenceIdeal.nD Cert.ConvGradReferenceIdeal.τ).loc Cert.ConvGradReferenceIdeal.main_arg2)
      ∧ r.2.mem ((c.tc : Thread Cert.ConvGradReferenceIdeal.nD Cert.ConvGradReferenceIdeal.τ).loc Cert.ConvGradReferenceIdeal.main_arg3) = m ((c.tc : Thread Cert.ConvGradReferenceIdeal.nD Cert.ConvGradReferenceIdeal.τ).loc Cert.ConvGradReferenceIdeal.main_arg3)
      ∧ r.2.mem ((c.tc : Thread Cert.ConvGradReferenceIdeal.nD Cert.ConvGradReferenceIdeal.τ).loc Cert.ConvGradReferenceIdeal.main_arg4) = m ((c.tc : Thread Cert.ConvGradReferenceIdeal.nD Cert.ConvGradReferenceIdeal.τ).loc Cert.ConvGradReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 450]⟩ ⟨2, ![1024, 3600]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![128, 1024]⟩ ⟨2, ![1024, 1024]⟩ 0 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![1024, 512]⟩ ⟨2, ![1024, 4096]⟩ 1 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![512, 1024]⟩ ⟨2, ![4096, 1024]⟩ 0 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![4, 192]⟩ ⟨2, ![4, 1536]⟩ 1 8 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v1)) (v1 : Buf (Elt Ideal) (((0 : Dev Cert.ReferenceIdeal.nD).tc : Thread Cert.ReferenceIdeal.nD Cert.ReferenceIdeal.τ).loc Cert.ReferenceIdeal.main_v2)) (v2 : Buf (Elt Ideal) (((0 : Dev Cert.ReferenceIdeal.nD).tc : Thread Cert.ReferenceIdeal.nD Cert.ReferenceIdeal.τ).loc Cert.ReferenceIdeal.main_v4)) (v3 : Buf (Elt Ideal) (((0 : Dev Cert.ReferenceIdeal.nD).tc : Thread Cert.ReferenceIdeal.nD Cert.ReferenceIdeal.τ).loc Cert.ReferenceIdeal.main_v5)) (v4 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0
          ∧ r.2.mem ((c.tc : Thread Cert.KernelIdeal.nD Cert.KernelIdeal.τ).loc Cert.KernelIdeal.main_v1_1) = v1
          ∧ r.2.mem ((c.tc : Thread Cert.KernelIdeal.nD Cert.KernelIdeal.τ).loc Cert.KernelIdeal.main_v1_2) = v2
          ∧ r.2.mem ((c.tc : Thread Cert.KernelIdeal.nD Cert.KernelIdeal.τ).loc Cert.KernelIdeal.main_v1_3) = v3
          ∧ r.2.mem ((c.tc : Thread Cert.KernelIdeal.nD Cert.KernelIdeal.τ).loc Cert.KernelIdeal.main_v1_4) = v4
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_v2) = v1
          ∧ r.2.mem (((0 : Dev Cert.ReferenceIdeal.nD).tc : Thread Cert.ReferenceIdeal.nD Cert.ReferenceIdeal.τ).loc Cert.ReferenceIdeal.main_v4) = v2
          ∧ r.2.mem (((0 : Dev Cert.ReferenceIdeal.nD).tc : Thread Cert.ReferenceIdeal.nD Cert.ReferenceIdeal.τ).loc Cert.ReferenceIdeal.main_v5) = v3
          ∧ r.2.mem (((0 : Dev Cert.ReferenceIdeal.nD).tc : Thread Cert.ReferenceIdeal.nD Cert.ReferenceIdeal.τ).loc Cert.ReferenceIdeal.main_v7) = v4
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m ((c.tc : Thread Cert.Kernel.nD Cert.Kernel.τ).loc Cert.Kernel.main_arg0) = Layout.block ⟨2, ![1024, 450]⟩ ⟨2, ![1024, 3600]⟩ 1 8 c (m' (((0 : Dev Cert.Reference.nD).tc : Thread Cert.Reference.nD Cert.Reference.τ).loc Cert.Reference.main_arg0))
      ∧ m ((c.tc : Thread Cert.Kernel.nD Cert.Kernel.τ).loc Cert.Kernel.main_arg1) = Layout.block ⟨2, ![128, 1024]⟩ ⟨2, ![1024, 1024]⟩ 0 8 c (m' (((0 : Dev Cert.Reference.nD).tc : Thread Cert.Reference.nD Cert.Reference.τ).loc Cert.Reference.main_arg1))
      ∧ m ((c.tc : Thread Cert.Kernel.nD Cert.Kernel.τ).loc Cert.Kernel.main_arg2) = Layout.block ⟨2, ![1024, 512]⟩ ⟨2, ![1024, 4096]⟩ 1 8 c (m' (((0 : Dev Cert.Reference.nD).tc : Thread Cert.Reference.nD Cert.Reference.τ).loc Cert.Reference.main_arg2))
      ∧ m ((c.tc : Thread Cert.Kernel.nD Cert.Kernel.τ).loc Cert.Kernel.main_arg3) = Layout.block ⟨2, ![512, 1024]⟩ ⟨2, ![4096, 1024]⟩ 0 8 c (m' (((0 : Dev Cert.Reference.nD).tc : Thread Cert.Reference.nD Cert.Reference.τ).loc Cert.Reference.main_arg3))
      ∧ m ((c.tc : Thread Cert.Kernel.nD Cert.Kernel.τ).loc Cert.Kernel.main_arg4) = Layout.block ⟨2, ![4, 192]⟩ ⟨2, ![4, 1536]⟩ 1 8 c (m' (((0 : Dev Cert.Reference.nD).tc : Thread Cert.Reference.nD Cert.Reference.τ).loc Cert.Reference.main_arg4))) →
    ∃ (v0 : Buf (Elt Bits) (((0 : Dev Cert.Reference.nD).tc : Thread Cert.Reference.nD Cert.Reference.τ).loc Cert.Reference.main_v1)) (v1 : Buf (Elt Bits) (((0 : Dev Cert.Reference.nD).tc : Thread Cert.Reference.nD Cert.Reference.τ).loc Cert.Reference.main_v2)) (v2 : Buf (Elt Bits) (((0 : Dev Cert.Reference.nD).tc : Thread Cert.Reference.nD Cert.Reference.τ).loc Cert.Reference.main_v4)) (v3 : Buf (Elt Bits) (((0 : Dev Cert.Reference.nD).tc : Thread Cert.Reference.nD Cert.Reference.τ).loc Cert.Reference.main_v5)) (v4 : Buf (Elt Bits) (((0 : Dev Cert.Reference.nD).tc : Thread Cert.Reference.nD Cert.Reference.τ).loc Cert.Reference.main_v7)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v1_0) = v0
          ∧ r.2.mem ((c.tc : Thread Cert.Kernel.nD Cert.Kernel.τ).loc Cert.Kernel.main_v1_1) = v1
          ∧ r.2.mem ((c.tc : Thread Cert.Kernel.nD Cert.Kernel.τ).loc Cert.Kernel.main_v1_2) = v2
          ∧ r.2.mem ((c.tc : Thread Cert.Kernel.nD Cert.Kernel.τ).loc Cert.Kernel.main_v1_3) = v3
          ∧ r.2.mem ((c.tc : Thread Cert.Kernel.nD Cert.Kernel.τ).loc Cert.Kernel.main_v1_4) = v4
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1)
          ∧ r.2.mem ((c.tc : Thread Cert.Kernel.nD Cert.Kernel.τ).loc Cert.Kernel.main_arg2) = m ((c.tc : Thread Cert.Kernel.nD Cert.Kernel.τ).loc Cert.Kernel.main_arg2)
          ∧ r.2.mem ((c.tc : Thread Cert.Kernel.nD Cert.Kernel.τ).loc Cert.Kernel.main_arg3) = m ((c.tc : Thread Cert.Kernel.nD Cert.Kernel.τ).loc Cert.Kernel.main_arg3)
          ∧ r.2.mem ((c.tc : Thread Cert.Kernel.nD Cert.Kernel.τ).loc Cert.Kernel.main_arg4) = m ((c.tc : Thread Cert.Kernel.nD Cert.Kernel.τ).loc Cert.Kernel.main_arg4))
      ∧ θ_run (Cert.Reference.defs (F := Bits)) (onTc (τ := Cert.Reference.τ) (Cert.Reference.main (F := Bits))) ⟨m', fun _ => 0, g'⟩ (fun r =>
          r.2.mem (((0 : Dev Cert.Reference.nD).tc : Thread Cert.Reference.nD Cert.Reference.τ).loc Cert.Reference.main_v1) = v0
          ∧ r.2.mem (((0 : Dev Cert.Reference.nD).tc : Thread Cert.Reference.nD Cert.Reference.τ).loc Cert.Reference.main_v2) = v1
          ∧ r.2.mem (((0 : Dev Cert.Reference.nD).tc : Thread Cert.Reference.nD Cert.Reference.τ).loc Cert.Reference.main_v4) = v2
          ∧ r.2.mem (((0 : Dev Cert.Reference.nD).tc : Thread Cert.Reference.nD Cert.Reference.τ).loc Cert.Reference.main_v5) = v3
          ∧ r.2.mem (((0 : Dev Cert.Reference.nD).tc : Thread Cert.Reference.nD Cert.Reference.τ).loc Cert.Reference.main_v7) = v4
          ∧ r.2.mem (((0 : Dev Cert.Reference.nD).tc : Thread Cert.Reference.nD Cert.Reference.τ).loc Cert.Reference.main_arg0) = m' (((0 : Dev Cert.Reference.nD).tc : Thread Cert.Reference.nD Cert.Reference.τ).loc Cert.Reference.main_arg0)
          ∧ r.2.mem (((0 : Dev Cert.Reference.nD).tc : Thread Cert.Reference.nD Cert.Reference.τ).loc Cert.Reference.main_arg1) = m' (((0 : Dev Cert.Reference.nD).tc : Thread Cert.Reference.nD Cert.Reference.τ).loc Cert.Reference.main_arg1)
          ∧ r.2.mem (((0 : Dev Cert.Reference.nD).tc : Thread Cert.Reference.nD Cert.Reference.τ).loc Cert.Reference.main_arg2) = m' (((0 : Dev Cert.Reference.nD).tc : Thread Cert.Reference.nD Cert.Reference.τ).loc Cert.Reference.main_arg2)
          ∧ r.2.mem (((0 : Dev Cert.Reference.nD).tc : Thread Cert.Reference.nD Cert.Reference.τ).loc Cert.Reference.main_arg3) = m' (((0 : Dev Cert.Reference.nD).tc : Thread Cert.Reference.nD Cert.Reference.τ).loc Cert.Reference.main_arg3)
          ∧ r.2.mem (((0 : Dev Cert.Reference.nD).tc : Thread Cert.Reference.nD Cert.Reference.τ).loc Cert.Reference.main_arg4) = m' (((0 : Dev Cert.Reference.nD).tc : Thread Cert.Reference.nD Cert.Reference.τ).loc Cert.Reference.main_arg4))

def preserves_Adam_AdamIdeal : Prop :=
  True

def algebraic_AdamIdeal_AdamReferenceIdeal [hAdamIdeal : Cert.AdamIdeal.Facts] [hAdamReferenceIdeal : Cert.AdamReferenceIdeal.Facts] : Prop :=
  ∀ (m : (ℓ : Loc Cert.AdamIdeal.nD Cert.AdamIdeal.τ Cert.AdamIdeal.sig) → Buf (Elt Ideal) ℓ) (g : Dev Cert.AdamIdeal.nD → PrngReg)
    (m' : (ℓ : Loc Cert.AdamReferenceIdeal.nD Cert.AdamReferenceIdeal.τ Cert.AdamReferenceIdeal.sig) → Buf (Elt Ideal) ℓ) (g' : Dev Cert.AdamReferenceIdeal.nD → PrngReg), Pre_AdamIdeal m →
    (∀ c : Dev Cert.AdamIdeal.nD,
      m' ((c.tc : Thread Cert.AdamReferenceIdeal.nD Cert.AdamReferenceIdeal.τ).loc Cert.AdamReferenceIdeal.main_arg0) = m ((c.tc : Thread Cert.AdamIdeal.nD Cert.AdamIdeal.τ).loc Cert.AdamIdeal.main_arg0)
      ∧ m' ((c.tc : Thread Cert.AdamReferenceIdeal.nD Cert.AdamReferenceIdeal.τ).loc Cert.AdamReferenceIdeal.main_arg1) = m ((c.tc : Thread Cert.AdamIdeal.nD Cert.AdamIdeal.τ).loc Cert.AdamIdeal.main_arg1)
      ∧ m' ((c.tc : Thread Cert.AdamReferenceIdeal.nD Cert.AdamReferenceIdeal.τ).loc Cert.AdamReferenceIdeal.main_arg2) = m ((c.tc : Thread Cert.AdamIdeal.nD Cert.AdamIdeal.τ).loc Cert.AdamIdeal.main_arg2)
      ∧ m' ((c.tc : Thread Cert.AdamReferenceIdeal.nD Cert.AdamReferenceIdeal.τ).loc Cert.AdamReferenceIdeal.main_arg3) = m ((c.tc : Thread Cert.AdamIdeal.nD Cert.AdamIdeal.τ).loc Cert.AdamIdeal.main_arg3)) →
    ∃ (v0 : (c : Dev Cert.AdamIdeal.nD) → Buf (Elt Ideal) ((c.tc : Thread Cert.AdamIdeal.nD Cert.AdamIdeal.τ).loc Cert.AdamIdeal.main_v0_0)) (v1 : (c : Dev Cert.AdamIdeal.nD) → Buf (Elt Ideal) ((c.tc : Thread Cert.AdamIdeal.nD Cert.AdamIdeal.τ).loc Cert.AdamIdeal.main_v0_1)) (v2 : (c : Dev Cert.AdamIdeal.nD) → Buf (Elt Ideal) ((c.tc : Thread Cert.AdamIdeal.nD Cert.AdamIdeal.τ).loc Cert.AdamIdeal.main_v0_2)),
      θ_run (Cert.AdamIdeal.defs (F := Ideal)) (onTc (τ := Cert.AdamIdeal.τ) (Cert.AdamIdeal.main (F := Ideal))) ⟨m, fun _ => 0, g⟩ (fun r => ∀ c : Dev Cert.AdamIdeal.nD,
          r.2.mem ((c.tc : Thread Cert.AdamIdeal.nD Cert.AdamIdeal.τ).loc Cert.AdamIdeal.main_v0_0) = v0 c
          ∧ r.2.mem ((c.tc : Thread Cert.AdamIdeal.nD Cert.AdamIdeal.τ).loc Cert.AdamIdeal.main_v0_1) = v1 c
          ∧ r.2.mem ((c.tc : Thread Cert.AdamIdeal.nD Cert.AdamIdeal.τ).loc Cert.AdamIdeal.main_v0_2) = v2 c
          ∧ r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
          ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
          ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
          ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ θ_run (Cert.AdamReferenceIdeal.defs (F := Ideal)) (onTc (τ := Cert.AdamReferenceIdeal.τ) (Cert.AdamReferenceIdeal.main (F := Ideal))) ⟨m', fun _ => 0, g'⟩ (fun r => ∀ c : Dev Cert.AdamReferenceIdeal.nD,
          r.2.mem ((c.tc : Thread Cert.AdamReferenceIdeal.nD Cert.AdamReferenceIdeal.τ).loc Cert.AdamReferenceIdeal.main_v23) = v0 c
          ∧ r.2.mem ((c.tc : Thread Cert.AdamReferenceIdeal.nD Cert.AdamReferenceIdeal.τ).loc Cert.AdamReferenceIdeal.main_v4) = v1 c
          ∧ r.2.mem ((c.tc : Thread Cert.AdamReferenceIdeal.nD Cert.AdamReferenceIdeal.τ).loc Cert.AdamReferenceIdeal.main_v10) = v2 c
          ∧ r.2.mem ((c.tc : Thread Cert.AdamReferenceIdeal.nD Cert.AdamReferenceIdeal.τ).loc Cert.AdamReferenceIdeal.main_arg0) = m' ((c.tc : Thread Cert.AdamReferenceIdeal.nD Cert.AdamReferenceIdeal.τ).loc Cert.AdamReferenceIdeal.main_arg0)
          ∧ r.2.mem ((c.tc : Thread Cert.AdamReferenceIdeal.nD Cert.AdamReferenceIdeal.τ).loc Cert.AdamReferenceIdeal.main_arg1) = m' ((c.tc : Thread Cert.AdamReferenceIdeal.nD Cert.AdamReferenceIdeal.τ).loc Cert.AdamReferenceIdeal.main_arg1)
          ∧ r.2.mem ((c.tc : Thread Cert.AdamReferenceIdeal.nD Cert.AdamReferenceIdeal.τ).loc Cert.AdamReferenceIdeal.main_arg2) = m' ((c.tc : Thread Cert.AdamReferenceIdeal.nD Cert.AdamReferenceIdeal.τ).loc Cert.AdamReferenceIdeal.main_arg2)
          ∧ r.2.mem ((c.tc : Thread Cert.AdamReferenceIdeal.nD Cert.AdamReferenceIdeal.τ).loc Cert.AdamReferenceIdeal.main_arg3) = m' ((c.tc : Thread Cert.AdamReferenceIdeal.nD Cert.AdamReferenceIdeal.τ).loc Cert.AdamReferenceIdeal.main_arg3))

def preserves_Loss_LossIdeal : Prop :=
  True

def algebraic_LossIdeal_LossReferenceIdeal [hLossIdeal : Cert.LossIdeal.Facts] [hLossReferenceIdeal : Cert.LossReferenceIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossReferenceIdeal.nD Cert.LossReferenceIdeal.τ Cert.LossReferenceIdeal.sig) → Buf (Elt Ideal) ℓ) (g' : Dev Cert.LossReferenceIdeal.nD → PrngReg), Pre_LossIdeal m →
    (∀ c : Dev Cert.LossIdeal.nD,
      m' ((c.tc : Thread Cert.LossReferenceIdeal.nD Cert.LossReferenceIdeal.τ).loc Cert.LossReferenceIdeal.main_arg0) = m ((c.tc : Thread Cert.LossIdeal.nD Cert.LossIdeal.τ).loc Cert.LossIdeal.main_arg0)
      ∧ m' ((c.tc : Thread Cert.LossReferenceIdeal.nD Cert.LossReferenceIdeal.τ).loc Cert.LossReferenceIdeal.main_arg1) = m ((c.tc : Thread Cert.LossIdeal.nD Cert.LossIdeal.τ).loc Cert.LossIdeal.main_arg1)
      ∧ m' ((c.tc : Thread Cert.LossReferenceIdeal.nD Cert.LossReferenceIdeal.τ).loc Cert.LossReferenceIdeal.main_arg2) = m ((c.tc : Thread Cert.LossIdeal.nD Cert.LossIdeal.τ).loc Cert.LossIdeal.main_arg2)
      ∧ m' ((c.tc : Thread Cert.LossReferenceIdeal.nD Cert.LossReferenceIdeal.τ).loc Cert.LossReferenceIdeal.main_arg3) = m ((c.tc : Thread Cert.LossIdeal.nD Cert.LossIdeal.τ).loc Cert.LossIdeal.main_arg3)
      ∧ m' ((c.tc : Thread Cert.LossReferenceIdeal.nD Cert.LossReferenceIdeal.τ).loc Cert.LossReferenceIdeal.main_arg4) = m ((c.tc : Thread Cert.LossIdeal.nD Cert.LossIdeal.τ).loc Cert.LossIdeal.main_arg4)) →
    ∃ (v0 : (c : Dev Cert.LossIdeal.nD) → Buf (Elt Ideal) ((c.tc : Thread Cert.LossIdeal.nD Cert.LossIdeal.τ).loc Cert.LossIdeal.main_v0_0)) (v1 : (c : Dev Cert.LossIdeal.nD) → Buf (Elt Ideal) ((c.tc : Thread Cert.LossIdeal.nD Cert.LossIdeal.τ).loc Cert.LossIdeal.main_v0_1)) (v2 : (c : Dev Cert.LossIdeal.nD) → Buf (Elt Ideal) ((c.tc : Thread Cert.LossIdeal.nD Cert.LossIdeal.τ).loc Cert.LossIdeal.main_v0_2)) (v3 : (c : Dev Cert.LossIdeal.nD) → Buf (Elt Ideal) ((c.tc : Thread Cert.LossIdeal.nD Cert.LossIdeal.τ).loc Cert.LossIdeal.main_v0_3)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v0_0) = v0 c
          ∧ r.2.mem ((c.tc : Thread Cert.LossIdeal.nD Cert.LossIdeal.τ).loc Cert.LossIdeal.main_v0_1) = v1 c
          ∧ r.2.mem ((c.tc : Thread Cert.LossIdeal.nD Cert.LossIdeal.τ).loc Cert.LossIdeal.main_v0_2) = v2 c
          ∧ r.2.mem ((c.tc : Thread Cert.LossIdeal.nD Cert.LossIdeal.τ).loc Cert.LossIdeal.main_v0_3) = v3 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
          ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
          ∧ r.2.mem ((c.tc : Thread Cert.LossIdeal.nD Cert.LossIdeal.τ).loc Cert.LossIdeal.main_arg4) = m ((c.tc : Thread Cert.LossIdeal.nD Cert.LossIdeal.τ).loc Cert.LossIdeal.main_arg4))
      ∧ θ_run (Cert.LossReferenceIdeal.defs (F := Ideal)) (onTc (τ := Cert.LossReferenceIdeal.τ) (Cert.LossReferenceIdeal.main (F := Ideal))) ⟨m', fun _ => 0, g'⟩ (fun r => ∀ c : Dev Cert.LossReferenceIdeal.nD,
          r.2.mem ((c.tc : Thread Cert.LossReferenceIdeal.nD Cert.LossReferenceIdeal.τ).loc Cert.LossReferenceIdeal.main_v56) = v0 c
          ∧ r.2.mem ((c.tc : Thread Cert.LossReferenceIdeal.nD Cert.LossReferenceIdeal.τ).loc Cert.LossReferenceIdeal.main_v25) = v1 c
          ∧ r.2.mem ((c.tc : Thread Cert.LossReferenceIdeal.nD Cert.LossReferenceIdeal.τ).loc Cert.LossReferenceIdeal.main_v57) = v2 c
          ∧ r.2.mem ((c.tc : Thread Cert.LossReferenceIdeal.nD Cert.LossReferenceIdeal.τ).loc Cert.LossReferenceIdeal.main_v60) = v3 c
          ∧ r.2.mem ((c.tc : Thread Cert.LossReferenceIdeal.nD Cert.LossReferenceIdeal.τ).loc Cert.LossReferenceIdeal.main_arg0) = m' ((c.tc : Thread Cert.LossReferenceIdeal.nD Cert.LossReferenceIdeal.τ).loc Cert.LossReferenceIdeal.main_arg0)
          ∧ r.2.mem ((c.tc : Thread Cert.LossReferenceIdeal.nD Cert.LossReferenceIdeal.τ).loc Cert.LossReferenceIdeal.main_arg1) = m' ((c.tc : Thread Cert.LossReferenceIdeal.nD Cert.LossReferenceIdeal.τ).loc Cert.LossReferenceIdeal.main_arg1)
          ∧ r.2.mem ((c.tc : Thread Cert.LossReferenceIdeal.nD Cert.LossReferenceIdeal.τ).loc Cert.LossReferenceIdeal.main_arg2) = m' ((c.tc : Thread Cert.LossReferenceIdeal.nD Cert.LossReferenceIdeal.τ).loc Cert.LossReferenceIdeal.main_arg2)
          ∧ r.2.mem ((c.tc : Thread Cert.LossReferenceIdeal.nD Cert.LossReferenceIdeal.τ).loc Cert.LossReferenceIdeal.main_arg3) = m' ((c.tc : Thread Cert.LossReferenceIdeal.nD Cert.LossReferenceIdeal.τ).loc Cert.LossReferenceIdeal.main_arg3)
          ∧ r.2.mem ((c.tc : Thread Cert.LossReferenceIdeal.nD Cert.LossReferenceIdeal.τ).loc Cert.LossReferenceIdeal.main_arg4) = m' ((c.tc : Thread Cert.LossReferenceIdeal.nD Cert.LossReferenceIdeal.τ).loc Cert.LossReferenceIdeal.main_arg4))

def preserves_GradX_GradXIdeal : Prop :=
  True

def algebraic_GradXIdeal_GradXReferenceIdeal [hGradXIdeal : Cert.GradXIdeal.Facts] [hGradXReferenceIdeal : Cert.GradXReferenceIdeal.Facts] : Prop :=
  ∀ (m : (ℓ : Loc Cert.GradXIdeal.nD Cert.GradXIdeal.τ Cert.GradXIdeal.sig) → Buf (Elt Ideal) ℓ) (g : Dev Cert.GradXIdeal.nD → PrngReg)
    (m' : (ℓ : Loc Cert.GradXReferenceIdeal.nD Cert.GradXReferenceIdeal.τ Cert.GradXReferenceIdeal.sig) → Buf (Elt Ideal) ℓ) (g' : Dev Cert.GradXReferenceIdeal.nD → PrngReg), Pre_GradXIdeal m →
    (∀ c : Dev Cert.GradXIdeal.nD,
      m' ((c.tc : Thread Cert.GradXReferenceIdeal.nD Cert.GradXReferenceIdeal.τ).loc Cert.GradXReferenceIdeal.main_arg0) = m ((c.tc : Thread Cert.GradXIdeal.nD Cert.GradXIdeal.τ).loc Cert.GradXIdeal.main_arg0)
      ∧ m' ((c.tc : Thread Cert.GradXReferenceIdeal.nD Cert.GradXReferenceIdeal.τ).loc Cert.GradXReferenceIdeal.main_arg1) = m ((c.tc : Thread Cert.GradXIdeal.nD Cert.GradXIdeal.τ).loc Cert.GradXIdeal.main_arg1)
      ∧ m' ((c.tc : Thread Cert.GradXReferenceIdeal.nD Cert.GradXReferenceIdeal.τ).loc Cert.GradXReferenceIdeal.main_arg2) = m ((c.tc : Thread Cert.GradXIdeal.nD Cert.GradXIdeal.τ).loc Cert.GradXIdeal.main_arg2)
      ∧ m' ((c.tc : Thread Cert.GradXReferenceIdeal.nD Cert.GradXReferenceIdeal.τ).loc Cert.GradXReferenceIdeal.main_arg3) = m ((c.tc : Thread Cert.GradXIdeal.nD Cert.GradXIdeal.τ).loc Cert.GradXIdeal.main_arg3)
      ∧ m' ((c.tc : Thread Cert.GradXReferenceIdeal.nD Cert.GradXReferenceIdeal.τ).loc Cert.GradXReferenceIdeal.main_arg4) = m ((c.tc : Thread Cert.GradXIdeal.nD Cert.GradXIdeal.τ).loc Cert.GradXIdeal.main_arg4)
      ∧ m' ((c.tc : Thread Cert.GradXReferenceIdeal.nD Cert.GradXReferenceIdeal.τ).loc Cert.GradXReferenceIdeal.main_arg5) = m ((c.tc : Thread Cert.GradXIdeal.nD Cert.GradXIdeal.τ).loc Cert.GradXIdeal.main_arg5)
      ∧ m' ((c.tc : Thread Cert.GradXReferenceIdeal.nD Cert.GradXReferenceIdeal.τ).loc Cert.GradXReferenceIdeal.main_arg6) = m ((c.tc : Thread Cert.GradXIdeal.nD Cert.GradXIdeal.τ).loc Cert.GradXIdeal.main_arg6)
      ∧ m' ((c.tc : Thread Cert.GradXReferenceIdeal.nD Cert.GradXReferenceIdeal.τ).loc Cert.GradXReferenceIdeal.main_arg7) = m ((c.tc : Thread Cert.GradXIdeal.nD Cert.GradXIdeal.τ).loc Cert.GradXIdeal.main_arg7)
      ∧ m' ((c.tc : Thread Cert.GradXReferenceIdeal.nD Cert.GradXReferenceIdeal.τ).loc Cert.GradXReferenceIdeal.main_arg8) = m ((c.tc : Thread Cert.GradXIdeal.nD Cert.GradXIdeal.τ).loc Cert.GradXIdeal.main_arg8)
      ∧ m' ((c.tc : Thread Cert.GradXReferenceIdeal.nD Cert.GradXReferenceIdeal.τ).loc Cert.GradXReferenceIdeal.main_arg9) = m ((c.tc : Thread Cert.GradXIdeal.nD Cert.GradXIdeal.τ).loc Cert.GradXIdeal.main_arg9)
      ∧ m' ((c.tc : Thread Cert.GradXReferenceIdeal.nD Cert.GradXReferenceIdeal.τ).loc Cert.GradXReferenceIdeal.main_arg10) = m ((c.tc : Thread Cert.GradXIdeal.nD Cert.GradXIdeal.τ).loc Cert.GradXIdeal.main_arg10)
      ∧ m' ((c.tc : Thread Cert.GradXReferenceIdeal.nD Cert.GradXReferenceIdeal.τ).loc Cert.GradXReferenceIdeal.main_arg11) = m ((c.tc : Thread Cert.GradXIdeal.nD Cert.GradXIdeal.τ).loc Cert.GradXIdeal.main_arg11)) →
    ∃ (v0 : (c : Dev Cert.GradXIdeal.nD) → Buf (Elt Ideal) ((c.tc : Thread Cert.GradXIdeal.nD Cert.GradXIdeal.τ).loc Cert.GradXIdeal.main_v0_0)) (v1 : (c : Dev Cert.GradXIdeal.nD) → Buf (Elt Ideal) ((c.tc : Thread Cert.GradXIdeal.nD Cert.GradXIdeal.τ).loc Cert.GradXIdeal.main_v0_1)) (v2 : (c : Dev Cert.GradXIdeal.nD) → Buf (Elt Ideal) ((c.tc : Thread Cert.GradXIdeal.nD Cert.GradXIdeal.τ).loc Cert.GradXIdeal.main_v0_2)),
      θ_run (Cert.GradXIdeal.defs (F := Ideal)) (onTc (τ := Cert.GradXIdeal.τ) (Cert.GradXIdeal.main (F := Ideal))) ⟨m, fun _ => 0, g⟩ (fun r => ∀ c : Dev Cert.GradXIdeal.nD,
          r.2.mem ((c.tc : Thread Cert.GradXIdeal.nD Cert.GradXIdeal.τ).loc Cert.GradXIdeal.main_v0_0) = v0 c
          ∧ r.2.mem ((c.tc : Thread Cert.GradXIdeal.nD Cert.GradXIdeal.τ).loc Cert.GradXIdeal.main_v0_1) = v1 c
          ∧ r.2.mem ((c.tc : Thread Cert.GradXIdeal.nD Cert.GradXIdeal.τ).loc Cert.GradXIdeal.main_v0_2) = v2 c
          ∧ r.2.mem ((c.tc : Thread Cert.GradXIdeal.nD Cert.GradXIdeal.τ).loc Cert.GradXIdeal.main_arg0) = m ((c.tc : Thread Cert.GradXIdeal.nD Cert.GradXIdeal.τ).loc Cert.GradXIdeal.main_arg0)
          ∧ r.2.mem ((c.tc : Thread Cert.GradXIdeal.nD Cert.GradXIdeal.τ).loc Cert.GradXIdeal.main_arg1) = m ((c.tc : Thread Cert.GradXIdeal.nD Cert.GradXIdeal.τ).loc Cert.GradXIdeal.main_arg1)
          ∧ r.2.mem ((c.tc : Thread Cert.GradXIdeal.nD Cert.GradXIdeal.τ).loc Cert.GradXIdeal.main_arg2) = m ((c.tc : Thread Cert.GradXIdeal.nD Cert.GradXIdeal.τ).loc Cert.GradXIdeal.main_arg2)
          ∧ r.2.mem ((c.tc : Thread Cert.GradXIdeal.nD Cert.GradXIdeal.τ).loc Cert.GradXIdeal.main_arg3) = m ((c.tc : Thread Cert.GradXIdeal.nD Cert.GradXIdeal.τ).loc Cert.GradXIdeal.main_arg3)
          ∧ r.2.mem ((c.tc : Thread Cert.GradXIdeal.nD Cert.GradXIdeal.τ).loc Cert.GradXIdeal.main_arg4) = m ((c.tc : Thread Cert.GradXIdeal.nD Cert.GradXIdeal.τ).loc Cert.GradXIdeal.main_arg4)
          ∧ r.2.mem ((c.tc : Thread Cert.GradXIdeal.nD Cert.GradXIdeal.τ).loc Cert.GradXIdeal.main_arg5) = m ((c.tc : Thread Cert.GradXIdeal.nD Cert.GradXIdeal.τ).loc Cert.GradXIdeal.main_arg5)
          ∧ r.2.mem ((c.tc : Thread Cert.GradXIdeal.nD Cert.GradXIdeal.τ).loc Cert.GradXIdeal.main_arg6) = m ((c.tc : Thread Cert.GradXIdeal.nD Cert.GradXIdeal.τ).loc Cert.GradXIdeal.main_arg6)
          ∧ r.2.mem ((c.tc : Thread Cert.GradXIdeal.nD Cert.GradXIdeal.τ).loc Cert.GradXIdeal.main_arg7) = m ((c.tc : Thread Cert.GradXIdeal.nD Cert.GradXIdeal.τ).loc Cert.GradXIdeal.main_arg7)
          ∧ r.2.mem ((c.tc : Thread Cert.GradXIdeal.nD Cert.GradXIdeal.τ).loc Cert.GradXIdeal.main_arg8) = m ((c.tc : Thread Cert.GradXIdeal.nD Cert.GradXIdeal.τ).loc Cert.GradXIdeal.main_arg8)
          ∧ r.2.mem ((c.tc : Thread Cert.GradXIdeal.nD Cert.GradXIdeal.τ).loc Cert.GradXIdeal.main_arg9) = m ((c.tc : Thread Cert.GradXIdeal.nD Cert.GradXIdeal.τ).loc Cert.GradXIdeal.main_arg9)
          ∧ r.2.mem ((c.tc : Thread Cert.GradXIdeal.nD Cert.GradXIdeal.τ).loc Cert.GradXIdeal.main_arg10) = m ((c.tc : Thread Cert.GradXIdeal.nD Cert.GradXIdeal.τ).loc Cert.GradXIdeal.main_arg10)
          ∧ r.2.mem ((c.tc : Thread Cert.GradXIdeal.nD Cert.GradXIdeal.τ).loc Cert.GradXIdeal.main_arg11) = m ((c.tc : Thread Cert.GradXIdeal.nD Cert.GradXIdeal.τ).loc Cert.GradXIdeal.main_arg11))
      ∧ θ_run (Cert.GradXReferenceIdeal.defs (F := Ideal)) (onTc (τ := Cert.GradXReferenceIdeal.τ) (Cert.GradXReferenceIdeal.main (F := Ideal))) ⟨m', fun _ => 0, g'⟩ (fun r => ∀ c : Dev Cert.GradXReferenceIdeal.nD,
          r.2.mem ((c.tc : Thread Cert.GradXReferenceIdeal.nD Cert.GradXReferenceIdeal.τ).loc Cert.GradXReferenceIdeal.main_v4) = v0 c
          ∧ r.2.mem ((c.tc : Thread Cert.GradXReferenceIdeal.nD Cert.GradXReferenceIdeal.τ).loc Cert.GradXReferenceIdeal.main_v35) = v1 c
          ∧ r.2.mem ((c.tc : Thread Cert.GradXReferenceIdeal.nD Cert.GradXReferenceIdeal.τ).loc Cert.GradXReferenceIdeal.main_v48) = v2 c
          ∧ r.2.mem ((c.tc : Thread Cert.GradXReferenceIdeal.nD Cert.GradXReferenceIdeal.τ).loc Cert.GradXReferenceIdeal.main_arg0) = m' ((c.tc : Thread Cert.GradXReferenceIdeal.nD Cert.GradXReferenceIdeal.τ).loc Cert.GradXReferenceIdeal.main_arg0)
          ∧ r.2.mem ((c.tc : Thread Cert.GradXReferenceIdeal.nD Cert.GradXReferenceIdeal.τ).loc Cert.GradXReferenceIdeal.main_arg1) = m' ((c.tc : Thread Cert.GradXReferenceIdeal.nD Cert.GradXReferenceIdeal.τ).loc Cert.GradXReferenceIdeal.main_arg1)
          ∧ r.2.mem ((c.tc : Thread Cert.GradXReferenceIdeal.nD Cert.GradXReferenceIdeal.τ).loc Cert.GradXReferenceIdeal.main_arg2) = m' ((c.tc : Thread Cert.GradXReferenceIdeal.nD Cert.GradXReferenceIdeal.τ).loc Cert.GradXReferenceIdeal.main_arg2)
          ∧ r.2.mem ((c.tc : Thread Cert.GradXReferenceIdeal.nD Cert.GradXReferenceIdeal.τ).loc Cert.GradXReferenceIdeal.main_arg3) = m' ((c.tc : Thread Cert.GradXReferenceIdeal.nD Cert.GradXReferenceIdeal.τ).loc Cert.GradXReferenceIdeal.main_arg3)
          ∧ r.2.mem ((c.tc : Thread Cert.GradXReferenceIdeal.nD Cert.GradXReferenceIdeal.τ).loc Cert.GradXReferenceIdeal.main_arg4) = m' ((c.tc : Thread Cert.GradXReferenceIdeal.nD Cert.GradXReferenceIdeal.τ).loc Cert.GradXReferenceIdeal.main_arg4)
          ∧ r.2.mem ((c.tc : Thread Cert.GradXReferenceIdeal.nD Cert.GradXReferenceIdeal.τ).loc Cert.GradXReferenceIdeal.main_arg5) = m' ((c.tc : Thread Cert.GradXReferenceIdeal.nD Cert.GradXReferenceIdeal.τ).loc Cert.GradXReferenceIdeal.main_arg5)
          ∧ r.2.mem ((c.tc : Thread Cert.GradXReferenceIdeal.nD Cert.GradXReferenceIdeal.τ).loc Cert.GradXReferenceIdeal.main_arg6) = m' ((c.tc : Thread Cert.GradXReferenceIdeal.nD Cert.GradXReferenceIdeal.τ).loc Cert.GradXReferenceIdeal.main_arg6)
          ∧ r.2.mem ((c.tc : Thread Cert.GradXReferenceIdeal.nD Cert.GradXReferenceIdeal.τ).loc Cert.GradXReferenceIdeal.main_arg7) = m' ((c.tc : Thread Cert.GradXReferenceIdeal.nD Cert.GradXReferenceIdeal.τ).loc Cert.GradXReferenceIdeal.main_arg7)
          ∧ r.2.mem ((c.tc : Thread Cert.GradXReferenceIdeal.nD Cert.GradXReferenceIdeal.τ).loc Cert.GradXReferenceIdeal.main_arg8) = m' ((c.tc : Thread Cert.GradXReferenceIdeal.nD Cert.GradXReferenceIdeal.τ).loc Cert.GradXReferenceIdeal.main_arg8)
          ∧ r.2.mem ((c.tc : Thread Cert.GradXReferenceIdeal.nD Cert.GradXReferenceIdeal.τ).loc Cert.GradXReferenceIdeal.main_arg9) = m' ((c.tc : Thread Cert.GradXReferenceIdeal.nD Cert.GradXReferenceIdeal.τ).loc Cert.GradXReferenceIdeal.main_arg9)
          ∧ r.2.mem ((c.tc : Thread Cert.GradXReferenceIdeal.nD Cert.GradXReferenceIdeal.τ).loc Cert.GradXReferenceIdeal.main_arg10) = m' ((c.tc : Thread Cert.GradXReferenceIdeal.nD Cert.GradXReferenceIdeal.τ).loc Cert.GradXReferenceIdeal.main_arg10)
          ∧ r.2.mem ((c.tc : Thread Cert.GradXReferenceIdeal.nD Cert.GradXReferenceIdeal.τ).loc Cert.GradXReferenceIdeal.main_arg11) = m' ((c.tc : Thread Cert.GradXReferenceIdeal.nD Cert.GradXReferenceIdeal.τ).loc Cert.GradXReferenceIdeal.main_arg11))

def preserves_MlpIn_MlpInIdeal : Prop :=
  True

def algebraic_MlpInIdeal_MlpInReferenceIdeal [hMlpInIdeal : Cert.MlpInIdeal.Facts] [hMlpInReferenceIdeal : Cert.MlpInReferenceIdeal.Facts] : Prop :=
  ∀ (m : (ℓ : Loc Cert.MlpInIdeal.nD Cert.MlpInIdeal.τ Cert.MlpInIdeal.sig) → Buf (Elt Ideal) ℓ) (g : Dev Cert.MlpInIdeal.nD → PrngReg)
    (m' : (ℓ : Loc Cert.MlpInReferenceIdeal.nD Cert.MlpInReferenceIdeal.τ Cert.MlpInReferenceIdeal.sig) → Buf (Elt Ideal) ℓ) (g' : Dev Cert.MlpInReferenceIdeal.nD → PrngReg), Pre_MlpInIdeal m →
    (∀ c : Dev Cert.MlpInIdeal.nD,
      m' ((c.tc : Thread Cert.MlpInReferenceIdeal.nD Cert.MlpInReferenceIdeal.τ).loc Cert.MlpInReferenceIdeal.main_arg0) = m ((c.tc : Thread Cert.MlpInIdeal.nD Cert.MlpInIdeal.τ).loc Cert.MlpInIdeal.main_arg0)
      ∧ m' ((c.tc : Thread Cert.MlpInReferenceIdeal.nD Cert.MlpInReferenceIdeal.τ).loc Cert.MlpInReferenceIdeal.main_arg1) = m ((c.tc : Thread Cert.MlpInIdeal.nD Cert.MlpInIdeal.τ).loc Cert.MlpInIdeal.main_arg1)
      ∧ m' ((c.tc : Thread Cert.MlpInReferenceIdeal.nD Cert.MlpInReferenceIdeal.τ).loc Cert.MlpInReferenceIdeal.main_arg2) = m ((c.tc : Thread Cert.MlpInIdeal.nD Cert.MlpInIdeal.τ).loc Cert.MlpInIdeal.main_arg2)
      ∧ m' ((c.tc : Thread Cert.MlpInReferenceIdeal.nD Cert.MlpInReferenceIdeal.τ).loc Cert.MlpInReferenceIdeal.main_arg3) = m ((c.tc : Thread Cert.MlpInIdeal.nD Cert.MlpInIdeal.τ).loc Cert.MlpInIdeal.main_arg3)
      ∧ m' ((c.tc : Thread Cert.MlpInReferenceIdeal.nD Cert.MlpInReferenceIdeal.τ).loc Cert.MlpInReferenceIdeal.main_arg4) = m ((c.tc : Thread Cert.MlpInIdeal.nD Cert.MlpInIdeal.τ).loc Cert.MlpInIdeal.main_arg4)
      ∧ m' ((c.tc : Thread Cert.MlpInReferenceIdeal.nD Cert.MlpInReferenceIdeal.τ).loc Cert.MlpInReferenceIdeal.main_arg5) = m ((c.tc : Thread Cert.MlpInIdeal.nD Cert.MlpInIdeal.τ).loc Cert.MlpInIdeal.main_arg5)
      ∧ m' ((c.tc : Thread Cert.MlpInReferenceIdeal.nD Cert.MlpInReferenceIdeal.τ).loc Cert.MlpInReferenceIdeal.main_arg6) = m ((c.tc : Thread Cert.MlpInIdeal.nD Cert.MlpInIdeal.τ).loc Cert.MlpInIdeal.main_arg6)) →
    ∃ (v0 : (c : Dev Cert.MlpInIdeal.nD) → Buf (Elt Ideal) ((c.tc : Thread Cert.MlpInIdeal.nD Cert.MlpInIdeal.τ).loc Cert.MlpInIdeal.main_v0_0)) (v1 : (c : Dev Cert.MlpInIdeal.nD) → Buf (Elt Ideal) ((c.tc : Thread Cert.MlpInIdeal.nD Cert.MlpInIdeal.τ).loc Cert.MlpInIdeal.main_v0_1)) (v2 : (c : Dev Cert.MlpInIdeal.nD) → Buf (Elt Ideal) ((c.tc : Thread Cert.MlpInIdeal.nD Cert.MlpInIdeal.τ).loc Cert.MlpInIdeal.main_v0_2)) (v3 : (c : Dev Cert.MlpInIdeal.nD) → Buf (Elt Ideal) ((c.tc : Thread Cert.MlpInIdeal.nD Cert.MlpInIdeal.τ).loc Cert.MlpInIdeal.main_v0_3)),
      θ_run (Cert.MlpInIdeal.defs (F := Ideal)) (onTc (τ := Cert.MlpInIdeal.τ) (Cert.MlpInIdeal.main (F := Ideal))) ⟨m, fun _ => 0, g⟩ (fun r => ∀ c : Dev Cert.MlpInIdeal.nD,
          r.2.mem ((c.tc : Thread Cert.MlpInIdeal.nD Cert.MlpInIdeal.τ).loc Cert.MlpInIdeal.main_v0_0) = v0 c
          ∧ r.2.mem ((c.tc : Thread Cert.MlpInIdeal.nD Cert.MlpInIdeal.τ).loc Cert.MlpInIdeal.main_v0_1) = v1 c
          ∧ r.2.mem ((c.tc : Thread Cert.MlpInIdeal.nD Cert.MlpInIdeal.τ).loc Cert.MlpInIdeal.main_v0_2) = v2 c
          ∧ r.2.mem ((c.tc : Thread Cert.MlpInIdeal.nD Cert.MlpInIdeal.τ).loc Cert.MlpInIdeal.main_v0_3) = v3 c
          ∧ r.2.mem ((c.tc : Thread Cert.MlpInIdeal.nD Cert.MlpInIdeal.τ).loc Cert.MlpInIdeal.main_arg0) = m ((c.tc : Thread Cert.MlpInIdeal.nD Cert.MlpInIdeal.τ).loc Cert.MlpInIdeal.main_arg0)
          ∧ r.2.mem ((c.tc : Thread Cert.MlpInIdeal.nD Cert.MlpInIdeal.τ).loc Cert.MlpInIdeal.main_arg1) = m ((c.tc : Thread Cert.MlpInIdeal.nD Cert.MlpInIdeal.τ).loc Cert.MlpInIdeal.main_arg1)
          ∧ r.2.mem ((c.tc : Thread Cert.MlpInIdeal.nD Cert.MlpInIdeal.τ).loc Cert.MlpInIdeal.main_arg2) = m ((c.tc : Thread Cert.MlpInIdeal.nD Cert.MlpInIdeal.τ).loc Cert.MlpInIdeal.main_arg2)
          ∧ r.2.mem ((c.tc : Thread Cert.MlpInIdeal.nD Cert.MlpInIdeal.τ).loc Cert.MlpInIdeal.main_arg3) = m ((c.tc : Thread Cert.MlpInIdeal.nD Cert.MlpInIdeal.τ).loc Cert.MlpInIdeal.main_arg3)
          ∧ r.2.mem ((c.tc : Thread Cert.MlpInIdeal.nD Cert.MlpInIdeal.τ).loc Cert.MlpInIdeal.main_arg4) = m ((c.tc : Thread Cert.MlpInIdeal.nD Cert.MlpInIdeal.τ).loc Cert.MlpInIdeal.main_arg4)
          ∧ r.2.mem ((c.tc : Thread Cert.MlpInIdeal.nD Cert.MlpInIdeal.τ).loc Cert.MlpInIdeal.main_arg5) = m ((c.tc : Thread Cert.MlpInIdeal.nD Cert.MlpInIdeal.τ).loc Cert.MlpInIdeal.main_arg5)
          ∧ r.2.mem ((c.tc : Thread Cert.MlpInIdeal.nD Cert.MlpInIdeal.τ).loc Cert.MlpInIdeal.main_arg6) = m ((c.tc : Thread Cert.MlpInIdeal.nD Cert.MlpInIdeal.τ).loc Cert.MlpInIdeal.main_arg6))
      ∧ θ_run (Cert.MlpInReferenceIdeal.defs (F := Ideal)) (onTc (τ := Cert.MlpInReferenceIdeal.τ) (Cert.MlpInReferenceIdeal.main (F := Ideal))) ⟨m', fun _ => 0, g'⟩ (fun r => ∀ c : Dev Cert.MlpInReferenceIdeal.nD,
          r.2.mem ((c.tc : Thread Cert.MlpInReferenceIdeal.nD Cert.MlpInReferenceIdeal.τ).loc Cert.MlpInReferenceIdeal.main_v34) = v0 c
          ∧ r.2.mem ((c.tc : Thread Cert.MlpInReferenceIdeal.nD Cert.MlpInReferenceIdeal.τ).loc Cert.MlpInReferenceIdeal.main_v65) = v1 c
          ∧ r.2.mem ((c.tc : Thread Cert.MlpInReferenceIdeal.nD Cert.MlpInReferenceIdeal.τ).loc Cert.MlpInReferenceIdeal.main_v78) = v2 c
          ∧ r.2.mem ((c.tc : Thread Cert.MlpInReferenceIdeal.nD Cert.MlpInReferenceIdeal.τ).loc Cert.MlpInReferenceIdeal.main_v91) = v3 c
          ∧ r.2.mem ((c.tc : Thread Cert.MlpInReferenceIdeal.nD Cert.MlpInReferenceIdeal.τ).loc Cert.MlpInReferenceIdeal.main_arg0) = m' ((c.tc : Thread Cert.MlpInReferenceIdeal.nD Cert.MlpInReferenceIdeal.τ).loc Cert.MlpInReferenceIdeal.main_arg0)
          ∧ r.2.mem ((c.tc : Thread Cert.MlpInReferenceIdeal.nD Cert.MlpInReferenceIdeal.τ).loc Cert.MlpInReferenceIdeal.main_arg1) = m' ((c.tc : Thread Cert.MlpInReferenceIdeal.nD Cert.MlpInReferenceIdeal.τ).loc Cert.MlpInReferenceIdeal.main_arg1)
          ∧ r.2.mem ((c.tc : Thread Cert.MlpInReferenceIdeal.nD Cert.MlpInReferenceIdeal.τ).loc Cert.MlpInReferenceIdeal.main_arg2) = m' ((c.tc : Thread Cert.MlpInReferenceIdeal.nD Cert.MlpInReferenceIdeal.τ).loc Cert.MlpInReferenceIdeal.main_arg2)
          ∧ r.2.mem ((c.tc : Thread Cert.MlpInReferenceIdeal.nD Cert.MlpInReferenceIdeal.τ).loc Cert.MlpInReferenceIdeal.main_arg3) = m' ((c.tc : Thread Cert.MlpInReferenceIdeal.nD Cert.MlpInReferenceIdeal.τ).loc Cert.MlpInReferenceIdeal.main_arg3)
          ∧ r.2.mem ((c.tc : Thread Cert.MlpInReferenceIdeal.nD Cert.MlpInReferenceIdeal.τ).loc Cert.MlpInReferenceIdeal.main_arg4) = m' ((c.tc : Thread Cert.MlpInReferenceIdeal.nD Cert.MlpInReferenceIdeal.τ).loc Cert.MlpInReferenceIdeal.main_arg4)
          ∧ r.2.mem ((c.tc : Thread Cert.MlpInReferenceIdeal.nD Cert.MlpInReferenceIdeal.τ).loc Cert.MlpInReferenceIdeal.main_arg5) = m' ((c.tc : Thread Cert.MlpInReferenceIdeal.nD Cert.MlpInReferenceIdeal.τ).loc Cert.MlpInReferenceIdeal.main_arg5)
          ∧ r.2.mem ((c.tc : Thread Cert.MlpInReferenceIdeal.nD Cert.MlpInReferenceIdeal.τ).loc Cert.MlpInReferenceIdeal.main_arg6) = m' ((c.tc : Thread Cert.MlpInReferenceIdeal.nD Cert.MlpInReferenceIdeal.τ).loc Cert.MlpInReferenceIdeal.main_arg6))

def preserves_DownGrad_DownGradIdeal : Prop :=
  True

def algebraic_DownGradIdeal_DownGradReferenceIdeal [hDownGradIdeal : Cert.DownGradIdeal.Facts] [hDownGradReferenceIdeal : Cert.DownGradReferenceIdeal.Facts] : Prop :=
  ∀ (m : (ℓ : Loc Cert.DownGradIdeal.nD Cert.DownGradIdeal.τ Cert.DownGradIdeal.sig) → Buf (Elt Ideal) ℓ) (g : Dev Cert.DownGradIdeal.nD → PrngReg)
    (m' : (ℓ : Loc Cert.DownGradReferenceIdeal.nD Cert.DownGradReferenceIdeal.τ Cert.DownGradReferenceIdeal.sig) → Buf (Elt Ideal) ℓ) (g' : Dev Cert.DownGradReferenceIdeal.nD → PrngReg), Pre_DownGradIdeal m →
    (∀ c : Dev Cert.DownGradIdeal.nD,
      m' ((c.tc : Thread Cert.DownGradReferenceIdeal.nD Cert.DownGradReferenceIdeal.τ).loc Cert.DownGradReferenceIdeal.main_arg0) = m ((c.tc : Thread Cert.DownGradIdeal.nD Cert.DownGradIdeal.τ).loc Cert.DownGradIdeal.main_arg0)
      ∧ m' ((c.tc : Thread Cert.DownGradReferenceIdeal.nD Cert.DownGradReferenceIdeal.τ).loc Cert.DownGradReferenceIdeal.main_arg1) = m ((c.tc : Thread Cert.DownGradIdeal.nD Cert.DownGradIdeal.τ).loc Cert.DownGradIdeal.main_arg1)) →
    ∃ (v0 : (c : Dev Cert.DownGradIdeal.nD) → Buf (Elt Ideal) ((c.tc : Thread Cert.DownGradIdeal.nD Cert.DownGradIdeal.τ).loc Cert.DownGradIdeal.main_v0)),
      θ_run (Cert.DownGradIdeal.defs (F := Ideal)) (onTc (τ := Cert.DownGradIdeal.τ) (Cert.DownGradIdeal.main (F := Ideal))) ⟨m, fun _ => 0, g⟩ (fun r => ∀ c : Dev Cert.DownGradIdeal.nD,
          r.2.mem ((c.tc : Thread Cert.DownGradIdeal.nD Cert.DownGradIdeal.τ).loc Cert.DownGradIdeal.main_v0) = v0 c
          ∧ r.2.mem ((c.tc : Thread Cert.DownGradIdeal.nD Cert.DownGradIdeal.τ).loc Cert.DownGradIdeal.main_arg0) = m ((c.tc : Thread Cert.DownGradIdeal.nD Cert.DownGradIdeal.τ).loc Cert.DownGradIdeal.main_arg0)
          ∧ r.2.mem ((c.tc : Thread Cert.DownGradIdeal.nD Cert.DownGradIdeal.τ).loc Cert.DownGradIdeal.main_arg1) = m ((c.tc : Thread Cert.DownGradIdeal.nD Cert.DownGradIdeal.τ).loc Cert.DownGradIdeal.main_arg1))
      ∧ θ_run (Cert.DownGradReferenceIdeal.defs (F := Ideal)) (onTc (τ := Cert.DownGradReferenceIdeal.τ) (Cert.DownGradReferenceIdeal.main (F := Ideal))) ⟨m', fun _ => 0, g'⟩ (fun r => ∀ c : Dev Cert.DownGradReferenceIdeal.nD,
          r.2.mem ((c.tc : Thread Cert.DownGradReferenceIdeal.nD Cert.DownGradReferenceIdeal.τ).loc Cert.DownGradReferenceIdeal.main_v6) = v0 c
          ∧ r.2.mem ((c.tc : Thread Cert.DownGradReferenceIdeal.nD Cert.DownGradReferenceIdeal.τ).loc Cert.DownGradReferenceIdeal.main_arg0) = m' ((c.tc : Thread Cert.DownGradReferenceIdeal.nD Cert.DownGradReferenceIdeal.τ).loc Cert.DownGradReferenceIdeal.main_arg0)
          ∧ r.2.mem ((c.tc : Thread Cert.DownGradReferenceIdeal.nD Cert.DownGradReferenceIdeal.τ).loc Cert.DownGradReferenceIdeal.main_arg1) = m' ((c.tc : Thread Cert.DownGradReferenceIdeal.nD Cert.DownGradReferenceIdeal.τ).loc Cert.DownGradReferenceIdeal.main_arg1))

def preserves_UpGrad_UpGradIdeal : Prop :=
  True

def algebraic_UpGradIdeal_UpGradReferenceIdeal [hUpGradIdeal : Cert.UpGradIdeal.Facts] [hUpGradReferenceIdeal : Cert.UpGradReferenceIdeal.Facts] : Prop :=
  ∀ (m : (ℓ : Loc Cert.UpGradIdeal.nD Cert.UpGradIdeal.τ Cert.UpGradIdeal.sig) → Buf (Elt Ideal) ℓ) (g : Dev Cert.UpGradIdeal.nD → PrngReg)
    (m' : (ℓ : Loc Cert.UpGradReferenceIdeal.nD Cert.UpGradReferenceIdeal.τ Cert.UpGradReferenceIdeal.sig) → Buf (Elt Ideal) ℓ) (g' : Dev Cert.UpGradReferenceIdeal.nD → PrngReg), Pre_UpGradIdeal m →
    (∀ c : Dev Cert.UpGradIdeal.nD,
      m' ((c.tc : Thread Cert.UpGradReferenceIdeal.nD Cert.UpGradReferenceIdeal.τ).loc Cert.UpGradReferenceIdeal.main_arg0) = m ((c.tc : Thread Cert.UpGradIdeal.nD Cert.UpGradIdeal.τ).loc Cert.UpGradIdeal.main_arg0)
      ∧ m' ((c.tc : Thread Cert.UpGradReferenceIdeal.nD Cert.UpGradReferenceIdeal.τ).loc Cert.UpGradReferenceIdeal.main_arg1) = m ((c.tc : Thread Cert.UpGradIdeal.nD Cert.UpGradIdeal.τ).loc Cert.UpGradIdeal.main_arg1)) →
    ∃ (v0 : (c : Dev Cert.UpGradIdeal.nD) → Buf (Elt Ideal) ((c.tc : Thread Cert.UpGradIdeal.nD Cert.UpGradIdeal.τ).loc Cert.UpGradIdeal.main_v0)),
      θ_run (Cert.UpGradIdeal.defs (F := Ideal)) (onTc (τ := Cert.UpGradIdeal.τ) (Cert.UpGradIdeal.main (F := Ideal))) ⟨m, fun _ => 0, g⟩ (fun r => ∀ c : Dev Cert.UpGradIdeal.nD,
          r.2.mem ((c.tc : Thread Cert.UpGradIdeal.nD Cert.UpGradIdeal.τ).loc Cert.UpGradIdeal.main_v0) = v0 c
          ∧ r.2.mem ((c.tc : Thread Cert.UpGradIdeal.nD Cert.UpGradIdeal.τ).loc Cert.UpGradIdeal.main_arg0) = m ((c.tc : Thread Cert.UpGradIdeal.nD Cert.UpGradIdeal.τ).loc Cert.UpGradIdeal.main_arg0)
          ∧ r.2.mem ((c.tc : Thread Cert.UpGradIdeal.nD Cert.UpGradIdeal.τ).loc Cert.UpGradIdeal.main_arg1) = m ((c.tc : Thread Cert.UpGradIdeal.nD Cert.UpGradIdeal.τ).loc Cert.UpGradIdeal.main_arg1))
      ∧ θ_run (Cert.UpGradReferenceIdeal.defs (F := Ideal)) (onTc (τ := Cert.UpGradReferenceIdeal.τ) (Cert.UpGradReferenceIdeal.main (F := Ideal))) ⟨m', fun _ => 0, g'⟩ (fun r => ∀ c : Dev Cert.UpGradReferenceIdeal.nD,
          r.2.mem ((c.tc : Thread Cert.UpGradReferenceIdeal.nD Cert.UpGradReferenceIdeal.τ).loc Cert.UpGradReferenceIdeal.main_v6) = v0 c
          ∧ r.2.mem ((c.tc : Thread Cert.UpGradReferenceIdeal.nD Cert.UpGradReferenceIdeal.τ).loc Cert.UpGradReferenceIdeal.main_arg0) = m' ((c.tc : Thread Cert.UpGradReferenceIdeal.nD Cert.UpGradReferenceIdeal.τ).loc Cert.UpGradReferenceIdeal.main_arg0)
          ∧ r.2.mem ((c.tc : Thread Cert.UpGradReferenceIdeal.nD Cert.UpGradReferenceIdeal.τ).loc Cert.UpGradReferenceIdeal.main_arg1) = m' ((c.tc : Thread Cert.UpGradReferenceIdeal.nD Cert.UpGradReferenceIdeal.τ).loc Cert.UpGradReferenceIdeal.main_arg1))

def preserves_OutGrad_OutGradIdeal : Prop :=
  True

def algebraic_OutGradIdeal_OutGradReferenceIdeal [hOutGradIdeal : Cert.OutGradIdeal.Facts] [hOutGradReferenceIdeal : Cert.OutGradReferenceIdeal.Facts] : Prop :=
  ∀ (m : (ℓ : Loc Cert.OutGradIdeal.nD Cert.OutGradIdeal.τ Cert.OutGradIdeal.sig) → Buf (Elt Ideal) ℓ) (g : Dev Cert.OutGradIdeal.nD → PrngReg)
    (m' : (ℓ : Loc Cert.OutGradReferenceIdeal.nD Cert.OutGradReferenceIdeal.τ Cert.OutGradReferenceIdeal.sig) → Buf (Elt Ideal) ℓ) (g' : Dev Cert.OutGradReferenceIdeal.nD → PrngReg), Pre_OutGradIdeal m →
    (∀ c : Dev Cert.OutGradIdeal.nD,
      m' ((c.tc : Thread Cert.OutGradReferenceIdeal.nD Cert.OutGradReferenceIdeal.τ).loc Cert.OutGradReferenceIdeal.main_arg0) = m ((c.tc : Thread Cert.OutGradIdeal.nD Cert.OutGradIdeal.τ).loc Cert.OutGradIdeal.main_arg0)
      ∧ m' ((c.tc : Thread Cert.OutGradReferenceIdeal.nD Cert.OutGradReferenceIdeal.τ).loc Cert.OutGradReferenceIdeal.main_arg1) = m ((c.tc : Thread Cert.OutGradIdeal.nD Cert.OutGradIdeal.τ).loc Cert.OutGradIdeal.main_arg1)) →
    ∃ (v0 : (c : Dev Cert.OutGradIdeal.nD) → Buf (Elt Ideal) ((c.tc : Thread Cert.OutGradIdeal.nD Cert.OutGradIdeal.τ).loc Cert.OutGradIdeal.main_v0)),
      θ_run (Cert.OutGradIdeal.defs (F := Ideal)) (onTc (τ := Cert.OutGradIdeal.τ) (Cert.OutGradIdeal.main (F := Ideal))) ⟨m, fun _ => 0, g⟩ (fun r => ∀ c : Dev Cert.OutGradIdeal.nD,
          r.2.mem ((c.tc : Thread Cert.OutGradIdeal.nD Cert.OutGradIdeal.τ).loc Cert.OutGradIdeal.main_v0) = v0 c
          ∧ r.2.mem ((c.tc : Thread Cert.OutGradIdeal.nD Cert.OutGradIdeal.τ).loc Cert.OutGradIdeal.main_arg0) = m ((c.tc : Thread Cert.OutGradIdeal.nD Cert.OutGradIdeal.τ).loc Cert.OutGradIdeal.main_arg0)
          ∧ r.2.mem ((c.tc : Thread Cert.OutGradIdeal.nD Cert.OutGradIdeal.τ).loc Cert.OutGradIdeal.main_arg1) = m ((c.tc : Thread Cert.OutGradIdeal.nD Cert.OutGradIdeal.τ).loc Cert.OutGradIdeal.main_arg1))
      ∧ θ_run (Cert.OutGradReferenceIdeal.defs (F := Ideal)) (onTc (τ := Cert.OutGradReferenceIdeal.τ) (Cert.OutGradReferenceIdeal.main (F := Ideal))) ⟨m', fun _ => 0, g'⟩ (fun r => ∀ c : Dev Cert.OutGradReferenceIdeal.nD,
          r.2.mem ((c.tc : Thread Cert.OutGradReferenceIdeal.nD Cert.OutGradReferenceIdeal.τ).loc Cert.OutGradReferenceIdeal.main_v5) = v0 c
          ∧ r.2.mem ((c.tc : Thread Cert.OutGradReferenceIdeal.nD Cert.OutGradReferenceIdeal.τ).loc Cert.OutGradReferenceIdeal.main_arg0) = m' ((c.tc : Thread Cert.OutGradReferenceIdeal.nD Cert.OutGradReferenceIdeal.τ).loc Cert.OutGradReferenceIdeal.main_arg0)
          ∧ r.2.mem ((c.tc : Thread Cert.OutGradReferenceIdeal.nD Cert.OutGradReferenceIdeal.τ).loc Cert.OutGradReferenceIdeal.main_arg1) = m' ((c.tc : Thread Cert.OutGradReferenceIdeal.nD Cert.OutGradReferenceIdeal.τ).loc Cert.OutGradReferenceIdeal.main_arg1))

def preserves_InGrad_InGradIdeal : Prop :=
  True

def algebraic_InGradIdeal_InGradReferenceIdeal [hInGradIdeal : Cert.InGradIdeal.Facts] [hInGradReferenceIdeal : Cert.InGradReferenceIdeal.Facts] : Prop :=
  ∀ (m : (ℓ : Loc Cert.InGradIdeal.nD Cert.InGradIdeal.τ Cert.InGradIdeal.sig) → Buf (Elt Ideal) ℓ) (g : Dev Cert.InGradIdeal.nD → PrngReg)
    (m' : (ℓ : Loc Cert.InGradReferenceIdeal.nD Cert.InGradReferenceIdeal.τ Cert.InGradReferenceIdeal.sig) → Buf (Elt Ideal) ℓ) (g' : Dev Cert.InGradReferenceIdeal.nD → PrngReg), Pre_InGradIdeal m →
    (∀ c : Dev Cert.InGradIdeal.nD,
      m' ((c.tc : Thread Cert.InGradReferenceIdeal.nD Cert.InGradReferenceIdeal.τ).loc Cert.InGradReferenceIdeal.main_arg0) = m ((c.tc : Thread Cert.InGradIdeal.nD Cert.InGradIdeal.τ).loc Cert.InGradIdeal.main_arg0)
      ∧ m' ((c.tc : Thread Cert.InGradReferenceIdeal.nD Cert.InGradReferenceIdeal.τ).loc Cert.InGradReferenceIdeal.main_arg1) = m ((c.tc : Thread Cert.InGradIdeal.nD Cert.InGradIdeal.τ).loc Cert.InGradIdeal.main_arg1)) →
    ∃ (v0 : (c : Dev Cert.InGradIdeal.nD) → Buf (Elt Ideal) ((c.tc : Thread Cert.InGradIdeal.nD Cert.InGradIdeal.τ).loc Cert.InGradIdeal.main_v0)),
      θ_run (Cert.InGradIdeal.defs (F := Ideal)) (onTc (τ := Cert.InGradIdeal.τ) (Cert.InGradIdeal.main (F := Ideal))) ⟨m, fun _ => 0, g⟩ (fun r => ∀ c : Dev Cert.InGradIdeal.nD,
          r.2.mem ((c.tc : Thread Cert.InGradIdeal.nD Cert.InGradIdeal.τ).loc Cert.InGradIdeal.main_v0) = v0 c
          ∧ r.2.mem ((c.tc : Thread Cert.InGradIdeal.nD Cert.InGradIdeal.τ).loc Cert.InGradIdeal.main_arg0) = m ((c.tc : Thread Cert.InGradIdeal.nD Cert.InGradIdeal.τ).loc Cert.InGradIdeal.main_arg0)
          ∧ r.2.mem ((c.tc : Thread Cert.InGradIdeal.nD Cert.InGradIdeal.τ).loc Cert.InGradIdeal.main_arg1) = m ((c.tc : Thread Cert.InGradIdeal.nD Cert.InGradIdeal.τ).loc Cert.InGradIdeal.main_arg1))
      ∧ θ_run (Cert.InGradReferenceIdeal.defs (F := Ideal)) (onTc (τ := Cert.InGradReferenceIdeal.τ) (Cert.InGradReferenceIdeal.main (F := Ideal))) ⟨m', fun _ => 0, g'⟩ (fun r => ∀ c : Dev Cert.InGradReferenceIdeal.nD,
          r.2.mem ((c.tc : Thread Cert.InGradReferenceIdeal.nD Cert.InGradReferenceIdeal.τ).loc Cert.InGradReferenceIdeal.main_v4) = v0 c
          ∧ r.2.mem ((c.tc : Thread Cert.InGradReferenceIdeal.nD Cert.InGradReferenceIdeal.τ).loc Cert.InGradReferenceIdeal.main_arg0) = m' ((c.tc : Thread Cert.InGradReferenceIdeal.nD Cert.InGradReferenceIdeal.τ).loc Cert.InGradReferenceIdeal.main_arg0)
          ∧ r.2.mem ((c.tc : Thread Cert.InGradReferenceIdeal.nD Cert.InGradReferenceIdeal.τ).loc Cert.InGradReferenceIdeal.main_arg1) = m' ((c.tc : Thread Cert.InGradReferenceIdeal.nD Cert.InGradReferenceIdeal.τ).loc Cert.InGradReferenceIdeal.main_arg1))

def preserves_Proj_ProjIdeal : Prop :=
  True

def algebraic_ProjIdeal_ProjReferenceIdeal [hProjIdeal : Cert.ProjIdeal.Facts] [hProjReferenceIdeal : Cert.ProjReferenceIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjIdeal m →
    (∀ c : Dev Cert.ProjIdeal.nD,
      m' ((c.tc : Thread Cert.ProjReferenceIdeal.nD Cert.ProjReferenceIdeal.τ).loc Cert.ProjReferenceIdeal.main_arg0) = m ((c.tc : Thread Cert.ProjIdeal.nD Cert.ProjIdeal.τ).loc Cert.ProjIdeal.main_arg0)
      ∧ m' ((c.tc : Thread Cert.ProjReferenceIdeal.nD Cert.ProjReferenceIdeal.τ).loc Cert.ProjReferenceIdeal.main_arg1) = m ((c.tc : Thread Cert.ProjIdeal.nD Cert.ProjIdeal.τ).loc Cert.ProjIdeal.main_arg1)
      ∧ m' ((c.tc : Thread Cert.ProjReferenceIdeal.nD Cert.ProjReferenceIdeal.τ).loc Cert.ProjReferenceIdeal.main_arg2) = m ((c.tc : Thread Cert.ProjIdeal.nD Cert.ProjIdeal.τ).loc Cert.ProjIdeal.main_arg2)) →
    ∃ (v0 : (c : Dev Cert.ProjIdeal.nD) → Buf (Elt Ideal) ((c.tc : Thread Cert.ProjIdeal.nD Cert.ProjIdeal.τ).loc Cert.ProjIdeal.main_v0_0)) (v1 : (c : Dev Cert.ProjIdeal.nD) → Buf (Elt Ideal) ((c.tc : Thread Cert.ProjIdeal.nD Cert.ProjIdeal.τ).loc Cert.ProjIdeal.main_v0_1)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v0_0) = v0 c
          ∧ r.2.mem ((c.tc : Thread Cert.ProjIdeal.nD Cert.ProjIdeal.τ).loc Cert.ProjIdeal.main_v0_1) = v1 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v13) = v0 c
          ∧ r.2.mem ((c.tc : Thread Cert.ProjReferenceIdeal.nD Cert.ProjReferenceIdeal.τ).loc Cert.ProjReferenceIdeal.main_v14) = v1 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1)
          ∧ r.2.mem ((c.tc : Thread Cert.ProjReferenceIdeal.nD Cert.ProjReferenceIdeal.τ).loc Cert.ProjReferenceIdeal.main_arg2) = m' ((c.tc : Thread Cert.ProjReferenceIdeal.nD Cert.ProjReferenceIdeal.τ).loc Cert.ProjReferenceIdeal.main_arg2))

def preserves_Up_UpIdeal : Prop :=
  True

def algebraic_UpIdeal_UpReferenceIdeal [hUpIdeal : Cert.UpIdeal.Facts] [hUpReferenceIdeal : Cert.UpReferenceIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpReferenceIdeal.nD Cert.UpReferenceIdeal.τ Cert.UpReferenceIdeal.sig) → Buf (Elt Ideal) ℓ) (g' : Dev Cert.UpReferenceIdeal.nD → PrngReg), Pre_UpIdeal m →
    (∀ c : Dev Cert.UpIdeal.nD,
      m' ((c.tc : Thread Cert.UpReferenceIdeal.nD Cert.UpReferenceIdeal.τ).loc Cert.UpReferenceIdeal.main_arg0) = m ((c.tc : Thread Cert.UpIdeal.nD Cert.UpIdeal.τ).loc Cert.UpIdeal.main_arg0)
      ∧ m' ((c.tc : Thread Cert.UpReferenceIdeal.nD Cert.UpReferenceIdeal.τ).loc Cert.UpReferenceIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v0)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpReferenceIdeal.defs (F := Ideal)) (onTc (τ := Cert.UpReferenceIdeal.τ) (Cert.UpReferenceIdeal.main (F := Ideal))) ⟨m', fun _ => 0, g'⟩ (fun r => ∀ c : Dev Cert.UpReferenceIdeal.nD,
          r.2.mem ((c.tc : Thread Cert.UpReferenceIdeal.nD Cert.UpReferenceIdeal.τ).loc Cert.UpReferenceIdeal.main_v2) = v0 c
          ∧ r.2.mem ((c.tc : Thread Cert.UpReferenceIdeal.nD Cert.UpReferenceIdeal.τ).loc Cert.UpReferenceIdeal.main_arg0) = m' ((c.tc : Thread Cert.UpReferenceIdeal.nD Cert.UpReferenceIdeal.τ).loc Cert.UpReferenceIdeal.main_arg0)
          ∧ r.2.mem ((c.tc : Thread Cert.UpReferenceIdeal.nD Cert.UpReferenceIdeal.τ).loc Cert.UpReferenceIdeal.main_arg1) = m' ((c.tc : Thread Cert.UpReferenceIdeal.nD Cert.UpReferenceIdeal.τ).loc Cert.UpReferenceIdeal.main_arg1))

def preserves_Act_ActIdeal : Prop :=
  True

def algebraic_ActIdeal_ActReferenceIdeal [hActIdeal : Cert.ActIdeal.Facts] [hActReferenceIdeal : Cert.ActReferenceIdeal.Facts] : Prop :=
  ∀ (m : (ℓ : Loc Cert.ActIdeal.nD Cert.ActIdeal.τ Cert.ActIdeal.sig) → Buf (Elt Ideal) ℓ) (g : Dev Cert.ActIdeal.nD → PrngReg)
    (m' : (ℓ : Loc Cert.ActReferenceIdeal.nD Cert.ActReferenceIdeal.τ Cert.ActReferenceIdeal.sig) → Buf (Elt Ideal) ℓ) (g' : Dev Cert.ActReferenceIdeal.nD → PrngReg), Pre_ActIdeal m →
    (∀ c : Dev Cert.ActIdeal.nD,
      m' ((c.tc : Thread Cert.ActReferenceIdeal.nD Cert.ActReferenceIdeal.τ).loc Cert.ActReferenceIdeal.main_arg0) = m ((c.tc : Thread Cert.ActIdeal.nD Cert.ActIdeal.τ).loc Cert.ActIdeal.main_arg0)
      ∧ m' ((c.tc : Thread Cert.ActReferenceIdeal.nD Cert.ActReferenceIdeal.τ).loc Cert.ActReferenceIdeal.main_arg1) = m ((c.tc : Thread Cert.ActIdeal.nD Cert.ActIdeal.τ).loc Cert.ActIdeal.main_arg1)
      ∧ m' ((c.tc : Thread Cert.ActReferenceIdeal.nD Cert.ActReferenceIdeal.τ).loc Cert.ActReferenceIdeal.main_arg2) = m ((c.tc : Thread Cert.ActIdeal.nD Cert.ActIdeal.τ).loc Cert.ActIdeal.main_arg2)) →
    ∃ (v0 : (c : Dev Cert.ActIdeal.nD) → Buf (Elt Ideal) ((c.tc : Thread Cert.ActIdeal.nD Cert.ActIdeal.τ).loc Cert.ActIdeal.main_v0)),
      θ_run (Cert.ActIdeal.defs (F := Ideal)) (onTc (τ := Cert.ActIdeal.τ) (Cert.ActIdeal.main (F := Ideal))) ⟨m, fun _ => 0, g⟩ (fun r => ∀ c : Dev Cert.ActIdeal.nD,
          r.2.mem ((c.tc : Thread Cert.ActIdeal.nD Cert.ActIdeal.τ).loc Cert.ActIdeal.main_v0) = v0 c
          ∧ r.2.mem ((c.tc : Thread Cert.ActIdeal.nD Cert.ActIdeal.τ).loc Cert.ActIdeal.main_arg0) = m ((c.tc : Thread Cert.ActIdeal.nD Cert.ActIdeal.τ).loc Cert.ActIdeal.main_arg0)
          ∧ r.2.mem ((c.tc : Thread Cert.ActIdeal.nD Cert.ActIdeal.τ).loc Cert.ActIdeal.main_arg1) = m ((c.tc : Thread Cert.ActIdeal.nD Cert.ActIdeal.τ).loc Cert.ActIdeal.main_arg1)
          ∧ r.2.mem ((c.tc : Thread Cert.ActIdeal.nD Cert.ActIdeal.τ).loc Cert.ActIdeal.main_arg2) = m ((c.tc : Thread Cert.ActIdeal.nD Cert.ActIdeal.τ).loc Cert.ActIdeal.main_arg2))
      ∧ θ_run (Cert.ActReferenceIdeal.defs (F := Ideal)) (onTc (τ := Cert.ActReferenceIdeal.τ) (Cert.ActReferenceIdeal.main (F := Ideal))) ⟨m', fun _ => 0, g'⟩ (fun r => ∀ c : Dev Cert.ActReferenceIdeal.nD,
          r.2.mem ((c.tc : Thread Cert.ActReferenceIdeal.nD Cert.ActReferenceIdeal.τ).loc Cert.ActReferenceIdeal.main_v8) = v0 c
          ∧ r.2.mem ((c.tc : Thread Cert.ActReferenceIdeal.nD Cert.ActReferenceIdeal.τ).loc Cert.ActReferenceIdeal.main_arg0) = m' ((c.tc : Thread Cert.ActReferenceIdeal.nD Cert.ActReferenceIdeal.τ).loc Cert.ActReferenceIdeal.main_arg0)
          ∧ r.2.mem ((c.tc : Thread Cert.ActReferenceIdeal.nD Cert.ActReferenceIdeal.τ).loc Cert.ActReferenceIdeal.main_arg1) = m' ((c.tc : Thread Cert.ActReferenceIdeal.nD Cert.ActReferenceIdeal.τ).loc Cert.ActReferenceIdeal.main_arg1)
          ∧ r.2.mem ((c.tc : Thread Cert.ActReferenceIdeal.nD Cert.ActReferenceIdeal.τ).loc Cert.ActReferenceIdeal.main_arg2) = m' ((c.tc : Thread Cert.ActReferenceIdeal.nD Cert.ActReferenceIdeal.τ).loc Cert.ActReferenceIdeal.main_arg2))

def preserves_ConvGrad_ConvGradIdeal : Prop :=
  True

def algebraic_ConvGradIdeal_ConvGradReferenceIdeal [hConvGradIdeal : Cert.ConvGradIdeal.Facts] [hConvGradReferenceIdeal : Cert.ConvGradReferenceIdeal.Facts] : Prop :=
  ∀ (m : (ℓ : Loc Cert.ConvGradIdeal.nD Cert.ConvGradIdeal.τ Cert.ConvGradIdeal.sig) → Buf (Elt Ideal) ℓ) (g : Dev Cert.ConvGradIdeal.nD → PrngReg)
    (m' : (ℓ : Loc Cert.ConvGradReferenceIdeal.nD Cert.ConvGradReferenceIdeal.τ Cert.ConvGradReferenceIdeal.sig) → Buf (Elt Ideal) ℓ) (g' : Dev Cert.ConvGradReferenceIdeal.nD → PrngReg), Pre_ConvGradIdeal m →
    (∀ c : Dev Cert.ConvGradIdeal.nD,
      m' ((c.tc : Thread Cert.ConvGradReferenceIdeal.nD Cert.ConvGradReferenceIdeal.τ).loc Cert.ConvGradReferenceIdeal.main_arg0) = m ((c.tc : Thread Cert.ConvGradIdeal.nD Cert.ConvGradIdeal.τ).loc Cert.ConvGradIdeal.main_arg0)
      ∧ m' ((c.tc : Thread Cert.ConvGradReferenceIdeal.nD Cert.ConvGradReferenceIdeal.τ).loc Cert.ConvGradReferenceIdeal.main_arg1) = m ((c.tc : Thread Cert.ConvGradIdeal.nD Cert.ConvGradIdeal.τ).loc Cert.ConvGradIdeal.main_arg1)
      ∧ m' ((c.tc : Thread Cert.ConvGradReferenceIdeal.nD Cert.ConvGradReferenceIdeal.τ).loc Cert.ConvGradReferenceIdeal.main_arg2) = m ((c.tc : Thread Cert.ConvGradIdeal.nD Cert.ConvGradIdeal.τ).loc Cert.ConvGradIdeal.main_arg2)
      ∧ m' ((c.tc : Thread Cert.ConvGradReferenceIdeal.nD Cert.ConvGradReferenceIdeal.τ).loc Cert.ConvGradReferenceIdeal.main_arg3) = m ((c.tc : Thread Cert.ConvGradIdeal.nD Cert.ConvGradIdeal.τ).loc Cert.ConvGradIdeal.main_arg3)
      ∧ m' ((c.tc : Thread Cert.ConvGradReferenceIdeal.nD Cert.ConvGradReferenceIdeal.τ).loc Cert.ConvGradReferenceIdeal.main_arg4) = m ((c.tc : Thread Cert.ConvGradIdeal.nD Cert.ConvGradIdeal.τ).loc Cert.ConvGradIdeal.main_arg4)) →
    ∃ (v0 : (c : Dev Cert.ConvGradIdeal.nD) → Buf (Elt Ideal) ((c.tc : Thread Cert.ConvGradIdeal.nD Cert.ConvGradIdeal.τ).loc Cert.ConvGradIdeal.main_v0_0)) (v1 : (c : Dev Cert.ConvGradIdeal.nD) → Buf (Elt Ideal) ((c.tc : Thread Cert.ConvGradIdeal.nD Cert.ConvGradIdeal.τ).loc Cert.ConvGradIdeal.main_v0_1)) (v2 : (c : Dev Cert.ConvGradIdeal.nD) → Buf (Elt Ideal) ((c.tc : Thread Cert.ConvGradIdeal.nD Cert.ConvGradIdeal.τ).loc Cert.ConvGradIdeal.main_v0_2)) (v3 : (c : Dev Cert.ConvGradIdeal.nD) → Buf (Elt Ideal) ((c.tc : Thread Cert.ConvGradIdeal.nD Cert.ConvGradIdeal.τ).loc Cert.ConvGradIdeal.main_v0_3)) (v4 : (c : Dev Cert.ConvGradIdeal.nD) → Buf (Elt Ideal) ((c.tc : Thread Cert.ConvGradIdeal.nD Cert.ConvGradIdeal.τ).loc Cert.ConvGradIdeal.main_v0_4)) (v5 : (c : Dev Cert.ConvGradIdeal.nD) → Buf (Elt Ideal) ((c.tc : Thread Cert.ConvGradIdeal.nD Cert.ConvGradIdeal.τ).loc Cert.ConvGradIdeal.main_v0_5)),
      θ_run (Cert.ConvGradIdeal.defs (F := Ideal)) (onTc (τ := Cert.ConvGradIdeal.τ) (Cert.ConvGradIdeal.main (F := Ideal))) ⟨m, fun _ => 0, g⟩ (fun r => ∀ c : Dev Cert.ConvGradIdeal.nD,
          r.2.mem ((c.tc : Thread Cert.ConvGradIdeal.nD Cert.ConvGradIdeal.τ).loc Cert.ConvGradIdeal.main_v0_0) = v0 c
          ∧ r.2.mem ((c.tc : Thread Cert.ConvGradIdeal.nD Cert.ConvGradIdeal.τ).loc Cert.ConvGradIdeal.main_v0_1) = v1 c
          ∧ r.2.mem ((c.tc : Thread Cert.ConvGradIdeal.nD Cert.ConvGradIdeal.τ).loc Cert.ConvGradIdeal.main_v0_2) = v2 c
          ∧ r.2.mem ((c.tc : Thread Cert.ConvGradIdeal.nD Cert.ConvGradIdeal.τ).loc Cert.ConvGradIdeal.main_v0_3) = v3 c
          ∧ r.2.mem ((c.tc : Thread Cert.ConvGradIdeal.nD Cert.ConvGradIdeal.τ).loc Cert.ConvGradIdeal.main_v0_4) = v4 c
          ∧ r.2.mem ((c.tc : Thread Cert.ConvGradIdeal.nD Cert.ConvGradIdeal.τ).loc Cert.ConvGradIdeal.main_v0_5) = v5 c
          ∧ r.2.mem ((c.tc : Thread Cert.ConvGradIdeal.nD Cert.ConvGradIdeal.τ).loc Cert.ConvGradIdeal.main_arg0) = m ((c.tc : Thread Cert.ConvGradIdeal.nD Cert.ConvGradIdeal.τ).loc Cert.ConvGradIdeal.main_arg0)
          ∧ r.2.mem ((c.tc : Thread Cert.ConvGradIdeal.nD Cert.ConvGradIdeal.τ).loc Cert.ConvGradIdeal.main_arg1) = m ((c.tc : Thread Cert.ConvGradIdeal.nD Cert.ConvGradIdeal.τ).loc Cert.ConvGradIdeal.main_arg1)
          ∧ r.2.mem ((c.tc : Thread Cert.ConvGradIdeal.nD Cert.ConvGradIdeal.τ).loc Cert.ConvGradIdeal.main_arg2) = m ((c.tc : Thread Cert.ConvGradIdeal.nD Cert.ConvGradIdeal.τ).loc Cert.ConvGradIdeal.main_arg2)
          ∧ r.2.mem ((c.tc : Thread Cert.ConvGradIdeal.nD Cert.ConvGradIdeal.τ).loc Cert.ConvGradIdeal.main_arg3) = m ((c.tc : Thread Cert.ConvGradIdeal.nD Cert.ConvGradIdeal.τ).loc Cert.ConvGradIdeal.main_arg3)
          ∧ r.2.mem ((c.tc : Thread Cert.ConvGradIdeal.nD Cert.ConvGradIdeal.τ).loc Cert.ConvGradIdeal.main_arg4) = m ((c.tc : Thread Cert.ConvGradIdeal.nD Cert.ConvGradIdeal.τ).loc Cert.ConvGradIdeal.main_arg4))
      ∧ θ_run (Cert.ConvGradReferenceIdeal.defs (F := Ideal)) (onTc (τ := Cert.ConvGradReferenceIdeal.τ) (Cert.ConvGradReferenceIdeal.main (F := Ideal))) ⟨m', fun _ => 0, g'⟩ (fun r => ∀ c : Dev Cert.ConvGradReferenceIdeal.nD,
          r.2.mem ((c.tc : Thread Cert.ConvGradReferenceIdeal.nD Cert.ConvGradReferenceIdeal.τ).loc Cert.ConvGradReferenceIdeal.main_v84) = v0 c
          ∧ r.2.mem ((c.tc : Thread Cert.ConvGradReferenceIdeal.nD Cert.ConvGradReferenceIdeal.τ).loc Cert.ConvGradReferenceIdeal.main_v191) = v1 c
          ∧ r.2.mem ((c.tc : Thread Cert.ConvGradReferenceIdeal.nD Cert.ConvGradReferenceIdeal.τ).loc Cert.ConvGradReferenceIdeal.main_v276) = v2 c
          ∧ r.2.mem ((c.tc : Thread Cert.ConvGradReferenceIdeal.nD Cert.ConvGradReferenceIdeal.τ).loc Cert.ConvGradReferenceIdeal.main_v106) = v3 c
          ∧ r.2.mem ((c.tc : Thread Cert.ConvGradReferenceIdeal.nD Cert.ConvGradReferenceIdeal.τ).loc Cert.ConvGradReferenceIdeal.main_v213) = v4 c
          ∧ r.2.mem ((c.tc : Thread Cert.ConvGradReferenceIdeal.nD Cert.ConvGradReferenceIdeal.τ).loc Cert.ConvGradReferenceIdeal.main_v298) = v5 c
          ∧ r.2.mem ((c.tc : Thread Cert.ConvGradReferenceIdeal.nD Cert.ConvGradReferenceIdeal.τ).loc Cert.ConvGradReferenceIdeal.main_arg0) = m' ((c.tc : Thread Cert.ConvGradReferenceIdeal.nD Cert.ConvGradReferenceIdeal.τ).loc Cert.ConvGradReferenceIdeal.main_arg0)
          ∧ r.2.mem ((c.tc : Thread Cert.ConvGradReferenceIdeal.nD Cert.ConvGradReferenceIdeal.τ).loc Cert.ConvGradReferenceIdeal.main_arg1) = m' ((c.tc : Thread Cert.ConvGradReferenceIdeal.nD Cert.ConvGradReferenceIdeal.τ).loc Cert.ConvGradReferenceIdeal.main_arg1)
          ∧ r.2.mem ((c.tc : Thread Cert.ConvGradReferenceIdeal.nD Cert.ConvGradReferenceIdeal.τ).loc Cert.ConvGradReferenceIdeal.main_arg2) = m' ((c.tc : Thread Cert.ConvGradReferenceIdeal.nD Cert.ConvGradReferenceIdeal.τ).loc Cert.ConvGradReferenceIdeal.main_arg2)
          ∧ r.2.mem ((c.tc : Thread Cert.ConvGradReferenceIdeal.nD Cert.ConvGradReferenceIdeal.τ).loc Cert.ConvGradReferenceIdeal.main_arg3) = m' ((c.tc : Thread Cert.ConvGradReferenceIdeal.nD Cert.ConvGradReferenceIdeal.τ).loc Cert.ConvGradReferenceIdeal.main_arg3)
          ∧ r.2.mem ((c.tc : Thread Cert.ConvGradReferenceIdeal.nD Cert.ConvGradReferenceIdeal.τ).loc Cert.ConvGradReferenceIdeal.main_arg4) = m' ((c.tc : Thread Cert.ConvGradReferenceIdeal.nD Cert.ConvGradReferenceIdeal.τ).loc Cert.ConvGradReferenceIdeal.main_arg4))

def Claim : Prop :=
  ∃ (hKernel : Cert.Kernel.Facts) (hKernelIdeal : Cert.KernelIdeal.Facts) (hReferenceIdeal : Cert.ReferenceIdeal.Facts) (hReference : Cert.Reference.Facts) (hAdam : Cert.Adam.Facts) (hAdamIdeal : Cert.AdamIdeal.Facts) (hAdamReferenceIdeal : Cert.AdamReferenceIdeal.Facts) (hLoss : Cert.Loss.Facts) (hLossIdeal : Cert.LossIdeal.Facts) (hLossReferenceIdeal : Cert.LossReferenceIdeal.Facts) (hGradX : Cert.GradX.Facts) (hGradXIdeal : Cert.GradXIdeal.Facts) (hGradXReferenceIdeal : Cert.GradXReferenceIdeal.Facts) (hMlpIn : Cert.MlpIn.Facts) (hMlpInIdeal : Cert.MlpInIdeal.Facts) (hMlpInReferenceIdeal : Cert.MlpInReferenceIdeal.Facts) (hDownGrad : Cert.DownGrad.Facts) (hDownGradIdeal : Cert.DownGradIdeal.Facts) (hDownGradReferenceIdeal : Cert.DownGradReferenceIdeal.Facts) (hUpGrad : Cert.UpGrad.Facts) (hUpGradIdeal : Cert.UpGradIdeal.Facts) (hUpGradReferenceIdeal : Cert.UpGradReferenceIdeal.Facts) (hOutGrad : Cert.OutGrad.Facts) (hOutGradIdeal : Cert.OutGradIdeal.Facts) (hOutGradReferenceIdeal : Cert.OutGradReferenceIdeal.Facts) (hInGrad : Cert.InGrad.Facts) (hInGradIdeal : Cert.InGradIdeal.Facts) (hInGradReferenceIdeal : Cert.InGradReferenceIdeal.Facts) (hProj : Cert.Proj.Facts) (hProjIdeal : Cert.ProjIdeal.Facts) (hProjReferenceIdeal : Cert.ProjReferenceIdeal.Facts) (hUp : Cert.Up.Facts) (hUpIdeal : Cert.UpIdeal.Facts) (hUpReferenceIdeal : Cert.UpReferenceIdeal.Facts) (hAct : Cert.Act.Facts) (hActIdeal : Cert.ActIdeal.Facts) (hActReferenceIdeal : Cert.ActReferenceIdeal.Facts) (hConvGrad : Cert.ConvGrad.Facts) (hConvGradIdeal : Cert.ConvGradIdeal.Facts) (hConvGradReferenceIdeal : Cert.ConvGradReferenceIdeal.Facts),
    quiescent_Kernel (hKernel := hKernel)
    ∧ quiescent_KernelIdeal (hKernelIdeal := hKernelIdeal)
    ∧ quiescent_ReferenceIdeal (hReferenceIdeal := hReferenceIdeal)
    ∧ quiescent_Reference (hReference := hReference)
    ∧ quiescent_Adam (hAdam := hAdam)
    ∧ quiescent_AdamIdeal (hAdamIdeal := hAdamIdeal)
    ∧ quiescent_AdamReferenceIdeal (hAdamReferenceIdeal := hAdamReferenceIdeal)
    ∧ quiescent_Loss (hLoss := hLoss)
    ∧ quiescent_LossIdeal (hLossIdeal := hLossIdeal)
    ∧ quiescent_LossReferenceIdeal (hLossReferenceIdeal := hLossReferenceIdeal)
    ∧ quiescent_GradX (hGradX := hGradX)
    ∧ quiescent_GradXIdeal (hGradXIdeal := hGradXIdeal)
    ∧ quiescent_GradXReferenceIdeal (hGradXReferenceIdeal := hGradXReferenceIdeal)
    ∧ quiescent_MlpIn (hMlpIn := hMlpIn)
    ∧ quiescent_MlpInIdeal (hMlpInIdeal := hMlpInIdeal)
    ∧ quiescent_MlpInReferenceIdeal (hMlpInReferenceIdeal := hMlpInReferenceIdeal)
    ∧ quiescent_DownGrad (hDownGrad := hDownGrad)
    ∧ quiescent_DownGradIdeal (hDownGradIdeal := hDownGradIdeal)
    ∧ quiescent_DownGradReferenceIdeal (hDownGradReferenceIdeal := hDownGradReferenceIdeal)
    ∧ quiescent_UpGrad (hUpGrad := hUpGrad)
    ∧ quiescent_UpGradIdeal (hUpGradIdeal := hUpGradIdeal)
    ∧ quiescent_UpGradReferenceIdeal (hUpGradReferenceIdeal := hUpGradReferenceIdeal)
    ∧ quiescent_OutGrad (hOutGrad := hOutGrad)
    ∧ quiescent_OutGradIdeal (hOutGradIdeal := hOutGradIdeal)
    ∧ quiescent_OutGradReferenceIdeal (hOutGradReferenceIdeal := hOutGradReferenceIdeal)
    ∧ quiescent_InGrad (hInGrad := hInGrad)
    ∧ quiescent_InGradIdeal (hInGradIdeal := hInGradIdeal)
    ∧ quiescent_InGradReferenceIdeal (hInGradReferenceIdeal := hInGradReferenceIdeal)
    ∧ quiescent_Proj (hProj := hProj)
    ∧ quiescent_ProjIdeal (hProjIdeal := hProjIdeal)
    ∧ quiescent_ProjReferenceIdeal (hProjReferenceIdeal := hProjReferenceIdeal)
    ∧ quiescent_Up (hUp := hUp)
    ∧ quiescent_UpIdeal (hUpIdeal := hUpIdeal)
    ∧ quiescent_UpReferenceIdeal (hUpReferenceIdeal := hUpReferenceIdeal)
    ∧ quiescent_Act (hAct := hAct)
    ∧ quiescent_ActIdeal (hActIdeal := hActIdeal)
    ∧ quiescent_ActReferenceIdeal (hActReferenceIdeal := hActReferenceIdeal)
    ∧ quiescent_ConvGrad (hConvGrad := hConvGrad)
    ∧ quiescent_ConvGradIdeal (hConvGradIdeal := hConvGradIdeal)
    ∧ quiescent_ConvGradReferenceIdeal (hConvGradReferenceIdeal := hConvGradReferenceIdeal)
    ∧ preserves_Kernel_KernelIdeal
    ∧ algebraic_KernelIdeal_ReferenceIdeal (hKernelIdeal := hKernelIdeal) (hReferenceIdeal := hReferenceIdeal)
    ∧ bitexact_Kernel_Reference (hKernel := hKernel) (hReference := hReference)
    ∧ preserves_Adam_AdamIdeal
    ∧ algebraic_AdamIdeal_AdamReferenceIdeal (hAdamIdeal := hAdamIdeal) (hAdamReferenceIdeal := hAdamReferenceIdeal)
    ∧ preserves_Loss_LossIdeal
    ∧ algebraic_LossIdeal_LossReferenceIdeal (hLossIdeal := hLossIdeal) (hLossReferenceIdeal := hLossReferenceIdeal)
    ∧ preserves_GradX_GradXIdeal
    ∧ algebraic_GradXIdeal_GradXReferenceIdeal (hGradXIdeal := hGradXIdeal) (hGradXReferenceIdeal := hGradXReferenceIdeal)
    ∧ preserves_MlpIn_MlpInIdeal
    ∧ algebraic_MlpInIdeal_MlpInReferenceIdeal (hMlpInIdeal := hMlpInIdeal) (hMlpInReferenceIdeal := hMlpInReferenceIdeal)
    ∧ preserves_DownGrad_DownGradIdeal
    ∧ algebraic_DownGradIdeal_DownGradReferenceIdeal (hDownGradIdeal := hDownGradIdeal) (hDownGradReferenceIdeal := hDownGradReferenceIdeal)
    ∧ preserves_UpGrad_UpGradIdeal
    ∧ algebraic_UpGradIdeal_UpGradReferenceIdeal (hUpGradIdeal := hUpGradIdeal) (hUpGradReferenceIdeal := hUpGradReferenceIdeal)
    ∧ preserves_OutGrad_OutGradIdeal
    ∧ algebraic_OutGradIdeal_OutGradReferenceIdeal (hOutGradIdeal := hOutGradIdeal) (hOutGradReferenceIdeal := hOutGradReferenceIdeal)
    ∧ preserves_InGrad_InGradIdeal
    ∧ algebraic_InGradIdeal_InGradReferenceIdeal (hInGradIdeal := hInGradIdeal) (hInGradReferenceIdeal := hInGradReferenceIdeal)
    ∧ preserves_Proj_ProjIdeal
    ∧ algebraic_ProjIdeal_ProjReferenceIdeal (hProjIdeal := hProjIdeal) (hProjReferenceIdeal := hProjReferenceIdeal)
    ∧ preserves_Up_UpIdeal
    ∧ algebraic_UpIdeal_UpReferenceIdeal (hUpIdeal := hUpIdeal) (hUpReferenceIdeal := hUpReferenceIdeal)
    ∧ preserves_Act_ActIdeal
    ∧ algebraic_ActIdeal_ActReferenceIdeal (hActIdeal := hActIdeal) (hActReferenceIdeal := hActReferenceIdeal)
    ∧ preserves_ConvGrad_ConvGradIdeal
    ∧ algebraic_ConvGradIdeal_ConvGradReferenceIdeal (hConvGradIdeal := hConvGradIdeal) (hConvGradReferenceIdeal := hConvGradReferenceIdeal)
-- ==== Kernel.lean ====
abbrev S1024x450 : Shape := ⟨2, ![1024, 450]⟩
abbrev S128x1024 : Shape := ⟨2, ![128, 1024]⟩
abbrev S1024x512 : Shape := ⟨2, ![1024, 512]⟩
abbrev S512x1024 : Shape := ⟨2, ![512, 1024]⟩
abbrev S4x192 : Shape := ⟨2, ![4, 192]⟩
abbrev S8x1024x450 : Shape := ⟨3, ![8, 1024, 450]⟩
abbrev S8x128x1024 : Shape := ⟨3, ![8, 128, 1024]⟩
abbrev S8x1024x512 : Shape := ⟨3, ![8, 1024, 512]⟩
abbrev S8x512x1024 : Shape := ⟨3, ![8, 512, 1024]⟩
abbrev S8x4x192 : Shape := ⟨3, ![8, 4, 192]⟩
abbrev S5x7 : Shape := ⟨2, ![5, 7]⟩
abbrev S5 : Shape := ⟨1, ![5]⟩
abbrev S1 : Shape := ⟨1, ![1]⟩
abbrev S_ : Shape := ⟨0, ![]⟩
abbrev S1x1024x450 : Shape := ⟨3, ![1, 1024, 450]⟩
abbrev S1x128x1024 : Shape := ⟨3, ![1, 128, 1024]⟩
abbrev S1x1024x512 : Shape := ⟨3, ![1, 1024, 512]⟩
abbrev S1x512x1024 : Shape := ⟨3, ![1, 512, 1024]⟩
abbrev S1x4x192 : Shape := ⟨3, ![1, 4, 192]⟩
abbrev S1x1 : Shape := ⟨2, ![1, 1]⟩

abbrev nBuf : Space → Nat
  | .hbm => 10
  | .vmem => 0
  | .smem => 0
  | _ => 0

abbrev bufTy : (tb : Table) → Fin (tcTables nBuf tb) → BufTy
  | .hbm, ⟨0, _⟩ => ⟨S1024x450, .bf16⟩
  | .hbm, ⟨1, _⟩ => ⟨S128x1024, .bf16⟩
  | .hbm, ⟨2, _⟩ => ⟨S1024x512, .bf16⟩
  | .hbm, ⟨3, _⟩ => ⟨S512x1024, .bf16⟩
  | .hbm, ⟨4, _⟩ => ⟨S4x192, .f32⟩
  | .hbm, ⟨5, _⟩ => ⟨S8x1024x450, .bf16⟩
  | .hbm, ⟨6, _⟩ => ⟨S8x128x1024, .bf16⟩
  | .hbm, ⟨7, _⟩ => ⟨S8x1024x512, .bf16⟩
  | .hbm, ⟨8, _⟩ => ⟨S8x512x1024, .bf16⟩
  | .hbm, ⟨9, _⟩ => ⟨S8x4x192, .f32⟩
  | _, _ => ⟨S1024x450, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 75 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | _ => false

abbrev sig : RefSig :=
  ofTc nBuf bufTy 0 75 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev main_v1_4 : Ref sig .tc := ⟨.hbm, 9, rfl⟩

abbrev nD : Nat := 8
abbrev τ : Topo := Topo.v7x

variable {F : FTy → Type} [FloatOps F]

abbrev grid0 : Pipeline.Grid := .none

def k0_off1 (d0 : Dev nD) : Fin 3 → Nat :=
  let c4_i32_9 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v16 : BitVec 32 := Scalar.muli c4_i32_9 v2
  let c2_i32_10 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.muli c2_i32_10 v5
  let v18 : BitVec 32 := Scalar.addi v16 v17
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v19 : BitVec 32 := Scalar.addi v18 v8
  let c0_i32_12 : BitVec 32 := 0#32
  let c0_i32_13 : BitVec 32 := 0#32
  ![v19.toNat, 0, 0]
def k0_off2 (d0 : Dev nD) : Fin 3 → Nat :=
  let c4_i32_14 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v24 : BitVec 32 := Scalar.muli c4_i32_14 v2
  let c2_i32_15 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v25 : BitVec 32 := Scalar.muli c2_i32_15 v5
  let v26 : BitVec 32 := Scalar.addi v24 v25
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v27 : BitVec 32 := Scalar.addi v26 v8
  let c0_i32_17 : BitVec 32 := 0#32
  let c0_i32_18 : BitVec 32 := 0#32
  ![v27.toNat, 0, 0]
def k0_off3 (d0 : Dev nD) : Fin 3 → Nat :=
  let c4_i32_19 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v32 : BitVec 32 := Scalar.muli c4_i32_19 v2
  let c2_i32_20 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v33 : BitVec 32 := Scalar.muli c2_i32_20 v5
  let v34 : BitVec 32 := Scalar.addi v32 v33
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v35 : BitVec 32 := Scalar.addi v34 v8
  let c0_i32_22 : BitVec 32 := 0#32
  let c0_i32_23 : BitVec 32 := 0#32
  ![v35.toNat, 0, 0]
def k0_off4 (d0 : Dev nD) : Fin 3 → Nat :=
  let c4_i32_24 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v40 : BitVec 32 := Scalar.muli c4_i32_24 v2
  let c2_i32_25 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v41 : BitVec 32 := Scalar.muli c2_i32_25 v5
  let v42 : BitVec 32 := Scalar.addi v40 v41
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v43 : BitVec 32 := Scalar.addi v42 v8
  let c0_i32_26 : BitVec 32 := 0#32
  let c0_i32_27 : BitVec 32 := 0#32
  ![v43.toNat, 0, 0]
def k0_off5 (d0 : Dev nD) : Fin 3 → Nat :=
  let c4_i32_28 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v48 : BitVec 32 := Scalar.muli c4_i32_28 v2
  let c2_i32_29 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v49 : BitVec 32 := Scalar.muli c2_i32_29 v5
  let v50 : BitVec 32 := Scalar.addi v48 v49
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v51 : BitVec 32 := Scalar.addi v50 v8
  let c0_i32_31 : BitVec 32 := 0#32
  let c0_i32_32 : BitVec 32 := 0#32
  ![v51.toNat, 0, 0]
def k0_dev1 (d0 : Dev nD) : Nat :=
  let c0_i32_46 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_45 : BitVec 32 := 4#32
  let v72 : BitVec 32 := Scalar.muli v2 c4_i32_45
  let v73 : BitVec 32 := Scalar.addi c0_i32_46 v72
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_47 : BitVec 32 := 2#32
  let v74 : BitVec 32 := Scalar.muli v5 c2_i32_47
  let v75 : BitVec 32 := Scalar.addi v73 v74
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_48 : BitVec 32 := 1#32
  let v76 : BitVec 32 := Scalar.muli v9 c1_i32_48
  let v77 : BitVec 32 := Scalar.addi v75 v76
  v77.toNat
def k0_dev2 (d0 : Dev nD) : Nat :=
  let c0_i32_56 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_4 : BitVec 32 := 1#32
  let v10 : BitVec 32 := Scalar.xori v2 c1_i32_4
  let c4_i32_55 : BitVec 32 := 4#32
  let v84 : BitVec 32 := Scalar.muli v10 c4_i32_55
  let v85 : BitVec 32 := Scalar.addi c0_i32_56 v84
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32 : BitVec 32 := 0#32
  let v11 : BitVec 32 := Scalar.xori v5 c0_i32
  let c2_i32_57 : BitVec 32 := 2#32
  let v86 : BitVec 32 := Scalar.muli v11 c2_i32_57
  let v87 : BitVec 32 := Scalar.addi v85 v86
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_58 : BitVec 32 := 1#32
  let v88 : BitVec 32 := Scalar.muli v8 c1_i32_58
  let v89 : BitVec 32 := Scalar.addi v87 v88
  v89.toNat
def k0_dev3 (d0 : Dev nD) : Nat :=
  let c0_i32_66 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_5 : BitVec 32 := 0#32
  let v12 : BitVec 32 := Scalar.xori v2 c0_i32_5
  let c4_i32_65 : BitVec 32 := 4#32
  let v96 : BitVec 32 := Scalar.muli v12 c4_i32_65
  let v97 : BitVec 32 := Scalar.addi c0_i32_66 v96
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_6 : BitVec 32 := 1#32
  let v13 : BitVec 32 := Scalar.xori v5 c1_i32_6
  let c2_i32_67 : BitVec 32 := 2#32
  let v98 : BitVec 32 := Scalar.muli v13 c2_i32_67
  let v99 : BitVec 32 := Scalar.addi v97 v98
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_68 : BitVec 32 := 1#32
  let v100 : BitVec 32 := Scalar.muli v8 c1_i32_68
  let v101 : BitVec 32 := Scalar.addi v99 v100
  v101.toNat
def k0_dev4 (d0 : Dev nD) : Nat :=
  let c0_i32_76 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_7 : BitVec 32 := 1#32
  let v14 : BitVec 32 := Scalar.xori v2 c1_i32_7
  let c4_i32_75 : BitVec 32 := 4#32
  let v108 : BitVec 32 := Scalar.muli v14 c4_i32_75
  let v109 : BitVec 32 := Scalar.addi c0_i32_76 v108
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_8 : BitVec 32 := 1#32
  let v15 : BitVec 32 := Scalar.xori v5 c1_i32_8
  let c2_i32_77 : BitVec 32 := 2#32
  let v110 : BitVec 32 := Scalar.muli v15 c2_i32_77
  let v111 : BitVec 32 := Scalar.addi v109 v110
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_78 : BitVec 32 := 1#32
  let v112 : BitVec 32 := Scalar.muli v8 c1_i32_78
  let v113 : BitVec 32 := Scalar.addi v111 v112
  v113.toNat
def k0_dev5 (d0 : Dev nD) : Nat :=
  let c0_i32_94 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_93 : BitVec 32 := 4#32
  let v136 : BitVec 32 := Scalar.muli v2 c4_i32_93
  let v137 : BitVec 32 := Scalar.addi c0_i32_94 v136
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_95 : BitVec 32 := 2#32
  let v138 : BitVec 32 := Scalar.muli v5 c2_i32_95
  let v139 : BitVec 32 := Scalar.addi v137 v138
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_96 : BitVec 32 := 1#32
  let v140 : BitVec 32 := Scalar.muli v9 c1_i32_96
  let v141 : BitVec 32 := Scalar.addi v139 v140
  v141.toNat
def k0_dev6 (d0 : Dev nD) : Nat :=
  let c0_i32_104 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_4 : BitVec 32 := 1#32
  let v10 : BitVec 32 := Scalar.xori v2 c1_i32_4
  let c4_i32_103 : BitVec 32 := 4#32
  let v148 : BitVec 32 := Scalar.muli v10 c4_i32_103
  let v149 : BitVec 32 := Scalar.addi c0_i32_104 v148
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32 : BitVec 32 := 0#32
  let v11 : BitVec 32 := Scalar.xori v5 c0_i32
  let c2_i32_105 : BitVec 32 := 2#32
  let v150 : BitVec 32 := Scalar.muli v11 c2_i32_105
  let v151 : BitVec 32 := Scalar.addi v149 v150
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_106 : BitVec 32 := 1#32
  let v152 : BitVec 32 := Scalar.muli v8 c1_i32_106
  let v153 : BitVec 32 := Scalar.addi v151 v152
  v153.toNat
def k0_dev7 (d0 : Dev nD) : Nat :=
  let c0_i32_114 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_5 : BitVec 32 := 0#32
  let v12 : BitVec 32 := Scalar.xori v2 c0_i32_5
  let c4_i32_113 : BitVec 32 := 4#32
  let v160 : BitVec 32 := Scalar.muli v12 c4_i32_113
  let v161 : BitVec 32 := Scalar.addi c0_i32_114 v160
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_6 : BitVec 32 := 1#32
  let v13 : BitVec 32 := Scalar.xori v5 c1_i32_6
  let c2_i32_115 : BitVec 32 := 2#32
  let v162 : BitVec 32 := Scalar.muli v13 c2_i32_115
  let v163 : BitVec 32 := Scalar.addi v161 v162
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_116 : BitVec 32 := 1#32
  let v164 : BitVec 32 := Scalar.muli v8 c1_i32_116
  let v165 : BitVec 32 := Scalar.addi v163 v164
  v165.toNat
def k0_dev8 (d0 : Dev nD) : Nat :=
  let c0_i32_124 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_7 : BitVec 32 := 1#32
  let v14 : BitVec 32 := Scalar.xori v2 c1_i32_7
  let c4_i32_123 : BitVec 32 := 4#32
  let v172 : BitVec 32 := Scalar.muli v14 c4_i32_123
  let v173 : BitVec 32 := Scalar.addi c0_i32_124 v172
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_8 : BitVec 32 := 1#32
  let v15 : BitVec 32 := Scalar.xori v5 c1_i32_8
  let c2_i32_125 : BitVec 32 := 2#32
  let v174 : BitVec 32 := Scalar.muli v15 c2_i32_125
  let v175 : BitVec 32 := Scalar.addi v173 v174
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_126 : BitVec 32 := 1#32
  let v176 : BitVec 32 := Scalar.muli v8 c1_i32_126
  let v177 : BitVec 32 := Scalar.addi v175 v176
  v177.toNat
def k0_dev9 (d0 : Dev nD) : Nat :=
  let c0_i32_142 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_141 : BitVec 32 := 4#32
  let v200 : BitVec 32 := Scalar.muli v2 c4_i32_141
  let v201 : BitVec 32 := Scalar.addi c0_i32_142 v200
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_143 : BitVec 32 := 2#32
  let v202 : BitVec 32 := Scalar.muli v5 c2_i32_143
  let v203 : BitVec 32 := Scalar.addi v201 v202
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_144 : BitVec 32 := 1#32
  let v204 : BitVec 32 := Scalar.muli v9 c1_i32_144
  let v205 : BitVec 32 := Scalar.addi v203 v204
  v205.toNat
def k0_dev10 (d0 : Dev nD) : Nat :=
  let c0_i32_152 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_4 : BitVec 32 := 1#32
  let v10 : BitVec 32 := Scalar.xori v2 c1_i32_4
  let c4_i32_151 : BitVec 32 := 4#32
  let v212 : BitVec 32 := Scalar.muli v10 c4_i32_151
  let v213 : BitVec 32 := Scalar.addi c0_i32_152 v212
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32 : BitVec 32 := 0#32
  let v11 : BitVec 32 := Scalar.xori v5 c0_i32
  let c2_i32_153 : BitVec 32 := 2#32
  let v214 : BitVec 32 := Scalar.muli v11 c2_i32_153
  let v215 : BitVec 32 := Scalar.addi v213 v214
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_154 : BitVec 32 := 1#32
  let v216 : BitVec 32 := Scalar.muli v8 c1_i32_154
  let v217 : BitVec 32 := Scalar.addi v215 v216
  v217.toNat
def k0_dev11 (d0 : Dev nD) : Nat :=
  let c0_i32_162 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_5 : BitVec 32 := 0#32
  let v12 : BitVec 32 := Scalar.xori v2 c0_i32_5
  let c4_i32_161 : BitVec 32 := 4#32
  let v224 : BitVec 32 := Scalar.muli v12 c4_i32_161
  let v225 : BitVec 32 := Scalar.addi c0_i32_162 v224
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_6 : BitVec 32 := 1#32
  let v13 : BitVec 32 := Scalar.xori v5 c1_i32_6
  let c2_i32_163 : BitVec 32 := 2#32
  let v226 : BitVec 32 := Scalar.muli v13 c2_i32_163
  let v227 : BitVec 32 := Scalar.addi v225 v226
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_164 : BitVec 32 := 1#32
  let v228 : BitVec 32 := Scalar.muli v8 c1_i32_164
  let v229 : BitVec 32 := Scalar.addi v227 v228
  v229.toNat
def k0_dev12 (d0 : Dev nD) : Nat :=
  let c0_i32_172 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_7 : BitVec 32 := 1#32
  let v14 : BitVec 32 := Scalar.xori v2 c1_i32_7
  let c4_i32_171 : BitVec 32 := 4#32
  let v236 : BitVec 32 := Scalar.muli v14 c4_i32_171
  let v237 : BitVec 32 := Scalar.addi c0_i32_172 v236
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_8 : BitVec 32 := 1#32
  let v15 : BitVec 32 := Scalar.xori v5 c1_i32_8
  let c2_i32_173 : BitVec 32 := 2#32
  let v238 : BitVec 32 := Scalar.muli v15 c2_i32_173
  let v239 : BitVec 32 := Scalar.addi v237 v238
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_174 : BitVec 32 := 1#32
  let v240 : BitVec 32 := Scalar.muli v8 c1_i32_174
  let v241 : BitVec 32 := Scalar.addi v239 v240
  v241.toNat
def k0_dev13 (d0 : Dev nD) : Nat :=
  let c0_i32_190 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_189 : BitVec 32 := 4#32
  let v264 : BitVec 32 := Scalar.muli v2 c4_i32_189
  let v265 : BitVec 32 := Scalar.addi c0_i32_190 v264
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_191 : BitVec 32 := 2#32
  let v266 : BitVec 32 := Scalar.muli v5 c2_i32_191
  let v267 : BitVec 32 := Scalar.addi v265 v266
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_192 : BitVec 32 := 1#32
  let v268 : BitVec 32 := Scalar.muli v9 c1_i32_192
  let v269 : BitVec 32 := Scalar.addi v267 v268
  v269.toNat
def k0_dev14 (d0 : Dev nD) : Nat :=
  let c0_i32_200 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_4 : BitVec 32 := 1#32
  let v10 : BitVec 32 := Scalar.xori v2 c1_i32_4
  let c4_i32_199 : BitVec 32 := 4#32
  let v276 : BitVec 32 := Scalar.muli v10 c4_i32_199
  let v277 : BitVec 32 := Scalar.addi c0_i32_200 v276
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32 : BitVec 32 := 0#32
  let v11 : BitVec 32 := Scalar.xori v5 c0_i32
  let c2_i32_201 : BitVec 32 := 2#32
  let v278 : BitVec 32 := Scalar.muli v11 c2_i32_201
  let v279 : BitVec 32 := Scalar.addi v277 v278
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_202 : BitVec 32 := 1#32
  let v280 : BitVec 32 := Scalar.muli v8 c1_i32_202
  let v281 : BitVec 32 := Scalar.addi v279 v280
  v281.toNat
def k0_dev15 (d0 : Dev nD) : Nat :=
  let c0_i32_210 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_5 : BitVec 32 := 0#32
  let v12 : BitVec 32 := Scalar.xori v2 c0_i32_5
  let c4_i32_209 : BitVec 32 := 4#32
  let v288 : BitVec 32 := Scalar.muli v12 c4_i32_209
  let v289 : BitVec 32 := Scalar.addi c0_i32_210 v288
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_6 : BitVec 32 := 1#32
  let v13 : BitVec 32 := Scalar.xori v5 c1_i32_6
  let c2_i32_211 : BitVec 32 := 2#32
  let v290 : BitVec 32 := Scalar.muli v13 c2_i32_211
  let v291 : BitVec 32 := Scalar.addi v289 v290
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_212 : BitVec 32 := 1#32
  let v292 : BitVec 32 := Scalar.muli v8 c1_i32_212
  let v293 : BitVec 32 := Scalar.addi v291 v292
  v293.toNat
def k0_dev16 (d0 : Dev nD) : Nat :=
  let c0_i32_220 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_7 : BitVec 32 := 1#32
  let v14 : BitVec 32 := Scalar.xori v2 c1_i32_7
  let c4_i32_219 : BitVec 32 := 4#32
  let v300 : BitVec 32 := Scalar.muli v14 c4_i32_219
  let v301 : BitVec 32 := Scalar.addi c0_i32_220 v300
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_8 : BitVec 32 := 1#32
  let v15 : BitVec 32 := Scalar.xori v5 c1_i32_8
  let c2_i32_221 : BitVec 32 := 2#32
  let v302 : BitVec 32 := Scalar.muli v15 c2_i32_221
  let v303 : BitVec 32 := Scalar.addi v301 v302
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_222 : BitVec 32 := 1#32
  let v304 : BitVec 32 := Scalar.muli v8 c1_i32_222
  let v305 : BitVec 32 := Scalar.addi v303 v304
  v305.toNat
def k0_dev17 (d0 : Dev nD) : Nat :=
  let c0_i32_238 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_237 : BitVec 32 := 4#32
  let v328 : BitVec 32 := Scalar.muli v2 c4_i32_237
  let v329 : BitVec 32 := Scalar.addi c0_i32_238 v328
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_239 : BitVec 32 := 2#32
  let v330 : BitVec 32 := Scalar.muli v5 c2_i32_239
  let v331 : BitVec 32 := Scalar.addi v329 v330
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_240 : BitVec 32 := 1#32
  let v332 : BitVec 32 := Scalar.muli v9 c1_i32_240
  let v333 : BitVec 32 := Scalar.addi v331 v332
  v333.toNat
def k0_dev18 (d0 : Dev nD) : Nat :=
  let c0_i32_248 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_4 : BitVec 32 := 1#32
  let v10 : BitVec 32 := Scalar.xori v2 c1_i32_4
  let c4_i32_247 : BitVec 32 := 4#32
  let v340 : BitVec 32 := Scalar.muli v10 c4_i32_247
  let v341 : BitVec 32 := Scalar.addi c0_i32_248 v340
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32 : BitVec 32 := 0#32
  let v11 : BitVec 32 := Scalar.xori v5 c0_i32
  let c2_i32_249 : BitVec 32 := 2#32
  let v342 : BitVec 32 := Scalar.muli v11 c2_i32_249
  let v343 : BitVec 32 := Scalar.addi v341 v342
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_250 : BitVec 32 := 1#32
  let v344 : BitVec 32 := Scalar.muli v8 c1_i32_250
  let v345 : BitVec 32 := Scalar.addi v343 v344
  v345.toNat
def k0_dev19 (d0 : Dev nD) : Nat :=
  let c0_i32_258 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_5 : BitVec 32 := 0#32
  let v12 : BitVec 32 := Scalar.xori v2 c0_i32_5
  let c4_i32_257 : BitVec 32 := 4#32
  let v352 : BitVec 32 := Scalar.muli v12 c4_i32_257
  let v353 : BitVec 32 := Scalar.addi c0_i32_258 v352
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_6 : BitVec 32 := 1#32
  let v13 : BitVec 32 := Scalar.xori v5 c1_i32_6
  let c2_i32_259 : BitVec 32 := 2#32
  let v354 : BitVec 32 := Scalar.muli v13 c2_i32_259
  let v355 : BitVec 32 := Scalar.addi v353 v354
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_260 : BitVec 32 := 1#32
  let v356 : BitVec 32 := Scalar.muli v8 c1_i32_260
  let v357 : BitVec 32 := Scalar.addi v355 v356
  v357.toNat
def k0_dev20 (d0 : Dev nD) : Nat :=
  let c0_i32_268 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_7 : BitVec 32 := 1#32
  let v14 : BitVec 32 := Scalar.xori v2 c1_i32_7
  let c4_i32_267 : BitVec 32 := 4#32
  let v364 : BitVec 32 := Scalar.muli v14 c4_i32_267
  let v365 : BitVec 32 := Scalar.addi c0_i32_268 v364
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_8 : BitVec 32 := 1#32
  let v15 : BitVec 32 := Scalar.xori v5 c1_i32_8
  let c2_i32_269 : BitVec 32 := 2#32
  let v366 : BitVec 32 := Scalar.muli v15 c2_i32_269
  let v367 : BitVec 32 := Scalar.addi v365 v366
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_270 : BitVec 32 := 1#32
  let v368 : BitVec 32 := Scalar.muli v8 c1_i32_270
  let v369 : BitVec 32 := Scalar.addi v367 v368
  v369.toNat
def k0_off6 (d0 : Dev nD) (c1_i32_4 : BitVec 32) (c0_i32 : BitVec 32) : Fin 3 → Nat :=
  let c4_i32_275 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.xori v2 c1_i32_4
  let v380 : BitVec 32 := Scalar.muli c4_i32_275 v10
  let c2_i32_276 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.xori v5 c0_i32
  let v381 : BitVec 32 := Scalar.muli c2_i32_276 v11
  let v382 : BitVec 32 := Scalar.addi v380 v381
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v383 : BitVec 32 := Scalar.addi v382 v8
  let c0_i32_285 : BitVec 32 := 0#32
  let c0_i32_286 : BitVec 32 := 0#32
  ![v383.toNat, 0, 0]
def k0_off6_at (r : Fin 3) : BitVec 32 × BitVec 32 :=
  if r.val < 1 then
    (1#32, 0#32)
  else
    if r.val < 2 then
      (0#32, 1#32)
    else
      (1#32, 1#32)
def k0_dev21 (d0 : Dev nD) : Nat :=
  let c0_i32_298 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_297 : BitVec 32 := 4#32
  let v404 : BitVec 32 := Scalar.muli v2 c4_i32_297
  let v405 : BitVec 32 := Scalar.addi c0_i32_298 v404
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_299 : BitVec 32 := 2#32
  let v406 : BitVec 32 := Scalar.muli v5 c2_i32_299
  let v407 : BitVec 32 := Scalar.addi v405 v406
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_300 : BitVec 32 := 1#32
  let v408 : BitVec 32 := Scalar.muli v9 c1_i32_300
  let v409 : BitVec 32 := Scalar.addi v407 v408
  v409.toNat
def k0_dev22 (d0 : Dev nD) : Nat :=
  let c0_i32_329 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_328 : BitVec 32 := 4#32
  let v446 : BitVec 32 := Scalar.muli v2 c4_i32_328
  let v447 : BitVec 32 := Scalar.addi c0_i32_329 v446
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_330 : BitVec 32 := 2#32
  let v448 : BitVec 32 := Scalar.muli v5 c2_i32_330
  let v449 : BitVec 32 := Scalar.addi v447 v448
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_331 : BitVec 32 := 1#32
  let v450 : BitVec 32 := Scalar.muli v9 c1_i32_331
  let v451 : BitVec 32 := Scalar.addi v449 v450
  v451.toNat
def k0_dev23 (d0 : Dev nD) : Nat :=
  let c0_i32_360 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_359 : BitVec 32 := 4#32
  let v488 : BitVec 32 := Scalar.muli v2 c4_i32_359
  let v489 : BitVec 32 := Scalar.addi c0_i32_360 v488
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_361 : BitVec 32 := 2#32
  let v490 : BitVec 32 := Scalar.muli v5 c2_i32_361
  let v491 : BitVec 32 := Scalar.addi v489 v490
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_362 : BitVec 32 := 1#32
  let v492 : BitVec 32 := Scalar.muli v9 c1_i32_362
  let v493 : BitVec 32 := Scalar.addi v491 v492
  v493.toNat
def k0_off7 (d0 : Dev nD) (c1_i32_4 : BitVec 32) (c0_i32 : BitVec 32) : Fin 3 → Nat :=
  let c4_i32_369 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.xori v2 c1_i32_4
  let v506 : BitVec 32 := Scalar.muli c4_i32_369 v10
  let c2_i32_370 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.xori v5 c0_i32
  let v507 : BitVec 32 := Scalar.muli c2_i32_370 v11
  let v508 : BitVec 32 := Scalar.addi v506 v507
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v509 : BitVec 32 := Scalar.addi v508 v8
  let c0_i32_379 : BitVec 32 := 0#32
  let c0_i32_380 : BitVec 32 := 0#32
  ![v509.toNat, 0, 0]
def k0_off7_at (r : Fin 3) : BitVec 32 × BitVec 32 :=
  if r.val < 1 then
    (1#32, 0#32)
  else
    if r.val < 2 then
      (0#32, 1#32)
    else
      (1#32, 1#32)
def k0_dev24 (d0 : Dev nD) : Nat :=
  let c0_i32_392 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_391 : BitVec 32 := 4#32
  let v530 : BitVec 32 := Scalar.muli v2 c4_i32_391
  let v531 : BitVec 32 := Scalar.addi c0_i32_392 v530
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_393 : BitVec 32 := 2#32
  let v532 : BitVec 32 := Scalar.muli v5 c2_i32_393
  let v533 : BitVec 32 := Scalar.addi v531 v532
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_394 : BitVec 32 := 1#32
  let v534 : BitVec 32 := Scalar.muli v9 c1_i32_394
  let v535 : BitVec 32 := Scalar.addi v533 v534
  v535.toNat
def k0_dev25 (d0 : Dev nD) : Nat :=
  let c0_i32_424 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_423 : BitVec 32 := 4#32
  let v572 : BitVec 32 := Scalar.muli v2 c4_i32_423
  let v573 : BitVec 32 := Scalar.addi c0_i32_424 v572
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_425 : BitVec 32 := 2#32
  let v574 : BitVec 32 := Scalar.muli v5 c2_i32_425
  let v575 : BitVec 32 := Scalar.addi v573 v574
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_426 : BitVec 32 := 1#32
  let v576 : BitVec 32 := Scalar.muli v9 c1_i32_426
  let v577 : BitVec 32 := Scalar.addi v575 v576
  v577.toNat
def k0_dev26 (d0 : Dev nD) : Nat :=
  let c0_i32_456 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_455 : BitVec 32 := 4#32
  let v614 : BitVec 32 := Scalar.muli v2 c4_i32_455
  let v615 : BitVec 32 := Scalar.addi c0_i32_456 v614
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_457 : BitVec 32 := 2#32
  let v616 : BitVec 32 := Scalar.muli v5 c2_i32_457
  let v617 : BitVec 32 := Scalar.addi v615 v616
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_458 : BitVec 32 := 1#32
  let v618 : BitVec 32 := Scalar.muli v9 c1_i32_458
  let v619 : BitVec 32 := Scalar.addi v617 v618
  v619.toNat
def k0_off8 (d0 : Dev nD) (c1_i32_4 : BitVec 32) (c0_i32 : BitVec 32) : Fin 3 → Nat :=
  let c4_i32_465 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.xori v2 c1_i32_4
  let v632 : BitVec 32 := Scalar.muli c4_i32_465 v10
  let c2_i32_466 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.xori v5 c0_i32
  let v633 : BitVec 32 := Scalar.muli c2_i32_466 v11
  let v634 : BitVec 32 := Scalar.addi v632 v633
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v635 : BitVec 32 := Scalar.addi v634 v8
  let c0_i32_475 : BitVec 32 := 0#32
  let c0_i32_476 : BitVec 32 := 0#32
  ![v635.toNat, 0, 0]
def k0_off8_at (r : Fin 3) : BitVec 32 × BitVec 32 :=
  if r.val < 1 then
    (1#32, 0#32)
  else
    if r.val < 2 then
      (0#32, 1#32)
    else
      (1#32, 1#32)
def k0_dev27 (d0 : Dev nD) : Nat :=
  let c0_i32_488 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_487 : BitVec 32 := 4#32
  let v656 : BitVec 32 := Scalar.muli v2 c4_i32_487
  let v657 : BitVec 32 := Scalar.addi c0_i32_488 v656
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_489 : BitVec 32 := 2#32
  let v658 : BitVec 32 := Scalar.muli v5 c2_i32_489
  let v659 : BitVec 32 := Scalar.addi v657 v658
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_490 : BitVec 32 := 1#32
  let v660 : BitVec 32 := Scalar.muli v9 c1_i32_490
  let v661 : BitVec 32 := Scalar.addi v659 v660
  v661.toNat
def k0_dev28 (d0 : Dev nD) : Nat :=
  let c0_i32_520 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_519 : BitVec 32 := 4#32
  let v698 : BitVec 32 := Scalar.muli v2 c4_i32_519
  let v699 : BitVec 32 := Scalar.addi c0_i32_520 v698
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_521 : BitVec 32 := 2#32
  let v700 : BitVec 32 := Scalar.muli v5 c2_i32_521
  let v701 : BitVec 32 := Scalar.addi v699 v700
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_522 : BitVec 32 := 1#32
  let v702 : BitVec 32 := Scalar.muli v9 c1_i32_522
  let v703 : BitVec 32 := Scalar.addi v701 v702
  v703.toNat
def k0_dev29 (d0 : Dev nD) : Nat :=
  let c0_i32_552 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_551 : BitVec 32 := 4#32
  let v740 : BitVec 32 := Scalar.muli v2 c4_i32_551
  let v741 : BitVec 32 := Scalar.addi c0_i32_552 v740
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_553 : BitVec 32 := 2#32
  let v742 : BitVec 32 := Scalar.muli v5 c2_i32_553
  let v743 : BitVec 32 := Scalar.addi v741 v742
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_554 : BitVec 32 := 1#32
  let v744 : BitVec 32 := Scalar.muli v9 c1_i32_554
  let v745 : BitVec 32 := Scalar.addi v743 v744
  v745.toNat
def k0_off9 (d0 : Dev nD) (c1_i32_4 : BitVec 32) (c0_i32 : BitVec 32) : Fin 3 → Nat :=
  let c4_i32_561 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.xori v2 c1_i32_4
  let v758 : BitVec 32 := Scalar.muli c4_i32_561 v10
  let c2_i32_562 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.xori v5 c0_i32
  let v759 : BitVec 32 := Scalar.muli c2_i32_562 v11
  let v760 : BitVec 32 := Scalar.addi v758 v759
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v761 : BitVec 32 := Scalar.addi v760 v8
  let c0_i32_571 : BitVec 32 := 0#32
  let c0_i32_572 : BitVec 32 := 0#32
  ![v761.toNat, 0, 0]
def k0_off9_at (r : Fin 3) : BitVec 32 × BitVec 32 :=
  if r.val < 1 then
    (1#32, 0#32)
  else
    if r.val < 2 then
      (0#32, 1#32)
    else
      (1#32, 1#32)
def k0_dev30 (d0 : Dev nD) : Nat :=
  let c0_i32_584 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_583 : BitVec 32 := 4#32
  let v782 : BitVec 32 := Scalar.muli v2 c4_i32_583
  let v783 : BitVec 32 := Scalar.addi c0_i32_584 v782
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_585 : BitVec 32 := 2#32
  let v784 : BitVec 32 := Scalar.muli v5 c2_i32_585
  let v785 : BitVec 32 := Scalar.addi v783 v784
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_586 : BitVec 32 := 1#32
  let v786 : BitVec 32 := Scalar.muli v9 c1_i32_586
  let v787 : BitVec 32 := Scalar.addi v785 v786
  v787.toNat
def k0_dev31 (d0 : Dev nD) : Nat :=
  let c0_i32_616 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_615 : BitVec 32 := 4#32
  let v824 : BitVec 32 := Scalar.muli v2 c4_i32_615
  let v825 : BitVec 32 := Scalar.addi c0_i32_616 v824
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_617 : BitVec 32 := 2#32
  let v826 : BitVec 32 := Scalar.muli v5 c2_i32_617
  let v827 : BitVec 32 := Scalar.addi v825 v826
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_618 : BitVec 32 := 1#32
  let v828 : BitVec 32 := Scalar.muli v9 c1_i32_618
  let v829 : BitVec 32 := Scalar.addi v827 v828
  v829.toNat
def k0_dev32 (d0 : Dev nD) : Nat :=
  let c0_i32_648 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_647 : BitVec 32 := 4#32
  let v866 : BitVec 32 := Scalar.muli v2 c4_i32_647
  let v867 : BitVec 32 := Scalar.addi c0_i32_648 v866
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_649 : BitVec 32 := 2#32
  let v868 : BitVec 32 := Scalar.muli v5 c2_i32_649
  let v869 : BitVec 32 := Scalar.addi v867 v868
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_650 : BitVec 32 := 1#32
  let v870 : BitVec 32 := Scalar.muli v9 c1_i32_650
  let v871 : BitVec 32 := Scalar.addi v869 v870
  v871.toNat
def k0_off10 (d0 : Dev nD) (c1_i32_4 : BitVec 32) (c0_i32 : BitVec 32) : Fin 3 → Nat :=
  let c4_i32_657 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.xori v2 c1_i32_4
  let v884 : BitVec 32 := Scalar.muli c4_i32_657 v10
  let c2_i32_658 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.xori v5 c0_i32
  let v885 : BitVec 32 := Scalar.muli c2_i32_658 v11
  let v886 : BitVec 32 := Scalar.addi v884 v885
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v887 : BitVec 32 := Scalar.addi v886 v8
  let c0_i32_667 : BitVec 32 := 0#32
  let c0_i32_668 : BitVec 32 := 0#32
  ![v887.toNat, 0, 0]
def k0_off10_at (r : Fin 3) : BitVec 32 × BitVec 32 :=
  if r.val < 1 then
    (1#32, 0#32)
  else
    if r.val < 2 then
      (0#32, 1#32)
    else
      (1#32, 1#32)
def k0_dev33 (d0 : Dev nD) : Nat :=
  let c0_i32_680 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_679 : BitVec 32 := 4#32
  let v908 : BitVec 32 := Scalar.muli v2 c4_i32_679
  let v909 : BitVec 32 := Scalar.addi c0_i32_680 v908
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_681 : BitVec 32 := 2#32
  let v910 : BitVec 32 := Scalar.muli v5 c2_i32_681
  let v911 : BitVec 32 := Scalar.addi v909 v910
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_682 : BitVec 32 := 1#32
  let v912 : BitVec 32 := Scalar.muli v9 c1_i32_682
  let v913 : BitVec 32 := Scalar.addi v911 v912
  v913.toNat
def k0_dev34 (d0 : Dev nD) : Nat :=
  let c0_i32_712 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_711 : BitVec 32 := 4#32
  let v950 : BitVec 32 := Scalar.muli v2 c4_i32_711
  let v951 : BitVec 32 := Scalar.addi c0_i32_712 v950
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_713 : BitVec 32 := 2#32
  let v952 : BitVec 32 := Scalar.muli v5 c2_i32_713
  let v953 : BitVec 32 := Scalar.addi v951 v952
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_714 : BitVec 32 := 1#32
  let v954 : BitVec 32 := Scalar.muli v9 c1_i32_714
  let v955 : BitVec 32 := Scalar.addi v953 v954
  v955.toNat
def k0_dev35 (d0 : Dev nD) : Nat :=
  let c0_i32_744 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_743 : BitVec 32 := 4#32
  let v992 : BitVec 32 := Scalar.muli v2 c4_i32_743
  let v993 : BitVec 32 := Scalar.addi c0_i32_744 v992
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_745 : BitVec 32 := 2#32
  let v994 : BitVec 32 := Scalar.muli v5 c2_i32_745
  let v995 : BitVec 32 := Scalar.addi v993 v994
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_746 : BitVec 32 := 1#32
  let v996 : BitVec 32 := Scalar.muli v9 c1_i32_746
  let v997 : BitVec 32 := Scalar.addi v995 v996
  v997.toNat
def k0_off11 (d0 : Dev nD) : Fin 3 → Nat :=
  let c4_i32_753 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1010 : BitVec 32 := Scalar.muli c4_i32_753 v2
  let c2_i32_754 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1011 : BitVec 32 := Scalar.muli c2_i32_754 v5
  let v1012 : BitVec 32 := Scalar.addi v1010 v1011
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let v1013 : BitVec 32 := Scalar.addi v1012 v9
  let c0_i32_763 : BitVec 32 := 0#32
  let c0_i32_764 : BitVec 32 := 0#32
  ![v1013.toNat, 0, 0]
def k0_off12 (d0 : Dev nD) (c1_i32_4 : BitVec 32) (c0_i32 : BitVec 32) : Fin 3 → Nat :=
  let c4_i32_770 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.xori v2 c1_i32_4
  let v1031 : BitVec 32 := Scalar.muli c4_i32_770 v10
  let c2_i32_771 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.xori v5 c0_i32
  let v1032 : BitVec 32 := Scalar.muli c2_i32_771 v11
  let v1033 : BitVec 32 := Scalar.addi v1031 v1032
  let c1_i32_767 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1026 : BitVec 32 := Scalar.subi c1_i32_767 v8
  let v1034 : BitVec 32 := Scalar.addi v1033 v1026
  let c0_i32_780 : BitVec 32 := 0#32
  let c0_i32_781 : BitVec 32 := 0#32
  ![v1034.toNat, 0, 0]
def k0_off12_at (r : Fin 3) : BitVec 32 × BitVec 32 :=
  if r.val < 1 then
    (1#32, 0#32)
  else
    if r.val < 2 then
      (0#32, 1#32)
    else
      (1#32, 1#32)
def k0_off13 (d0 : Dev nD) : Fin 3 → Nat :=
  let c4_i32_820 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1093 : BitVec 32 := Scalar.muli c4_i32_820 v2
  let c2_i32_821 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1094 : BitVec 32 := Scalar.muli c2_i32_821 v5
  let v1095 : BitVec 32 := Scalar.addi v1093 v1094
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let v1096 : BitVec 32 := Scalar.addi v1095 v9
  let c0_i32_830 : BitVec 32 := 0#32
  let c0_i32_831 : BitVec 32 := 0#32
  ![v1096.toNat, 0, 0]
def k0_off14 (d0 : Dev nD) (c1_i32_4 : BitVec 32) (c0_i32 : BitVec 32) : Fin 3 → Nat :=
  let c4_i32_837 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.xori v2 c1_i32_4
  let v1114 : BitVec 32 := Scalar.muli c4_i32_837 v10
  let c2_i32_838 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.xori v5 c0_i32
  let v1115 : BitVec 32 := Scalar.muli c2_i32_838 v11
  let v1116 : BitVec 32 := Scalar.addi v1114 v1115
  let c1_i32_834 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1109 : BitVec 32 := Scalar.subi c1_i32_834 v8
  let v1117 : BitVec 32 := Scalar.addi v1116 v1109
  let c0_i32_847 : BitVec 32 := 0#32
  let c0_i32_848 : BitVec 32 := 0#32
  ![v1117.toNat, 0, 0]
def k0_off14_at (r : Fin 3) : BitVec 32 × BitVec 32 :=
  if r.val < 1 then
    (1#32, 0#32)
  else
    if r.val < 2 then
      (0#32, 1#32)
    else
      (1#32, 1#32)
def k0_off15 (d0 : Dev nD) : Fin 3 → Nat :=
  let c4_i32_887 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1176 : BitVec 32 := Scalar.muli c4_i32_887 v2
  let c2_i32_888 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1177 : BitVec 32 := Scalar.muli c2_i32_888 v5
  let v1178 : BitVec 32 := Scalar.addi v1176 v1177
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let v1179 : BitVec 32 := Scalar.addi v1178 v9
  let c0_i32_897 : BitVec 32 := 0#32
  let c0_i32_898 : BitVec 32 := 0#32
  ![v1179.toNat, 0, 0]
def k0_off16 (d0 : Dev nD) (c1_i32_4 : BitVec 32) (c0_i32 : BitVec 32) : Fin 3 → Nat :=
  let c4_i32_904 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.xori v2 c1_i32_4
  let v1197 : BitVec 32 := Scalar.muli c4_i32_904 v10
  let c2_i32_905 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.xori v5 c0_i32
  let v1198 : BitVec 32 := Scalar.muli c2_i32_905 v11
  let v1199 : BitVec 32 := Scalar.addi v1197 v1198
  let c1_i32_901 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1192 : BitVec 32 := Scalar.subi c1_i32_901 v8
  let v1200 : BitVec 32 := Scalar.addi v1199 v1192
  let c0_i32_914 : BitVec 32 := 0#32
  let c0_i32_915 : BitVec 32 := 0#32
  ![v1200.toNat, 0, 0]
def k0_off16_at (r : Fin 3) : BitVec 32 × BitVec 32 :=
  if r.val < 1 then
    (1#32, 0#32)
  else
    if r.val < 2 then
      (0#32, 1#32)
    else
      (1#32, 1#32)
def k0_off17 (d0 : Dev nD) : Fin 3 → Nat :=
  let c4_i32_954 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1259 : BitVec 32 := Scalar.muli c4_i32_954 v2
  let c2_i32_955 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1260 : BitVec 32 := Scalar.muli c2_i32_955 v5
  let v1261 : BitVec 32 := Scalar.addi v1259 v1260
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let v1262 : BitVec 32 := Scalar.addi v1261 v9
  let c0_i32_964 : BitVec 32 := 0#32
  let c0_i32_965 : BitVec 32 := 0#32
  ![v1262.toNat, 0, 0]
def k0_off18 (d0 : Dev nD) (c1_i32_4 : BitVec 32) (c0_i32 : BitVec 32) : Fin 3 → Nat :=
  let c4_i32_971 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.xori v2 c1_i32_4
  let v1280 : BitVec 32 := Scalar.muli c4_i32_971 v10
  let c2_i32_972 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.xori v5 c0_i32
  let v1281 : BitVec 32 := Scalar.muli c2_i32_972 v11
  let v1282 : BitVec 32 := Scalar.addi v1280 v1281
  let c1_i32_968 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1275 : BitVec 32 := Scalar.subi c1_i32_968 v8
  let v1283 : BitVec 32 := Scalar.addi v1282 v1275
  let c0_i32_981 : BitVec 32 := 0#32
  let c0_i32_982 : BitVec 32 := 0#32
  ![v1283.toNat, 0, 0]
def k0_off18_at (r : Fin 3) : BitVec 32 × BitVec 32 :=
  if r.val < 1 then
    (1#32, 0#32)
  else
    if r.val < 2 then
      (0#32, 1#32)
    else
      (1#32, 1#32)
def k0_off19 (d0 : Dev nD) : Fin 3 → Nat :=
  let c4_i32_1021 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1342 : BitVec 32 := Scalar.muli c4_i32_1021 v2
  let c2_i32_1022 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1343 : BitVec 32 := Scalar.muli c2_i32_1022 v5
  let v1344 : BitVec 32 := Scalar.addi v1342 v1343
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let v1345 : BitVec 32 := Scalar.addi v1344 v9
  let c0_i32_1031 : BitVec 32 := 0#32
  let c0_i32_1032 : BitVec 32 := 0#32
  ![v1345.toNat, 0, 0]
def k0_off20 (d0 : Dev nD) (c1_i32_4 : BitVec 32) (c0_i32 : BitVec 32) : Fin 3 → Nat :=
  let c4_i32_1038 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.xori v2 c1_i32_4
  let v1363 : BitVec 32 := Scalar.muli c4_i32_1038 v10
  let c2_i32_1039 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.xori v5 c0_i32
  let v1364 : BitVec 32 := Scalar.muli c2_i32_1039 v11
  let v1365 : BitVec 32 := Scalar.addi v1363 v1364
  let c1_i32_1035 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1358 : BitVec 32 := Scalar.subi c1_i32_1035 v8
  let v1366 : BitVec 32 := Scalar.addi v1365 v1358
  let c0_i32_1048 : BitVec 32 := 0#32
  let c0_i32_1049 : BitVec 32 := 0#32
  ![v1366.toNat, 0, 0]
def k0_off20_at (r : Fin 3) : BitVec 32 × BitVec 32 :=
  if r.val < 1 then
    (1#32, 0#32)
  else
    if r.val < 2 then
      (0#32, 1#32)
    else
      (1#32, 1#32)
-- ==== Reference.lean ====
abbrev S1024x3600 : Shape := ⟨2, ![1024, 3600]⟩
abbrev S1024x1024 : Shape := ⟨2, ![1024, 1024]⟩
abbrev S1024x4096 : Shape := ⟨2, ![1024, 4096]⟩
abbrev S4096x1024 : Shape := ⟨2, ![4096, 1024]⟩
abbrev S4x1536 : Shape := ⟨2, ![4, 1536]⟩
abbrev S1024x8x450 : Shape := ⟨3, ![1024, 8, 450]⟩
abbrev S8x1024x450 : Shape := ⟨3, ![8, 1024, 450]⟩
abbrev S8x128x1024 : Shape := ⟨3, ![8, 128, 1024]⟩
abbrev S1024x8x512 : Shape := ⟨3, ![1024, 8, 512]⟩
abbrev S8x1024x512 : Shape := ⟨3, ![8, 1024, 512]⟩
abbrev S8x512x1024 : Shape := ⟨3, ![8, 512, 1024]⟩
abbrev S4x8x192 : Shape := ⟨3, ![4, 8, 192]⟩
abbrev S8x4x192 : Shape := ⟨3, ![8, 4, 192]⟩

abbrev nBuf : Space → Nat
  | .hbm => 13
  | .vmem => 0
  | .smem => 0
  | _ => 0

abbrev bufTy : (tb : Table) → Fin (tcTables nBuf tb) → BufTy
  | .hbm, ⟨0, _⟩ => ⟨S1024x3600, .bf16⟩
  | .hbm, ⟨1, _⟩ => ⟨S1024x1024, .bf16⟩
  | .hbm, ⟨2, _⟩ => ⟨S1024x4096, .bf16⟩
  | .hbm, ⟨3, _⟩ => ⟨S4096x1024, .bf16⟩
  | .hbm, ⟨4, _⟩ => ⟨S4x1536, .f32⟩
  | .hbm, ⟨5, _⟩ => ⟨S1024x8x450, .bf16⟩
  | .hbm, ⟨6, _⟩ => ⟨S8x1024x450, .bf16⟩
  | .hbm, ⟨7, _⟩ => ⟨S8x128x1024, .bf16⟩
  | .hbm, ⟨8, _⟩ => ⟨S1024x8x512, .bf16⟩
  | .hbm, ⟨9, _⟩ => ⟨S8x1024x512, .bf16⟩
  | .hbm, ⟨10, _⟩ => ⟨S8x512x1024, .bf16⟩
  | .hbm, ⟨11, _⟩ => ⟨S4x8x192, .f32⟩
  | .hbm, ⟨12, _⟩ => ⟨S8x4x192, .f32⟩
  | _, _ => ⟨S1024x3600, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== Adam.lean ====
abbrev S16x1024 : Shape := ⟨2, ![16, 1024]⟩

abbrev nBuf : Space → Nat
  | .hbm => 7
  | .vmem => 7
  | .smem => 0
  | _ => 0

abbrev bufTy : (tb : Table) → Fin (tcTables nBuf tb) → BufTy
  | .hbm, ⟨0, _⟩ => ⟨S16x1024, .f32⟩
  | .hbm, ⟨1, _⟩ => ⟨S16x1024, .f32⟩
  | .hbm, ⟨2, _⟩ => ⟨S16x1024, .f32⟩
  | .hbm, ⟨3, _⟩ => ⟨S16x1024, .f32⟩
  | .hbm, ⟨4, _⟩ => ⟨S16x1024, .f32⟩
  | .hbm, ⟨5, _⟩ => ⟨S16x1024, .f32⟩
  | .hbm, ⟨6, _⟩ => ⟨S16x1024, .f32⟩
  | .local _ .vmem, ⟨0, _⟩ => ⟨S16x1024, .f32⟩
  | .local _ .vmem, ⟨1, _⟩ => ⟨S16x1024, .f32⟩
  | .local _ .vmem, ⟨2, _⟩ => ⟨S16x1024, .f32⟩
  | .local _ .vmem, ⟨3, _⟩ => ⟨S16x1024, .f32⟩
  | .local _ .vmem, ⟨4, _⟩ => ⟨S16x1024, .f32⟩
  | .local _ .vmem, ⟨5, _⟩ => ⟨S16x1024, .f32⟩
  | .local _ .vmem, ⟨6, _⟩ => ⟨S16x1024, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S16x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== AdamReferenceIdeal.lean ====
abbrev S16x1024 : Shape := ⟨2, ![16, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S16x1024, .f32⟩
  | .hbm, ⟨2, _⟩ => ⟨S16x1024, .f32⟩
  | .hbm, ⟨3, _⟩ => ⟨S16x1024, .f32⟩
  | .hbm, ⟨4, _⟩ => ⟨S_, .f32⟩
  | .hbm, ⟨5, _⟩ => ⟨S16x1024, .f32⟩
  | .hbm, ⟨6, _⟩ => ⟨S16x1024, .f32⟩
  | .hbm, ⟨7, _⟩ => ⟨S_, .f32⟩
  | .hbm, ⟨8, _⟩ => ⟨S16x1024, .f32⟩
  | .hbm, ⟨9, _⟩ => ⟨S16x1024, .f32⟩
  | .hbm, ⟨10, _⟩ => ⟨S16x1024, .f32⟩
  | .hbm, ⟨11, _⟩ => ⟨S_, .f32⟩
  | .hbm, ⟨12, _⟩ => ⟨S16x1024, .f32⟩
  | .hbm, ⟨13, _⟩ => ⟨S16x1024, .f32⟩
  | .hbm, ⟨14, _⟩ => ⟨S16x1024, .f32⟩
  | .hbm, ⟨15, _⟩ => ⟨S_, .f32⟩
  | .hbm, ⟨16, _⟩ => ⟨S16x1024, .f32⟩
  | .hbm, ⟨17, _⟩ => ⟨S16x1024, .f32⟩
  | .hbm, ⟨18, _⟩ => ⟨S16x1024, .f32⟩
  | .hbm, ⟨19, _⟩ => ⟨S_, .f32⟩
  | .hbm, ⟨20, _⟩ => ⟨S16x1024, .f32⟩
  | .hbm, ⟨21, _⟩ => ⟨S16x1024, .f32⟩
  | .hbm, ⟨22, _⟩ => ⟨S_, .f32⟩
  | .hbm, ⟨23, _⟩ => ⟨S16x1024, .f32⟩
  | .hbm, ⟨24, _⟩ => ⟨S16x1024, .f32⟩
  | .hbm, ⟨25, _⟩ => ⟨S16x1024, .f32⟩
  | .hbm, ⟨26, _⟩ => ⟨S_, .f32⟩
  | .hbm, ⟨27, _⟩ => ⟨S16x1024, .f32⟩
  | .hbm, ⟨28, _⟩ => ⟨S16x1024, .f32⟩
  | .hbm, ⟨29, _⟩ => ⟨S16x1024, .f32⟩
  | .hbm, ⟨30, _⟩ => ⟨S_, .f32⟩
  | .hbm, ⟨31, _⟩ => ⟨S16x1024, .f32⟩
  | .hbm, ⟨32, _⟩ => ⟨S16x1024, .f32⟩
  | .hbm, ⟨33, _⟩ => ⟨S16x1024, .f32⟩
  | .hbm, ⟨34, _⟩ => ⟨S_, .f32⟩
  | .hbm, ⟨35, _⟩ => ⟨S16x1024, .f32⟩
  | .hbm, ⟨36, _⟩ => ⟨S16x1024, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Loss.lean ====
abbrev S2048x4096 : Shape := ⟨2, ![2048, 4096]⟩
abbrev S4096x1024 : Shape := ⟨2, ![4096, 1024]⟩
abbrev S2048x1024 : Shape := ⟨2, ![2048, 1024]⟩
abbrev S1x1024 : Shape := ⟨2, ![1, 1024]⟩
abbrev S1x128 : Shape := ⟨2, ![1, 128]⟩
abbrev S256x4096 : Shape := ⟨2, ![256, 4096]⟩
abbrev S256x1024 : Shape := ⟨2, ![256, 1024]⟩
abbrev S256 : Shape := ⟨1, ![256]⟩
abbrev S256x1 : Shape := ⟨2, ![256, 1]⟩
abbrev S1 : Shape := ⟨1, ![1]⟩
abbrev S1x1 : Shape := ⟨2, ![1, 1]⟩
abbrev S1024 : Shape := ⟨1, ![1024]⟩

abbrev nBuf : Space → Nat
  | .hbm => 9
  | .vmem => 14
  | .smem => 0
  | _ => 0

abbrev bufTy : (tb : Table) → Fin (tcTables nBuf tb) → BufTy
  | .hbm, ⟨0, _⟩ => ⟨S2048x4096, .f32⟩
  | .hbm, ⟨1, _⟩ => ⟨S4096x1024, .bf16⟩
  | .hbm, ⟨2, _⟩ => ⟨S2048x1024, .f32⟩
  | .hbm, ⟨3, _⟩ => ⟨S1x1024, .f32⟩
  | .hbm, ⟨4, _⟩ => ⟨S2048x1024, .f32⟩
  | .hbm, ⟨5, _⟩ => ⟨S2048x1024, .bf16⟩
  | .hbm, ⟨6, _⟩ => ⟨S2048x1024, .f32⟩
  | .hbm, ⟨7, _⟩ => ⟨S1x128, .f32⟩
  | .hbm, ⟨8, _⟩ => ⟨S1x1024, .f32⟩
  | .local _ .vmem, ⟨0, _⟩ => ⟨S256x4096, .f32⟩
  | .local _ .vmem, ⟨1, _⟩ => ⟨S256x4096, .f32⟩
  | .local _ .vmem, ⟨2, _⟩ => ⟨S4096x1024, .bf16⟩
  | .local _ .vmem, ⟨3, _⟩ => ⟨S256x1024, .f32⟩
  | .local _ .vmem, ⟨4, _⟩ => ⟨S256x1024, .f32⟩
  | .local _ .vmem, ⟨5, _⟩ => ⟨S1x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .bf16⟩
  | .local _ .vmem, ⟨9, _⟩ => ⟨S256x1024, .bf16⟩
  | .local _ .vmem, ⟨10, _⟩ => ⟨S256x1024, .f32⟩
  | .local _ .vmem, ⟨11, _⟩ => ⟨S256x1024, .f32⟩
  | .local _ .vmem, ⟨12, _⟩ => ⟨S1x128, .f32⟩
  | .local _ .vmem, ⟨13, _⟩ => ⟨S1x1024, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== LossReferenceIdeal.lean ====
abbrev S2048x4096 : Shape := ⟨2, ![2048, 4096]⟩
abbrev S4096x1024 : Shape := ⟨2, ![4096, 1024]⟩
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S1x128 : Shape := ⟨2, ![1, 128]⟩
abbrev S1024 : Shape := ⟨1, ![1024]⟩

abbrev nBuf : Space → Nat
  | .hbm => 85
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S4096x1024, .bf16⟩
  | .hbm, ⟨2, _⟩ => ⟨S2048x1024, .f32⟩
  | .hbm, ⟨3, _⟩ => ⟨S1x1024, .f32⟩
  | .hbm, ⟨4, _⟩ => ⟨S2048x1024, .f32⟩
  | .hbm, ⟨5, _⟩ => ⟨S_, .f32⟩
  | .hbm, ⟨6, _⟩ => ⟨S2048x4096, .f32⟩
  | .hbm, ⟨7, _⟩ => ⟨S2048x4096, .f32⟩
  | .hbm, ⟨8, _⟩ => ⟨S2048x4096, .f32⟩
  | .hbm, ⟨9, _⟩ => ⟨S4096x1024, .f32⟩
  | .hbm, ⟨10, _⟩ => ⟨S2048x1024, .f32⟩
  | .hbm, ⟨11, _⟩ => ⟨S2048x1024, .f32⟩
  | .hbm, ⟨12, _⟩ => ⟨S_, .f32⟩
  | .hbm, ⟨13, _⟩ => ⟨S2048, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S_, .f32⟩
  | .hbm, ⟨19, _⟩ => ⟨S2048x1, .f32⟩
  | .hbm, ⟨20, _⟩ => ⟨S2048x1, .f32⟩
  | .hbm, ⟨21, _⟩ => ⟨S2048x1, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S2048x1024, .f32⟩
  | .hbm, ⟨27, _⟩ => ⟨S2048x1024, .f32⟩
  | .hbm, ⟨28, _⟩ => ⟨S2048x1024, .f32⟩
  | .hbm, ⟨29, _⟩ => ⟨S_, .f32⟩
  | .hbm, ⟨30, _⟩ => ⟨S2048, .f32⟩
  | .hbm, ⟨31, _⟩ => ⟨S_, .f32⟩
  | .hbm, ⟨32, _⟩ => ⟨S2048, .f32⟩
  | .hbm, ⟨33, _⟩ => ⟨S2048, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S2048x1024, .f32⟩
  | .hbm, ⟨40, _⟩ => ⟨S2048x1024, .f32⟩
  | .hbm, ⟨41, _⟩ => ⟨S2048x1024, .f32⟩
  | .hbm, ⟨42, _⟩ => ⟨S2048x1024, .f32⟩
  | .hbm, ⟨43, _⟩ => ⟨S2048x1024, .f32⟩
  | .hbm, ⟨44, _⟩ => ⟨S_, .f32⟩
  | .hbm, ⟨45, _⟩ => ⟨S2048, .f32⟩
  | .hbm, ⟨46, _⟩ => ⟨S2048x1, .f32⟩
  | .hbm, ⟨47, _⟩ => ⟨S_, .f32⟩
  | .hbm, ⟨48, _⟩ => ⟨S2048x1, .f32⟩
  | .hbm, ⟨49, _⟩ => ⟨S2048x1, .f32⟩
  | .hbm, ⟨50, _⟩ => ⟨S_, .f32⟩
  | .hbm, ⟨51, _⟩ => ⟨S2048x1, .f32⟩
  | .hbm, ⟨52, _⟩ => ⟨S2048x1, .f32⟩
  | .hbm, ⟨53, _⟩ => ⟨S2048x1, .f32⟩
  | .hbm, ⟨54, _⟩ => ⟨S2048x1024, .f32⟩
  | .hbm, ⟨55, _⟩ => ⟨S2048x1024, .f32⟩
  | .hbm, ⟨56, _⟩ => ⟨S2048x1024, .f32⟩
  | .hbm, ⟨57, _⟩ => ⟨S_, .f32⟩
  | .hbm, ⟨58, _⟩ => ⟨S2048, .f32⟩
  | .hbm, ⟨59, _⟩ => ⟨S2048x1, .f32⟩
  | .hbm, ⟨60, _⟩ => ⟨S_, .f32⟩
  | .hbm, ⟨61, _⟩ => ⟨S2048x1, .f32⟩
  | .hbm, ⟨62, _⟩ => ⟨S2048x1, .f32⟩
  | .hbm, ⟨63, _⟩ => ⟨S_, .f32⟩
  | .hbm, ⟨64, _⟩ => ⟨S2048x1, .f32⟩
  | .hbm, ⟨65, _⟩ => ⟨S2048x1, .f32⟩
  | .hbm, ⟨66, _⟩ => ⟨S2048x1, .f32⟩
  | .hbm, ⟨67, _⟩ => ⟨S2048x1024, .f32⟩
  | .hbm, ⟨68, _⟩ => ⟨S_, .f32⟩
  | .hbm, ⟨69, _⟩ => ⟨S2048, .f32⟩
  | .hbm, ⟨70, _⟩ => ⟨S2048x1, .f32⟩
  | .hbm, ⟨71, _⟩ => ⟨S_, .f32⟩
  | .hbm, ⟨72, _⟩ => ⟨S2048x1, .f32⟩
  | .hbm, ⟨73, _⟩ => ⟨S2048x1, .f32⟩
  | .hbm, ⟨74, _⟩ => ⟨S2048x1024, .f32⟩
  | .hbm, ⟨75, _⟩ => ⟨S2048x1024, .f32⟩
  | .hbm, ⟨76, _⟩ => ⟨S2048x1024, .f32⟩
  | .hbm, ⟨77, _⟩ => ⟨S2048x1024, .f32⟩
  | .hbm, ⟨78, _⟩ => ⟨S2048x1024, .f32⟩
  | .hbm, ⟨79, _⟩ => ⟨S2048x1024, .bf16⟩
  | .hbm, ⟨80, _⟩ => ⟨S1x128, .f32⟩
  | .hbm, ⟨81, _⟩ => ⟨S2048x1024, .f32⟩
  | .hbm, ⟨82, _⟩ => ⟨S_, .f32⟩
  | .hbm, ⟨83, _⟩ => ⟨S1024, .f32⟩
  | .hbm, ⟨84, _⟩ => ⟨S1x1024, .f32⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_cst : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_cst_5 : Ref sig .tc := ⟨.hbm, 36, rfl⟩
abbrev main_v23 : Ref sig .tc := ⟨.hbm, 37, rfl⟩
abbrev main_cst_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_7 : Ref sig .tc := ⟨.hbm, 44, rfl⟩
abbrev main_v29 : Ref sig .tc := ⟨.hbm, 45, rfl⟩
abbrev main_v30 : Ref sig .tc := ⟨.hbm, 46, rfl⟩
abbrev main_cst_8 : Ref sig .tc := ⟨.hbm, 47, rfl⟩
abbrev main_v31 : Ref sig .tc := ⟨.hbm, 48, rfl⟩
abbrev main_v32 : Ref sig .tc := ⟨.hbm, 49, rfl⟩
abbrev main_cst_9 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_10 : Ref sig .tc := ⟨.hbm, 57, rfl⟩
abbrev main_v39 : Ref sig .tc := ⟨.hbm, 58, rfl⟩
abbrev main_v40 : Ref sig .tc := ⟨.hbm, 59, rfl⟩
abbrev main_cst_11 : Ref sig .tc := ⟨.hbm, 60, rfl⟩
abbrev main_v41 : Ref sig .tc := ⟨.hbm, 61, rfl⟩
abbrev main_v42 : Ref sig .tc := ⟨.hbm, 62, rfl⟩
abbrev main_cst_12 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_13 : Ref sig .tc := ⟨.hbm, 68, rfl⟩
abbrev main_v47 : Ref sig .tc := ⟨.hbm, 69, rfl⟩
abbrev main_v48 : Ref sig .tc := ⟨.hbm, 70, rfl⟩
abbrev main_cst_14 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_15 : Ref sig .tc := ⟨.hbm, 82, rfl⟩
abbrev main_v59 : Ref sig .tc := ⟨.hbm, 83, rfl⟩
abbrev main_v60 : Ref sig .tc := ⟨.hbm, 84, rfl⟩

abbrev nD : Nat := 1
abbrev τ : Topo := Topo.v7x

variable {F : FTy → Type} [FloatOps F]
-- ==== GradX.lean ====
abbrev S2048x512 : Shape := ⟨2, ![2048, 512]⟩
abbrev S2048x128 : Shape := ⟨2, ![2048, 128]⟩
abbrev S1024x3712 : Shape := ⟨2, ![1024, 3712]⟩
abbrev S2048x1024 : Shape := ⟨2, ![2048, 1024]⟩
abbrev S1x1024 : Shape := ⟨2, ![1, 1024]⟩
abbrev S2048x3712 : Shape := ⟨2, ![2048, 3712]⟩
abbrev S256x512 : Shape := ⟨2, ![256, 512]⟩
abbrev S256x128 : Shape := ⟨2, ![256, 128]⟩
abbrev S256x1024 : Shape := ⟨2, ![256, 1024]⟩
abbrev S256x3712 : Shape := ⟨2, ![256, 3712]⟩
abbrev S256 : Shape := ⟨1, ![256]⟩
abbrev S256x1 : Shape := ⟨2, ![256, 1]⟩
abbrev S1024 : Shape := ⟨1, ![1024]⟩

abbrev nBuf : Space → Nat
  | .hbm => 15
  | .vmem => 27
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S2048x512, .f32⟩
  | .hbm, ⟨3, _⟩ => ⟨S2048x512, .f32⟩
  | .hbm, ⟨4, _⟩ => ⟨S2048x512, .f32⟩
  | .hbm, ⟨5, _⟩ => ⟨S2048x512, .f32⟩
  | .hbm, ⟨6, _⟩ => ⟨S2048x512, .f32⟩
  | .hbm, ⟨7, _⟩ => ⟨S2048x128, .f32⟩
  | .hbm, ⟨8, _⟩ => ⟨S1024x3712, .bf16⟩
  | .hbm, ⟨9, _⟩ => ⟨S2048x1024, .f32⟩
  | .hbm, ⟨10, _⟩ => ⟨S1x1024, .f32⟩
  | .hbm, ⟨11, _⟩ => ⟨S2048x1024, .f32⟩
  | .hbm, ⟨12, _⟩ => ⟨S2048x3712, .bf16⟩
  | .hbm, ⟨13, _⟩ => ⟨S2048x1024, .f32⟩
  | .hbm, ⟨14, _⟩ => ⟨S1x1024, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x128, .f32⟩
  | .local _ .vmem, ⟨15, _⟩ => ⟨S256x128, .f32⟩
  | .local _ .vmem, ⟨16, _⟩ => ⟨S1024x3712, .bf16⟩
  | .local _ .vmem, ⟨17, _⟩ => ⟨S256x1024, .f32⟩
  | .local _ .vmem, ⟨18, _⟩ => ⟨S256x1024, .f32⟩
  | .local _ .vmem, ⟨19, _⟩ => ⟨S1x1024, .f32⟩
  | .local _ .vmem, ⟨20, _⟩ => ⟨S256x1024, .f32⟩
  | .local _ .vmem, ⟨21, _⟩ => ⟨S256x1024, .f32⟩
  | .local _ .vmem, ⟨22, _⟩ => ⟨S256x3712, .bf16⟩
  | .local _ .vmem, ⟨23, _⟩ => ⟨S256x3712, .bf16⟩
  | .local _ .vmem, ⟨24, _⟩ => ⟨S256x1024, .f32⟩
  | .local _ .vmem, ⟨25, _⟩ => ⟨S256x1024, .f32⟩
  | .local _ .vmem, ⟨26, _⟩ => ⟨S1x1024, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev main_v0_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem9_1 : DmaSem sig := 18
abbrev cc0_sem10_0 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1024x3712 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x3712 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== GradXReferenceIdeal.lean ====
abbrev S2048x512 : Shape := ⟨2, ![2048, 512]⟩
abbrev S2048x128 : Shape := ⟨2, ![2048, 128]⟩
abbrev S1024x3712 : Shape := ⟨2, ![1024, 3712]⟩
abbrev S2048x1024 : Shape := ⟨2, ![2048, 1024]⟩
abbrev S1x1024 : Shape := ⟨2, ![1, 1024]⟩
abbrev S2048x3712 : Shape := ⟨2, ![2048, 3712]⟩
abbrev S3712x1024 : Shape := ⟨2, ![3712, 1024]⟩
abbrev S_ : Shape := ⟨0, ![]⟩
abbrev S2048 : Shape := ⟨1, ![2048]⟩
abbrev S2048x1 : Shape := ⟨2, ![2048, 1]⟩
abbrev S1024 : Shape := ⟨1, ![1024]⟩

abbrev nBuf : Space → Nat
  | .hbm => 73
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S2048x512, .f32⟩
  | .hbm, ⟨3, _⟩ => ⟨S2048x512, .f32⟩
  | .hbm, ⟨4, _⟩ => ⟨S2048x512, .f32⟩
  | .hbm, ⟨5, _⟩ => ⟨S2048x512, .f32⟩
  | .hbm, ⟨6, _⟩ => ⟨S2048x512, .f32⟩
  | .hbm, ⟨7, _⟩ => ⟨S2048x128, .f32⟩
  | .hbm, ⟨8, _⟩ => ⟨S1024x3712, .bf16⟩
  | .hbm, ⟨9, _⟩ => ⟨S2048x1024, .f32⟩
  | .hbm, ⟨10, _⟩ => ⟨S1x1024, .f32⟩
  | .hbm, ⟨11, _⟩ => ⟨S2048x1024, .f32⟩
  | .hbm, ⟨12, _⟩ => ⟨S2048x3712, .f32⟩
  | .hbm, ⟨13, _⟩ => ⟨S1024x3712, .f32⟩
  | .hbm, ⟨14, _⟩ => ⟨S3712x1024, .f32⟩
  | .hbm, ⟨15, _⟩ => ⟨S2048x1024, .f32⟩
  | .hbm, ⟨16, _⟩ => ⟨S2048x3712, .bf16⟩
  | .hbm, ⟨17, _⟩ => ⟨S2048x1024, .f32⟩
  | .hbm, ⟨18, _⟩ => ⟨S2048x1024, .f32⟩
  | .hbm, ⟨19, _⟩ => ⟨S2048x1024, .f32⟩
  | .hbm, ⟨20, _⟩ => ⟨S_, .f32⟩
  | .hbm, ⟨21, _⟩ => ⟨S2048, .f32⟩
  | .hbm, ⟨22, _⟩ => ⟨S2048x1, .f32⟩
  | .hbm, ⟨23, _⟩ => ⟨S_, .f32⟩
  | .hbm, ⟨24, _⟩ => ⟨S2048x1, .f32⟩
  | .hbm, ⟨25, _⟩ => ⟨S2048x1, .f32⟩
  | .hbm, ⟨26, _⟩ => ⟨S_, .f32⟩
  | .hbm, ⟨27, _⟩ => ⟨S2048x1, .f32⟩
  | .hbm, ⟨28, _⟩ => ⟨S2048x1, .f32⟩
  | .hbm, ⟨29, _⟩ => ⟨S2048x1, .f32⟩
  | .hbm, ⟨30, _⟩ => ⟨S2048x1024, .f32⟩
  | .hbm, ⟨31, _⟩ => ⟨S2048x1024, .f32⟩
  | .hbm, ⟨32, _⟩ => ⟨S2048x1024, .f32⟩
  | .hbm, ⟨33, _⟩ => ⟨S_, .f32⟩
  | .hbm, ⟨34, _⟩ => ⟨S2048, .f32⟩
  | .hbm, ⟨35, _⟩ => ⟨S2048x1, .f32⟩
  | .hbm, ⟨36, _⟩ => ⟨S_, .f32⟩
  | .hbm, ⟨37, _⟩ => ⟨S2048x1, .f32⟩
  | .hbm, ⟨38, _⟩ => ⟨S2048x1, .f32⟩
  | .hbm, ⟨39, _⟩ => ⟨S_, .f32⟩
  | .hbm, ⟨40, _⟩ => ⟨S2048x1, .f32⟩
  | .hbm, ⟨41, _⟩ => ⟨S2048x1, .f32⟩
  | .hbm, ⟨42, _⟩ => ⟨S2048x1, .f32⟩
  | .hbm, ⟨43, _⟩ => ⟨S2048x1024, .f32⟩
  | .hbm, ⟨44, _⟩ => ⟨S_, .f32⟩
  | .hbm, ⟨45, _⟩ => ⟨S2048, .f32⟩
  | .hbm, ⟨46, _⟩ => ⟨S2048x1, .f32⟩
  | .hbm, ⟨47, _⟩ => ⟨S_, .f32⟩
  | .hbm, ⟨48, _⟩ => ⟨S2048x1, .f32⟩
  | .hbm, ⟨49, _⟩ => ⟨S2048x1, .f32⟩
  | .hbm, ⟨50, _⟩ => ⟨S2048x1024, .f32⟩
  | .hbm, ⟨51, _⟩ => ⟨S2048x1024, .f32⟩
  | .hbm, ⟨52, _⟩ => ⟨S2048x1024, .f32⟩
  | .hbm, ⟨53, _⟩ => ⟨S2048x1024, .f32⟩
  | .hbm, ⟨54, _⟩ => ⟨S2048x1024, .f32⟩
  | .hbm, ⟨55, _⟩ => ⟨S2048x1024, .f32⟩
  | .hbm, ⟨56, _⟩ => ⟨S2048x1024, .f32⟩
  | .hbm, ⟨57, _⟩ => ⟨S2048x1024, .f32⟩
  | .hbm, ⟨58, _⟩ => ⟨S_, .f32⟩
  | .hbm, ⟨59, _⟩ => ⟨S2048, .f32⟩
  | .hbm, ⟨60, _⟩ => ⟨S2048x1, .f32⟩
  | .hbm, ⟨61, _⟩ => ⟨S_, .f32⟩
  | .hbm, ⟨62, _⟩ => ⟨S2048x1, .f32⟩
  | .hbm, ⟨63, _⟩ => ⟨S2048x1, .f32⟩
  | .hbm, ⟨64, _⟩ => ⟨S_, .f32⟩
  | .hbm, ⟨65, _⟩ => ⟨S2048x1, .f32⟩
  | .hbm, ⟨66, _⟩ => ⟨S2048x1, .f32⟩
  | .hbm, ⟨67, _⟩ => ⟨S2048x1, .f32⟩
  | .hbm, ⟨68, _⟩ => ⟨S2048x1024, .f32⟩
  | .hbm, ⟨69, _⟩ => ⟨S2048x1024, .f32⟩
  | .hbm, ⟨70, _⟩ => ⟨S_, .f32⟩
  | .hbm, ⟨71, _⟩ => ⟨S1024, .f32⟩
  | .hbm, ⟨72, _⟩ => ⟨S1x1024, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst : Ref sig .tc := ⟨.hbm, 20, rfl⟩
abbrev main_v8 : Ref sig .tc := ⟨.hbm, 21, rfl⟩
abbrev main_v9 : Ref sig .tc := ⟨.hbm, 22, rfl⟩
abbrev main_cst_0 : Ref sig .tc := ⟨.hbm, 23, rfl⟩
abbrev main_v10 : Ref sig .tc := ⟨.hbm, 24, rfl⟩
abbrev main_v11 : Ref sig .tc := ⟨.hbm, 25, rfl⟩
abbrev main_cst_1 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_2 : Ref sig .tc := ⟨.hbm, 33, rfl⟩
abbrev main_v18 : Ref sig .tc := ⟨.hbm, 34, rfl⟩
abbrev main_v19 : Ref sig .tc := ⟨.hbm, 35, rfl⟩
abbrev main_cst_3 : Ref sig .tc := ⟨.hbm, 36, rfl⟩
abbrev main_v20 : Ref sig .tc := ⟨.hbm, 37, rfl⟩
abbrev main_v21 : Ref sig .tc := ⟨.hbm, 38, rfl⟩
abbrev main_cst_4 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_5 : Ref sig .tc := ⟨.hbm, 44, rfl⟩
abbrev main_v26 : Ref sig .tc := ⟨.hbm, 45, rfl⟩
abbrev main_v27 : Ref sig .tc := ⟨.hbm, 46, rfl⟩
abbrev main_cst_6 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_7 : Ref sig .tc := ⟨.hbm, 58, rfl⟩
abbrev main_v38 : Ref sig .tc := ⟨.hbm, 59, rfl⟩
abbrev main_v39 : Ref sig .tc := ⟨.hbm, 60, rfl⟩
abbrev main_cst_8 : Ref sig .tc := ⟨.hbm, 61, rfl⟩
abbrev main_v40 : Ref sig .tc := ⟨.hbm, 62, rfl⟩
abbrev main_v41 : Ref sig .tc := ⟨.hbm, 63, rfl⟩
abbrev main_cst_9 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_cst_10 : Ref sig .tc := ⟨.hbm, 70, rfl⟩
abbrev main_v47 : Ref sig .tc := ⟨.hbm, 71, rfl⟩
abbrev main_v48 : Ref sig .tc := ⟨.hbm, 72, rfl⟩

abbrev nD : Nat := 1
abbrev τ : Topo := Topo.v7x

variable {F : FTy → Type} [FloatOps F]
-- ==== MlpIn.lean ====
abbrev S2048x4096 : Shape := ⟨2, ![2048, 4096]⟩
abbrev S1024x4096 : Shape := ⟨2, ![1024, 4096]⟩
abbrev S2048x1024 : Shape := ⟨2, ![2048, 1024]⟩
abbrev S1x1024 : Shape := ⟨2, ![1, 1024]⟩
abbrev S256x4096 : Shape := ⟨2, ![256, 4096]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 11
  | .vmem => 17
  | .smem => 0
  | _ => 0

abbrev bufTy : (tb : Table) → Fin (tcTables nBuf tb) → BufTy
  | .hbm, ⟨0, _⟩ => ⟨S2048x4096, .bf16⟩
  | .hbm, ⟨1, _⟩ => ⟨S1024x4096, .bf16⟩
  | .hbm, ⟨2, _⟩ => ⟨S2048x1024, .f32⟩
  | .hbm, ⟨3, _⟩ => ⟨S1x1024, .f32⟩
  | .hbm, ⟨4, _⟩ => ⟨S2048x1024, .f32⟩
  | .hbm, ⟨5, _⟩ => ⟨S2048x1024, .f32⟩
  | .hbm, ⟨6, _⟩ => ⟨S1x1024, .f32⟩
  | .hbm, ⟨7, _⟩ => ⟨S2048x1024, .f32⟩
  | .hbm, ⟨8, _⟩ => ⟨S2048x1024, .bf16⟩
  | .hbm, ⟨9, _⟩ => ⟨S1x1024, .f32⟩
  | .hbm, ⟨10, _⟩ => ⟨S1x1024, .f32⟩
  | .local _ .vmem, ⟨0, _⟩ => ⟨S256x4096, .bf16⟩
  | .local _ .vmem, ⟨1, _⟩ => ⟨S256x4096, .bf16⟩
  | .local _ .vmem, ⟨2, _⟩ => ⟨S1024x4096, .bf16⟩
  | .local _ .vmem, ⟨3, _⟩ => ⟨S256x1024, .f32⟩
  | .local _ .vmem, ⟨4, _⟩ => ⟨S256x1024, .f32⟩
  | .local _ .vmem, ⟨5, _⟩ => ⟨S1x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S1x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .bf16⟩
  | .local _ .vmem, ⟨14, _⟩ => ⟨S256x1024, .bf16⟩
  | .local _ .vmem, ⟨15, _⟩ => ⟨S1x1024, .f32⟩
  | .local _ .vmem, ⟨16, _⟩ => ⟨S1x1024, .f32⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== MlpInReferenceIdeal.lean ====
abbrev S2048x4096 : Shape := ⟨2, ![2048, 4096]⟩
abbrev S1024x4096 : Shape := ⟨2, ![1024, 4096]⟩
abbrev S2048x1024 : Shape := ⟨2, ![2048, 1024]⟩
abbrev S1x1024 : Shape := ⟨2, ![1, 1024]⟩
abbrev S4096x1024 : Shape := ⟨2, ![4096, 1024]⟩
abbrev S_ : Shape := ⟨0, ![]⟩
abbrev S2048 : Shape := ⟨1, ![2048]⟩
abbrev S2048x1 : Shape := ⟨2, ![2048, 1]⟩
abbrev S1024 : Shape := ⟨1, ![1024]⟩

abbrev nBuf : Space → Nat
  | .hbm => 123
  | .vmem => 0
  | .smem => 0
  | _ => 0

abbrev bufTy : (tb : Table) → Fin (tcTables nBuf tb) → BufTy
  | .hbm, ⟨0, _⟩ => ⟨S2048x4096, .bf16⟩
  | .hbm, ⟨1, _⟩ => ⟨S1024x4096, .bf16⟩
  | .hbm, ⟨2, _⟩ => ⟨S2048x1024, .f32⟩
  | .hbm, ⟨3, _⟩ => ⟨S1x1024, .f32⟩
  | .hbm, ⟨4, _⟩ => ⟨S2048x1024, .f32⟩
  | .hbm, ⟨5, _⟩ => ⟨S2048x1024, .f32⟩
  | .hbm, ⟨6, _⟩ => ⟨S1x1024, .f32⟩
  | .hbm, ⟨7, _⟩ => ⟨S2048x4096, .f32⟩
  | .hbm, ⟨8, _⟩ => ⟨S1024x4096, .f32⟩
  | .hbm, ⟨9, _⟩ => ⟨S4096x1024, .f32⟩
  | .hbm, ⟨10, _⟩ => ⟨S2048x1024, .f32⟩
  | .hbm, ⟨11, _⟩ => ⟨S2048x1024, .f32⟩
  | .hbm, ⟨12, _⟩ => ⟨S2048x1024, .f32⟩
  | .hbm, ⟨13, _⟩ => ⟨S2048x1024, .f32⟩
  | .hbm, ⟨14, _⟩ => ⟨S_, .f32⟩
  | .hbm, ⟨15, _⟩ => ⟨S2048, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S_, .f32⟩
  | .hbm, ⟨21, _⟩ => ⟨S2048x1, .f32⟩
  | .hbm, ⟨22, _⟩ => ⟨S2048x1, .f32⟩
  | .hbm, ⟨23, _⟩ => ⟨S2048x1, .f32⟩
  | .hbm, ⟨24, _⟩ => ⟨S2048x1024, .f32⟩
  | .hbm, ⟨25, _⟩ => ⟨S2048x1024, .f32⟩
  | .hbm, ⟨26, _⟩ => ⟨S2048x1024, .f32⟩
  | .hbm, ⟨27, _⟩ => ⟨S_, .f32⟩
  | .hbm, ⟨28, _⟩ => ⟨S2048, .f32⟩
  | .hbm, ⟨29, _⟩ => ⟨S2048x1, .f32⟩
  | .hbm, ⟨30, _⟩ => ⟨S_, .f32⟩
  | .hbm, ⟨31, _⟩ => ⟨S2048x1, .f32⟩
  | .hbm, ⟨32, _⟩ => ⟨S2048x1, .f32⟩
  | .hbm, ⟨33, _⟩ => ⟨S_, .f32⟩
  | .hbm, ⟨34, _⟩ => ⟨S2048x1, .f32⟩
  | .hbm, ⟨35, _⟩ => ⟨S2048x1, .f32⟩
  | .hbm, ⟨36, _⟩ => ⟨S2048x1, .f32⟩
  | .hbm, ⟨37, _⟩ => ⟨S2048x1024, .f32⟩
  | .hbm, ⟨38, _⟩ => ⟨S_, .f32⟩
  | .hbm, ⟨39, _⟩ => ⟨S2048, .f32⟩
  | .hbm, ⟨40, _⟩ => ⟨S2048x1, .f32⟩
  | .hbm, ⟨41, _⟩ => ⟨S_, .f32⟩
  | .hbm, ⟨42, _⟩ => ⟨S2048x1, .f32⟩
  | .hbm, ⟨43, _⟩ => ⟨S2048x1, .f32⟩
  | .hbm, ⟨44, _⟩ => ⟨S2048x1024, .f32⟩
  | .hbm, ⟨45, _⟩ => ⟨S2048x1024, .f32⟩
  | .hbm, ⟨46, _⟩ => ⟨S2048x1024, .f32⟩
  | .hbm, ⟨47, _⟩ => ⟨S2048x1024, .f32⟩
  | .hbm, ⟨48, _⟩ => ⟨S2048x1024, .f32⟩
  | .hbm, ⟨49, _⟩ => ⟨S2048x1024, .f32⟩
  | .hbm, ⟨50, _⟩ => ⟨S2048x1024, .f32⟩
  | .hbm, ⟨51, _⟩ => ⟨S2048x1024, .f32⟩
  | .hbm, ⟨52, _⟩ => ⟨S2048x1024, .f32⟩
  | .hbm, ⟨53, _⟩ => ⟨S_, .f32⟩
  | .hbm, ⟨54, _⟩ => ⟨S2048, .f32⟩
  | .hbm, ⟨55, _⟩ => ⟨S2048x1, .f32⟩
  | .hbm, ⟨56, _⟩ => ⟨S_, .f32⟩
  | .hbm, ⟨57, _⟩ => ⟨S2048x1, .f32⟩
  | .hbm, ⟨58, _⟩ => ⟨S2048x1, .f32⟩
  | .hbm, ⟨59, _⟩ => ⟨S_, .f32⟩
  | .hbm, ⟨60, _⟩ => ⟨S2048x1, .f32⟩
  | .hbm, ⟨61, _⟩ => ⟨S2048x1, .f32⟩
  | .hbm, ⟨62, _⟩ => ⟨S2048x1, .f32⟩
  | .hbm, ⟨63, _⟩ => ⟨S2048x1024, .f32⟩
  | .hbm, ⟨64, _⟩ => ⟨S2048x1024, .f32⟩
  | .hbm, ⟨65, _⟩ => ⟨S2048x1024, .f32⟩
  | .hbm, ⟨66, _⟩ => ⟨S_, .f32⟩
  | .hbm, ⟨67, _⟩ => ⟨S2048, .f32⟩
  | .hbm, ⟨68, _⟩ => ⟨S2048x1, .f32⟩
  | .hbm, ⟨69, _⟩ => ⟨S_, .f32⟩
  | .hbm, ⟨70, _⟩ => ⟨S2048x1, .f32⟩
  | .hbm, ⟨71, _⟩ => ⟨S2048x1, .f32⟩
  | .hbm, ⟨72, _⟩ => ⟨S_, .f32⟩
  | .hbm, ⟨73, _⟩ => ⟨S2048x1, .f32⟩
  | .hbm, ⟨74, _⟩ => ⟨S2048x1, .f32⟩
  | .hbm, ⟨75, _⟩ => ⟨S2048x1, .f32⟩
  | .hbm, ⟨76, _⟩ => ⟨S2048x1024, .f32⟩
  | .hbm, ⟨77, _⟩ => ⟨S_, .f32⟩
  | .hbm, ⟨78, _⟩ => ⟨S2048, .f32⟩
  | .hbm, ⟨79, _⟩ => ⟨S2048x1, .f32⟩
  | .hbm, ⟨80, _⟩ => ⟨S_, .f32⟩
  | .hbm, ⟨81, _⟩ => ⟨S2048x1, .f32⟩
  | .hbm, ⟨82, _⟩ => ⟨S2048x1, .f32⟩
  | .hbm, ⟨83, _⟩ => ⟨S2048x1024, .f32⟩
  | .hbm, ⟨84, _⟩ => ⟨S2048x1024, .f32⟩
  | .hbm, ⟨85, _⟩ => ⟨S2048x1024, .f32⟩
  | .hbm, ⟨86, _⟩ => ⟨S2048x1024, .f32⟩
  | .hbm, ⟨87, _⟩ => ⟨S2048x1024, .f32⟩
  | .hbm, ⟨88, _⟩ => ⟨S2048x1024, .bf16⟩
  | .hbm, ⟨89, _⟩ => ⟨S2048x1024, .f32⟩
  | .hbm, ⟨90, _⟩ => ⟨S2048x1024, .f32⟩
  | .hbm, ⟨91, _⟩ => ⟨S_, .f32⟩
  | .hbm, ⟨92, _⟩ => ⟨S2048, .f32⟩
  | .hbm, ⟨93, _⟩ => ⟨S2048x1, .f32⟩
  | .hbm, ⟨94, _⟩ => ⟨S_, .f32⟩
  | .hbm, ⟨95, _⟩ => ⟨S2048x1, .f32⟩
  | .hbm, ⟨96, _⟩ => ⟨S2048x1, .f32⟩
  | .hbm, ⟨97, _⟩ => ⟨S_, .f32⟩
  | .hbm, ⟨98, _⟩ => ⟨S2048x1, .f32⟩
  | .hbm, ⟨99, _⟩ => ⟨S2048x1, .f32⟩
  | .hbm, ⟨100, _⟩ => ⟨S2048x1, .f32⟩
  | .hbm, ⟨101, _⟩ => ⟨S2048x1024, .f32⟩
  | .hbm, ⟨102, _⟩ => ⟨S2048x1024, .f32⟩
  | .hbm, ⟨103, _⟩ => ⟨S_, .f32⟩
  | .hbm, ⟨104, _⟩ => ⟨S1024, .f32⟩
  | .hbm, ⟨105, _⟩ => ⟨S1x1024, .f32⟩
  | .hbm, ⟨106, _⟩ => ⟨S2048x1024, .f32⟩
  | .hbm, ⟨107, _⟩ => ⟨S2048x1024, .f32⟩
  | .hbm, ⟨108, _⟩ => ⟨S_, .f32⟩
  | .hbm, ⟨109, _⟩ => ⟨S2048, .f32⟩
  | .hbm, ⟨110, _⟩ => ⟨S2048x1, .f32⟩
  | .hbm, ⟨111, _⟩ => ⟨S_, .f32⟩
  | .hbm, ⟨112, _⟩ => ⟨S2048x1, .f32⟩
  | .hbm, ⟨113, _⟩ => ⟨S2048x1, .f32⟩
  | .hbm, ⟨114, _⟩ => ⟨S_, .f32⟩
  | .hbm, ⟨115, _⟩ => ⟨S2048x1, .f32⟩
  | .hbm, ⟨116, _⟩ => ⟨S2048x1, .f32⟩
  | .hbm, ⟨117, _⟩ => ⟨S2048x1, .f32⟩
  | .hbm, ⟨118, _⟩ => ⟨S2048x1024, .f32⟩
  | .hbm, ⟨119, _⟩ => ⟨S2048x1024, .f32⟩
  | .hbm, ⟨120, _⟩ => ⟨S_, .f32⟩
  | .hbm, ⟨121, _⟩ => ⟨S1024, .f32⟩
  | .hbm, ⟨122, _⟩ => ⟨S1x1024, .f32⟩
  | _, _ => ⟨S2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_5 : Ref sig .tc := ⟨.hbm, 38, rfl⟩
abbrev main_v25 : Ref sig .tc := ⟨.hbm, 39, rfl⟩
abbrev main_v26 : Ref sig .tc := ⟨.hbm, 40, rfl⟩
abbrev main_cst_6 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_7 : Ref sig .tc := ⟨.hbm, 53, rfl⟩
abbrev main_v38 : Ref sig .tc := ⟨.hbm, 54, rfl⟩
abbrev main_v39 : Ref sig .tc := ⟨.hbm, 55, rfl⟩
abbrev main_cst_8 : Ref sig .tc := ⟨.hbm, 56, rfl⟩
abbrev main_v40 : Ref sig .tc := ⟨.hbm, 57, rfl⟩
abbrev main_v41 : Ref sig .tc := ⟨.hbm, 58, rfl⟩
abbrev main_cst_9 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_10 : Ref sig .tc := ⟨.hbm, 66, rfl⟩
abbrev main_v48 : Ref sig .tc := ⟨.hbm, 67, rfl⟩
abbrev main_v49 : Ref sig .tc := ⟨.hbm, 68, rfl⟩
abbrev main_cst_11 : Ref sig .tc := ⟨.hbm, 69, rfl⟩
abbrev main_v50 : Ref sig .tc := ⟨.hbm, 70, rfl⟩
abbrev main_v51 : Ref sig .tc := ⟨.hbm, 71, rfl⟩
abbrev main_cst_12 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_13 : Ref sig .tc := ⟨.hbm, 77, rfl⟩
abbrev main_v56 : Ref sig .tc := ⟨.hbm, 78, rfl⟩
abbrev main_v57 : Ref sig .tc := ⟨.hbm, 79, rfl⟩
abbrev main_cst_14 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_cst_15 : Ref sig .tc := ⟨.hbm, 91, rfl⟩
abbrev main_v68 : Ref sig .tc := ⟨.hbm, 92, rfl⟩
abbrev main_v69 : Ref sig .tc := ⟨.hbm, 93, rfl⟩
abbrev main_cst_16 : Ref sig .tc := ⟨.hbm, 94, rfl⟩
abbrev main_v70 : Ref sig .tc := ⟨.hbm, 95, rfl⟩
abbrev main_v71 : Ref sig .tc := ⟨.hbm, 96, rfl⟩
abbrev main_cst_17 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_cst_18 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_cst_19 : Ref sig .tc := ⟨.hbm, 108, rfl⟩
abbrev main_v81 : Ref sig .tc := ⟨.hbm, 109, rfl⟩
abbrev main_v82 : Ref sig .tc := ⟨.hbm, 110, rfl⟩
abbrev main_cst_20 : Ref sig .tc := ⟨.hbm, 111, rfl⟩
abbrev main_v83 : Ref sig .tc := ⟨.hbm, 112, rfl⟩
abbrev main_v84 : Ref sig .tc := ⟨.hbm, 113, rfl⟩
abbrev main_cst_21 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_cst_22 : Ref sig .tc := ⟨.hbm, 120, rfl⟩
abbrev main_v90 : Ref sig .tc := ⟨.hbm, 121, rfl⟩
abbrev main_v91 : Ref sig .tc := ⟨.hbm, 122, rfl⟩

abbrev nD : Nat := 1
abbrev τ : Topo := Topo.v7x

variable {F : FTy → Type} [FloatOps F]
-- ==== DownGrad.lean ====
abbrev S2048x4096 : Shape := ⟨2, ![2048, 4096]⟩
abbrev S2048x1024 : Shape := ⟨2, ![2048, 1024]⟩
abbrev S8x512x1024 : Shape := ⟨3, ![8, 512, 1024]⟩
abbrev S2048x512 : Shape := ⟨2, ![2048, 512]⟩
abbrev S1x512x1024 : Shape := ⟨3, ![1, 512, 1024]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x4096, .f32⟩
  | .hbm, ⟨1, _⟩ => ⟨S2048x1024, .bf16⟩
  | .hbm, ⟨2, _⟩ => ⟨S8x512x1024, .bf16⟩
  | .local _ .vmem, ⟨0, _⟩ => ⟨S2048x512, .f32⟩
  | .local _ .vmem, ⟨1, _⟩ => ⟨S2048x512, .f32⟩
  | .local _ .vmem, ⟨2, _⟩ => ⟨S2048x1024, .bf16⟩
  | .local _ .vmem, ⟨3, _⟩ => ⟨S1x512x1024, .bf16⟩
  | .local _ .vmem, ⟨4, _⟩ => ⟨S1x512x1024, .bf16⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== DownGradReferenceIdeal.lean ====
abbrev S2048x4096 : Shape := ⟨2, ![2048, 4096]⟩
abbrev S2048x1024 : Shape := ⟨2, ![2048, 1024]⟩
abbrev S_ : Shape := ⟨0, ![]⟩
abbrev S4096x2048 : Shape := ⟨2, ![4096, 2048]⟩
abbrev S4096x1024 : Shape := ⟨2, ![4096, 1024]⟩
abbrev S8x512x1024 : Shape := ⟨3, ![8, 512, 1024]⟩

abbrev nBuf : Space → Nat
  | .hbm => 11
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S2048x1024, .bf16⟩
  | .hbm, ⟨2, _⟩ => ⟨S_, .f32⟩
  | .hbm, ⟨3, _⟩ => ⟨S2048x4096, .f32⟩
  | .hbm, ⟨4, _⟩ => ⟨S2048x4096, .f32⟩
  | .hbm, ⟨5, _⟩ => ⟨S2048x4096, .f32⟩
  | .hbm, ⟨6, _⟩ => ⟨S4096x2048, .f32⟩
  | .hbm, ⟨7, _⟩ => ⟨S2048x1024, .f32⟩
  | .hbm, ⟨8, _⟩ => ⟨S4096x1024, .f32⟩
  | .hbm, ⟨9, _⟩ => ⟨S4096x1024, .bf16⟩
  | .hbm, ⟨10, _⟩ => ⟨S8x512x1024, .bf16⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== UpGrad.lean ====
abbrev S2048x1024 : Shape := ⟨2, ![2048, 1024]⟩
abbrev S2048x4096 : Shape := ⟨2, ![2048, 4096]⟩
abbrev S8x1024x512 : Shape := ⟨3, ![8, 1024, 512]⟩
abbrev S2048x512 : Shape := ⟨2, ![2048, 512]⟩
abbrev S1x1024x512 : Shape := ⟨3, ![1, 1024, 512]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S2048x4096, .bf16⟩
  | .hbm, ⟨2, _⟩ => ⟨S8x1024x512, .bf16⟩
  | .local _ .vmem, ⟨0, _⟩ => ⟨S2048x1024, .bf16⟩
  | .local _ .vmem, ⟨1, _⟩ => ⟨S2048x512, .bf16⟩
  | .local _ .vmem, ⟨2, _⟩ => ⟨S2048x512, .bf16⟩
  | .local _ .vmem, ⟨3, _⟩ => ⟨S1x1024x512, .bf16⟩
  | .local _ .vmem, ⟨4, _⟩ => ⟨S1x1024x512, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]
-- ==== UpGradReferenceIdeal.lean ====
abbrev S2048x1024 : Shape := ⟨2, ![2048, 1024]⟩
abbrev S2048x4096 : Shape := ⟨2, ![2048, 4096]⟩
abbrev S1024x2048 : Shape := ⟨2, ![1024, 2048]⟩
abbrev S1024x4096 : Shape := ⟨2, ![1024, 4096]⟩
abbrev S1024x8x512 : Shape := ⟨3, ![1024, 8, 512]⟩
abbrev S8x1024x512 : Shape := ⟨3, ![8, 1024, 512]⟩

abbrev nBuf : Space → Nat
  | .hbm => 9
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x4096, .bf16⟩
  | .hbm, ⟨2, _⟩ => ⟨S2048x1024, .f32⟩
  | .hbm, ⟨3, _⟩ => ⟨S1024x2048, .f32⟩
  | .hbm, ⟨4, _⟩ => ⟨S2048x4096, .f32⟩
  | .hbm, ⟨5, _⟩ => ⟨S1024x4096, .f32⟩
  | .hbm, ⟨6, _⟩ => ⟨S1024x4096, .bf16⟩
  | .hbm, ⟨7, _⟩ => ⟨S1024x8x512, .bf16⟩
  | .hbm, ⟨8, _⟩ => ⟨S8x1024x512, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== OutGrad.lean ====
abbrev S2048x1024 : Shape := ⟨2, ![2048, 1024]⟩
abbrev S8x128x1024 : Shape := ⟨3, ![8, 128, 1024]⟩
abbrev S2048x128 : Shape := ⟨2, ![2048, 128]⟩
abbrev S1x128x1024 : Shape := ⟨3, ![1, 128, 1024]⟩
abbrev S128x1024 : Shape := ⟨2, ![128, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S8x128x1024, .bf16⟩
  | .local _ .vmem, ⟨0, _⟩ => ⟨S2048x128, .bf16⟩
  | .local _ .vmem, ⟨1, _⟩ => ⟨S2048x128, .bf16⟩
  | .local _ .vmem, ⟨2, _⟩ => ⟨S2048x1024, .bf16⟩
  | .local _ .vmem, ⟨3, _⟩ => ⟨S1x128x1024, .bf16⟩
  | .local _ .vmem, ⟨4, _⟩ => ⟨S1x128x1024, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1x128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== OutGradReferenceIdeal.lean ====
abbrev S2048x1024 : Shape := ⟨2, ![2048, 1024]⟩
abbrev S1024x2048 : Shape := ⟨2, ![1024, 2048]⟩
abbrev S1024x1024 : Shape := ⟨2, ![1024, 1024]⟩
abbrev S8x128x1024 : Shape := ⟨3, ![8, 128, 1024]⟩

abbrev nBuf : Space → Nat
  | .hbm => 8
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S2048x1024, .f32⟩
  | .hbm, ⟨3, _⟩ => ⟨S1024x2048, .f32⟩
  | .hbm, ⟨4, _⟩ => ⟨S2048x1024, .f32⟩
  | .hbm, ⟨5, _⟩ => ⟨S1024x1024, .f32⟩
  | .hbm, ⟨6, _⟩ => ⟨S1024x1024, .bf16⟩
  | .hbm, ⟨7, _⟩ => ⟨S8x128x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== InGrad.lean ====
abbrev S2048x1024 : Shape := ⟨2, ![2048, 1024]⟩
abbrev S2048x3712 : Shape := ⟨2, ![2048, 3712]⟩
abbrev S1024x3712 : Shape := ⟨2, ![1024, 3712]⟩
abbrev S2048x128 : Shape := ⟨2, ![2048, 128]⟩
abbrev S1024x128 : Shape := ⟨2, ![1024, 128]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S2048x3712, .bf16⟩
  | .hbm, ⟨2, _⟩ => ⟨S1024x3712, .bf16⟩
  | .local _ .vmem, ⟨0, _⟩ => ⟨S2048x1024, .bf16⟩
  | .local _ .vmem, ⟨1, _⟩ => ⟨S2048x128, .bf16⟩
  | .local _ .vmem, ⟨2, _⟩ => ⟨S2048x128, .bf16⟩
  | .local _ .vmem, ⟨3, _⟩ => ⟨S1024x128, .bf16⟩
  | .local _ .vmem, ⟨4, _⟩ => ⟨S1024x128, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 29], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]
-- ==== InGradReferenceIdeal.lean ====
abbrev S2048x1024 : Shape := ⟨2, ![2048, 1024]⟩
abbrev S2048x3712 : Shape := ⟨2, ![2048, 3712]⟩
abbrev S1024x2048 : Shape := ⟨2, ![1024, 2048]⟩
abbrev S1024x3712 : Shape := ⟨2, ![1024, 3712]⟩

abbrev nBuf : Space → Nat
  | .hbm => 7
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x3712, .bf16⟩
  | .hbm, ⟨2, _⟩ => ⟨S2048x1024, .f32⟩
  | .hbm, ⟨3, _⟩ => ⟨S1024x2048, .f32⟩
  | .hbm, ⟨4, _⟩ => ⟨S2048x3712, .f32⟩
  | .hbm, ⟨5, _⟩ => ⟨S1024x3712, .f32⟩
  | .hbm, ⟨6, _⟩ => ⟨S1024x3712, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Proj.lean ====
abbrev S2048x1024 : Shape := ⟨2, ![2048, 1024]⟩
abbrev S1x1024 : Shape := ⟨2, ![1, 1024]⟩
abbrev S1024x3712 : Shape := ⟨2, ![1024, 3712]⟩
abbrev S2048x3712 : Shape := ⟨2, ![2048, 3712]⟩
abbrev S256x1024 : Shape := ⟨2, ![256, 1024]⟩
abbrev S256x3712 : Shape := ⟨2, ![256, 3712]⟩
abbrev S256 : Shape := ⟨1, ![256]⟩
abbrev S256x1 : Shape := ⟨2, ![256, 1]⟩

abbrev nBuf : Space → Nat
  | .hbm => 5
  | .vmem => 8
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1024x3712, .bf16⟩
  | .hbm, ⟨3, _⟩ => ⟨S2048x3712, .f32⟩
  | .hbm, ⟨4, _⟩ => ⟨S2048x1024, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x3712, .bf16⟩
  | .local _ .vmem, ⟨4, _⟩ => ⟨S256x3712, .f32⟩
  | .local _ .vmem, ⟨5, _⟩ => ⟨S256x3712, .f32⟩
  | .local _ .vmem, ⟨6, _⟩ => ⟨S256x1024, .bf16⟩
  | .local _ .vmem, ⟨7, _⟩ => ⟨S256x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3712 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x3712 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ProjReferenceIdeal.lean ====
abbrev S2048x1024 : Shape := ⟨2, ![2048, 1024]⟩
abbrev S1x1024 : Shape := ⟨2, ![1, 1024]⟩
abbrev S1024x3712 : Shape := ⟨2, ![1024, 3712]⟩
abbrev S_ : Shape := ⟨0, ![]⟩
abbrev S2048 : Shape := ⟨1, ![2048]⟩
abbrev S2048x1 : Shape := ⟨2, ![2048, 1]⟩
abbrev S2048x3712 : Shape := ⟨2, ![2048, 3712]⟩

abbrev nBuf : Space → Nat
  | .hbm => 21
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1024x3712, .bf16⟩
  | .hbm, ⟨3, _⟩ => ⟨S2048x1024, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x1024, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S1024x3712, .f32⟩
  | .hbm, ⟨19, _⟩ => ⟨S2048x3712, .f32⟩
  | .hbm, ⟨20, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Up.lean ====
abbrev S2048x1024 : Shape := ⟨2, ![2048, 1024]⟩
abbrev S1024x4096 : Shape := ⟨2, ![1024, 4096]⟩
abbrev S2048x4096 : Shape := ⟨2, ![2048, 4096]⟩
abbrev S256x1024 : Shape := ⟨2, ![256, 1024]⟩
abbrev S256x4096 : Shape := ⟨2, ![256, 4096]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S1024x4096, .bf16⟩
  | .hbm, ⟨2, _⟩ => ⟨S2048x4096, .f32⟩
  | .local _ .vmem, ⟨0, _⟩ => ⟨S256x1024, .bf16⟩
  | .local _ .vmem, ⟨1, _⟩ => ⟨S256x1024, .bf16⟩
  | .local _ .vmem, ⟨2, _⟩ => ⟨S1024x4096, .bf16⟩
  | .local _ .vmem, ⟨3, _⟩ => ⟨S256x4096, .f32⟩
  | .local _ .vmem, ⟨4, _⟩ => ⟨S256x4096, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== UpReferenceIdeal.lean ====
abbrev S2048x1024 : Shape := ⟨2, ![2048, 1024]⟩
abbrev S1024x4096 : Shape := ⟨2, ![1024, 4096]⟩
abbrev S2048x4096 : Shape := ⟨2, ![2048, 4096]⟩

abbrev nBuf : Space → Nat
  | .hbm => 5
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x4096, .bf16⟩
  | .hbm, ⟨2, _⟩ => ⟨S2048x1024, .f32⟩
  | .hbm, ⟨3, _⟩ => ⟨S1024x4096, .f32⟩
  | .hbm, ⟨4, _⟩ => ⟨S2048x4096, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Act.lean ====
abbrev S2048x1024 : Shape := ⟨2, ![2048, 1024]⟩
abbrev S4096x1024 : Shape := ⟨2, ![4096, 1024]⟩
abbrev S2048x4096 : Shape := ⟨2, ![2048, 4096]⟩
abbrev S256x1024 : Shape := ⟨2, ![256, 1024]⟩
abbrev S256x4096 : Shape := ⟨2, ![256, 4096]⟩

abbrev nBuf : Space → Nat
  | .hbm => 4
  | .vmem => 7
  | .smem => 0
  | _ => 0

abbrev bufTy : (tb : Table) → Fin (tcTables nBuf tb) → BufTy
  | .hbm, ⟨0, _⟩ => ⟨S2048x1024, .bf16⟩
  | .hbm, ⟨1, _⟩ => ⟨S4096x1024, .bf16⟩
  | .hbm, ⟨2, _⟩ => ⟨S2048x4096, .f32⟩
  | .hbm, ⟨3, _⟩ => ⟨S2048x4096, .bf16⟩
  | .local _ .vmem, ⟨0, _⟩ => ⟨S256x1024, .bf16⟩
  | .local _ .vmem, ⟨1, _⟩ => ⟨S256x1024, .bf16⟩
  | .local _ .vmem, ⟨2, _⟩ => ⟨S4096x1024, .bf16⟩
  | .local _ .vmem, ⟨3, _⟩ => ⟨S256x4096, .f32⟩
  | .local _ .vmem, ⟨4, _⟩ => ⟨S256x4096, .f32⟩
  | .local _ .vmem, ⟨5, _⟩ => ⟨S256x4096, .bf16⟩
  | .local _ .vmem, ⟨6, _⟩ => ⟨S256x4096, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ActReferenceIdeal.lean ====
abbrev S2048x1024 : Shape := ⟨2, ![2048, 1024]⟩
abbrev S4096x1024 : Shape := ⟨2, ![4096, 1024]⟩
abbrev S2048x4096 : Shape := ⟨2, ![2048, 4096]⟩
abbrev S1024x4096 : Shape := ⟨2, ![1024, 4096]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S4096x1024, .bf16⟩
  | .hbm, ⟨2, _⟩ => ⟨S2048x4096, .f32⟩
  | .hbm, ⟨3, _⟩ => ⟨S2048x1024, .f32⟩
  | .hbm, ⟨4, _⟩ => ⟨S4096x1024, .f32⟩
  | .hbm, ⟨5, _⟩ => ⟨S1024x4096, .f32⟩
  | .hbm, ⟨6, _⟩ => ⟨S2048x4096, .f32⟩
  | .hbm, ⟨7, _⟩ => ⟨S_, .f32⟩
  | .hbm, ⟨8, _⟩ => ⟨S2048x4096, .f32⟩
  | .hbm, ⟨9, _⟩ => ⟨S2048x4096, .f32⟩
  | .hbm, ⟨10, _⟩ => ⟨S_, .f32⟩
  | .hbm, ⟨11, _⟩ => ⟨S2048x4096, .f32⟩
  | .hbm, ⟨12, _⟩ => ⟨S2048x4096, .f32⟩
  | .hbm, ⟨13, _⟩ => ⟨S2048x4096, .f32⟩
  | .hbm, ⟨14, _⟩ => ⟨S2048x4096, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_cst : Ref sig .tc := ⟨.hbm, 7, rfl⟩
abbrev main_call0_v0 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]
-- ==== ConvGrad.lean ====
abbrev S2048x3712 : Shape := ⟨2, ![2048, 3712]⟩
abbrev S4x1536 : Shape := ⟨2, ![4, 1536]⟩
abbrev S2048x512 : Shape := ⟨2, ![2048, 512]⟩
abbrev S4x512 : Shape := ⟨2, ![4, 512]⟩
abbrev S2048x128 : Shape := ⟨2, ![2048, 128]⟩
abbrev S4x128 : Shape := ⟨2, ![4, 128]⟩
abbrev S1x128 : Shape := ⟨2, ![1, 128]⟩
abbrev S2048 : Shape := ⟨1, ![2048]⟩
abbrev S2048x1 : Shape := ⟨2, ![2048, 1]⟩
abbrev S128 : Shape := ⟨1, ![128]⟩

abbrev nBuf : Space → Nat
  | .hbm => 11
  | .vmem => 30
  | .smem => 0
  | _ => 0

abbrev bufTy : (tb : Table) → Fin (tcTables nBuf tb) → BufTy
  | .hbm, ⟨0, _⟩ => ⟨S2048x3712, .f32⟩
  | .hbm, ⟨1, _⟩ => ⟨S4x1536, .f32⟩
  | .hbm, ⟨2, _⟩ => ⟨S2048x512, .f32⟩
  | .hbm, ⟨3, _⟩ => ⟨S2048x512, .f32⟩
  | .hbm, ⟨4, _⟩ => ⟨S2048x512, .f32⟩
  | .hbm, ⟨5, _⟩ => ⟨S2048x512, .f32⟩
  | .hbm, ⟨6, _⟩ => ⟨S2048x512, .f32⟩
  | .hbm, ⟨7, _⟩ => ⟨S2048x512, .f32⟩
  | .hbm, ⟨8, _⟩ => ⟨S4x512, .f32⟩
  | .hbm, ⟨9, _⟩ => ⟨S4x512, .f32⟩
  | .hbm, ⟨10, _⟩ => ⟨S4x512, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S4x128, .f32⟩
  | .local _ .vmem, ⟨7, _⟩ => ⟨S4x128, .f32⟩
  | .local _ .vmem, ⟨8, _⟩ => ⟨S4x128, .f32⟩
  | .local _ .vmem, ⟨9, _⟩ => ⟨S4x128, .f32⟩
  | .local _ .vmem, ⟨10, _⟩ => ⟨S4x128, .f32⟩
  | .local _ .vmem, ⟨11, _⟩ => ⟨S4x128, .f32⟩
  | .local _ .vmem, ⟨12, _⟩ => ⟨S2048x128, .f32⟩
  | .local _ .vmem, ⟨13, _⟩ => ⟨S2048x128, .f32⟩
  | .local _ .vmem, ⟨14, _⟩ => ⟨S2048x128, .f32⟩
  | .local _ .vmem, ⟨15, _⟩ => ⟨S2048x128, .f32⟩
  | .local _ .vmem, ⟨16, _⟩ => ⟨S2048x128, .f32⟩
  | .local _ .vmem, ⟨17, _⟩ => ⟨S2048x128, .f32⟩
  | .local _ .vmem, ⟨18, _⟩ => ⟨S2048x128, .f32⟩
  | .local _ .vmem, ⟨19, _⟩ => ⟨S2048x128, .f32⟩
  | .local _ .vmem, ⟨20, _⟩ => ⟨S2048x128, .f32⟩
  | .local _ .vmem, ⟨21, _⟩ => ⟨S2048x128, .f32⟩
  | .local _ .vmem, ⟨22, _⟩ => ⟨S2048x128, .f32⟩
  | .local _ .vmem, ⟨23, _⟩ => ⟨S2048x128, .f32⟩
  | .local _ .vmem, ⟨24, _⟩ => ⟨S4x128, .f32⟩
  | .local _ .vmem, ⟨25, _⟩ => ⟨S4x128, .f32⟩
  | .local _ .vmem, ⟨26, _⟩ => ⟨S4x128, .f32⟩
  | .local _ .vmem, ⟨27, _⟩ => ⟨S4x128, .f32⟩
  | .local _ .vmem, ⟨28, _⟩ => ⟨S4x128, .f32⟩
  | .local _ .vmem, ⟨29, _⟩ => ⟨S4x128, .f32⟩
  | _, _ => ⟨S2048x3712, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev main_v0_5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c12_i32 : BitVec 32 := 12#32
  let v0 : BitVec 32 := Scalar.addi c12_i32 arg0
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c20_i32 : BitVec 32 := 20#32
  let v0 : BitVec 32 := Scalar.addi c20_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_7 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_8 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_9 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_10 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_11 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_12 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_13 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_14 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2048x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2048x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2048x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S2048x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S4x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S4x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S4x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== ConvGradReferenceIdeal.lean ====
abbrev S2048x3712 : Shape := ⟨2, ![2048, 3712]⟩
abbrev S4x1536 : Shape := ⟨2, ![4, 1536]⟩
abbrev S2048x512 : Shape := ⟨2, ![2048, 512]⟩
abbrev S4x512 : Shape := ⟨2, ![4, 512]⟩
abbrev S1x512 : Shape := ⟨2, ![1, 512]⟩
abbrev S_ : Shape := ⟨0, ![]⟩
abbrev S2047x512 : Shape := ⟨2, ![2047, 512]⟩
abbrev S2x512 : Shape := ⟨2, ![2, 512]⟩
abbrev S2046x512 : Shape := ⟨2, ![2046, 512]⟩
abbrev S3x512 : Shape := ⟨2, ![3, 512]⟩
abbrev S2045x512 : Shape := ⟨2, ![2045, 512]⟩
abbrev S2048x4x128 : Shape := ⟨3, ![2048, 4, 128]⟩
abbrev S2048x4 : Shape := ⟨2, ![2048, 4]⟩
abbrev S2048x4x1 : Shape := ⟨3, ![2048, 4, 1]⟩
abbrev S512 : Shape := ⟨1, ![512]⟩

abbrev nBuf : Space → Nat
  | .hbm => 363
  | .vmem => 0
  | .smem => 0
  | _ => 0

abbrev hbmTy0_0 (i : Nat) : BufTy := match i % 128 with
  | 0 => ⟨S2048x3712, .f32⟩
  | 1 => ⟨S4x1536, .f32⟩
  | 2 => ⟨S2048x512, .f32⟩
  | 3 => ⟨S2048x512, .f32⟩
  | 4 => ⟨S2048x512, .f32⟩
  | 5 => ⟨S2048x512, .f32⟩
  | 6 => ⟨S4x512, .f32⟩
  | 7 => ⟨S1x512, .f32⟩
  | 8 => ⟨S2048x512, .f32⟩
  | 9 => ⟨S2048x512, .f32⟩
  | 10 => ⟨S1x512, .f32⟩
  | 11 => ⟨S_, .f32⟩
  | 12 => ⟨S1x512, .f32⟩
  | 13 => ⟨S2047x512, .f32⟩
  | 14 => ⟨S2048x512, .f32⟩
  | 15 => ⟨S2048x512, .f32⟩
  | 16 => ⟨S2048x512, .f32⟩
  | 17 => ⟨S2048x512, .f32⟩
  | 18 => ⟨S1x512, .f32⟩
  | 19 => ⟨S_, .f32⟩
  | 20 => ⟨S2x512, .f32⟩
  | 21 => ⟨S2046x512, .f32⟩
  | 22 => ⟨S2048x512, .f32⟩
  | 23 => ⟨S2048x512, .f32⟩
  | 24 => ⟨S2048x512, .f32⟩
  | 25 => ⟨S2048x512, .f32⟩
  | 26 => ⟨S1x512, .f32⟩
  | 27 => ⟨S_, .f32⟩
  | 28 => ⟨S3x512, .f32⟩
  | 29 => ⟨S2045x512, .f32⟩
  | 30 => ⟨S2048x512, .f32⟩
  | 31 => ⟨S2048x512, .f32⟩
  | 32 => ⟨S2048x512, .f32⟩
  | 33 => ⟨S2048x512, .f32⟩
  | 34 => ⟨S2048x512, .f32⟩
  | 35 => ⟨S2048x512, .f32⟩
  | 36 => ⟨S_, .f32⟩
  | 37 => ⟨S2048x512, .f32⟩
  | 38 => ⟨S2048x512, .f32⟩
  | 39 => ⟨S_, .f32⟩
  | 40 => ⟨S2048x512, .f32⟩
  | 41 => ⟨S2048x512, .f32⟩
  | 42 => ⟨S2048x512, .f32⟩
  | 43 => ⟨S2048x4x128, .f32⟩
  | 44 => ⟨S2048x4x128, .f32⟩
  | 45 => ⟨S2048x4x128, .f32⟩
  | 46 => ⟨S_, .f32⟩
  | 47 => ⟨S2048x4, .f32⟩
  | 48 => ⟨S2048x4x1, .f32⟩
  | 49 => ⟨S_, .f32⟩
  | 50 => ⟨S2048x4x1, .f32⟩
  | 51 => ⟨S2048x4x1, .f32⟩
  | 52 => ⟨S2048x4x1, .f32⟩
  | 53 => ⟨S2048x4x128, .f32⟩
  | 54 => ⟨S2048x4x128, .f32⟩
  | 55 => ⟨S_, .f32⟩
  | 56 => ⟨S2048x4x1, .f32⟩
  | 57 => ⟨S2048x4x1, .f32⟩
  | 58 => ⟨S2048x4x128, .f32⟩
  | 59 => ⟨S_, .f32⟩
  | 60 => ⟨S2048x4, .f32⟩
  | 61 => ⟨S2048x4x1, .f32⟩
  | 62 => ⟨S2048x4x128, .f32⟩
  | 63 => ⟨S2048x4x128, .f32⟩
  | 64 => ⟨S2048x4x128, .f32⟩
  | 65 => ⟨S2048x4x128, .f32⟩
  | 66 => ⟨S2048x4x128, .f32⟩
  | 67 => ⟨S2048x512, .f32⟩
  | 68 => ⟨S2048x512, .f32⟩
  | 69 => ⟨S_, .f32⟩
  | 70 => ⟨S2048x512, .f32⟩
  | 71 => ⟨S2048x512, .f32⟩
  | 72 => ⟨S2048x512, .f32⟩
  | 73 => ⟨S_, .f32⟩
  | 74 => ⟨S2048x512, .f32⟩
  | 75 => ⟨S2048x512, .f32⟩
  | 76 => ⟨S2048x512, .f32⟩
  | 77 => ⟨S1x512, .f32⟩
  | 78 => ⟨S2048x512, .f32⟩
  | 79 => ⟨S2048x512, .f32⟩
  | 80 => ⟨S1x512, .f32⟩
  | 81 => ⟨S2047x512, .f32⟩
  | 82 => ⟨S_, .f32⟩
  | 83 => ⟨S1x512, .f32⟩
  | 84 => ⟨S2048x512, .f32⟩
  | 85 => ⟨S2048x512, .f32⟩
  | 86 => ⟨S2048x512, .f32⟩
  | 87 => ⟨S2048x512, .f32⟩
  | 88 => ⟨S1x512, .f32⟩
  | 89 => ⟨S2046x512, .f32⟩
  | 90 => ⟨S_, .f32⟩
  | 91 => ⟨S2x512, .f32⟩
  | 92 => ⟨S2048x512, .f32⟩
  | 93 => ⟨S2048x512, .f32⟩
  | 94 => ⟨S2048x512, .f32⟩
  | 95 => ⟨S2048x512, .f32⟩
  | 96 => ⟨S1x512, .f32⟩
  | 97 => ⟨S2045x512, .f32⟩
  | 98 => ⟨S_, .f32⟩
  | 99 => ⟨S3x512, .f32⟩
  | 100 => ⟨S2048x512, .f32⟩
  | 101 => ⟨S2048x512, .f32⟩
  | 102 => ⟨S2048x512, .f32⟩
  | 103 => ⟨S2048x512, .f32⟩
  | 104 => ⟨S_, .f32⟩
  | 105 => ⟨S3x512, .f32⟩
  | 106 => ⟨S2045x512, .f32⟩
  | 107 => ⟨S2048x512, .f32⟩
  | 108 => ⟨S2048x512, .f32⟩
  | 109 => ⟨S_, .f32⟩
  | 110 => ⟨S512, .f32⟩
  | 111 => ⟨S_, .f32⟩
  | 112 => ⟨S2x512, .f32⟩
  | 113 => ⟨S2046x512, .f32⟩
  | 114 => ⟨S2048x512, .f32⟩
  | 115 => ⟨S2048x512, .f32⟩
  | 116 => ⟨S_, .f32⟩
  | 117 => ⟨S512, .f32⟩
  | 118 => ⟨S_, .f32⟩
  | 119 => ⟨S1x512, .f32⟩
  | 120 => ⟨S2047x512, .f32⟩
  | 121 => ⟨S2048x512, .f32⟩
  | 122 => ⟨S2048x512, .f32⟩
  | 123 => ⟨S_, .f32⟩
  | 124 => ⟨S512, .f32⟩
  | 125 => ⟨S2048x512, .f32⟩
  | 126 => ⟨S_, .f32⟩
  | 127 => ⟨S512, .f32⟩
  | _ => ⟨S2048x3712, .f32⟩

abbrev hbmTy0_1 (i : Nat) : BufTy := match i % 128 with
  | 0 => ⟨S1x512, .f32⟩
  | 1 => ⟨S1x512, .f32⟩
  | 2 => ⟨S1x512, .f32⟩
  | 3 => ⟨S1x512, .f32⟩
  | 4 => ⟨S4x512, .f32⟩
  | 5 => ⟨S2048x512, .f32⟩
  | 6 => ⟨S4x512, .f32⟩
  | 7 => ⟨S1x512, .f32⟩
  | 8 => ⟨S2048x512, .f32⟩
  | 9 => ⟨S2048x512, .f32⟩
  | 10 => ⟨S1x512, .f32⟩
  | 11 => ⟨S_, .f32⟩
  | 12 => ⟨S1x512, .f32⟩
  | 13 => ⟨S2047x512, .f32⟩
  | 14 => ⟨S2048x512, .f32⟩
  | 15 => ⟨S2048x512, .f32⟩
  | 16 => ⟨S2048x512, .f32⟩
  | 17 => ⟨S2048x512, .f32⟩
  | 18 => ⟨S1x512, .f32⟩
  | 19 => ⟨S_, .f32⟩
  | 20 => ⟨S2x512, .f32⟩
  | 21 => ⟨S2046x512, .f32⟩
  | 22 => ⟨S2048x512, .f32⟩
  | 23 => ⟨S2048x512, .f32⟩
  | 24 => ⟨S2048x512, .f32⟩
  | 25 => ⟨S2048x512, .f32⟩
  | 26 => ⟨S1x512, .f32⟩
  | 27 => ⟨S_, .f32⟩
  | 28 => ⟨S3x512, .f32⟩
  | 29 => ⟨S2045x512, .f32⟩
  | 30 => ⟨S2048x512, .f32⟩
  | 31 => ⟨S2048x512, .f32⟩
  | 32 => ⟨S2048x512, .f32⟩
  | 33 => ⟨S2048x512, .f32⟩
  | 34 => ⟨S2048x512, .f32⟩
  | 35 => ⟨S2048x512, .f32⟩
  | 36 => ⟨S_, .f32⟩
  | 37 => ⟨S2048x512, .f32⟩
  | 38 => ⟨S2048x512, .f32⟩
  | 39 => ⟨S_, .f32⟩
  | 40 => ⟨S2048x512, .f32⟩
  | 41 => ⟨S2048x512, .f32⟩
  | 42 => ⟨S2048x512, .f32⟩
  | 43 => ⟨S2048x4x128, .f32⟩
  | 44 => ⟨S2048x4x128, .f32⟩
  | 45 => ⟨S2048x4x128, .f32⟩
  | 46 => ⟨S_, .f32⟩
  | 47 => ⟨S2048x4, .f32⟩
  | 48 => ⟨S2048x4x1, .f32⟩
  | 49 => ⟨S_, .f32⟩
  | 50 => ⟨S2048x4x1, .f32⟩
  | 51 => ⟨S2048x4x1, .f32⟩
  | 52 => ⟨S2048x4x1, .f32⟩
  | 53 => ⟨S2048x4x128, .f32⟩
  | 54 => ⟨S2048x4x128, .f32⟩
  | 55 => ⟨S_, .f32⟩
  | 56 => ⟨S2048x4x1, .f32⟩
  | 57 => ⟨S2048x4x1, .f32⟩
  | 58 => ⟨S2048x4x128, .f32⟩
  | 59 => ⟨S_, .f32⟩
  | 60 => ⟨S2048x4, .f32⟩
  | 61 => ⟨S2048x4x1, .f32⟩
  | 62 => ⟨S2048x4x128, .f32⟩
  | 63 => ⟨S2048x4x128, .f32⟩
  | 64 => ⟨S2048x4x128, .f32⟩
  | 65 => ⟨S2048x4x128, .f32⟩
  | 66 => ⟨S2048x4x128, .f32⟩
  | 67 => ⟨S2048x512, .f32⟩
  | 68 => ⟨S2048x512, .f32⟩
  | 69 => ⟨S_, .f32⟩
  | 70 => ⟨S2048x512, .f32⟩
  | 71 => ⟨S2048x512, .f32⟩
  | 72 => ⟨S2048x512, .f32⟩
  | 73 => ⟨S_, .f32⟩
  | 74 => ⟨S2048x512, .f32⟩
  | 75 => ⟨S2048x512, .f32⟩
  | 76 => ⟨S2048x512, .f32⟩
  | 77 => ⟨S1x512, .f32⟩
  | 78 => ⟨S2048x512, .f32⟩
  | 79 => ⟨S2048x512, .f32⟩
  | 80 => ⟨S1x512, .f32⟩
  | 81 => ⟨S2047x512, .f32⟩
  | 82 => ⟨S_, .f32⟩
  | 83 => ⟨S1x512, .f32⟩
  | 84 => ⟨S2048x512, .f32⟩
  | 85 => ⟨S2048x512, .f32⟩
  | 86 => ⟨S2048x512, .f32⟩
  | 87 => ⟨S2048x512, .f32⟩
  | 88 => ⟨S1x512, .f32⟩
  | 89 => ⟨S2046x512, .f32⟩
  | 90 => ⟨S_, .f32⟩
  | 91 => ⟨S2x512, .f32⟩
  | 92 => ⟨S2048x512, .f32⟩
  | 93 => ⟨S2048x512, .f32⟩
  | 94 => ⟨S2048x512, .f32⟩
  | 95 => ⟨S2048x512, .f32⟩
  | 96 => ⟨S1x512, .f32⟩
  | 97 => ⟨S2045x512, .f32⟩
  | 98 => ⟨S_, .f32⟩
  | 99 => ⟨S3x512, .f32⟩
  | 100 => ⟨S2048x512, .f32⟩
  | 101 => ⟨S2048x512, .f32⟩
  | 102 => ⟨S2048x512, .f32⟩
  | 103 => ⟨S2048x512, .f32⟩
  | 104 => ⟨S_, .f32⟩
  | 105 => ⟨S3x512, .f32⟩
  | 106 => ⟨S2045x512, .f32⟩
  | 107 => ⟨S2048x512, .f32⟩
  | 108 => ⟨S2048x512, .f32⟩
  | 109 => ⟨S_, .f32⟩
  | 110 => ⟨S512, .f32⟩
  | 111 => ⟨S_, .f32⟩
  | 112 => ⟨S2x512, .f32⟩
  | 113 => ⟨S2046x512, .f32⟩
  | 114 => ⟨S2048x512, .f32⟩
  | 115 => ⟨S2048x512, .f32⟩
  | 116 => ⟨S_, .f32⟩
  | 117 => ⟨S512, .f32⟩
  | 118 => ⟨S_, .f32⟩
  | 119 => ⟨S1x512, .f32⟩
  | 120 => ⟨S2047x512, .f32⟩
  | 121 => ⟨S2048x512, .f32⟩
  | 122 => ⟨S2048x512, .f32⟩
  | 123 => ⟨S_, .f32⟩
  | 124 => ⟨S512, .f32⟩
  | 125 => ⟨S2048x512, .f32⟩
  | 126 => ⟨S_, .f32⟩
  | 127 => ⟨S512, .f32⟩
  | _ => ⟨S2048x3712, .f32⟩

abbrev hbmTy0_2 (i : Nat) : BufTy := match i % 128 with
  | 0 => ⟨S1x512, .f32⟩
  | 1 => ⟨S1x512, .f32⟩
  | 2 => ⟨S1x512, .f32⟩
  | 3 => ⟨S1x512, .f32⟩
  | 4 => ⟨S4x512, .f32⟩
  | 5 => ⟨S2048x512, .f32⟩
  | 6 => ⟨S4x512, .f32⟩
  | 7 => ⟨S1x512, .f32⟩
  | 8 => ⟨S2048x512, .f32⟩
  | 9 => ⟨S2048x512, .f32⟩
  | 10 => ⟨S1x512, .f32⟩
  | 11 => ⟨S_, .f32⟩
  | 12 => ⟨S1x512, .f32⟩
  | 13 => ⟨S2047x512, .f32⟩
  | 14 => ⟨S2048x512, .f32⟩
  | 15 => ⟨S2048x512, .f32⟩
  | 16 => ⟨S2048x512, .f32⟩
  | 17 => ⟨S2048x512, .f32⟩
  | 18 => ⟨S1x512, .f32⟩
  | 19 => ⟨S_, .f32⟩
  | 20 => ⟨S2x512, .f32⟩
  | 21 => ⟨S2046x512, .f32⟩
  | 22 => ⟨S2048x512, .f32⟩
  | 23 => ⟨S2048x512, .f32⟩
  | 24 => ⟨S2048x512, .f32⟩
  | 25 => ⟨S2048x512, .f32⟩
  | 26 => ⟨S1x512, .f32⟩
  | 27 => ⟨S_, .f32⟩
  | 28 => ⟨S3x512, .f32⟩
  | 29 => ⟨S2045x512, .f32⟩
  | 30 => ⟨S2048x512, .f32⟩
  | 31 => ⟨S2048x512, .f32⟩
  | 32 => ⟨S2048x512, .f32⟩
  | 33 => ⟨S2048x512, .f32⟩
  | 34 => ⟨S2048x512, .f32⟩
  | 35 => ⟨S2048x512, .f32⟩
  | 36 => ⟨S_, .f32⟩
  | 37 => ⟨S2048x512, .f32⟩
  | 38 => ⟨S2048x512, .f32⟩
  | 39 => ⟨S_, .f32⟩
  | 40 => ⟨S2048x512, .f32⟩
  | 41 => ⟨S2048x512, .f32⟩
  | 42 => ⟨S2048x512, .f32⟩
  | 43 => ⟨S_, .f32⟩
  | 44 => ⟨S2048x512, .f32⟩
  | 45 => ⟨S2048x512, .f32⟩
  | 46 => ⟨S2048x512, .f32⟩
  | 47 => ⟨S_, .f32⟩
  | 48 => ⟨S2048x512, .f32⟩
  | 49 => ⟨S2048x512, .f32⟩
  | 50 => ⟨S2048x512, .f32⟩
  | 51 => ⟨S1x512, .f32⟩
  | 52 => ⟨S2048x512, .f32⟩
  | 53 => ⟨S2048x512, .f32⟩
  | 54 => ⟨S1x512, .f32⟩
  | 55 => ⟨S2047x512, .f32⟩
  | 56 => ⟨S_, .f32⟩
  | 57 => ⟨S1x512, .f32⟩
  | 58 => ⟨S2048x512, .f32⟩
  | 59 => ⟨S2048x512, .f32⟩
  | 60 => ⟨S2048x512, .f32⟩
  | 61 => ⟨S2048x512, .f32⟩
  | 62 => ⟨S1x512, .f32⟩
  | 63 => ⟨S2046x512, .f32⟩
  | 64 => ⟨S_, .f32⟩
  | 65 => ⟨S2x512, .f32⟩
  | 66 => ⟨S2048x512, .f32⟩
  | 67 => ⟨S2048x512, .f32⟩
  | 68 => ⟨S2048x512, .f32⟩
  | 69 => ⟨S2048x512, .f32⟩
  | 70 => ⟨S1x512, .f32⟩
  | 71 => ⟨S2045x512, .f32⟩
  | 72 => ⟨S_, .f32⟩
  | 73 => ⟨S3x512, .f32⟩
  | 74 => ⟨S2048x512, .f32⟩
  | 75 => ⟨S2048x512, .f32⟩
  | 76 => ⟨S2048x512, .f32⟩
  | 77 => ⟨S2048x512, .f32⟩
  | 78 => ⟨S_, .f32⟩
  | 79 => ⟨S3x512, .f32⟩
  | 80 => ⟨S2045x512, .f32⟩
  | 81 => ⟨S2048x512, .f32⟩
  | 82 => ⟨S2048x512, .f32⟩
  | 83 => ⟨S_, .f32⟩
  | 84 => ⟨S512, .f32⟩
  | 85 => ⟨S_, .f32⟩
  | 86 => ⟨S2x512, .f32⟩
  | 87 => ⟨S2046x512, .f32⟩
  | 88 => ⟨S2048x512, .f32⟩
  | 89 => ⟨S2048x512, .f32⟩
  | 90 => ⟨S_, .f32⟩
  | 91 => ⟨S512, .f32⟩
  | 92 => ⟨S_, .f32⟩
  | 93 => ⟨S1x512, .f32⟩
  | 94 => ⟨S2047x512, .f32⟩
  | 95 => ⟨S2048x512, .f32⟩
  | 96 => ⟨S2048x512, .f32⟩
  | 97 => ⟨S_, .f32⟩
  | 98 => ⟨S512, .f32⟩
  | 99 => ⟨S2048x512, .f32⟩
  | 100 => ⟨S_, .f32⟩
  | 101 => ⟨S512, .f32⟩
  | 102 => ⟨S1x512, .f32⟩
  | 103 => ⟨S1x512, .f32⟩
  | 104 => ⟨S1x512, .f32⟩
  | 105 => ⟨S1x512, .f32⟩
  | 106 => ⟨S4x512, .f32⟩
  | _ => ⟨S2048x3712, .f32⟩

abbrev hbmTy (i : Nat) : BufTy := match i / 128 with
  | 0 => hbmTy0_0 i
  | 1 => hbmTy0_1 i
  | 2 => hbmTy0_2 i
  | _ => ⟨S2048x3712, .f32⟩

abbrev bufTy : (tb : Table) → Fin (tcTables nBuf tb) → BufTy
  | .hbm, ⟨i, _⟩ => hbmTy i
  | _, _ => ⟨S2048x3712, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_1 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_2 : Ref sig .tc := ⟨.hbm, 36, rfl⟩
abbrev main_v28 : Ref sig .tc := ⟨.hbm, 37, rfl⟩
abbrev main_v29 : Ref sig .tc := ⟨.hbm, 38, rfl⟩
abbrev main_cst_3 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_4 : Ref sig .tc := ⟨.hbm, 46, rfl⟩
abbrev main_v36 : Ref sig .tc := ⟨.hbm, 47, rfl⟩
abbrev main_v37 : Ref sig .tc := ⟨.hbm, 48, rfl⟩
abbrev main_cst_5 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_cst_6 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_cst_7 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_cst_8 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_cst_9 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_cst_10 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_cst_11 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_cst_12 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_cst_13 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_cst_14 : Ref sig .tc := ⟨.hbm, 109, rfl⟩
abbrev main_v89 : Ref sig .tc := ⟨.hbm, 110, rfl⟩
abbrev main_cst_15 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_cst_16 : Ref sig .tc := ⟨.hbm, 116, rfl⟩
abbrev main_v94 : Ref sig .tc := ⟨.hbm, 117, rfl⟩
abbrev main_cst_17 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_cst_18 : Ref sig .tc := ⟨.hbm, 123, rfl⟩
abbrev main_v99 : Ref sig .tc := ⟨.hbm, 124, rfl⟩
abbrev main_v100 : Ref sig .tc := ⟨.hbm, 125, rfl⟩
abbrev main_cst_19 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev main_v111 : Ref sig .tc := ⟨.hbm, 137, rfl⟩
abbrev main_v112 : Ref sig .tc := ⟨.hbm, 138, rfl⟩
abbrev main_cst_20 : Ref sig .tc := ⟨.hbm, 139, rfl⟩
abbrev main_v113 : Ref sig .tc := ⟨.hbm, 140, rfl⟩
abbrev main_v114 : Ref sig .tc := ⟨.hbm, 141, rfl⟩
abbrev main_v115 : Ref sig .tc := ⟨.hbm, 142, rfl⟩
abbrev main_v116 : Ref sig .tc := ⟨.hbm, 143, rfl⟩
abbrev main_v117 : Ref sig .tc := ⟨.hbm, 144, rfl⟩
abbrev main_v118 : Ref sig .tc := ⟨.hbm, 145, rfl⟩
abbrev main_v119 : Ref sig .tc := ⟨.hbm, 146, rfl⟩
abbrev main_cst_21 : Ref sig .tc := ⟨.hbm, 147, rfl⟩
abbrev main_v120 : Ref sig .tc := ⟨.hbm, 148, rfl⟩
abbrev main_v121 : Ref sig .tc := ⟨.hbm, 149, rfl⟩
abbrev main_v122 : Ref sig .tc := ⟨.hbm, 150, rfl⟩
abbrev main_v123 : Ref sig .tc := ⟨.hbm, 151, rfl⟩
abbrev main_v124 : Ref sig .tc := ⟨.hbm, 152, rfl⟩
abbrev main_v125 : Ref sig .tc := ⟨.hbm, 153, rfl⟩
abbrev main_v126 : Ref sig .tc := ⟨.hbm, 154, rfl⟩
abbrev main_cst_22 : Ref sig .tc := ⟨.hbm, 155, rfl⟩
abbrev main_v127 : Ref sig .tc := ⟨.hbm, 156, rfl⟩
abbrev main_v128 : Ref sig .tc := ⟨.hbm, 157, rfl⟩
abbrev main_v129 : Ref sig .tc := ⟨.hbm, 158, rfl⟩
abbrev main_v130 : Ref sig .tc := ⟨.hbm, 159, rfl⟩
abbrev main_v131 : Ref sig .tc := ⟨.hbm, 160, rfl⟩
abbrev main_v132 : Ref sig .tc := ⟨.hbm, 161, rfl⟩
abbrev main_v133 : Ref sig .tc := ⟨.hbm, 162, rfl⟩
abbrev main_v134 : Ref sig .tc := ⟨.hbm, 163, rfl⟩
abbrev main_cst_23 : Ref sig .tc := ⟨.hbm, 164, rfl⟩
abbrev main_v135 : Ref sig .tc := ⟨.hbm, 165, rfl⟩
abbrev main_v136 : Ref sig .tc := ⟨.hbm, 166, rfl⟩
abbrev main_cst_24 : Ref sig .tc := ⟨.hbm, 167, rfl⟩
abbrev main_v137 : Ref sig .tc := ⟨.hbm, 168, rfl⟩
abbrev main_v138 : Ref sig .tc := ⟨.hbm, 169, rfl⟩
abbrev main_v139 : Ref sig .tc := ⟨.hbm, 170, rfl⟩
abbrev main_v140 : Ref sig .tc := ⟨.hbm, 171, rfl⟩
abbrev main_v141 : Ref sig .tc := ⟨.hbm, 172, rfl⟩
abbrev main_v142 : Ref sig .tc := ⟨.hbm, 173, rfl⟩
abbrev main_cst_25 : Ref sig .tc := ⟨.hbm, 174, rfl⟩
abbrev main_v143 : Ref sig .tc := ⟨.hbm, 175, rfl⟩
abbrev main_v144 : Ref sig .tc := ⟨.hbm, 176, rfl⟩
abbrev main_cst_26 : Ref sig .tc := ⟨.hbm, 177, rfl⟩
abbrev main_v145 : Ref sig .tc := ⟨.hbm, 178, rfl⟩
abbrev main_v146 : Ref sig .tc := ⟨.hbm, 179, rfl⟩
abbrev main_v147 : Ref sig .tc := ⟨.hbm, 180, rfl⟩
abbrev main_v148 : Ref sig .tc := ⟨.hbm, 181, rfl⟩
abbrev main_v149 : Ref sig .tc := ⟨.hbm, 182, rfl⟩
abbrev main_cst_27 : Ref sig .tc := ⟨.hbm, 183, rfl⟩
abbrev main_v150 : Ref sig .tc := ⟨.hbm, 184, rfl⟩
abbrev main_v151 : Ref sig .tc := ⟨.hbm, 185, rfl⟩
abbrev main_v152 : Ref sig .tc := ⟨.hbm, 186, rfl⟩
abbrev main_cst_28 : Ref sig .tc := ⟨.hbm, 187, rfl⟩
abbrev main_v153 : Ref sig .tc := ⟨.hbm, 188, rfl⟩
abbrev main_v154 : Ref sig .tc := ⟨.hbm, 189, rfl⟩
abbrev main_v155 : Ref sig .tc := ⟨.hbm, 190, rfl⟩
abbrev main_v156 : Ref sig .tc := ⟨.hbm, 191, rfl⟩
abbrev main_v157 : Ref sig .tc := ⟨.hbm, 192, rfl⟩
abbrev main_v158 : Ref sig .tc := ⟨.hbm, 193, rfl⟩
abbrev main_v159 : Ref sig .tc := ⟨.hbm, 194, rfl⟩
abbrev main_v160 : Ref sig .tc := ⟨.hbm, 195, rfl⟩
abbrev main_v161 : Ref sig .tc := ⟨.hbm, 196, rfl⟩
abbrev main_cst_29 : Ref sig .tc := ⟨.hbm, 197, rfl⟩
abbrev main_v162 : Ref sig .tc := ⟨.hbm, 198, rfl⟩
abbrev main_v163 : Ref sig .tc := ⟨.hbm, 199, rfl⟩
abbrev main_v164 : Ref sig .tc := ⟨.hbm, 200, rfl⟩
abbrev main_cst_30 : Ref sig .tc := ⟨.hbm, 201, rfl⟩
abbrev main_v165 : Ref sig .tc := ⟨.hbm, 202, rfl⟩
abbrev main_v166 : Ref sig .tc := ⟨.hbm, 203, rfl⟩
abbrev main_v167 : Ref sig .tc := ⟨.hbm, 204, rfl⟩
abbrev main_v168 : Ref sig .tc := ⟨.hbm, 205, rfl⟩
abbrev main_v169 : Ref sig .tc := ⟨.hbm, 206, rfl⟩
abbrev main_v170 : Ref sig .tc := ⟨.hbm, 207, rfl⟩
abbrev main_v171 : Ref sig .tc := ⟨.hbm, 208, rfl⟩
abbrev main_v172 : Ref sig .tc := ⟨.hbm, 209, rfl⟩
abbrev main_cst_31 : Ref sig .tc := ⟨.hbm, 210, rfl⟩
abbrev main_v173 : Ref sig .tc := ⟨.hbm, 211, rfl⟩
abbrev main_v174 : Ref sig .tc := ⟨.hbm, 212, rfl⟩
abbrev main_v175 : Ref sig .tc := ⟨.hbm, 213, rfl⟩
abbrev main_v176 : Ref sig .tc := ⟨.hbm, 214, rfl⟩
abbrev main_v177 : Ref sig .tc := ⟨.hbm, 215, rfl⟩
abbrev main_v178 : Ref sig .tc := ⟨.hbm, 216, rfl⟩
abbrev main_v179 : Ref sig .tc := ⟨.hbm, 217, rfl⟩
abbrev main_cst_32 : Ref sig .tc := ⟨.hbm, 218, rfl⟩
abbrev main_v180 : Ref sig .tc := ⟨.hbm, 219, rfl⟩
abbrev main_v181 : Ref sig .tc := ⟨.hbm, 220, rfl⟩
abbrev main_v182 : Ref sig .tc := ⟨.hbm, 221, rfl⟩
abbrev main_v183 : Ref sig .tc := ⟨.hbm, 222, rfl⟩
abbrev main_v184 : Ref sig .tc := ⟨.hbm, 223, rfl⟩
abbrev main_v185 : Ref sig .tc := ⟨.hbm, 224, rfl⟩
abbrev main_v186 : Ref sig .tc := ⟨.hbm, 225, rfl⟩
abbrev main_cst_33 : Ref sig .tc := ⟨.hbm, 226, rfl⟩
abbrev main_v187 : Ref sig .tc := ⟨.hbm, 227, rfl⟩
abbrev main_v188 : Ref sig .tc := ⟨.hbm, 228, rfl⟩
abbrev main_v189 : Ref sig .tc := ⟨.hbm, 229, rfl⟩
abbrev main_v190 : Ref sig .tc := ⟨.hbm, 230, rfl⟩
abbrev main_v191 : Ref sig .tc := ⟨.hbm, 231, rfl⟩
abbrev main_cst_34 : Ref sig .tc := ⟨.hbm, 232, rfl⟩
abbrev main_v192 : Ref sig .tc := ⟨.hbm, 233, rfl⟩
abbrev main_v193 : Ref sig .tc := ⟨.hbm, 234, rfl⟩
abbrev main_v194 : Ref sig .tc := ⟨.hbm, 235, rfl⟩
abbrev main_v195 : Ref sig .tc := ⟨.hbm, 236, rfl⟩
abbrev main_cst_35 : Ref sig .tc := ⟨.hbm, 237, rfl⟩
abbrev main_v196 : Ref sig .tc := ⟨.hbm, 238, rfl⟩
abbrev main_cst_36 : Ref sig .tc := ⟨.hbm, 239, rfl⟩
abbrev main_v197 : Ref sig .tc := ⟨.hbm, 240, rfl⟩
abbrev main_v198 : Ref sig .tc := ⟨.hbm, 241, rfl⟩
abbrev main_v199 : Ref sig .tc := ⟨.hbm, 242, rfl⟩
abbrev main_v200 : Ref sig .tc := ⟨.hbm, 243, rfl⟩
abbrev main_cst_37 : Ref sig .tc := ⟨.hbm, 244, rfl⟩
abbrev main_v201 : Ref sig .tc := ⟨.hbm, 245, rfl⟩
abbrev main_cst_38 : Ref sig .tc := ⟨.hbm, 246, rfl⟩
abbrev main_v202 : Ref sig .tc := ⟨.hbm, 247, rfl⟩
abbrev main_v203 : Ref sig .tc := ⟨.hbm, 248, rfl⟩
abbrev main_v204 : Ref sig .tc := ⟨.hbm, 249, rfl⟩
abbrev main_v205 : Ref sig .tc := ⟨.hbm, 250, rfl⟩
abbrev main_cst_39 : Ref sig .tc := ⟨.hbm, 251, rfl⟩
abbrev main_v206 : Ref sig .tc := ⟨.hbm, 252, rfl⟩
abbrev main_v207 : Ref sig .tc := ⟨.hbm, 253, rfl⟩
abbrev main_cst_40 : Ref sig .tc := ⟨.hbm, 254, rfl⟩
abbrev main_v208 : Ref sig .tc := ⟨.hbm, 255, rfl⟩
abbrev main_v209 : Ref sig .tc := ⟨.hbm, 256, rfl⟩
abbrev main_v210 : Ref sig .tc := ⟨.hbm, 257, rfl⟩
abbrev main_v211 : Ref sig .tc := ⟨.hbm, 258, rfl⟩
abbrev main_v212 : Ref sig .tc := ⟨.hbm, 259, rfl⟩
abbrev main_v213 : Ref sig .tc := ⟨.hbm, 260, rfl⟩
abbrev main_v214 : Ref sig .tc := ⟨.hbm, 261, rfl⟩
abbrev main_v215 : Ref sig .tc := ⟨.hbm, 262, rfl⟩
abbrev main_v216 : Ref sig .tc := ⟨.hbm, 263, rfl⟩
abbrev main_v217 : Ref sig .tc := ⟨.hbm, 264, rfl⟩
abbrev main_v218 : Ref sig .tc := ⟨.hbm, 265, rfl⟩
abbrev main_v219 : Ref sig .tc := ⟨.hbm, 266, rfl⟩
abbrev main_cst_41 : Ref sig .tc := ⟨.hbm, 267, rfl⟩
abbrev main_v220 : Ref sig .tc := ⟨.hbm, 268, rfl⟩
abbrev main_v221 : Ref sig .tc := ⟨.hbm, 269, rfl⟩
abbrev main_v222 : Ref sig .tc := ⟨.hbm, 270, rfl⟩
abbrev main_v223 : Ref sig .tc := ⟨.hbm, 271, rfl⟩
abbrev main_v224 : Ref sig .tc := ⟨.hbm, 272, rfl⟩
abbrev main_v225 : Ref sig .tc := ⟨.hbm, 273, rfl⟩
abbrev main_v226 : Ref sig .tc := ⟨.hbm, 274, rfl⟩
abbrev main_cst_42 : Ref sig .tc := ⟨.hbm, 275, rfl⟩
abbrev main_v227 : Ref sig .tc := ⟨.hbm, 276, rfl⟩
abbrev main_v228 : Ref sig .tc := ⟨.hbm, 277, rfl⟩
abbrev main_v229 : Ref sig .tc := ⟨.hbm, 278, rfl⟩
abbrev main_v230 : Ref sig .tc := ⟨.hbm, 279, rfl⟩
abbrev main_v231 : Ref sig .tc := ⟨.hbm, 280, rfl⟩
abbrev main_v232 : Ref sig .tc := ⟨.hbm, 281, rfl⟩
abbrev main_v233 : Ref sig .tc := ⟨.hbm, 282, rfl⟩
abbrev main_cst_43 : Ref sig .tc := ⟨.hbm, 283, rfl⟩
abbrev main_v234 : Ref sig .tc := ⟨.hbm, 284, rfl⟩
abbrev main_v235 : Ref sig .tc := ⟨.hbm, 285, rfl⟩
abbrev main_v236 : Ref sig .tc := ⟨.hbm, 286, rfl⟩
abbrev main_v237 : Ref sig .tc := ⟨.hbm, 287, rfl⟩
abbrev main_v238 : Ref sig .tc := ⟨.hbm, 288, rfl⟩
abbrev main_v239 : Ref sig .tc := ⟨.hbm, 289, rfl⟩
abbrev main_v240 : Ref sig .tc := ⟨.hbm, 290, rfl⟩
abbrev main_v241 : Ref sig .tc := ⟨.hbm, 291, rfl⟩
abbrev main_cst_44 : Ref sig .tc := ⟨.hbm, 292, rfl⟩
abbrev main_v242 : Ref sig .tc := ⟨.hbm, 293, rfl⟩
abbrev main_v243 : Ref sig .tc := ⟨.hbm, 294, rfl⟩
abbrev main_cst_45 : Ref sig .tc := ⟨.hbm, 295, rfl⟩
abbrev main_v244 : Ref sig .tc := ⟨.hbm, 296, rfl⟩
abbrev main_v245 : Ref sig .tc := ⟨.hbm, 297, rfl⟩
abbrev main_v246 : Ref sig .tc := ⟨.hbm, 298, rfl⟩
abbrev main_cst_46 : Ref sig .tc := ⟨.hbm, 299, rfl⟩
abbrev main_v247 : Ref sig .tc := ⟨.hbm, 300, rfl⟩
abbrev main_v248 : Ref sig .tc := ⟨.hbm, 301, rfl⟩
abbrev main_v249 : Ref sig .tc := ⟨.hbm, 302, rfl⟩
abbrev main_cst_47 : Ref sig .tc := ⟨.hbm, 303, rfl⟩
abbrev main_v250 : Ref sig .tc := ⟨.hbm, 304, rfl⟩
abbrev main_v251 : Ref sig .tc := ⟨.hbm, 305, rfl⟩
abbrev main_v252 : Ref sig .tc := ⟨.hbm, 306, rfl⟩
abbrev main_v253 : Ref sig .tc := ⟨.hbm, 307, rfl⟩
abbrev main_v254 : Ref sig .tc := ⟨.hbm, 308, rfl⟩
abbrev main_v255 : Ref sig .tc := ⟨.hbm, 309, rfl⟩
abbrev main_v256 : Ref sig .tc := ⟨.hbm, 310, rfl⟩
abbrev main_v257 : Ref sig .tc := ⟨.hbm, 311, rfl⟩
abbrev main_cst_48 : Ref sig .tc := ⟨.hbm, 312, rfl⟩
abbrev main_v258 : Ref sig .tc := ⟨.hbm, 313, rfl⟩
abbrev main_v259 : Ref sig .tc := ⟨.hbm, 314, rfl⟩
abbrev main_v260 : Ref sig .tc := ⟨.hbm, 315, rfl⟩
abbrev main_v261 : Ref sig .tc := ⟨.hbm, 316, rfl⟩
abbrev main_v262 : Ref sig .tc := ⟨.hbm, 317, rfl⟩
abbrev main_v263 : Ref sig .tc := ⟨.hbm, 318, rfl⟩
abbrev main_v264 : Ref sig .tc := ⟨.hbm, 319, rfl⟩
abbrev main_cst_49 : Ref sig .tc := ⟨.hbm, 320, rfl⟩
abbrev main_v265 : Ref sig .tc := ⟨.hbm, 321, rfl⟩
abbrev main_v266 : Ref sig .tc := ⟨.hbm, 322, rfl⟩
abbrev main_v267 : Ref sig .tc := ⟨.hbm, 323, rfl⟩
abbrev main_v268 : Ref sig .tc := ⟨.hbm, 324, rfl⟩
abbrev main_v269 : Ref sig .tc := ⟨.hbm, 325, rfl⟩
abbrev main_v270 : Ref sig .tc := ⟨.hbm, 326, rfl⟩
abbrev main_v271 : Ref sig .tc := ⟨.hbm, 327, rfl⟩
abbrev main_cst_50 : Ref sig .tc := ⟨.hbm, 328, rfl⟩
abbrev main_v272 : Ref sig .tc := ⟨.hbm, 329, rfl⟩
abbrev main_v273 : Ref sig .tc := ⟨.hbm, 330, rfl⟩
abbrev main_v274 : Ref sig .tc := ⟨.hbm, 331, rfl⟩
abbrev main_v275 : Ref sig .tc := ⟨.hbm, 332, rfl⟩
abbrev main_v276 : Ref sig .tc := ⟨.hbm, 333, rfl⟩
abbrev main_cst_51 : Ref sig .tc := ⟨.hbm, 334, rfl⟩
abbrev main_v277 : Ref sig .tc := ⟨.hbm, 335, rfl⟩
abbrev main_v278 : Ref sig .tc := ⟨.hbm, 336, rfl⟩
abbrev main_v279 : Ref sig .tc := ⟨.hbm, 337, rfl⟩
abbrev main_v280 : Ref sig .tc := ⟨.hbm, 338, rfl⟩
abbrev main_cst_52 : Ref sig .tc := ⟨.hbm, 339, rfl⟩
abbrev main_v281 : Ref sig .tc := ⟨.hbm, 340, rfl⟩
abbrev main_cst_53 : Ref sig .tc := ⟨.hbm, 341, rfl⟩
abbrev main_v282 : Ref sig .tc := ⟨.hbm, 342, rfl⟩
abbrev main_v283 : Ref sig .tc := ⟨.hbm, 343, rfl⟩
abbrev main_v284 : Ref sig .tc := ⟨.hbm, 344, rfl⟩
abbrev main_v285 : Ref sig .tc := ⟨.hbm, 345, rfl⟩
abbrev main_cst_54 : Ref sig .tc := ⟨.hbm, 346, rfl⟩
abbrev main_v286 : Ref sig .tc := ⟨.hbm, 347, rfl⟩
abbrev main_cst_55 : Ref sig .tc := ⟨.hbm, 348, rfl⟩
abbrev main_v287 : Ref sig .tc := ⟨.hbm, 349, rfl⟩
abbrev main_v288 : Ref sig .tc := ⟨.hbm, 350, rfl⟩
abbrev main_v289 : Ref sig .tc := ⟨.hbm, 351, rfl⟩
abbrev main_v290 : Ref sig .tc := ⟨.hbm, 352, rfl⟩
abbrev main_cst_56 : Ref sig .tc := ⟨.hbm, 353, rfl⟩
abbrev main_v291 : Ref sig .tc := ⟨.hbm, 354, rfl⟩
abbrev main_v292 : Ref sig .tc := ⟨.hbm, 355, rfl⟩
abbrev main_cst_57 : Ref sig .tc := ⟨.hbm, 356, rfl⟩
abbrev main_v293 : Ref sig .tc := ⟨.hbm, 357, rfl⟩
abbrev main_v294 : Ref sig .tc := ⟨.hbm, 358, rfl⟩
abbrev main_v295 : Ref sig .tc := ⟨.hbm, 359, rfl⟩
abbrev main_v296 : Ref sig .tc := ⟨.hbm, 360, rfl⟩
abbrev main_v297 : Ref sig .tc := ⟨.hbm, 361, rfl⟩
abbrev main_v298 : Ref sig .tc := ⟨.hbm, 362, rfl⟩

abbrev nD : Nat := 1
abbrev τ : Topo := Topo.v7x

variable {F : FTy → Type} [FloatOps F]
-- ==== Proof.Rows.lean ====
/-
One row at a time: the root-mean-square normalisation and its gradient over extended reals, and the arithmetic the kernel does otherwise than its reference.
-/
module

public import Idealize.ShloMosaic.Lib.Pointwise
public import Mathlib.Data.EReal.Operations

@[expose] public section

noncomputable section

open Idealize.ShloMosaic
open scoped BigOperators

namespace Cert.Rows

/-- The mean of a row of 1024 numbers. -/
def mean (v : Fin 1024 → EReal) : EReal := Ideal.div (∑ k : Fin 1024, v k) (Ideal.ofBits .f32 0x44800000#32)

/-- One over the root mean square of a row; the small constant is the kernel's. -/
def rms (v : Fin 1024 → EReal) : EReal := Ideal.rsqrt (mean (fun k => v k * v k) + Ideal.ofBits .f32 0x358637BD#32)

/-- The gradient through `v ↦ v * rms v`, of a row, from the gradient `d` of the result. -/
def normGrad (v d : Fin 1024 → EReal) (j : Fin 1024) : EReal :=
  rms v * (d j - v j * rms v * mean fun k => d k * (v k * rms v))

theorem c1024 : Ideal.ofBits .f32 0x44800000#32 = ((1024 : ℝ) : EReal) := by
  simp [Ideal.ofBits, Ideal.ieee, -EReal.coe_mul]; norm_num

theorem c_1024 : Ideal.ofBits .f32 0x3A800000#32 = ((1 / 1024 : ℝ) : EReal) := by
  simp [Ideal.ofBits, Ideal.ieee, -EReal.coe_mul]; norm_num

theorem c_2048 : Ideal.ofBits .f32 0x3A000000#32 = ((1 / 2048 : ℝ) : EReal) := by
  simp [Ideal.ofBits, Ideal.ieee, -EReal.coe_mul]; norm_num

theorem c_half : Ideal.ofBits .f32 0x3F000000#32 = ((1 / 2 : ℝ) : EReal) := by
  simp [Ideal.ofBits, Ideal.ieee, -EReal.coe_mul]; norm_num

/-- Dividing by 1024 is multiplying by its reciprocal. -/
theorem div1024 (x : EReal) : Ideal.div x (Ideal.ofBits .f32 0x44800000#32) = x * Ideal.ofBits .f32 0x3A800000#32 := by
  rw [c1024, c_1024, Ideal.div_coe (by norm_num)]

/-- A nonnegative number times a sum is the sum of the products, whatever the terms. -/
theorem sum_mul {n : ℕ} (f : Fin n → EReal) (c : ℝ) (hc : 0 ≤ c) : (∑ k, f k) * (c : EReal) = ∑ k, f k * (c : EReal) := by
  induction n with
  | zero => simp
  | succ n ih => rw [Fin.sum_univ_succ, Fin.sum_univ_succ, EReal.right_distrib_of_nonneg_of_ne_top (EReal.coe_nonneg.mpr hc) (EReal.coe_ne_top c), ih]

/-- Half the sum of the means of the rows: the sums of the rows, each times 1/2048. -/
theorem half_means {n : ℕ} (f : Fin n → EReal) :
    Ideal.ofBits .f32 0x3F000000#32 * ∑ r, Ideal.div (f r) (Ideal.ofBits .f32 0x44800000#32)
      = ∑ r, f r * Ideal.ofBits .f32 0x3A000000#32 := by
  rw [c_half, c_2048, mul_comm, sum_mul _ _ (by norm_num)]
  refine Finset.sum_congr rfl fun r _ => ?_
  rw [div1024, c_1024, mul_assoc, ← EReal.coe_mul]
  norm_num

/-- The same scaling of a sum of sums. -/
theorem sum_scaled {n : ℕ} (f : Fin n → EReal) :
    (∑ r, f r) * Ideal.ofBits .f32 0x3A000000#32 = ∑ r, f r * Ideal.ofBits .f32 0x3A000000#32 := by
  rw [c_2048, sum_mul _ _ (by norm_num)]

end Cert.Rows

end
-- ==== Proof.LossRows.lean ====
/-
What the loss call computes, row by row, of the arrays it is given.
-/
module

public import proofs.«01_k».proof.Proof.Rows
public import proofs.«01_k».proof.LossIdeal

@[expose] public section

set_option maxRecDepth 16384

noncomputable section

open Idealize.ShloMosaic Idealize.ShloMosaic.TcCoe Idealize.SL.Sem
open scoped BigOperators

namespace Cert.Rows

/-- The row the last product gives, of the squares of the positive parts of `u`. -/
def down (u : Fin 4096 → EReal) (w : Fin 4096 → Fin 1024 → EReal) (j : Fin 1024) : EReal :=
  ∑ k : Fin 4096, max (u k) 0 * max (u k) 0 * w k j

/-- The error of a row of the model's output. -/
def err (u : Fin 4096 → EReal) (w : Fin 4096 → Fin 1024 → EReal) (x p t : Fin 1024 → EReal) (j : Fin 1024) : EReal :=
  x j + down u w j * rms (down u w) * p j - t j

/-- The gradient of the output's row: the error over 1024. -/
def dOut (u : Fin 4096 → EReal) (w : Fin 4096 → Fin 1024 → EReal) (x p t : Fin 1024 → EReal) (j : Fin 1024) : EReal :=
  err u w x p t j * Ideal.ofBits .f32 0x3A800000#32

end Cert.Rows

namespace Cert.LossIdeal.Value

open Cert.LossIdeal

section
variable (a0 : FVec Ideal S2048x4096 .f32) (a1 : FVec Ideal S4096x1024 .bf16) (a2 : FVec Ideal S2048x1024 .f32)
  (a3 : FVec Ideal S1x1024 .f32) (a4 : FVec Ideal S2048x1024 .f32)

/-- The gradient of the output, all rows. -/
def dOut : FVec Ideal S2048x1024 .f32 := fun i =>
  Rows.dOut (fun k => a0 (ix2 (i 0) k)) (fun k j => a1 (ix2 k j)) (fun j => a2 (ix2 (i 0) j)) (fun j => a3 (ix2 0 j)) (fun j => a4 (ix2 (i 0) j)) (i 1)

/-- The gradient of the product's rows. -/
def dDown : FVec Ideal S2048x1024 .bf16 := fun i =>
  Rows.normGrad (Rows.down (fun k => a0 (ix2 (i 0) k)) (fun k j => a1 (ix2 k j)))
    (fun l => Rows.dOut (fun k => a0 (ix2 (i 0) k)) (fun k j => a1 (ix2 k j)) (fun j => a2 (ix2 (i 0) j)) (fun j => a3 (ix2 0 j)) (fun j => a4 (ix2 (i 0) j)) l
      * a3 (ix2 0 l)) (i 1)

/-- The loss, in every lane. -/
def loss : FVec Ideal S1x128 .f32 := fun _ =>
  ∑ r : Fin 2048, (∑ j : Fin 1024,
    Rows.err (fun k => a0 (ix2 r k)) (fun k j => a1 (ix2 k j)) (fun j => a2 (ix2 r j)) (fun j => a3 (ix2 0 j)) (fun j => a4 (ix2 r j)) j
    * Rows.err (fun k => a0 (ix2 r k)) (fun k j => a1 (ix2 k j)) (fun j => a2 (ix2 r j)) (fun j => a3 (ix2 0 j)) (fun j => a4 (ix2 r j)) j)
    * Ideal.ofBits .f32 0x3A000000#32

/-- The gradient of the normalisation's weights. -/
def dNorm : FVec Ideal S1x1024 .f32 := fun i =>
  ∑ r : Fin 2048, Rows.dOut (fun k => a0 (ix2 r k)) (fun k j => a1 (ix2 k j)) (fun j => a2 (ix2 r j)) (fun j => a3 (ix2 0 j)) (fun j => a4 (ix2 r j)) (i 1)
    * (Rows.down (fun k => a0 (ix2 r k)) (fun k j => a1 (ix2 k j)) (i 1) * Rows.rms (Rows.down (fun k => a0 (ix2 r k)) (fun k j => a1 (ix2 k j))))
end

end Cert.LossIdeal.Value

end
-- ==== Proof.LossKernel.lean ====
/-
The arrays the loss kernel leaves: the two per-token ones block by block, the two summed ones over its eight blocks of 256 tokens.
-/
module

public import proofs.«01_k».proof.Proof.LossRows
public import proofs.«01_k».proof.Proof.Gen.LossIdeal.Value
public import Idealize.ShloMosaic.Lib.Pipeline.ValueKit

@[expose] public section

set_option maxRecDepth 16384

noncomputable section

open Idealize.ShloMosaic Idealize.ShloMosaic.TcCoe Idealize.SL.Sem
open scoped BigOperators

namespace Cert.LossIdeal.Value

open Cert.LossIdeal Cert.LossIdeal.Gen

variable (m : (ℓ : Loc nD τ sig) → Buf (Elt Ideal) ℓ)

theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![t.val, 0] ∧ win0_6.index t = ![t.val, 0]
    ∧ win0_7.index t = ![0, 0] ∧ win0_8.index t = ![0, 0] :=
  (by decide +kernel : ∀ t : Fin grid0.N, _)

theorem final5 (c : Dev nD) : (dats m 0 c).arrAt 5 (cfgs 0).N = dDown (m ((c : Thread nD τ).loc main_arg0))
    (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t _ y => ?_
  blk_simp
  rw [after0_5]
  by_cases h : t.val % 8 = 0
  · rw [outsAt0_A m c t h]; frame_out
    pointwise [k0_pay4, k0_pay2, k0_pay10, k0_pay9, k0_pay8, k0_pay7, dDown, Rows.dOut, Rows.normGrad, Rows.err, Rows.down, Rows.rms, Rows.mean]
    blk_point [iblk, V, idx t]
  · rw [outsAt0_B m c t h]; frame_out
    pointwise [k0_pay4, k0_pay2, k0_pay10, k0_pay9, k0_pay8, k0_pay7, dDown, Rows.dOut, Rows.normGrad, Rows.err, Rows.down, Rows.rms, Rows.mean]
    blk_point [iblk, V, idx t]

theorem final6 (c : Dev nD) : (dats m 0 c).arrAt 6 (cfgs 0).N = dOut (m ((c : Thread nD τ).loc main_arg0))
    (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t _ y => ?_
  blk_simp
  rw [after0_6]
  by_cases h : t.val % 8 = 0
  · rw [outsAt0_A m c t h]; frame_out
    pointwise [k0_pay2, k0_pay10, k0_pay9, k0_pay8, k0_pay7, dOut, Rows.dOut, Rows.err, Rows.down, Rows.rms, Rows.mean]
    blk_point [iblk, V, idx t]
  · rw [outsAt0_B m c t h]; frame_out
    pointwise [k0_pay2, k0_pay10, k0_pay9, k0_pay8, k0_pay7, dOut, Rows.dOut, Rows.err, Rows.down, Rows.rms, Rows.mean]
    blk_point [iblk, V, idx t]

theorem zero7 (j : S1x128.Idx) : k0_pay5 (F := Ideal) j = 0 := by pointwise [k0_pay5]
theorem zero8 (j : S1x1024.Idx) : k0_pay6 (F := Ideal) j = 0 := by pointwise [k0_pay6]

theorem pay7 (x0 : FVec Ideal S256x4096 .f32) (x1 : FVec Ideal S4096x1024 .bf16) (x2 : FVec Ideal S256x1024 .f32)
    (x3 : FVec Ideal S1x1024 .f32) (x4 : FVec Ideal S256x1024 .f32) (acc : FVec Ideal S1x128 .f32) (j : S1x128.Idx) :
    k0_pay1 (k0_pay11 x0 x1 x3 x2 x4) (k0_pay12 acc) j = acc j + ∑ a : Fin 256, (∑ b : Fin 1024,
      Rows.err (fun k => x0 (ix2 a k)) (fun k j => x1 (ix2 k j)) (fun j => x2 (ix2 a j)) (fun j => x3 (ix2 0 j)) (fun j => x4 (ix2 a j)) b
      * Rows.err (fun k => x0 (ix2 a k)) (fun k j => x1 (ix2 k j)) (fun j => x2 (ix2 a j)) (fun j => x3 (ix2 0 j)) (fun j => x4 (ix2 a j)) b)
      * Ideal.ofBits .f32 0x3A000000#32 := by
  rw [← Rows.sum_scaled]
  pointwise [k0_pay1, k0_pay11, k0_pay12, k0_pay10, k0_pay9, k0_pay8, k0_pay7, Rows.err, Rows.down, Rows.rms, Rows.mean]

theorem pay8 (x0 : FVec Ideal S256x4096 .f32) (x1 : FVec Ideal S4096x1024 .bf16) (x2 : FVec Ideal S256x1024 .f32)
    (x3 : FVec Ideal S1x1024 .f32) (x4 : FVec Ideal S256x1024 .f32) (acc : FVec Ideal S1x1024 .f32) (j : S1x1024.Idx) :
    k0_pay3 (k0_pay9 x0 x1) (k0_pay10 x0 x1 x3 x2 x4) acc j = acc j + ∑ a : Fin 256,
      Rows.dOut (fun k => x0 (ix2 a k)) (fun k j => x1 (ix2 k j)) (fun j => x2 (ix2 a j)) (fun j => x3 (ix2 0 j)) (fun j => x4 (ix2 a j)) (j 1)
      * (Rows.down (fun k => x0 (ix2 a k)) (fun k j => x1 (ix2 k j)) (j 1) * Rows.rms (Rows.down (fun k => x0 (ix2 a k)) (fun k j => x1 (ix2 k j)))) := by
  pointwise [k0_pay3, k0_pay2, k0_pay10, k0_pay9, k0_pay8, k0_pay7, Rows.dOut, Rows.err, Rows.down, Rows.rms, Rows.mean]

theorem final7 (c : Dev nD) : (dats m 0 c).arrAt 7 (cfgs 0).N = loss (m ((c : Thread nD τ).loc main_arg0))
    (m ((c : Thread nD τ).loc main_arg1)) (m ((c : Thread nD τ).loc main_arg2)) (m ((c : Thread nD τ).loc main_arg3)) (m ((c : Thread nD τ).loc main_arg4)) := by
  refine (dats m 0 c).arrAt_eq_of_after_last 7 t0_7 (by decide +kernel) _ fun j => ?_
  blk_simp
  rw [after0_7, Pipeline.eq_sum_fin_of_reset_step_apply_last (fun n h => (outsAt0 m c n h).2.2.1) 8 (fun _ => 0) _
    (fun t h j => by rw [outsAt0_A m c t h]; frame_out; rw [pay7, zero7])
    (fun t h j => by rw [outsAt0_B m c t h]; frame_out; rw [pay7])
    (le_of_eq N_0) t0_7 rfl j, zero_add]
  unfold loss
  refine Fin.sum_mul_add_congr fun t k hl => ?_
  pointwise [Rows.err, Rows.down, Rows.rms, Rows.mean]
  blk_point [iblk, V, idx t]

theorem final8 (c : Dev nD) : (dats m 0 c).arrAt 8 (cfgs 0).N = dNorm (m ((c : Thread nD τ).loc main_arg0))
    (m ((c : Thread nD τ).loc main_arg1)) (m ((c : Thread nD τ).loc main_arg2)) (m ((c : Thread nD τ).loc main_arg3)) (m ((c : Thread nD τ).loc main_arg4)) := by
  refine (dats m 0 c).arrAt_eq_of_after_last 8 t0_7 (by decide +kernel) _ fun j => ?_
  blk_simp
  rw [after0_8, Pipeline.eq_sum_fin_of_reset_step_apply_last (fun n h => (outsAt0 m c n h).2.2.2) 8 (fun _ => 0) _
    (fun t h j => by rw [outsAt0_A m c t h]; frame_out; rw [pay8, zero8])
    (fun t h j => by rw [outsAt0_B m c t h]; frame_out; rw [pay8])
    (le_of_eq N_0) t0_7 rfl j, zero_add]
  unfold dNorm
  refine Fin.sum_mul_add_congr fun t k hl => ?_
  pointwise [Rows.dOut, Rows.err, Rows.down, Rows.rms, Rows.mean]
  blk_point [iblk, V, idx t]

end Cert.LossIdeal.Value
end
-- ==== Proof.LossReference.lean ====
/-
The loss reference's results are the same functions of the same arrays.
-/
module

public import proofs.«01_k».proof.Proof.LossRows
public import proofs.«01_k».proof.Proof.Gen.LossReferenceIdeal.Run
public import Idealize.ShloMosaic.Lib.Pointwise

@[expose] public section

set_option maxRecDepth 16384

noncomputable section

open Idealize.ShloMosaic Idealize.ShloMosaic.TcCoe Idealize.SL.Sem
open scoped BigOperators

namespace Cert.LossReferenceIdeal.Value

open Cert.LossReferenceIdeal
open Cert.LossIdeal.Value (dDown dOut loss dNorm)

variable (m : (ℓ : Loc nD τ sig) → Buf (Elt Ideal) ℓ) (ρ : Dev nD → PrngReg)

/-- Every run of the reference ends with its four results and leaves its arguments. -/
theorem run_rows : θ_run defs (onTc (τ := τ) (main (F := Ideal))) ⟨m, fun _ => 0, ρ⟩ fun r => ∀ c : Dev nD,
    r.2.mem ((c.tc : Thread nD τ).loc main_v56) = dDown (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
    ∧ r.2.mem ((c.tc : Thread nD τ).loc main_v25) = dOut (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
    ∧ r.2.mem ((c.tc : Thread nD τ).loc main_v57) = loss (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
    ∧ r.2.mem ((c.tc : Thread nD τ).loc main_v60) = dNorm (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4) := by
  refine (θ_run defs _ _).mono (fun r h c => ?_) (run (F := Ideal) m ρ)
  obtain ⟨h0, h1, h2, h3, k⟩ := h c
  refine ⟨h0.trans (funext fun j => ?_), h1.trans (funext fun j => ?_), h2.trans (funext fun j => ?_), h3.trans (funext fun j => ?_), k⟩
  · pointwise [res_main_v56, dDown, Rows.dOut, Rows.normGrad, Rows.err, Rows.down, Rows.rms, Rows.mean]
    simp only [Rows.div1024]
  · pointwise [dOut, Rows.dOut, Rows.err, Rows.down, Rows.rms, Rows.mean]
    simp only [Rows.div1024]
  · unfold loss
    rw [← Rows.half_means]
    pointwise [res_main_v57, Rows.err, Rows.down, Rows.rms, Rows.mean]
  · pointwise [dNorm, Rows.dOut, Rows.err, Rows.down, Rows.rms, Rows.mean]
    simp only [Rows.div1024]

end Cert.LossReferenceIdeal.Value

end
-- ==== Proof.GradXRows.lean ====
/-
What the call at the way into the block computes, row by row, of the arrays it is given.
-/
module

public import proofs.«01_k».proof.Proof.Rows
public import proofs.«01_k».proof.GradXIdeal

@[expose] public section

set_option maxRecDepth 16384

noncomputable section

open Idealize.ShloMosaic Idealize.ShloMosaic.TcCoe Idealize.SL.Sem
open scoped BigOperators

namespace Cert.Rows

/-- A row of 3712 made of seven rows of 512 and one of 128, side by side. -/
def parts (p0 p1 p2 p3 p4 p5 p6 : Fin 512 → EReal) (p7 : Fin 128 → EReal) (k : Fin 3712) : EReal :=
  if h0 : (k : ℕ) < 512 then p0 ⟨k, h0⟩
  else if h1 : (k : ℕ) - 512 < 512 then p1 ⟨k - 512, h1⟩
  else if h2 : (k : ℕ) - 512 - 512 < 512 then p2 ⟨k - 512 - 512, h2⟩
  else if h3 : (k : ℕ) - 512 - 512 - 512 < 512 then p3 ⟨k - 512 - 512 - 512, h3⟩
  else if h4 : (k : ℕ) - 512 - 512 - 512 - 512 < 512 then p4 ⟨k - 512 - 512 - 512 - 512, h4⟩
  else if h5 : (k : ℕ) - 512 - 512 - 512 - 512 - 512 < 512 then p5 ⟨k - 512 - 512 - 512 - 512 - 512, h5⟩
  else if h6 : (k : ℕ) - 512 - 512 - 512 - 512 - 512 - 512 < 512 then p6 ⟨k - 512 - 512 - 512 - 512 - 512 - 512, h6⟩
  else p7 ⟨k - 512 - 512 - 512 - 512 - 512 - 512 - 512, by omega⟩

variable (p0 p1 p2 p3 p4 p5 p6 : Fin 512 → EReal) (p7 : Fin 128 → EReal)

theorem parts_0 (k : Fin 3712) (x : Fin 512) (e : (k : ℕ) = x) : parts p0 p1 p2 p3 p4 p5 p6 p7 k = p0 x := by
  unfold parts; rw [dif_pos (by omega)]; exact congrArg p0 (Fin.ext (by show (k : ℕ) = _; omega))

theorem parts_1 (k : Fin 3712) (x : Fin 512) (e : (k : ℕ) = 512 + x) : parts p0 p1 p2 p3 p4 p5 p6 p7 k = p1 x := by
  unfold parts; rw [dif_neg (by omega)]; rw [dif_pos (by omega)]; exact congrArg p1 (Fin.ext (by show (k : ℕ) - 512 = _; omega))

theorem parts_2 (k : Fin 3712) (x : Fin 512) (e : (k : ℕ) = 1024 + x) : parts p0 p1 p2 p3 p4 p5 p6 p7 k = p2 x := by
  unfold parts; rw [dif_neg (by omega)]; rw [dif_neg (by omega)]; rw [dif_pos (by omega)]; exact congrArg p2 (Fin.ext (by show (k : ℕ) - 512 - 512 = _; omega))

theorem parts_3 (k : Fin 3712) (x : Fin 512) (e : (k : ℕ) = 1536 + x) : parts p0 p1 p2 p3 p4 p5 p6 p7 k = p3 x := by
  unfold parts; rw [dif_neg (by omega)]; rw [dif_neg (by omega)]; rw [dif_neg (by omega)]; rw [dif_pos (by omega)]; exact congrArg p3 (Fin.ext (by show (k : ℕ) - 512 - 512 - 512 = _; omega))

theorem parts_4 (k : Fin 3712) (x : Fin 512) (e : (k : ℕ) = 2048 + x) : parts p0 p1 p2 p3 p4 p5 p6 p7 k = p4 x := by
  unfold parts; rw [dif_neg (by omega)]; rw [dif_neg (by omega)]; rw [dif_neg (by omega)]; rw [dif_neg (by omega)]; rw [dif_pos (by omega)]; exact congrArg p4 (Fin.ext (by show (k : ℕ) - 512 - 512 - 512 - 512 = _; omega))

theorem parts_5 (k : Fin 3712) (x : Fin 512) (e : (k : ℕ) = 2560 + x) : parts p0 p1 p2 p3 p4 p5 p6 p7 k = p5 x := by
  unfold parts; rw [dif_neg (by omega)]; rw [dif_neg (by omega)]; rw [dif_neg (by omega)]; rw [dif_neg (by omega)]; rw [dif_neg (by omega)]; rw [dif_pos (by omega)]; exact congrArg p5 (Fin.ext (by show (k : ℕ) - 512 - 512 - 512 - 512 - 512 = _; omega))

theorem parts_6 (k : Fin 3712) (x : Fin 512) (e : (k : ℕ) = 3072 + x) : parts p0 p1 p2 p3 p4 p5 p6 p7 k = p6 x := by
  unfold parts; rw [dif_neg (by omega)]; rw [dif_neg (by omega)]; rw [dif_neg (by omega)]; rw [dif_neg (by omega)]; rw [dif_neg (by omega)]; rw [dif_neg (by omega)]; rw [dif_pos (by omega)]; exact congrArg p6 (Fin.ext (by show (k : ℕ) - 512 - 512 - 512 - 512 - 512 - 512 = _; omega))

theorem parts_7 (k : Fin 3712) (x : Fin 128) (e : (k : ℕ) = 3584 + x) : parts p0 p1 p2 p3 p4 p5 p6 p7 k = p7 x := by
  unfold parts; rw [dif_neg (by omega)]; rw [dif_neg (by omega)]; rw [dif_neg (by omega)]; rw [dif_neg (by omega)]; rw [dif_neg (by omega)]; rw [dif_neg (by omega)]; rw [dif_neg (by omega)]; exact congrArg p7 (Fin.ext (by show (k : ℕ) - 512 - 512 - 512 - 512 - 512 - 512 - 512 = _; omega))

/-- The row of gradients of the normalised input, of the row `g` of gradients of the projections. -/
def proj (g : Fin 3712 → EReal) (w : Fin 1024 → Fin 3712 → EReal) (j : Fin 1024) : EReal := ∑ k : Fin 3712, g k * w j k

end Cert.Rows

namespace Cert.GradXIdeal.Value

open Cert.GradXIdeal

variable (a0 a1 a2 a3 a4 a5 a6 : FVec Ideal S2048x512 .f32) (a7 : FVec Ideal S2048x128 .f32)

/-- The gradients of the projections, all rows. -/
def dProj : FVec Ideal S2048x3712 .bf16 := fun i =>
  Rows.parts (fun k => a0 (ix2 (i 0) k)) (fun k => a1 (ix2 (i 0) k)) (fun k => a2 (ix2 (i 0) k)) (fun k => a3 (ix2 (i 0) k))
    (fun k => a4 (ix2 (i 0) k)) (fun k => a5 (ix2 (i 0) k)) (fun k => a6 (ix2 (i 0) k)) (fun k => a7 (ix2 (i 0) k)) (i 1)

variable (g : FVec Ideal S2048x3712 .bf16) (a8 : FVec Ideal S1024x3712 .bf16) (a9 : FVec Ideal S2048x1024 .f32)
  (a10 : FVec Ideal S1x1024 .f32) (a11 : FVec Ideal S2048x1024 .f32)

/-- The gradient of the block's input, all rows, of the gradients `g` of the projections. -/
def dX : FVec Ideal S2048x1024 .f32 := fun i =>
  a11 i + Rows.normGrad (fun j => a9 (ix2 (i 0) j)) (fun l => Rows.proj (fun k => g (ix2 (i 0) k)) (fun j k => a8 (ix2 j k)) l * a10 (ix2 0 l)) (i 1)

/-- The gradient of the weights of the normalisation before the mixing. -/
def dNorm : FVec Ideal S1x1024 .f32 := fun i =>
  ∑ r : Fin 2048, Rows.proj (fun k => g (ix2 r k)) (fun j k => a8 (ix2 j k)) (i 1) * (a9 (ix2 r (i 1)) * Rows.rms fun j => a9 (ix2 r j))

end Cert.GradXIdeal.Value

end
-- ==== Proof.GradXKernel.lean ====
/-
The arrays that kernel leaves: the two per-token ones block by block, the summed one over its eight blocks of 256 tokens.
-/
module

public import proofs.«01_k».proof.Proof.GradXRows
public import proofs.«01_k».proof.Proof.Gen.GradXIdeal.Value
public import Idealize.ShloMosaic.Lib.Pipeline.ValueKit

@[expose] public section

set_option maxRecDepth 16384

noncomputable section

open Idealize.ShloMosaic Idealize.ShloMosaic.TcCoe Idealize.SL.Sem
open scoped BigOperators

namespace Cert.GradXIdeal.Value

open Cert.GradXIdeal Cert.GradXIdeal.Gen

variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] ∧ win0_8.index t = ![0, 0] ∧ win0_9.index t = ![t.val, 0] ∧ win0_10.index t = ![0, 0]
    ∧ win0_11.index t = ![t.val, 0] ∧ win0_12.index t = ![t.val, 0] ∧ win0_13.index t = ![t.val, 0] ∧ win0_14.index t = ![0, 0] :=
  (by decide +kernel : ∀ t : Fin grid0.N, _)

/-- The gradients of the projections, of the arrays of memory `m`. -/
def dP (c : Dev nD) : FVec Ideal S2048x3712 .bf16 :=
  dProj (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))

theorem piece0 (c : Dev nD) (t : Fin cfg0.N) (x : S256x512.Idx) (j : S2048x3712.Idx) (e0 : (j 0 : ℕ) = 256 * t.val + x 0)
    (e1 : (j 1 : ℕ) = x 1) : k0_pay3 (iblk m c 0 t) x = dP m c j := by
  unfold dP dProj
  rw [Rows.parts_0 _ _ _ _ _ _ _ _ (j 1) (x 1) e1]
  pointwise [k0_pay3]
  blk_point [iblk, V, idx t]

theorem piece1 (c : Dev nD) (t : Fin cfg0.N) (x : S256x512.Idx) (j : S2048x3712.Idx) (e0 : (j 0 : ℕ) = 256 * t.val + x 0)
    (e1 : (j 1 : ℕ) = 512 + x 1) : k0_pay4 (iblk m c 1 t) x = dP m c j := by
  unfold dP dProj
  rw [Rows.parts_1 _ _ _ _ _ _ _ _ (j 1) (x 1) e1]
  pointwise [k0_pay4]
  blk_point [iblk, V, idx t]

theorem piece2 (c : Dev nD) (t : Fin cfg0.N) (x : S256x512.Idx) (j : S2048x3712.Idx) (e0 : (j 0 : ℕ) = 256 * t.val + x 0)
    (e1 : (j 1 : ℕ) = 1024 + x 1) : k0_pay5 (iblk m c 2 t) x = dP m c j := by
  unfold dP dProj
  rw [Rows.parts_2 _ _ _ _ _ _ _ _ (j 1) (x 1) e1]
  pointwise [k0_pay5]
  blk_point [iblk, V, idx t]

theorem piece3 (c : Dev nD) (t : Fin cfg0.N) (x : S256x512.Idx) (j : S2048x3712.Idx) (e0 : (j 0 : ℕ) = 256 * t.val + x 0)
    (e1 : (j 1 : ℕ) = 1536 + x 1) : k0_pay6 (iblk m c 3 t) x = dP m c j := by
  unfold dP dProj
  rw [Rows.parts_3 _ _ _ _ _ _ _ _ (j 1) (x 1) e1]
  pointwise [k0_pay6]
  blk_point [iblk, V, idx t]

theorem piece4 (c : Dev nD) (t : Fin cfg0.N) (x : S256x512.Idx) (j : S2048x3712.Idx) (e0 : (j 0 : ℕ) = 256 * t.val + x 0)
    (e1 : (j 1 : ℕ) = 2048 + x 1) : k0_pay7 (iblk m c 4 t) x = dP m c j := by
  unfold dP dProj
  rw [Rows.parts_4 _ _ _ _ _ _ _ _ (j 1) (x 1) e1]
  pointwise [k0_pay7]
  blk_point [iblk, V, idx t]

theorem piece5 (c : Dev nD) (t : Fin cfg0.N) (x : S256x512.Idx) (j : S2048x3712.Idx) (e0 : (j 0 : ℕ) = 256 * t.val + x 0)
    (e1 : (j 1 : ℕ) = 2560 + x 1) : k0_pay8 (iblk m c 5 t) x = dP m c j := by
  unfold dP dProj
  rw [Rows.parts_5 _ _ _ _ _ _ _ _ (j 1) (x 1) e1]
  pointwise [k0_pay8]
  blk_point [iblk, V, idx t]

theorem piece6 (c : Dev nD) (t : Fin cfg0.N) (x : S256x512.Idx) (j : S2048x3712.Idx) (e0 : (j 0 : ℕ) = 256 * t.val + x 0)
    (e1 : (j 1 : ℕ) = 3072 + x 1) : k0_pay9 (iblk m c 6 t) x = dP m c j := by
  unfold dP dProj
  rw [Rows.parts_6 _ _ _ _ _ _ _ _ (j 1) (x 1) e1]
  pointwise [k0_pay9]
  blk_point [iblk, V, idx t]

theorem piece7 (c : Dev nD) (t : Fin cfg0.N) (x : S256x128.Idx) (j : S2048x3712.Idx) (e0 : (j 0 : ℕ) = 256 * t.val + x 0)
    (e1 : (j 1 : ℕ) = 3584 + x 1) : k0_pay10 (iblk m c 7 t) x = dP m c j := by
  unfold dP dProj
  rw [Rows.parts_7 _ _ _ _ _ _ _ _ (j 1) (x 1) e1]
  pointwise [k0_pay10]
  blk_point [iblk, V, idx t]

set_option maxHeartbeats 1600000 in
/-- Every block of window 12 holds the rows of its 256 tokens. -/
theorem final12 (c : Dev nD) : (dats m 0 c).arrAt 12 (cfgs 0).N = dP m c := by
  refine (dats m 0 c).arrAt_eq_of_covers 12 _ (by decide +kernel) fun t _ y => ?_
  blk_simp
  rw [after0_12]
  by_cases q : t.val % 8 = 0
  · rw [outsAt0_A m c t q]; frame_out
    canon_tiles x e using View.cover_of_tiledBy _ ![256, 128] (by sl_kernel_rfl) _
    · exact piece7 m c t x _ (by blk_simp [idx t] <;> omega) (by blk_simp [idx t] <;> omega)
    · exact piece6 m c t x _ (by blk_simp [idx t] <;> omega) (by blk_simp [idx t] <;> omega)
    · exact piece5 m c t x _ (by blk_simp [idx t] <;> omega) (by blk_simp [idx t] <;> omega)
    · exact piece4 m c t x _ (by blk_simp [idx t] <;> omega) (by blk_simp [idx t] <;> omega)
    · exact piece3 m c t x _ (by blk_simp [idx t] <;> omega) (by blk_simp [idx t] <;> omega)
    · exact piece2 m c t x _ (by blk_simp [idx t] <;> omega) (by blk_simp [idx t] <;> omega)
    · exact piece1 m c t x _ (by blk_simp [idx t] <;> omega) (by blk_simp [idx t] <;> omega)
    · exact piece0 m c t x _ (by blk_simp [idx t] <;> omega) (by blk_simp [idx t] <;> omega)
  · rw [outsAt0_B m c t q]; frame_out
    canon_tiles x e using View.cover_of_tiledBy _ ![256, 128] (by sl_kernel_rfl) _
    · exact piece7 m c t x _ (by blk_simp [idx t] <;> omega) (by blk_simp [idx t] <;> omega)
    · exact piece6 m c t x _ (by blk_simp [idx t] <;> omega) (by blk_simp [idx t] <;> omega)
    · exact piece5 m c t x _ (by blk_simp [idx t] <;> omega) (by blk_simp [idx t] <;> omega)
    · exact piece4 m c t x _ (by blk_simp [idx t] <;> omega) (by blk_simp [idx t] <;> omega)
    · exact piece3 m c t x _ (by blk_simp [idx t] <;> omega) (by blk_simp [idx t] <;> omega)
    · exact piece2 m c t x _ (by blk_simp [idx t] <;> omega) (by blk_simp [idx t] <;> omega)
    · exact piece1 m c t x _ (by blk_simp [idx t] <;> omega) (by blk_simp [idx t] <;> omega)
    · exact piece0 m c t x _ (by blk_simp [idx t] <;> omega) (by blk_simp [idx t] <;> omega)

/-- The rows of the gradients of the projections in block `t`. -/
def dPBlk (c : Dev nD) (t : Fin cfg0.N) : FVec Ideal S256x3712 .bf16 := fun y =>
  dP m c (ix2 ⟨256 * t.val + y 0, by have h1 : t.val < 8 := lt_of_lt_of_eq t.isLt N_0; have h2 : (y 0 : ℕ) < 256 := (y 0).isLt; omega⟩ (y 1))

set_option maxHeartbeats 1600000 in
/-- Every block of window 13 holds the rows of its 256 tokens. -/
theorem final13 (c : Dev nD) : (dats m 0 c).arrAt 13 (cfgs 0).N = dX (dP m c) (m ((c : Thread nD τ).loc main_arg8)) (m ((c : Thread nD τ).loc main_arg9)) (m ((c : Thread nD τ).loc main_arg10)) (m ((c : Thread nD τ).loc main_arg11)) := by
  refine (dats m 0 c).arrAt_eq_of_covers 13 _ (by decide +kernel) fun t _ y => ?_
  blk_simp
  rw [after0_13]
  by_cases q : t.val % 8 = 0
  · rw [outsAt0_A m c t q]; frame_out
    generalize D : View.readCov (Val := Elt Ideal) _ _ _ = X
    have E : X = dPBlk m c t := by
      rw [← D, View.readCov_eq_canon']
      funext y
      canon_tiles x e using View.cover_of_tiledBy _ ![256, 128] (by sl_kernel_rfl) _
      · exact piece7 m c t x _ (by have e2 : 0 + 1 * (y 0 : ℕ) = x 0 := e0; show 256 * t.val + (y 0 : ℕ) = _; omega) (by have e2 : 0 + 1 * (y 1 : ℕ) = 3584 + x 1 := e1; show (y 1 : ℕ) = _; omega)
      · exact piece6 m c t x _ (by have e2 : 0 + 1 * (y 0 : ℕ) = x 0 := e0; show 256 * t.val + (y 0 : ℕ) = _; omega) (by have e2 : 0 + 1 * (y 1 : ℕ) = 3072 + x 1 := e1; show (y 1 : ℕ) = _; omega)
      · exact piece5 m c t x _ (by have e2 : 0 + 1 * (y 0 : ℕ) = x 0 := e0; show 256 * t.val + (y 0 : ℕ) = _; omega) (by have e2 : 0 + 1 * (y 1 : ℕ) = 2560 + x 1 := e1; show (y 1 : ℕ) = _; omega)
      · exact piece4 m c t x _ (by have e2 : 0 + 1 * (y 0 : ℕ) = x 0 := e0; show 256 * t.val + (y 0 : ℕ) = _; omega) (by have e2 : 0 + 1 * (y 1 : ℕ) = 2048 + x 1 := e1; show (y 1 : ℕ) = _; omega)
      · exact piece3 m c t x _ (by have e2 : 0 + 1 * (y 0 : ℕ) = x 0 := e0; show 256 * t.val + (y 0 : ℕ) = _; omega) (by have e2 : 0 + 1 * (y 1 : ℕ) = 1536 + x 1 := e1; show (y 1 : ℕ) = _; omega)
      · exact piece2 m c t x _ (by have e2 : 0 + 1 * (y 0 : ℕ) = x 0 := e0; show 256 * t.val + (y 0 : ℕ) = _; omega) (by have e2 : 0 + 1 * (y 1 : ℕ) = 1024 + x 1 := e1; show (y 1 : ℕ) = _; omega)
      · exact piece1 m c t x _ (by have e2 : 0 + 1 * (y 0 : ℕ) = x 0 := e0; show 256 * t.val + (y 0 : ℕ) = _; omega) (by have e2 : 0 + 1 * (y 1 : ℕ) = 512 + x 1 := e1; show (y 1 : ℕ) = _; omega)
      · exact piece0 m c t x _ (by have e2 : 0 + 1 * (y 0 : ℕ) = x 0 := e0; show 256 * t.val + (y 0 : ℕ) = _; omega) (by have e2 : 0 + 1 * (y 1 : ℕ) = x 1 := e1; show (y 1 : ℕ) = _; omega)
    subst E; clear D
    unfold dX dPBlk
    generalize dP m c = g
    pointwise [k0_pay1, k0_pay16, k0_pay15, k0_pay13, k0_pay12, k0_pay11, Rows.proj, Rows.normGrad, Rows.rms, Rows.mean]
    blk_point [iblk, V, idx t]
  · rw [outsAt0_B m c t q]; frame_out
    generalize D : View.readCov (Val := Elt Ideal) _ _ _ = X
    have E : X = dPBlk m c t := by
      rw [← D, View.readCov_eq_canon']
      funext y
      canon_tiles x e using View.cover_of_tiledBy _ ![256, 128] (by sl_kernel_rfl) _
      · exact piece7 m c t x _ (by have e2 : 0 + 1 * (y 0 : ℕ) = x 0 := e0; show 256 * t.val + (y 0 : ℕ) = _; omega) (by have e2 : 0 + 1 * (y 1 : ℕ) = 3584 + x 1 := e1; show (y 1 : ℕ) = _; omega)
      · exact piece6 m c t x _ (by have e2 : 0 + 1 * (y 0 : ℕ) = x 0 := e0; show 256 * t.val + (y 0 : ℕ) = _; omega) (by have e2 : 0 + 1 * (y 1 : ℕ) = 3072 + x 1 := e1; show (y 1 : ℕ) = _; omega)
      · exact piece5 m c t x _ (by have e2 : 0 + 1 * (y 0 : ℕ) = x 0 := e0; show 256 * t.val + (y 0 : ℕ) = _; omega) (by have e2 : 0 + 1 * (y 1 : ℕ) = 2560 + x 1 := e1; show (y 1 : ℕ) = _; omega)
      · exact piece4 m c t x _ (by have e2 : 0 + 1 * (y 0 : ℕ) = x 0 := e0; show 256 * t.val + (y 0 : ℕ) = _; omega) (by have e2 : 0 + 1 * (y 1 : ℕ) = 2048 + x 1 := e1; show (y 1 : ℕ) = _; omega)
      · exact piece3 m c t x _ (by have e2 : 0 + 1 * (y 0 : ℕ) = x 0 := e0; show 256 * t.val + (y 0 : ℕ) = _; omega) (by have e2 : 0 + 1 * (y 1 : ℕ) = 1536 + x 1 := e1; show (y 1 : ℕ) = _; omega)
      · exact piece2 m c t x _ (by have e2 : 0 + 1 * (y 0 : ℕ) = x 0 := e0; show 256 * t.val + (y 0 : ℕ) = _; omega) (by have e2 : 0 + 1 * (y 1 : ℕ) = 1024 + x 1 := e1; show (y 1 : ℕ) = _; omega)
      · exact piece1 m c t x _ (by have e2 : 0 + 1 * (y 0 : ℕ) = x 0 := e0; show 256 * t.val + (y 0 : ℕ) = _; omega) (by have e2 : 0 + 1 * (y 1 : ℕ) = 512 + x 1 := e1; show (y 1 : ℕ) = _; omega)
      · exact piece0 m c t x _ (by have e2 : 0 + 1 * (y 0 : ℕ) = x 0 := e0; show 256 * t.val + (y 0 : ℕ) = _; omega) (by have e2 : 0 + 1 * (y 1 : ℕ) = x 1 := e1; show (y 1 : ℕ) = _; omega)
    subst E; clear D
    unfold dX dPBlk
    generalize dP m c = g
    pointwise [k0_pay1, k0_pay16, k0_pay15, k0_pay13, k0_pay12, k0_pay11, Rows.proj, Rows.normGrad, Rows.rms, Rows.mean]
    blk_point [iblk, V, idx t]

theorem zero14 (j : S1x1024.Idx) : k0_pay2 (F := Ideal) j = 0 := by pointwise [k0_pay2]

theorem pay14 (g : FVec Ideal S256x3712 .bf16) (w : FVec Ideal S1024x3712 .bf16) (x : FVec Ideal S256x1024 .f32)
    (acc : FVec Ideal S1x1024 .f32) (j : S1x1024.Idx) :
    k0_pay14 g w x acc j = acc j + ∑ a : Fin 256, Rows.proj (fun k => g (ix2 a k)) (fun j k => w (ix2 j k)) (j 1) * (x (ix2 a (j 1)) * Rows.rms fun j => x (ix2 a j)) := by
  pointwise [k0_pay14, k0_pay13, k0_pay12, k0_pay11, Rows.proj, Rows.normGrad, Rows.rms, Rows.mean]

set_option maxHeartbeats 1600000 in
/-- Window 14 holds the sum over the eight blocks. -/
theorem final14 (c : Dev nD) : (dats m 0 c).arrAt 14 (cfgs 0).N = dNorm (dP m c) (m ((c : Thread nD τ).loc main_arg8)) (m ((c : Thread nD τ).loc main_arg9)) := by
  refine (dats m 0 c).arrAt_eq_of_after_last 14 t0_7 (by decide +kernel) _ fun j => ?_
  blk_simp
  rw [after0_14, Pipeline.eq_sum_fin_of_reset_step_apply_last (fun n h => (outsAt0 m c n h).2.2) 8 (fun _ => 0) _
    (fun t h j => by rw [outsAt0_A m c t h]; frame_out; rw [pay14, zero14])
    (fun t h j => by rw [outsAt0_B m c t h]; frame_out; rw [pay14])
    (le_of_eq N_0) t0_7 rfl j, zero_add]
  unfold dNorm
  refine Fin.sum_mul_add_congr fun t k hl => ?_
  generalize D : View.readCov (Val := Elt Ideal) _ _ _ = X
  have E : X = dPBlk m c t := by
    rw [← D, View.readCov_eq_canon']
    funext y
    canon_tiles x e using View.cover_of_tiledBy _ ![256, 128] (by sl_kernel_rfl) _
    · exact piece7 m c t x _ (by have e2 : 0 + 1 * (y 0 : ℕ) = x 0 := e0; show 256 * t.val + (y 0 : ℕ) = _; omega) (by have e2 : 0 + 1 * (y 1 : ℕ) = 3584 + x 1 := e1; show (y 1 : ℕ) = _; omega)
    · exact piece6 m c t x _ (by have e2 : 0 + 1 * (y 0 : ℕ) = x 0 := e0; show 256 * t.val + (y 0 : ℕ) = _; omega) (by have e2 : 0 + 1 * (y 1 : ℕ) = 3072 + x 1 := e1; show (y 1 : ℕ) = _; omega)
    · exact piece5 m c t x _ (by have e2 : 0 + 1 * (y 0 : ℕ) = x 0 := e0; show 256 * t.val + (y 0 : ℕ) = _; omega) (by have e2 : 0 + 1 * (y 1 : ℕ) = 2560 + x 1 := e1; show (y 1 : ℕ) = _; omega)
    · exact piece4 m c t x _ (by have e2 : 0 + 1 * (y 0 : ℕ) = x 0 := e0; show 256 * t.val + (y 0 : ℕ) = _; omega) (by have e2 : 0 + 1 * (y 1 : ℕ) = 2048 + x 1 := e1; show (y 1 : ℕ) = _; omega)
    · exact piece3 m c t x _ (by have e2 : 0 + 1 * (y 0 : ℕ) = x 0 := e0; show 256 * t.val + (y 0 : ℕ) = _; omega) (by have e2 : 0 + 1 * (y 1 : ℕ) = 1536 + x 1 := e1; show (y 1 : ℕ) = _; omega)
    · exact piece2 m c t x _ (by have e2 : 0 + 1 * (y 0 : ℕ) = x 0 := e0; show 256 * t.val + (y 0 : ℕ) = _; omega) (by have e2 : 0 + 1 * (y 1 : ℕ) = 1024 + x 1 := e1; show (y 1 : ℕ) = _; omega)
    · exact piece1 m c t x _ (by have e2 : 0 + 1 * (y 0 : ℕ) = x 0 := e0; show 256 * t.val + (y 0 : ℕ) = _; omega) (by have e2 : 0 + 1 * (y 1 : ℕ) = 512 + x 1 := e1; show (y 1 : ℕ) = _; omega)
    · exact piece0 m c t x _ (by have e2 : 0 + 1 * (y 0 : ℕ) = x 0 := e0; show 256 * t.val + (y 0 : ℕ) = _; omega) (by have e2 : 0 + 1 * (y 1 : ℕ) = x 1 := e1; show (y 1 : ℕ) = _; omega)
  subst E; clear D
  unfold dPBlk
  generalize dP m c = g
  pointwise [Rows.proj, Rows.normGrad, Rows.rms, Rows.mean]
  blk_point [iblk, V, idx t]

end Cert.GradXIdeal.Value

end
-- ==== Proof.GradXReference.lean ====
/-
The reference leaves the same rows.
-/
module

public import proofs.«01_k».proof.Proof.GradXRows
public import proofs.«01_k».proof.Proof.Gen.GradXReferenceIdeal.Run
public import Idealize.ShloMosaic.Lib.Pointwise

@[expose] public section

set_option maxRecDepth 16384

noncomputable section

open Idealize.ShloMosaic Idealize.ShloMosaic.TcCoe Idealize.SL.Sem
open scoped BigOperators

namespace Cert.GradXReferenceIdeal.Value

open Cert.GradXReferenceIdeal
open Cert.GradXIdeal.Value (dProj dX dNorm)

/-- The eight arrays joined along their rows. -/
theorem joined (a0 a1 a2 a3 a4 a5 a6 : FVec Ideal S2048x512 .f32) (a7 : FVec Ideal S2048x128 .f32) :
    ((concatenate S2048x3712 1 [⟨S2048x512, a0⟩, ⟨S2048x512, a1⟩, ⟨S2048x512, a2⟩, ⟨S2048x512, a3⟩, ⟨S2048x512, a4⟩, ⟨S2048x512, a5⟩, ⟨S2048x512, a6⟩, ⟨S2048x128, a7⟩] Gen.concatenates_S2048x512_S2048x512_S2048x512_S2048x512_S2048x512_S2048x512_S2048x512_S2048x128_S2048x3712_d1) : FVec Ideal S2048x3712 .f32)
      = fun i => dProj a0 a1 a2 a3 a4 a5 a6 a7 i := by
  funext j
  pointwise [dProj, Rows.parts]

variable (m : (ℓ : Loc nD τ sig) → Buf (Elt Ideal) ℓ) (ρ : Dev nD → PrngReg)

set_option maxHeartbeats 1600000 in
/-- Every run of the reference ends with its three results and leaves its arguments. -/
theorem run_rows : θ_run defs (onTc (τ := τ) (main (F := Ideal))) ⟨m, fun _ => 0, ρ⟩ fun r => ∀ c : Dev nD,
    r.2.mem ((c.tc : Thread nD τ).loc main_v4) = dProj (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
    ∧ r.2.mem ((c.tc : Thread nD τ).loc main_v35) = dX (dProj (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) (m ((c.tc : Thread nD τ).loc main_arg8)) (m ((c.tc : Thread nD τ).loc main_arg9)) (m ((c.tc : Thread nD τ).loc main_arg10)) (m ((c.tc : Thread nD τ).loc main_arg11))
    ∧ r.2.mem ((c.tc : Thread nD τ).loc main_v48) = dNorm (dProj (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) (m ((c.tc : Thread nD τ).loc main_arg8)) (m ((c.tc : Thread nD τ).loc main_arg9))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)
    ∧ r.2.mem ((c.tc : Thread nD τ).loc main_arg11) = m ((c.tc : Thread nD τ).loc main_arg11) := by
  refine (θ_run defs _ _).mono (fun r h c => ?_) (run (F := Ideal) m ρ)
  obtain ⟨h0, h1, h2, k⟩ := h c
  refine ⟨h0.trans ?_, h1.trans ?_, h2.trans ?_, k⟩
  · rw [joined]; rfl
  · unfold res_main_v35
    rw [joined]
    generalize dProj _ _ _ _ _ _ _ _ = g
    funext j
    pointwise [dX, Rows.proj, Rows.normGrad, Rows.rms, Rows.mean]
  · rw [joined]
    generalize dProj _ _ _ _ _ _ _ _ = g
    funext j
    pointwise [dNorm, Rows.proj, Rows.normGrad, Rows.rms, Rows.mean]
    simp only [mul_assoc]

end Cert.GradXReferenceIdeal.Value

end
-- ==== Proof.MlpInRows.lean ====
/-
What the call at the way into the MLP computes, row by row, of the arrays it is given.
-/
module

public import proofs.«01_k».proof.Proof.Rows
public import proofs.«01_k».proof.MlpInIdeal

@[expose] public section

set_option maxRecDepth 16384

noncomputable section

open Idealize.ShloMosaic Idealize.ShloMosaic.TcCoe Idealize.SL.Sem
open scoped BigOperators

namespace Cert.Rows

/-- The row of gradients of the normalised input, of the row of gradients of the product. -/
def up (g : Fin 4096 → EReal) (w : Fin 1024 → Fin 4096 → EReal) (j : Fin 1024) : EReal := ∑ k : Fin 4096, g k * w j k

/-- The row of gradients of the MLP's input: what came past the MLP and what came through it. -/
def dIn (g : Fin 4096 → EReal) (w : Fin 1024 → Fin 4096 → EReal) (x p d : Fin 1024 → EReal) (j : Fin 1024) : EReal :=
  d j + normGrad x (fun l => up g w l * p l) j

end Cert.Rows

namespace Cert.MlpInIdeal.Value

open Cert.MlpInIdeal

variable (a0 : FVec Ideal S2048x4096 .bf16) (a1 : FVec Ideal S1024x4096 .bf16) (a2 : FVec Ideal S2048x1024 .f32)
  (a3 : FVec Ideal S1x1024 .f32) (a4 a5 : FVec Ideal S2048x1024 .f32) (a6 : FVec Ideal S1x1024 .f32)

/-- The gradient of the MLP's input, all rows. -/
def dIn : FVec Ideal S2048x1024 .f32 := fun i =>
  Rows.dIn (fun k => a0 (ix2 (i 0) k)) (fun j k => a1 (ix2 j k)) (fun j => a2 (ix2 (i 0) j)) (fun j => a3 (ix2 0 j)) (fun j => a4 (ix2 (i 0) j)) (i 1)

/-- The gradient of the mixed rows. -/
def dMixed : FVec Ideal S2048x1024 .bf16 := fun i =>
  Rows.normGrad (fun j => a5 (ix2 (i 0) j))
    (fun l => Rows.dIn (fun k => a0 (ix2 (i 0) k)) (fun j k => a1 (ix2 j k)) (fun j => a2 (ix2 (i 0) j)) (fun j => a3 (ix2 0 j)) (fun j => a4 (ix2 (i 0) j)) l * a6 (ix2 0 l)) (i 1)

/-- The gradient of the weights of the normalisation before the MLP. -/
def dPre : FVec Ideal S1x1024 .f32 := fun i =>
  ∑ r : Fin 2048, Rows.up (fun k => a0 (ix2 r k)) (fun j k => a1 (ix2 j k)) (i 1) * (a2 (ix2 r (i 1)) * Rows.rms fun j => a2 (ix2 r j))

/-- The gradient of the weights of the normalisation after the mixing. -/
def dPost : FVec Ideal S1x1024 .f32 := fun i =>
  ∑ r : Fin 2048, Rows.dIn (fun k => a0 (ix2 r k)) (fun j k => a1 (ix2 j k)) (fun j => a2 (ix2 r j)) (fun j => a3 (ix2 0 j)) (fun j => a4 (ix2 r j)) (i 1)
    * (a5 (ix2 r (i 1)) * Rows.rms fun j => a5 (ix2 r j))

end Cert.MlpInIdeal.Value

end
-- ==== Proof.MlpInKernel.lean ====
/-
The arrays that kernel leaves: the two per-token ones block by block, the two summed ones over its eight blocks of 256 tokens.
-/
module

public import proofs.«01_k».proof.Proof.MlpInRows
public import proofs.«01_k».proof.Proof.Gen.MlpInIdeal.Value
public import Idealize.ShloMosaic.Lib.Pipeline.ValueKit

@[expose] public section

set_option maxRecDepth 16384

noncomputable section

open Idealize.ShloMosaic Idealize.ShloMosaic.TcCoe Idealize.SL.Sem
open scoped BigOperators

namespace Cert.MlpInIdeal.Value

open Cert.MlpInIdeal Cert.MlpInIdeal.Gen

variable (m : (ℓ : Loc nD τ sig) → Buf (Elt Ideal) ℓ)

theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![t.val, 0] ∧ win0_6.index t = ![0, 0]
    ∧ win0_7.index t = ![t.val, 0] ∧ win0_8.index t = ![t.val, 0] ∧ win0_9.index t = ![0, 0] ∧ win0_10.index t = ![0, 0] :=
  (by decide +kernel : ∀ t : Fin grid0.N, _)

set_option maxHeartbeats 1600000 in
/-- Every block of window 7 holds the rows of its 256 tokens. -/
theorem final7 (c : Dev nD) : (dats m 0 c).arrAt 7 (cfgs 0).N = dIn (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 7 _ (by decide +kernel) fun t _ y => ?_
  blk_simp
  rw [after0_7]
  by_cases h : t.val % 8 = 0
  · rw [outsAt0_A m c t h]; frame_out
    pointwise [k0_pay9, k0_pay8, k0_pay7, k0_pay5, k0_pay4, k0_pay3, dIn, Rows.dIn, Rows.normGrad, Rows.up, Rows.rms, Rows.mean]
    blk_point [iblk, V, idx t]
  · rw [outsAt0_B m c t h]; frame_out
    pointwise [k0_pay9, k0_pay8, k0_pay7, k0_pay5, k0_pay4, k0_pay3, dIn, Rows.dIn, Rows.normGrad, Rows.up, Rows.rms, Rows.mean]
    blk_point [iblk, V, idx t]

set_option maxHeartbeats 1600000 in
/-- Every block of window 8 holds the rows of its 256 tokens. -/
theorem final8 (c : Dev nD) : (dats m 0 c).arrAt 8 (cfgs 0).N = dMixed (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 8 _ (by decide +kernel) fun t _ y => ?_
  blk_simp
  rw [after0_8]
  by_cases h : t.val % 8 = 0
  · rw [outsAt0_A m c t h]; frame_out
    pointwise [k0_pay13, k0_pay11, k0_pay10, k0_pay9, k0_pay8, k0_pay7, k0_pay5, k0_pay4, k0_pay3, dMixed, Rows.dIn, Rows.normGrad, Rows.up, Rows.rms, Rows.mean]
    blk_point [iblk, V, idx t]
  · rw [outsAt0_B m c t h]; frame_out
    pointwise [k0_pay13, k0_pay11, k0_pay10, k0_pay9, k0_pay8, k0_pay7, k0_pay5, k0_pay4, k0_pay3, dMixed, Rows.dIn, Rows.normGrad, Rows.up, Rows.rms, Rows.mean]
    blk_point [iblk, V, idx t]

theorem zero9 (j : S1x1024.Idx) : k0_pay1 (F := Ideal) j = 0 := by pointwise [k0_pay1]
theorem zero10 (j : S1x1024.Idx) : k0_pay2 (F := Ideal) j = 0 := by pointwise [k0_pay2]

theorem pay9 (x0 : FVec Ideal S256x4096 .bf16) (x1 : FVec Ideal S1024x4096 .bf16) (x2 : FVec Ideal S256x1024 .f32)
    (acc : FVec Ideal S1x1024 .f32) (j : S1x1024.Idx) :
    k0_pay6 x0 x1 x2 acc j = acc j + ∑ a : Fin 256, Rows.up (fun k => x0 (ix2 a k)) (fun j k => x1 (ix2 j k)) (j 1) * (x2 (ix2 a (j 1)) * Rows.rms fun j => x2 (ix2 a j)) := by
  pointwise [k0_pay6, k0_pay5, k0_pay4, k0_pay3, Rows.dIn, Rows.normGrad, Rows.up, Rows.rms, Rows.mean]

theorem pay10 (x0 : FVec Ideal S256x4096 .bf16) (x1 : FVec Ideal S1024x4096 .bf16) (x2 : FVec Ideal S256x1024 .f32)
    (x3 : FVec Ideal S1x1024 .f32) (x4 x5 : FVec Ideal S256x1024 .f32) (acc : FVec Ideal S1x1024 .f32) (j : S1x1024.Idx) :
    k0_pay12 (k0_pay4 x2) (k0_pay5 x2) (k0_pay7 x0 x1 x3) x4 (k0_pay8 x0 x1 x2 x3) x5 acc j = acc j + ∑ a : Fin 256,
      Rows.dIn (fun k => x0 (ix2 a k)) (fun j k => x1 (ix2 j k)) (fun j => x2 (ix2 a j)) (fun j => x3 (ix2 0 j)) (fun j => x4 (ix2 a j)) (j 1)
      * (x5 (ix2 a (j 1)) * Rows.rms fun j => x5 (ix2 a j)) := by
  pointwise [k0_pay12, k0_pay11, k0_pay10, k0_pay9, k0_pay8, k0_pay7, k0_pay5, k0_pay4, k0_pay3, Rows.dIn, Rows.normGrad, Rows.up, Rows.rms, Rows.mean]

set_option maxHeartbeats 1600000 in
/-- Window 9 holds the sum over the eight blocks. -/
theorem final9 (c : Dev nD) : (dats m 0 c).arrAt 9 (cfgs 0).N = dPre (m ((c : Thread nD τ).loc main_arg0)) (m ((c : Thread nD τ).loc main_arg1)) (m ((c : Thread nD τ).loc main_arg2)) := by
  refine (dats m 0 c).arrAt_eq_of_after_last 9 t0_7 (by decide +kernel) _ fun j => ?_
  blk_simp
  rw [after0_9, Pipeline.eq_sum_fin_of_reset_step_apply_last (fun n h => (outsAt0 m c n h).2.2.1) 8 (fun _ => 0) _
    (fun t h j => by rw [outsAt0_A m c t h]; frame_out; rw [pay9, zero9])
    (fun t h j => by rw [outsAt0_B m c t h]; frame_out; rw [pay9])
    (le_of_eq N_0) t0_7 rfl j, zero_add]
  unfold dPre
  refine Fin.sum_mul_add_congr fun t k hl => ?_
  pointwise [Rows.dIn, Rows.normGrad, Rows.up, Rows.rms, Rows.mean]
  blk_point [iblk, V, idx t]

set_option maxHeartbeats 1600000 in
/-- Window 10 holds the sum over the eight blocks. -/
theorem final10 (c : Dev nD) : (dats m 0 c).arrAt 10 (cfgs 0).N = dPost (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_after_last 10 t0_7 (by decide +kernel) _ fun j => ?_
  blk_simp
  rw [after0_10, Pipeline.eq_sum_fin_of_reset_step_apply_last (fun n h => (outsAt0 m c n h).2.2.2) 8 (fun _ => 0) _
    (fun t h j => by rw [outsAt0_A m c t h]; frame_out; rw [pay10, zero10])
    (fun t h j => by rw [outsAt0_B m c t h]; frame_out; rw [pay10])
    (le_of_eq N_0) t0_7 rfl j, zero_add]
  unfold dPost
  refine Fin.sum_mul_add_congr fun t k hl => ?_
  pointwise [Rows.dIn, Rows.normGrad, Rows.up, Rows.rms, Rows.mean]
  blk_point [iblk, V, idx t]

end Cert.MlpInIdeal.Value

end
-- ==== Proof.MlpInReference.lean ====
/-
The reference's results are the same functions of the same arrays.
-/
module

public import proofs.«01_k».proof.Proof.MlpInRows
public import proofs.«01_k».proof.Proof.Gen.MlpInReferenceIdeal.Run
public import Idealize.ShloMosaic.Lib.Pointwise

@[expose] public section

set_option maxRecDepth 16384

noncomputable section

open Idealize.ShloMosaic Idealize.ShloMosaic.TcCoe Idealize.SL.Sem
open scoped BigOperators

namespace Cert.MlpInReferenceIdeal.Value

open Cert.MlpInReferenceIdeal
open Cert.MlpInIdeal.Value (dIn dMixed dPre dPost)

variable (m : (ℓ : Loc nD τ sig) → Buf (Elt Ideal) ℓ) (ρ : Dev nD → PrngReg)

set_option maxHeartbeats 1600000 in
/-- Every run of the reference ends with its four results and leaves its arguments. -/
theorem run_rows : θ_run defs (onTc (τ := τ) (main (F := Ideal))) ⟨m, fun _ => 0, ρ⟩ fun r => ∀ c : Dev nD,
    r.2.mem ((c.tc : Thread nD τ).loc main_v34) = dIn (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
    ∧ r.2.mem ((c.tc : Thread nD τ).loc main_v65) = dMixed (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
    ∧ r.2.mem ((c.tc : Thread nD τ).loc main_v78) = dPre (m ((c.tc : Thread nD τ).loc main_arg0)) (m ((c.tc : Thread nD τ).loc main_arg1)) (m ((c.tc : Thread nD τ).loc main_arg2))
    ∧ r.2.mem ((c.tc : Thread nD τ).loc main_v91) = dPost (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6) := by
  refine (θ_run defs _ _).mono (fun r h c => ?_) (run (F := Ideal) m ρ)
  obtain ⟨h0, h1, h2, h3, k⟩ := h c
  refine ⟨h0.trans (funext fun j => ?_), h1.trans (funext fun j => ?_), h2.trans (funext fun j => ?_), h3.trans (funext fun j => ?_), k⟩
  · pointwise [dIn, Rows.dIn, Rows.normGrad, Rows.up, Rows.rms, Rows.mean]
  · pointwise [res_main_v65, dMixed, Rows.dIn, Rows.normGrad, Rows.up, Rows.rms, Rows.mean]
  · pointwise [dPre, Rows.dIn, Rows.normGrad, Rows.up, Rows.rms, Rows.mean]
    simp only [mul_assoc]
  · pointwise [dPost, Rows.dIn, Rows.normGrad, Rows.up, Rows.rms, Rows.mean]
    simp only [mul_assoc]

end Cert.MlpInReferenceIdeal.Value

end
-- ==== Proof.WeightGrads.lean ====
/-
The gradients of the four large weights: what each call leaves, block by block, and the same of its reference.
-/
module

public import proofs.«01_k».proof.Proof.Gen.DownGradIdeal.Value
public import proofs.«01_k».proof.Proof.Gen.DownGradReferenceIdeal.Run
public import proofs.«01_k».proof.Proof.Gen.UpGradIdeal.Value
public import proofs.«01_k».proof.Proof.Gen.UpGradReferenceIdeal.Run
public import proofs.«01_k».proof.Proof.Gen.OutGradIdeal.Value
public import proofs.«01_k».proof.Proof.Gen.OutGradReferenceIdeal.Run
public import proofs.«01_k».proof.Proof.Gen.InGradIdeal.Value
public import proofs.«01_k».proof.Proof.Gen.InGradReferenceIdeal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open scoped BigOperators

namespace Cert.Rows

/-- Number `j` of piece `d`, of 4096 numbers cut into eight pieces of 512. -/
def of512 (d : Fin 8) (j : Fin 512) : Fin 4096 := ⟨d.val * 512 + j.val, by omega⟩

/-- Number `j` of piece `d`, of 1024 numbers cut into eight pieces of 128. -/
def of128 (d : Fin 8) (j : Fin 128) : Fin 1024 := ⟨d.val * 128 + j.val, by omega⟩

end Cert.Rows

namespace Cert.DownGradIdeal.Value

open Cert.DownGradIdeal Cert.DownGradIdeal.Gen

/-- The gradient of the second MLP weight: the activations, transposed, times the gradient of the result; 512 rows a piece. -/
def dDown (a0 : FVec Ideal S2048x4096 .f32) (a1 : FVec Ideal S2048x1024 .bf16) : FVec Ideal S8x512x1024 .bf16 := fun i =>
  ∑ r : Fin 2048, max (a0 (ix2 r (Rows.of512 (i 0) (i 1)))) 0 * max (a0 (ix2 r (Rows.of512 (i 0) (i 1)))) 0 * a1 (ix2 r (i 2))

variable (m : (ℓ : Loc nD τ sig) → Buf (Elt Ideal) ℓ)

theorem idx : ∀ t : Fin cfg0.N, win0_0.index t = ![0, t.val] ∧ win0_1.index t = ![0, 0] ∧ win0_2.index t = ![t.val, 0, 0] :=
  (by decide +kernel : ∀ t : Fin grid0.N, _)

set_option maxHeartbeats 400000 in
/-- Block `t` holds piece `t`. -/
theorem final2 (c : Dev nD) : (dats m 0 c).arrAt 2 (cfgs 0).N = dDown (m ((c : Thread nD τ).loc main_arg0)) (m ((c : Thread nD τ).loc main_arg1)) := by
  refine (dats m 0 c).arrAt_eq_of_covers 2 _ (by decide +kernel) fun t _ y => ?_
  blk_simp
  rw [after0_2]; frame_out
  pointwise [k0_pay1, dDown, Rows.of512]
  blk_point [iblk, V, idx t]

end Cert.DownGradIdeal.Value

namespace Cert.DownGradReferenceIdeal.Value

open Cert.DownGradReferenceIdeal
open Cert.DownGradIdeal.Value (dDown)

variable (m : (ℓ : Loc nD τ sig) → Buf (Elt Ideal) ℓ) (ρ : Dev nD → PrngReg)

set_option maxHeartbeats 400000 in
/-- Every run of the reference ends with the same and leaves its arguments. -/
theorem run_rows : θ_run defs (onTc (τ := τ) (main (F := Ideal))) ⟨m, fun _ => 0, ρ⟩ fun r => ∀ c : Dev nD,
    r.2.mem ((c.tc : Thread nD τ).loc main_v6) = dDown (m ((c.tc : Thread nD τ).loc main_arg0)) (m ((c.tc : Thread nD τ).loc main_arg1))
    ∧ r.2.mem ((c.tc : Thread nD τ).loc main_arg0) = m ((c.tc : Thread nD τ).loc main_arg0)
    ∧ r.2.mem ((c.tc : Thread nD τ).loc main_arg1) = m ((c.tc : Thread nD τ).loc main_arg1) := by
  refine (θ_run defs _ _).mono (fun r h c => ?_) (run (F := Ideal) m ρ)
  obtain ⟨h0, k⟩ := h c
  refine ⟨h0.trans (funext fun j => ?_), k⟩
  · pointwise [dDown, Rows.of512]

end Cert.DownGradReferenceIdeal.Value

namespace Cert.UpGradIdeal.Value

open Cert.UpGradIdeal Cert.UpGradIdeal.Gen

/-- The gradient of the first MLP weight: the normalised input, transposed, times the gradient of the product; 512 columns a piece. -/
def dUp (a0 : FVec Ideal S2048x1024 .bf16) (a1 : FVec Ideal S2048x4096 .bf16) : FVec Ideal S8x1024x512 .bf16 := fun i =>
  ∑ r : Fin 2048, a0 (ix2 r (i 1)) * a1 (ix2 r (Rows.of512 (i 0) (i 2)))

variable (m : (ℓ : Loc nD τ sig) → Buf (Elt Ideal) ℓ)

theorem idx : ∀ t : Fin cfg0.N, win0_0.index t = ![0, 0] ∧ win0_1.index t = ![0, t.val] ∧ win0_2.index t = ![t.val, 0, 0] :=
  (by decide +kernel : ∀ t : Fin grid0.N, _)

set_option maxHeartbeats 400000 in
/-- Block `t` holds piece `t`. -/
theorem final2 (c : Dev nD) : (dats m 0 c).arrAt 2 (cfgs 0).N = dUp (m ((c : Thread nD τ).loc main_arg0)) (m ((c : Thread nD τ).loc main_arg1)) := by
  refine (dats m 0 c).arrAt_eq_of_covers 2 _ (by decide +kernel) fun t _ y => ?_
  blk_simp
  rw [after0_2]; frame_out
  pointwise [k0_pay1, dUp, Rows.of512]
  blk_point [iblk, V, idx t]

end Cert.UpGradIdeal.Value

namespace Cert.UpGradReferenceIdeal.Value

open Cert.UpGradReferenceIdeal
open Cert.UpGradIdeal.Value (dUp)

variable (m : (ℓ : Loc nD τ sig) → Buf (Elt Ideal) ℓ) (ρ : Dev nD → PrngReg)

set_option maxHeartbeats 400000 in
/-- Every run of the reference ends with the same and leaves its arguments. -/
theorem run_rows : θ_run defs (onTc (τ := τ) (main (F := Ideal))) ⟨m, fun _ => 0, ρ⟩ fun r => ∀ c : Dev nD,
    r.2.mem ((c.tc : Thread nD τ).loc main_v6) = dUp (m ((c.tc : Thread nD τ).loc main_arg0)) (m ((c.tc : Thread nD τ).loc main_arg1))
    ∧ r.2.mem ((c.tc : Thread nD τ).loc main_arg0) = m ((c.tc : Thread nD τ).loc main_arg0)
    ∧ r.2.mem ((c.tc : Thread nD τ).loc main_arg1) = m ((c.tc : Thread nD τ).loc main_arg1) := by
  refine (θ_run defs _ _).mono (fun r h c => ?_) (run (F := Ideal) m ρ)
  obtain ⟨h0, k⟩ := h c
  refine ⟨h0.trans (funext fun j => ?_), k⟩
  · pointwise [dUp, Rows.of512]

end Cert.UpGradReferenceIdeal.Value

namespace Cert.OutGradIdeal.Value

open Cert.OutGradIdeal Cert.OutGradIdeal.Gen

/-- The gradient of the output weight: the mixed heads, transposed, times the gradient of the product; 128 rows a piece. -/
def dOut (a0 a1 : FVec Ideal S2048x1024 .bf16) : FVec Ideal S8x128x1024 .bf16 := fun i =>
  ∑ r : Fin 2048, a0 (ix2 r (Rows.of128 (i 0) (i 1))) * a1 (ix2 r (i 2))

variable (m : (ℓ : Loc nD τ sig) → Buf (Elt Ideal) ℓ)

theorem idx : ∀ t : Fin cfg0.N, win0_0.index t = ![0, t.val] ∧ win0_1.index t = ![0, 0] ∧ win0_2.index t = ![t.val, 0, 0] :=
  (by decide +kernel : ∀ t : Fin grid0.N, _)

set_option maxHeartbeats 400000 in
/-- Block `t` holds piece `t`. -/
theorem final2 (c : Dev nD) : (dats m 0 c).arrAt 2 (cfgs 0).N = dOut (m ((c : Thread nD τ).loc main_arg0)) (m ((c : Thread nD τ).loc main_arg1)) := by
  refine (dats m 0 c).arrAt_eq_of_covers 2 _ (by decide +kernel) fun t _ y => ?_
  blk_simp
  rw [after0_2]; frame_out
  pointwise [k0_pay1, dOut, Rows.of128]
  blk_point [iblk, V, idx t]

end Cert.OutGradIdeal.Value

namespace Cert.OutGradReferenceIdeal.Value

open Cert.OutGradReferenceIdeal
open Cert.OutGradIdeal.Value (dOut)

variable (m : (ℓ : Loc nD τ sig) → Buf (Elt Ideal) ℓ) (ρ : Dev nD → PrngReg)

set_option maxHeartbeats 400000 in
/-- Every run of the reference ends with the same and leaves its arguments. -/
theorem run_rows : θ_run defs (onTc (τ := τ) (main (F := Ideal))) ⟨m, fun _ => 0, ρ⟩ fun r => ∀ c : Dev nD,
    r.2.mem ((c.tc : Thread nD τ).loc main_v5) = dOut (m ((c.tc : Thread nD τ).loc main_arg0)) (m ((c.tc : Thread nD τ).loc main_arg1))
    ∧ r.2.mem ((c.tc : Thread nD τ).loc main_arg0) = m ((c.tc : Thread nD τ).loc main_arg0)
    ∧ r.2.mem ((c.tc : Thread nD τ).loc main_arg1) = m ((c.tc : Thread nD τ).loc main_arg1) := by
  refine (θ_run defs _ _).mono (fun r h c => ?_) (run (F := Ideal) m ρ)
  obtain ⟨h0, k⟩ := h c
  refine ⟨h0.trans (funext fun j => ?_), k⟩
  · pointwise [dOut, Rows.of128]

end Cert.OutGradReferenceIdeal.Value

namespace Cert.InGradIdeal.Value

open Cert.InGradIdeal Cert.InGradIdeal.Gen

/-- The gradient of the input weight: the normalised input, transposed, times the gradient of the projections. -/
def dIn (a0 : FVec Ideal S2048x1024 .bf16) (a1 : FVec Ideal S2048x3712 .bf16) : FVec Ideal S1024x3712 .bf16 := fun i =>
  ∑ r : Fin 2048, a0 (ix2 r (i 0)) * a1 (ix2 r (i 1))

variable (m : (ℓ : Loc nD τ sig) → Buf (Elt Ideal) ℓ)

theorem idx : ∀ t : Fin cfg0.N, win0_0.index t = ![0, 0] ∧ win0_1.index t = ![0, t.val] ∧ win0_2.index t = ![0, t.val] :=
  (by decide +kernel : ∀ t : Fin grid0.N, _)

set_option maxHeartbeats 400000 in
/-- Block `t` holds its 128 columns. -/
theorem final2 (c : Dev nD) : (dats m 0 c).arrAt 2 (cfgs 0).N = dIn (m ((c : Thread nD τ).loc main_arg0)) (m ((c : Thread nD τ).loc main_arg1)) := by
  refine (dats m 0 c).arrAt_eq_of_covers 2 _ (by decide +kernel) fun t _ y => ?_
  blk_simp
  rw [after0_2]; frame_out
  pointwise [k0_pay1, dIn]
  blk_point [iblk, V, idx t]

end Cert.InGradIdeal.Value

namespace Cert.InGradReferenceIdeal.Value

open Cert.InGradReferenceIdeal
open Cert.InGradIdeal.Value (dIn)

variable (m : (ℓ : Loc nD τ sig) → Buf (Elt Ideal) ℓ) (ρ : Dev nD → PrngReg)

set_option maxHeartbeats 400000 in
/-- Every run of the reference ends with the same and leaves its arguments. -/
theorem run_rows : θ_run defs (onTc (τ := τ) (main (F := Ideal))) ⟨m, fun _ => 0, ρ⟩ fun r => ∀ c : Dev nD,
    r.2.mem ((c.tc : Thread nD τ).loc main_v4) = dIn (m ((c.tc : Thread nD τ).loc main_arg0)) (m ((c.tc : Thread nD τ).loc main_arg1))
    ∧ r.2.mem ((c.tc : Thread nD τ).loc main_arg0) = m ((c.tc : Thread nD τ).loc main_arg0)
    ∧ r.2.mem ((c.tc : Thread nD τ).loc main_arg1) = m ((c.tc : Thread nD τ).loc main_arg1) := by
  refine (θ_run defs _ _).mono (fun r h c => ?_) (run (F := Ideal) m ρ)
  obtain ⟨h0, k⟩ := h c
  refine ⟨h0.trans (funext fun j => ?_), k⟩
  · pointwise [dIn]

end Cert.InGradReferenceIdeal.Value

end
-- ==== Proof.Products.lean ====
/-
The normalised input and its projections, the product with the first MLP weight, and the gradient through the activation: what each call leaves, block by block, and the same of its reference.
-/
module

public import proofs.«01_k».proof.Proof.Rows
public import proofs.«01_k».proof.Proof.Gen.ProjIdeal.Value
public import proofs.«01_k».proof.Proof.Gen.ProjReferenceIdeal.Run
public import proofs.«01_k».proof.Proof.Gen.UpIdeal.Value
public import proofs.«01_k».proof.Proof.Gen.UpReferenceIdeal.Run
public import proofs.«01_k».proof.Proof.Gen.ActIdeal.Value
public import proofs.«01_k».proof.Proof.Gen.ActReferenceIdeal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open scoped BigOperators

namespace Cert.ProjIdeal.Value

open Cert.ProjIdeal Cert.ProjIdeal.Gen

/-- The normalised input, times the normalisation's weights. -/
def normed (a0 : FVec Ideal S2048x1024 .f32) (a1 : FVec Ideal S1x1024 .f32) : FVec Ideal S2048x1024 .bf16 := fun i =>
  a0 (ix2 (i 0) (i 1)) * Rows.rms (fun j => a0 (ix2 (i 0) j)) * a1 (ix2 0 (i 1))

/-- Its product with the input weight. -/
def proj (a0 : FVec Ideal S2048x1024 .f32) (a1 : FVec Ideal S1x1024 .f32) (a2 : FVec Ideal S1024x3712 .bf16) : FVec Ideal S2048x3712 .f32 := fun i =>
  ∑ k : Fin 1024, a0 (ix2 (i 0) k) * Rows.rms (fun j => a0 (ix2 (i 0) j)) * a1 (ix2 0 k) * a2 (ix2 k (i 1))

variable (m : (ℓ : Loc nD τ sig) → Buf (Elt Ideal) ℓ)

theorem idx : ∀ t : Fin cfg0.N, win0_0.index t = ![t.val, 0] ∧ win0_1.index t = ![0, 0] ∧ win0_2.index t = ![0, 0] ∧ win0_3.index t = ![t.val, 0] ∧ win0_4.index t = ![t.val, 0] :=
  (by decide +kernel : ∀ t : Fin grid0.N, _)

set_option maxHeartbeats 400000 in
/-- Block `t` holds the projections of its 256 tokens. -/
theorem final3 (c : Dev nD) : (dats m 0 c).arrAt 3 (cfgs 0).N = proj (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  pointwise [k0_pay2, k0_pay1, proj, Rows.rms, Rows.mean]
  blk_point [iblk, V, idx t]

set_option maxHeartbeats 400000 in
/-- Block `t` holds the normalised rows of its 256 tokens. -/
theorem final4 (c : Dev nD) : (dats m 0 c).arrAt 4 (cfgs 0).N = normed (m ((c : Thread nD τ).loc main_arg0)) (m ((c : Thread nD τ).loc main_arg1)) := by
  refine (dats m 0 c).arrAt_eq_of_covers 4 _ (by decide +kernel) fun t _ y => ?_
  blk_simp
  rw [after0_4]; frame_out
  pointwise [k0_pay1, normed, Rows.rms, Rows.mean]
  blk_point [iblk, V, idx t]

end Cert.ProjIdeal.Value

namespace Cert.ProjReferenceIdeal.Value

open Cert.ProjReferenceIdeal
open Cert.ProjIdeal.Value (normed proj)

variable (m : (ℓ : Loc nD τ sig) → Buf (Elt Ideal) ℓ) (ρ : Dev nD → PrngReg)

set_option maxHeartbeats 400000 in
/-- Every run of the reference ends with the same and leaves its arguments. -/
theorem run_rows : θ_run defs (onTc (τ := τ) (main (F := Ideal))) ⟨m, fun _ => 0, ρ⟩ fun r => ∀ c : Dev nD,
    r.2.mem ((c.tc : Thread nD τ).loc main_v13) = proj (m ((c.tc : Thread nD τ).loc main_arg0)) (m ((c.tc : Thread nD τ).loc main_arg1)) (m ((c.tc : Thread nD τ).loc main_arg2))
    ∧ r.2.mem ((c.tc : Thread nD τ).loc main_v14) = normed (m ((c.tc : Thread nD τ).loc main_arg0)) (m ((c.tc : Thread nD τ).loc main_arg1))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2) := by
  refine (θ_run defs _ _).mono (fun r h c => ?_) (run (F := Ideal) m ρ)
  obtain ⟨h0, h1, k⟩ := h c
  refine ⟨h0.trans (funext fun j => ?_), h1.trans (funext fun j => ?_), k⟩
  · pointwise [proj, Rows.rms, Rows.mean]
  · pointwise [normed, Rows.rms, Rows.mean]

end Cert.ProjReferenceIdeal.Value

namespace Cert.UpIdeal.Value

open Cert.UpIdeal Cert.UpIdeal.Gen

/-- The product with the first MLP weight. -/
def prod (a0 : FVec Ideal S2048x1024 .bf16) (a1 : FVec Ideal S1024x4096 .bf16) : FVec Ideal S2048x4096 .f32 := fun i =>
  ∑ k : Fin 1024, a0 (ix2 (i 0) k) * a1 (ix2 k (i 1))

variable (m : (ℓ : Loc nD τ sig) → Buf (Elt Ideal) ℓ)

theorem idx : ∀ t : Fin cfg0.N, win0_0.index t = ![t.val, 0] ∧ win0_1.index t = ![0, 0] ∧ win0_2.index t = ![t.val, 0] :=
  (by decide +kernel : ∀ t : Fin grid0.N, _)

set_option maxHeartbeats 400000 in
/-- Block `t` holds the rows of its 256 tokens. -/
theorem final2 (c : Dev nD) : (dats m 0 c).arrAt 2 (cfgs 0).N = prod (m ((c : Thread nD τ).loc main_arg0)) (m ((c : Thread nD τ).loc main_arg1)) := by
  refine (dats m 0 c).arrAt_eq_of_covers 2 _ (by decide +kernel) fun t _ y => ?_
  blk_simp
  rw [after0_2]; frame_out
  pointwise [k0_pay1, prod]
  blk_point [iblk, V, idx t]

end Cert.UpIdeal.Value

namespace Cert.UpReferenceIdeal.Value

open Cert.UpReferenceIdeal
open Cert.UpIdeal.Value (prod)

variable (m : (ℓ : Loc nD τ sig) → Buf (Elt Ideal) ℓ) (ρ : Dev nD → PrngReg)

set_option maxHeartbeats 400000 in
/-- Every run of the reference ends with the same and leaves its arguments. -/
theorem run_rows : θ_run defs (onTc (τ := τ) (main (F := Ideal))) ⟨m, fun _ => 0, ρ⟩ fun r => ∀ c : Dev nD,
    r.2.mem ((c.tc : Thread nD τ).loc main_v2) = prod (m ((c.tc : Thread nD τ).loc main_arg0)) (m ((c.tc : Thread nD τ).loc main_arg1))
    ∧ r.2.mem ((c.tc : Thread nD τ).loc main_arg0) = m ((c.tc : Thread nD τ).loc main_arg0)
    ∧ r.2.mem ((c.tc : Thread nD τ).loc main_arg1) = m ((c.tc : Thread nD τ).loc main_arg1) := by
  refine (θ_run defs _ _).mono (fun r h c => ?_) (run (F := Ideal) m ρ)
  obtain ⟨h0, k⟩ := h c
  refine ⟨h0.trans (funext fun j => ?_), k⟩
  · pointwise [prod]

end Cert.UpReferenceIdeal.Value

namespace Cert.ActIdeal.Value

open Cert.ActIdeal Cert.ActIdeal.Gen

/-- The gradient of the product with the first MLP weight: through the second weight, then through the squared positive part. -/
def dAct (a0 : FVec Ideal S2048x1024 .bf16) (a1 : FVec Ideal S4096x1024 .bf16) (a2 : FVec Ideal S2048x4096 .f32) : FVec Ideal S2048x4096 .bf16 := fun i =>
  (∑ k : Fin 1024, a0 (ix2 (i 0) k) * a1 (ix2 (i 1) k)) * (Ideal.ofBits .f32 0x40000000#32 * max (a2 (ix2 (i 0) (i 1))) 0)

variable (m : (ℓ : Loc nD τ sig) → Buf (Elt Ideal) ℓ)

theorem idx : ∀ t : Fin cfg0.N, win0_0.index t = ![t.val, 0] ∧ win0_1.index t = ![0, 0] ∧ win0_2.index t = ![t.val, 0] ∧ win0_3.index t = ![t.val, 0] :=
  (by decide +kernel : ∀ t : Fin grid0.N, _)

set_option maxHeartbeats 400000 in
/-- Block `t` holds the rows of its 256 tokens. -/
theorem final3 (c : Dev nD) : (dats m 0 c).arrAt 3 (cfgs 0).N = dAct (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  pointwise [k0_pay1, dAct]
  blk_point [iblk, V, idx t]

end Cert.ActIdeal.Value

namespace Cert.ActReferenceIdeal.Value

open Cert.ActReferenceIdeal
open Cert.ActIdeal.Value (dAct)

variable (m : (ℓ : Loc nD τ sig) → Buf (Elt Ideal) ℓ) (ρ : Dev nD → PrngReg)

set_option maxHeartbeats 400000 in
/-- Every run of the reference ends with the same and leaves its arguments. -/
theorem run_rows : θ_run defs (onTc (τ := τ) (main (F := Ideal))) ⟨m, fun _ => 0, ρ⟩ fun r => ∀ c : Dev nD,
    r.2.mem ((c.tc : Thread nD τ).loc main_v8) = dAct (m ((c.tc : Thread nD τ).loc main_arg0)) (m ((c.tc : Thread nD τ).loc main_arg1)) (m ((c.tc : Thread nD τ).loc main_arg2))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2) := by
  refine (θ_run defs _ _).mono (fun r h c => ?_) (run (F := Ideal) m ρ)
  obtain ⟨h0, k⟩ := h c
  refine ⟨h0.trans (funext fun j => ?_), k⟩
  · pointwise [dAct]

end Cert.ActReferenceIdeal.Value

end
-- ==== Proof.ConvRows.lean ====
/-
The backward pass through the convolution over time, in any set of channels: by tokens, channels and the channels of one head.
-/
module

public import Idealize.ShloMosaic.Lib.Pointwise

@[expose] public section

noncomputable section

open Idealize.ShloMosaic
open scoped BigOperators

namespace Cert.Rows

variable {C : Type}

/-- Every row `n` tokens later; zeros before the first. -/
def later (n : ℕ) (x : Fin 2048 → C → EReal) (r : Fin 2048) (l : C) : EReal :=
  if r.val < n then 0 else x ⟨r.val - n, by omega⟩ l

/-- Every row `n` tokens earlier; zeros after the last. -/
def sooner (n : ℕ) (x : Fin 2048 → C → EReal) (r : Fin 2048) (l : C) : EReal :=
  if h : r.val + n < 2048 then x ⟨r.val + n, h⟩ l else 0

/-- The causal convolution of every channel over time. -/
def taps (w : Fin 4 → C → EReal) (x : Fin 2048 → C → EReal) (r : Fin 2048) (l : C) : EReal :=
  w 3 l * x r l + w 2 l * later 1 x r l + w 1 l * later 2 x r l + w 0 l * later 3 x r l

/-- The logistic function. -/
def sigm (y : Fin 2048 → C → EReal) (r : Fin 2048) (l : C) : EReal := Ideal.div 1 (1 + Ideal.exp (-(y r l)))

/-- One over the length of the head's row of channel `l`; `mate l` lists the channels of that head. -/
def invLen (mate : C → Fin 128 → C) (c : Fin 2048 → C → EReal) (r : Fin 2048) (l : C) : EReal :=
  Ideal.rsqrt ((∑ k : Fin 128, c r (mate l k) * c r (mate l k)) + Ideal.ofBits .f32 0x358637BD#32)

/-- Backward through the rows of unit length, times `s`. -/
def unitGrad (s : EReal) (mate : C → Fin 128 → C) (c d : Fin 2048 → C → EReal) (r : Fin 2048) (l : C) : EReal :=
  s * invLen mate c r l * (d r l - c r l * invLen mate c r l * ∑ k : Fin 128, d r (mate l k) * (c r (mate l k) * invLen mate c r l))

/-- Backward through silu of `y`, whose logistic function is `s`. -/
def siluGrad (y s d : Fin 2048 → C → EReal) (r : Fin 2048) (l : C) : EReal := d r l * s r l * (1 + y r l * (1 - s r l))

/-- Both, of the convolution of `x`. -/
def keyGrad (s : EReal) (mate : C → Fin 128 → C) (w : Fin 4 → C → EReal) (x d : Fin 2048 → C → EReal) : Fin 2048 → C → EReal :=
  siluGrad (taps w x) (sigm (taps w x)) (unitGrad s mate (fun r l => taps w x r l * sigm (taps w x) r l) d)

/-- Only silu. -/
def valueGrad (w : Fin 4 → C → EReal) (x d : Fin 2048 → C → EReal) : Fin 2048 → C → EReal :=
  siluGrad (taps w x) (sigm (taps w x)) d

/-- The gradient of the convolution's input, of the gradient of its result. -/
def convGrad (w : Fin 4 → C → EReal) (g : Fin 2048 → C → EReal) (r : Fin 2048) (l : C) : EReal :=
  w 3 l * g r l + w 2 l * sooner 1 g r l + w 1 l * sooner 2 g r l + w 0 l * sooner 3 g r l

/-- The gradient of its weights. -/
def tapGrad (x g : Fin 2048 → C → EReal) (j : Fin 4) (l : C) : EReal :=
  match j with
  | 0 => ∑ r : Fin 2048, g r l * later 3 x r l
  | 1 => ∑ r : Fin 2048, g r l * later 2 x r l
  | 2 => ∑ r : Fin 2048, g r l * later 1 x r l
  | 3 => ∑ r : Fin 2048, g r l * x r l

/-- What is computed of some heads' channels alone is what is computed of all channels. -/
theorem keyGrad_of {B : Type} (e : B → C) (mate : C → Fin 128 → C) (mate' : B → Fin 128 → B) (h : ∀ l k, mate (e l) k = e (mate' l k))
    (s : EReal) (w : Fin 4 → C → EReal) (x d : Fin 2048 → C → EReal) :
    keyGrad s mate' (fun j l => w j (e l)) (fun r l => x r (e l)) (fun r l => d r (e l)) = fun r l => keyGrad s mate w x d r (e l) := by
  funext r l
  simp only [keyGrad, siluGrad, unitGrad, invLen, h]
  rfl

/-- The same of the two gradients of the convolution. -/
theorem convGrad_of {B : Type} (e : B → C) (w : Fin 4 → C → EReal) (g : Fin 2048 → C → EReal) (r : Fin 2048) (l : B) :
    convGrad (fun j l => w j (e l)) (fun r l => g r (e l)) r l = convGrad w g r (e l) := rfl

theorem tapGrad_of {B : Type} (e : B → C) (x g : Fin 2048 → C → EReal) (j : Fin 4) (l : B) :
    tapGrad (fun r l => x r (e l)) (fun r l => g r (e l)) j l = tapGrad x g j (e l) :=
  match j with
  | 0 => rfl
  | 1 => rfl
  | 2 => rfl
  | 3 => rfl

/-- The gradient of the weights, row after row. -/
theorem tapGrad_rows (x g : Fin 2048 → C → EReal) (j : Fin 4) (l : C) :
    (if _h : j.val < 1 then ∑ r : Fin 2048, g r l * later 3 x r l else if _h : j.val - 1 < 1 then ∑ r : Fin 2048, g r l * later 2 x r l
      else if _h : j.val - 1 - 1 < 1 then ∑ r : Fin 2048, g r l * later 1 x r l else ∑ r : Fin 2048, g r l * x r l) = tapGrad x g j l :=
  match j with
  | 0 => rfl
  | 1 => rfl
  | 2 => rfl
  | 3 => rfl

/-- The channels of the head that channel `q` of the 512 belongs to. -/
def heads (q : Fin 512) (k : Fin 128) : Fin 512 := ⟨q.val / 128 * 128 + k.val, by omega⟩

/-- Channel `l` of head `t`. -/
def chan (t : Fin 4) (l : Fin 128) : Fin 512 := ⟨t.val * 128 + l.val, by omega⟩

theorem heads_chan (t : Fin 4) (l k : Fin 128) : heads (chan t l) k = chan t k := Fin.ext (by simp only [heads, chan]; omega)

end Cert.Rows

end
-- ==== Proof.ConvKernel.lean ====
/-
Backward through the convolution: what one head's block of the kernel computes, payload by payload.
-/
module

public import proofs.«01_k».proof.Proof.ConvRows
public import proofs.«01_k».proof.Proof.Gen.ConvGradIdeal.Value
public import Idealize.ShloMosaic.Lib.Pipeline.ValueKit
public import Idealize.ShloMosaic.Lib.Pointwise

@[expose] public section

set_option maxRecDepth 16384
set_option maxHeartbeats 400000

noncomputable section

open Idealize.ShloMosaic Idealize.ShloMosaic.TcCoe Idealize.SL.Sem
open scoped BigOperators

namespace Cert.ConvGradIdeal.Value

open Cert.ConvGradIdeal Cert.ConvGradIdeal.Gen Cert.Rows

/-- A block by rows and columns. -/
abbrev tok (x : FVec Ideal S2048x128 .f32) (r : Fin 2048) (l : Fin 128) : EReal := x (ix2 r l)

/-- The same of a block of the weights. -/
abbrev tap (w : FVec Ideal S4x128 .f32) (j : Fin 4) (l : Fin 128) : EReal := w (ix2 j l)

/-- Within a block, one head. -/
abbrev all (_ : Fin 128) (k : Fin 128) : Fin 128 := k

/-- The numbers of the rows. -/
abbrev rows : IVec S2048x128 32 := iota .tc S2048x128 32 [0] iota_S2048x128_d0_w32

theorem ge_1 : ∀ a : Fin 2048, IntOp.cmpi .sge (BitVec.ofNat 32 a.val) 1#32 = if a.val < 1 then 0 else 1 := by decide +kernel

theorem lt_1 : ∀ a : Fin 2048, IntOp.cmpi .slt (BitVec.ofNat 32 a.val) 2047#32 = if a.val + 1 < 2048 then 1 else 0 := by decide +kernel

theorem later_1 (x : FVec Ideal S2048x128 .f32) :
    select (cmpi .sge rows (broadcast S2048x128 1#32)) (dynamicRotate 0 1#32 none x rotates_S2048x128_d0)
      (broadcast S2048x128 (Scalar.ofBits .f32 0x00000000#32 : Ideal .f32)) = fun j => later 1 (tok x) (j 0) (j 1) := by
  funext j
  pointwise [later]
  have hj : (j 0).val < 2048 := (j 0).isLt
  rw [ge_1 (j 0)]
  by_cases h : (j 0).val < 1
  · simp [h, Scalar.select]
  · simp only [h, if_true, if_false, dite_true, Scalar.select]
    exact congrArg (fun r => x (ix2 r (j 1))) (Fin.ext (by dsimp only; omega))

theorem sooner_1 (x : FVec Ideal S2048x128 .f32) :
    select (cmpi .slt rows (broadcast S2048x128 2047#32)) (dynamicRotate 0 2047#32 none x rotates_S2048x128_d0)
      (broadcast S2048x128 (Scalar.ofBits .f32 0x00000000#32 : Ideal .f32)) = fun j => sooner 1 (tok x) (j 0) (j 1) := by
  funext j
  pointwise [sooner]
  have hj : (j 0).val < 2048 := (j 0).isLt
  rw [lt_1 (j 0)]
  by_cases h : (j 0).val + 1 < 2048
  · simp only [h, if_true, if_false, dite_true, Scalar.select]
    exact congrArg (fun r => x (ix2 r (j 1))) (Fin.ext (by dsimp only; omega))
  · simp [h, Scalar.select]

theorem ge_2 : ∀ a : Fin 2048, IntOp.cmpi .sge (BitVec.ofNat 32 a.val) 2#32 = if a.val < 2 then 0 else 1 := by decide +kernel

theorem lt_2 : ∀ a : Fin 2048, IntOp.cmpi .slt (BitVec.ofNat 32 a.val) 2046#32 = if a.val + 2 < 2048 then 1 else 0 := by decide +kernel

theorem later_2 (x : FVec Ideal S2048x128 .f32) :
    select (cmpi .sge rows (broadcast S2048x128 2#32)) (dynamicRotate 0 2#32 none x rotates_S2048x128_d0)
      (broadcast S2048x128 (Scalar.ofBits .f32 0x00000000#32 : Ideal .f32)) = fun j => later 2 (tok x) (j 0) (j 1) := by
  funext j
  pointwise [later]
  have hj : (j 0).val < 2048 := (j 0).isLt
  rw [ge_2 (j 0)]
  by_cases h : (j 0).val < 2
  · simp [h, Scalar.select]
  · simp only [h, if_true, if_false, dite_true, Scalar.select]
    exact congrArg (fun r => x (ix2 r (j 1))) (Fin.ext (by dsimp only; omega))

theorem sooner_2 (x : FVec Ideal S2048x128 .f32) :
    select (cmpi .slt rows (broadcast S2048x128 2046#32)) (dynamicRotate 0 2046#32 none x rotates_S2048x128_d0)
      (broadcast S2048x128 (Scalar.ofBits .f32 0x00000000#32 : Ideal .f32)) = fun j => sooner 2 (tok x) (j 0) (j 1) := by
  funext j
  pointwise [sooner]
  have hj : (j 0).val < 2048 := (j 0).isLt
  rw [lt_2 (j 0)]
  by_cases h : (j 0).val + 2 < 2048
  · simp only [h, if_true, if_false, dite_true, Scalar.select]
    exact congrArg (fun r => x (ix2 r (j 1))) (Fin.ext (by dsimp only; omega))
  · simp [h, Scalar.select]

theorem ge_3 : ∀ a : Fin 2048, IntOp.cmpi .sge (BitVec.ofNat 32 a.val) 3#32 = if a.val < 3 then 0 else 1 := by decide +kernel

theorem lt_3 : ∀ a : Fin 2048, IntOp.cmpi .slt (BitVec.ofNat 32 a.val) 2045#32 = if a.val + 3 < 2048 then 1 else 0 := by decide +kernel

theorem later_3 (x : FVec Ideal S2048x128 .f32) :
    select (cmpi .sge rows (broadcast S2048x128 3#32)) (dynamicRotate 0 3#32 none x rotates_S2048x128_d0)
      (broadcast S2048x128 (Scalar.ofBits .f32 0x00000000#32 : Ideal .f32)) = fun j => later 3 (tok x) (j 0) (j 1) := by
  funext j
  pointwise [later]
  have hj : (j 0).val < 2048 := (j 0).isLt
  rw [ge_3 (j 0)]
  by_cases h : (j 0).val < 3
  · simp [h, Scalar.select]
  · simp only [h, if_true, if_false, dite_true, Scalar.select]
    exact congrArg (fun r => x (ix2 r (j 1))) (Fin.ext (by dsimp only; omega))

theorem sooner_3 (x : FVec Ideal S2048x128 .f32) :
    select (cmpi .slt rows (broadcast S2048x128 2045#32)) (dynamicRotate 0 2045#32 none x rotates_S2048x128_d0)
      (broadcast S2048x128 (Scalar.ofBits .f32 0x00000000#32 : Ideal .f32)) = fun j => sooner 3 (tok x) (j 0) (j 1) := by
  funext j
  pointwise [sooner]
  have hj : (j 0).val < 2048 := (j 0).isLt
  rw [lt_3 (j 0)]
  by_cases h : (j 0).val + 3 < 2048
  · simp only [h, if_true, if_false, dite_true, Scalar.select]
    exact congrArg (fun r => x (ix2 r (j 1))) (Fin.ext (by dsimp only; omega))
  · simp [h, Scalar.select]

theorem query_taps (x : FVec Ideal S2048x128 .f32) (w : FVec Ideal S4x128 .f32) :
    k0_pay2 (F := Ideal) x w = (fun j => taps (tap w) (tok x) (j 0) (j 1) : FVec Ideal S2048x128 .f32) := by
  unfold k0_pay2
  dsimp only
  rw [later_1, later_2, later_3]
  funext j
  pointwise [tok, tap, taps]

theorem query_logistic (x : FVec Ideal S2048x128 .f32) (w : FVec Ideal S4x128 .f32) :
    k0_pay3 (F := Ideal) x w = (fun j => sigm (taps (tap w) (tok x)) (j 0) (j 1) : FVec Ideal S2048x128 .f32) := by
  unfold k0_pay3
  dsimp only
  rw [query_taps]
  funext j
  pointwise [sigm, zero_sub]

theorem query_act (y s : Fin 2048 → Fin 128 → EReal) (d : FVec Ideal S2048x128 .f32) :
    k0_pay4 (F := Ideal) (fun j => y (j 0) (j 1) : FVec Ideal S2048x128 .f32) (fun j => s (j 0) (j 1) : FVec Ideal S2048x128 .f32) d =
      (fun j => siluGrad y s (unitGrad (Ideal.ofBits .f32 0x3DB504F3#32) all (fun r l => y r l * s r l) (tok d)) (j 0) (j 1) : FVec Ideal S2048x128 .f32) := by
  funext j
  unfold k0_pay4
  pointwise [tok, tap, siluGrad, unitGrad, invLen, all]

theorem query_grad (x d : FVec Ideal S2048x128 .f32) (w : FVec Ideal S4x128 .f32) :
    k0_pay4 (F := Ideal) (k0_pay2 (F := Ideal) x w) (k0_pay3 (F := Ideal) x w) d = (fun j => keyGrad (Ideal.ofBits .f32 0x3DB504F3#32) all (tap w) (tok x) (tok d) (j 0) (j 1) : FVec Ideal S2048x128 .f32) := by
  rw [query_taps, query_logistic, query_act]
  rfl

theorem key_taps (x : FVec Ideal S2048x128 .f32) (w : FVec Ideal S4x128 .f32) :
    k0_pay12 (F := Ideal) rows x w = (fun j => taps (tap w) (tok x) (j 0) (j 1) : FVec Ideal S2048x128 .f32) := by
  unfold k0_pay12
  dsimp only
  rw [later_1, later_2, later_3]
  funext j
  pointwise [tok, tap, taps]

theorem key_act (y : Fin 2048 → Fin 128 → EReal) (e d : FVec Ideal S2048x128 .f32) (he : ∀ j, e j = Ideal.exp (-(y (j 0) (j 1)))) :
    k0_pay14 (F := Ideal) (fun j => y (j 0) (j 1) : FVec Ideal S2048x128 .f32) e d =
      (fun j => siluGrad y (sigm y) (unitGrad 1 all (fun r l => y r l * sigm y r l) (tok d)) (j 0) (j 1) : FVec Ideal S2048x128 .f32) := by
  funext j
  unfold k0_pay14
  pointwise [tok, tap, siluGrad, unitGrad, invLen, all, sigm, he]

theorem key_grad (x d : FVec Ideal S2048x128 .f32) (w : FVec Ideal S4x128 .f32) :
    k0_pay14 (F := Ideal) (k0_pay12 (F := Ideal) rows x w) (k0_pay13 (F := Ideal) rows x w) d = (fun j => keyGrad 1 all (tap w) (tok x) (tok d) (j 0) (j 1) : FVec Ideal S2048x128 .f32) := by
  have he : ∀ j : S2048x128.Idx, k0_pay13 (F := Ideal) rows x w j = Ideal.exp (-(taps (tap w) (tok x) (j 0) (j 1))) := fun j : S2048x128.Idx => by
    unfold k0_pay13
    rw [key_taps]
    pointwise [zero_sub]
  rw [key_taps, key_act _ _ d he]
  rfl

theorem value_grad (x d : FVec Ideal S2048x128 .f32) (w : FVec Ideal S4x128 .f32) :
    k0_pay28 (F := Ideal) (k0_pay24 (F := Ideal) rows x w) (k0_pay25 w) (k0_pay26 rows) (k0_pay27 x) (Scalar.ofBits .f32 0x00000000#32) d =
      (fun j => valueGrad (tap w) (tok x) (tok d) (j 0) (j 1) : FVec Ideal S2048x128 .f32) := by
  unfold k0_pay24 k0_pay25 k0_pay26 k0_pay27 k0_pay28
  dsimp only
  rw [later_1, later_2, later_3]
  funext j
  pointwise [tok, tap, valueGrad, siluGrad, sigm, taps, zero_sub]

theorem query_input (y s d g : FVec Ideal S2048x128 .f32) (w : FVec Ideal S4x128 .f32) (h : k0_pay4 (F := Ideal) y s d = g) :
    k0_pay7 (F := Ideal) rows g (k0_pay5 (F := Ideal) rows w y s d) (k0_pay6 w) = (fun j => convGrad (tap w) (tok g) (j 0) (j 1) : FVec Ideal S2048x128 .f32) := by
  unfold k0_pay7 k0_pay5 k0_pay6
  dsimp only
  rw [h, sooner_1, sooner_2, sooner_3]
  funext j
  pointwise [tok, tap, convGrad]

theorem key_input (y s d g : FVec Ideal S2048x128 .f32) (w : FVec Ideal S4x128 .f32) (h : k0_pay14 (F := Ideal) y s d = g) :
    k0_pay18 (F := Ideal) rows w g (k0_pay15 (F := Ideal) rows w y s d) (k0_pay16 w) (k0_pay17 rows) = (fun j => convGrad (tap w) (tok g) (j 0) (j 1) : FVec Ideal S2048x128 .f32) := by
  unfold k0_pay18 k0_pay15 k0_pay16 k0_pay17
  dsimp only
  rw [h, sooner_1, sooner_2, sooner_3]
  funext j
  pointwise [tok, tap, convGrad]

theorem value_input (a : FVec Ideal S2048x128 .f32) (b c e z d g w) (h : k0_pay28 (F := Ideal) a b c e z d = g) :
    k0_pay33 (F := Ideal) (k0_pay29 (F := Ideal) rows w a b c e z d) (k0_pay30 w) (k0_pay31 rows) (k0_pay32 a b c e z d) =
      (fun j => convGrad (tap w) (tok g) (j 0) (j 1) : FVec Ideal S2048x128 .f32) := by
  unfold k0_pay29 k0_pay30 k0_pay31 k0_pay32 k0_pay33
  dsimp only
  rw [h, sooner_1, sooner_2, sooner_3]
  funext j
  pointwise [tok, tap, convGrad]

theorem query_tap_3 (x g : FVec Ideal S2048x128 .f32) : k0_pay11 x g = (fun j => tapGrad (tok x) (tok g) 3 (j 1) : FVec Ideal S1x128 .f32) := by
  unfold k0_pay11
  dsimp only
  funext j
  pointwise [tok, tap, tapGrad]

theorem query_tap_2 (x g : FVec Ideal S2048x128 .f32) : k0_pay10 rows x g = (fun j => tapGrad (tok x) (tok g) 2 (j 1) : FVec Ideal S1x128 .f32) := by
  unfold k0_pay10
  dsimp only
  rw [later_1]
  funext j
  pointwise [tok, tap, tapGrad]

theorem query_tap_1 (x g : FVec Ideal S2048x128 .f32) : k0_pay9 rows x g = (fun j => tapGrad (tok x) (tok g) 1 (j 1) : FVec Ideal S1x128 .f32) := by
  unfold k0_pay9
  dsimp only
  rw [later_2]
  funext j
  pointwise [tok, tap, tapGrad]

theorem query_tap_0 (x g : FVec Ideal S2048x128 .f32) : k0_pay8 rows x g = (fun j => tapGrad (tok x) (tok g) 0 (j 1) : FVec Ideal S1x128 .f32) := by
  unfold k0_pay8
  dsimp only
  rw [later_3]
  funext j
  pointwise [tok, tap, tapGrad]

theorem key_tap_3 (x g : FVec Ideal S2048x128 .f32) : k0_pay23 x g = (fun j => tapGrad (tok x) (tok g) 3 (j 1) : FVec Ideal S1x128 .f32) := by
  unfold k0_pay23
  dsimp only
  funext j
  pointwise [tok, tap, tapGrad]

theorem key_tap_2 (x g : FVec Ideal S2048x128 .f32) : k0_pay22 x g (k0_pay21 rows) 1#32 = (fun j => tapGrad (tok x) (tok g) 2 (j 1) : FVec Ideal S1x128 .f32) := by
  unfold k0_pay22 k0_pay21
  dsimp only
  rw [later_1]
  funext j
  pointwise [tok, tap, tapGrad]

theorem key_tap_1 (x g : FVec Ideal S2048x128 .f32) : k0_pay20 rows x g = (fun j => tapGrad (tok x) (tok g) 1 (j 1) : FVec Ideal S1x128 .f32) := by
  unfold k0_pay20
  dsimp only
  rw [later_2]
  funext j
  pointwise [tok, tap, tapGrad]

theorem key_tap_0 (x g : FVec Ideal S2048x128 .f32) : k0_pay19 rows x g = (fun j => tapGrad (tok x) (tok g) 0 (j 1) : FVec Ideal S1x128 .f32) := by
  unfold k0_pay19
  dsimp only
  rw [later_3]
  funext j
  pointwise [tok, tap, tapGrad]

theorem value_tap_3 (x g : FVec Ideal S2048x128 .f32) : k0_pay1 (k0_pay37 x g) = (fun j => tapGrad (tok x) (tok g) 3 (j 1) : FVec Ideal S1x128 .f32) := by
  unfold k0_pay1 k0_pay37
  dsimp only
  funext j
  pointwise [tok, tap, tapGrad]

theorem value_tap_2 (x g : FVec Ideal S2048x128 .f32) : k0_pay36 rows x g = (fun j => tapGrad (tok x) (tok g) 2 (j 1) : FVec Ideal S1x128 .f32) := by
  unfold k0_pay36
  dsimp only
  rw [later_1]
  funext j
  pointwise [tok, tap, tapGrad]

theorem value_tap_1 (x g : FVec Ideal S2048x128 .f32) : k0_pay35 rows x g = (fun j => tapGrad (tok x) (tok g) 1 (j 1) : FVec Ideal S1x128 .f32) := by
  unfold k0_pay35
  dsimp only
  rw [later_2]
  funext j
  pointwise [tok, tap, tapGrad]

theorem value_tap_0 (x g : FVec Ideal S2048x128 .f32) : k0_pay34 rows x g = (fun j => tapGrad (tok x) (tok g) 0 (j 1) : FVec Ideal S1x128 .f32) := by
  unfold k0_pay34
  dsimp only
  rw [later_3]
  funext j
  pointwise [tok, tap, tapGrad]

end Cert.ConvGradIdeal.Value

end
-- ==== Proof.ConvArrays.lean ====
/-
The arrays that the backward pass through the convolution leaves.
-/
module

public import proofs.«01_k».proof.Proof.ConvRows
public import proofs.«01_k».proof.Proof.Gen.ConvGradIdeal.Frame

@[expose] public section

set_option maxRecDepth 16384
set_option maxHeartbeats 400000

noncomputable section

open Idealize.ShloMosaic Idealize.ShloMosaic.TcCoe Idealize.SL.Sem
open scoped BigOperators

namespace Cert.ConvGradIdeal.Value

open Cert.ConvGradIdeal Cert.Rows

/-- 512 columns of the projections, from column `o`. -/
def cols (o : Fin 3201) (a : FVec Ideal S2048x3712 .f32) (r : Fin 2048) (q : Fin 512) : EReal := a (ix2 r ⟨o.val + q.val, by omega⟩)

/-- 512 columns of the weights, from column `o`. -/
def wts (o : Fin 1025) (a : FVec Ideal S4x1536 .f32) (j : Fin 4) (q : Fin 512) : EReal := a (ix2 j ⟨o.val + q.val, by omega⟩)

/-- A gradient by tokens and channels. -/
def grd (a : FVec Ideal S2048x512 .f32) (r : Fin 2048) (q : Fin 512) : EReal := a (ix2 r q)

/-- The gradient of the convolution's result, of the queries. -/
def gradQ (a0 : FVec Ideal S2048x3712 .f32) (a1 : FVec Ideal S4x1536 .f32) (a2 : FVec Ideal S2048x512 .f32) : Fin 2048 → Fin 512 → EReal :=
  keyGrad (Ideal.ofBits .f32 0x3DB504F3#32) heads (wts 0 a1) (cols 1536 a0) (grd a2)

/-- The same of the keys. -/
def gradK (a0 : FVec Ideal S2048x3712 .f32) (a1 : FVec Ideal S4x1536 .f32) (a3 : FVec Ideal S2048x512 .f32) : Fin 2048 → Fin 512 → EReal :=
  keyGrad 1 heads (wts 512 a1) (cols 2048 a0) (grd a3)

/-- The same of the values. -/
def gradV (a0 : FVec Ideal S2048x3712 .f32) (a1 : FVec Ideal S4x1536 .f32) (a4 : FVec Ideal S2048x512 .f32) : Fin 2048 → Fin 512 → EReal :=
  valueGrad (wts 1024 a1) (cols 2560 a0) (grd a4)

/-- The gradient of the projections' columns of the queries. -/
def inQ (a0 : FVec Ideal S2048x3712 .f32) (a1 : FVec Ideal S4x1536 .f32) (a2 : FVec Ideal S2048x512 .f32) : FVec Ideal S2048x512 .f32 := fun i =>
  convGrad (wts 0 a1) (gradQ a0 a1 a2) (i 0) (i 1)

/-- The gradient of their weights. -/
def tapQ (a0 : FVec Ideal S2048x3712 .f32) (a1 : FVec Ideal S4x1536 .f32) (a2 : FVec Ideal S2048x512 .f32) : FVec Ideal S4x512 .f32 := fun i =>
  tapGrad (cols 1536 a0) (gradQ a0 a1 a2) (i 0) (i 1)

/-- The gradient of the projections' columns of the keys. -/
def inK (a0 : FVec Ideal S2048x3712 .f32) (a1 : FVec Ideal S4x1536 .f32) (a3 : FVec Ideal S2048x512 .f32) : FVec Ideal S2048x512 .f32 := fun i =>
  convGrad (wts 512 a1) (gradK a0 a1 a3) (i 0) (i 1)

/-- The gradient of their weights. -/
def tapK (a0 : FVec Ideal S2048x3712 .f32) (a1 : FVec Ideal S4x1536 .f32) (a3 : FVec Ideal S2048x512 .f32) : FVec Ideal S4x512 .f32 := fun i =>
  tapGrad (cols 2048 a0) (gradK a0 a1 a3) (i 0) (i 1)

/-- The gradient of the projections' columns of the values. -/
def inV (a0 : FVec Ideal S2048x3712 .f32) (a1 : FVec Ideal S4x1536 .f32) (a4 : FVec Ideal S2048x512 .f32) : FVec Ideal S2048x512 .f32 := fun i =>
  convGrad (wts 1024 a1) (gradV a0 a1 a4) (i 0) (i 1)

/-- The gradient of their weights. -/
def tapV (a0 : FVec Ideal S2048x3712 .f32) (a1 : FVec Ideal S4x1536 .f32) (a4 : FVec Ideal S2048x512 .f32) : FVec Ideal S4x512 .f32 := fun i =>
  tapGrad (cols 2560 a0) (gradV a0 a1 a4) (i 0) (i 1)

end Cert.ConvGradIdeal.Value

end
-- ==== Proof.ConvBlocks.lean ====
/-
Backward through the convolution: what each head's block holds, and the arrays the call leaves.
-/
module

public import proofs.«01_k».proof.Proof.ConvKernel
public import proofs.«01_k».proof.Proof.ConvArrays

@[expose] public section

set_option maxRecDepth 16384
set_option maxHeartbeats 400000

noncomputable section

open Idealize.ShloMosaic Idealize.ShloMosaic.TcCoe Idealize.SL.Sem
open scoped BigOperators

namespace Cert.ConvGradIdeal.Value

open Cert.ConvGradIdeal Cert.ConvGradIdeal.Gen Cert.Rows

theorem ldX (x : Vec Ideal S2048x128 .f32) : View.ld x r0_0 = x := View.ld_unit_lit _ _ (by decide)

theorem ldW (x : Vec Ideal S4x128 .f32) : View.ld x r0_1 = x := View.ld_unit_lit _ _ (by decide)

variable (m : (ℓ : Loc nD τ sig) → Buf (Elt Ideal) ℓ)

theorem idx : ∀ t : Fin cfg0.N, win0_0.index t = ![0, 12 + t.val] ∧ win0_1.index t = ![0, 16 + t.val] ∧ win0_2.index t = ![0, 20 + t.val]
    ∧ win0_3.index t = ![0, t.val] ∧ win0_4.index t = ![0, 4 + t.val] ∧ win0_5.index t = ![0, 8 + t.val] ∧ win0_6.index t = ![0, t.val]
    ∧ win0_7.index t = ![0, t.val] ∧ win0_8.index t = ![0, t.val] ∧ win0_9.index t = ![0, t.val] ∧ win0_10.index t = ![0, t.val]
    ∧ win0_11.index t = ![0, t.val] ∧ win0_12.index t = ![0, t.val] ∧ win0_13.index t = ![0, t.val] ∧ win0_14.index t = ![0, t.val] :=
  (by decide +kernel : ∀ t : Fin grid0.N, _)

/-- The head of point `t`. -/
def hd (t : Fin cfg0.N) : Fin 4 := ⟨t.val, t.isLt⟩

theorem blk0 (c : Dev nD) (t : Fin cfg0.N) : tok (iblk m c 0 t) = fun r l => cols 1536 (m ((c : Thread nD τ).loc main_arg0)) r (chan (hd t) l) := by
  funext r l
  unfold tok cols chan hd
  blk_point [iblk, V, idx t]

theorem blk1 (c : Dev nD) (t : Fin cfg0.N) : tok (iblk m c 1 t) = fun r l => cols 2048 (m ((c : Thread nD τ).loc main_arg0)) r (chan (hd t) l) := by
  funext r l
  unfold tok cols chan hd
  blk_point [iblk, V, idx t]

theorem blk2 (c : Dev nD) (t : Fin cfg0.N) : tok (iblk m c 2 t) = fun r l => cols 2560 (m ((c : Thread nD τ).loc main_arg0)) r (chan (hd t) l) := by
  funext r l
  unfold tok cols chan hd
  blk_point [iblk, V, idx t]

theorem blk3 (c : Dev nD) (t : Fin cfg0.N) : tap (iblk m c 3 t) = fun j l => wts 0 (m ((c : Thread nD τ).loc main_arg1)) j (chan (hd t) l) := by
  funext r l
  unfold tap wts chan hd
  blk_point [iblk, V, idx t]

theorem blk4 (c : Dev nD) (t : Fin cfg0.N) : tap (iblk m c 4 t) = fun j l => wts 512 (m ((c : Thread nD τ).loc main_arg1)) j (chan (hd t) l) := by
  funext r l
  unfold tap wts chan hd
  blk_point [iblk, V, idx t]

theorem blk5 (c : Dev nD) (t : Fin cfg0.N) : tap (iblk m c 5 t) = fun j l => wts 1024 (m ((c : Thread nD τ).loc main_arg1)) j (chan (hd t) l) := by
  funext r l
  unfold tap wts chan hd
  blk_point [iblk, V, idx t]

theorem blk6 (c : Dev nD) (t : Fin cfg0.N) : tok (iblk m c 6 t) = fun r l => grd (m ((c : Thread nD τ).loc main_arg2)) r (chan (hd t) l) := by
  funext r l
  unfold tok grd chan hd
  blk_point [iblk, V, idx t]

theorem blk7 (c : Dev nD) (t : Fin cfg0.N) : tok (iblk m c 7 t) = fun r l => grd (m ((c : Thread nD τ).loc main_arg3)) r (chan (hd t) l) := by
  funext r l
  unfold tok grd chan hd
  blk_point [iblk, V, idx t]

theorem blk8 (c : Dev nD) (t : Fin cfg0.N) : tok (iblk m c 8 t) = fun r l => grd (m ((c : Thread nD τ).loc main_arg4)) r (chan (hd t) l) := by
  funext r l
  unfold tok grd chan hd
  blk_point [iblk, V, idx t]

theorem gradQ_blk (c : Dev nD) (t : Fin cfg0.N) : keyGrad (Ideal.ofBits .f32 0x3DB504F3#32) all (tap (iblk m c 3 t)) (tok (iblk m c 0 t)) (tok (iblk m c 6 t)) = fun r l =>
    gradQ (m ((c : Thread nD τ).loc main_arg0)) (m ((c : Thread nD τ).loc main_arg1)) (m ((c : Thread nD τ).loc main_arg2)) r (chan (hd t) l) := by
  rw [blk0, blk3, blk6]
  exact keyGrad_of (chan (hd t)) heads all (heads_chan (hd t)) _ _ _ _

theorem actQ_blk (c : Dev nD) (t : Fin cfg0.N) : k0_pay41 (F := Ideal) (iblk m c 0 t) (iblk m c 1 t) (iblk m c 2 t) (iblk m c 3 t) (iblk m c 4 t) (iblk m c 5 t) (iblk m c 6 t) (iblk m c 7 t) (iblk m c 8 t) =
    (fun j => gradQ (m ((c : Thread nD τ).loc main_arg0)) (m ((c : Thread nD τ).loc main_arg1)) (m ((c : Thread nD τ).loc main_arg2)) (j 0) (chan (hd t) (j 1)) : FVec Ideal S2048x128 .f32) := by
  unfold k0_pay41 k0_pay40 k0_pay39
  simp only [ldX, ldW]
  rw [query_grad, gradQ_blk]

/-- Block `t` holds the 128 columns of head `t`. -/
theorem final9 (c : Dev nD) : (dats m 0 c).arrAt 9 (cfgs 0).N =
    inQ (m ((c : Thread nD τ).loc main_arg0)) (m ((c : Thread nD τ).loc main_arg1)) (m ((c : Thread nD τ).loc main_arg2)) := by
  refine (dats m 0 c).arrAt_eq_of_covers 9 _ (by decide +kernel) fun t _ y => ?_
  blk_simp
  rw [after0_9]; frame_out
  have e : k0_pay4 (k0_pay39 (iblk m c 0 t) (iblk m c 1 t) (iblk m c 2 t) (iblk m c 3 t) (iblk m c 4 t) (iblk m c 5 t) (iblk m c 6 t) (iblk m c 7 t) (iblk m c 8 t)) (k0_pay40 (iblk m c 0 t) (iblk m c 1 t) (iblk m c 2 t) (iblk m c 3 t) (iblk m c 4 t) (iblk m c 5 t) (iblk m c 6 t) (iblk m c 7 t) (iblk m c 8 t)) (iblk m c 6 t) = k0_pay41 (iblk m c 0 t) (iblk m c 1 t) (iblk m c 2 t) (iblk m c 3 t) (iblk m c 4 t) (iblk m c 5 t) (iblk m c 6 t) (iblk m c 7 t) (iblk m c 8 t) := by
    unfold k0_pay41
    rw [ldX]
  rw [show k0_pay38 (iblk m c 0 t) (iblk m c 1 t) (iblk m c 2 t) (iblk m c 3 t) (iblk m c 4 t) (iblk m c 5 t) (iblk m c 6 t) (iblk m c 7 t) (iblk m c 8 t) = rows from rfl]
  refine (congrFun (query_input _ _ _ _ _ e) y).trans ?_
  rw [actQ_blk, blk3]
  refine (convGrad_of (chan (hd t)) (wts 0 (m ((c : Thread nD τ).loc main_arg1))) (gradQ (m ((c : Thread nD τ).loc main_arg0)) (m ((c : Thread nD τ).loc main_arg1)) (m ((c : Thread nD τ).loc main_arg2))) (y 0) (y 1)).trans ?_
  unfold inQ
  refine congrArg₂ (convGrad (wts 0 (m ((c : Thread nD τ).loc main_arg1))) (gradQ (m ((c : Thread nD τ).loc main_arg0)) (m ((c : Thread nD τ).loc main_arg1)) (m ((c : Thread nD τ).loc main_arg2)))) (Fin.ext ?_) (Fin.ext ?_) <;> blk_simp [chan, hd, idx t] <;> omega

theorem final12 (c : Dev nD) : (dats m 0 c).arrAt 12 (cfgs 0).N =
    tapQ (m ((c : Thread nD τ).loc main_arg0)) (m ((c : Thread nD τ).loc main_arg1)) (m ((c : Thread nD τ).loc main_arg2)) := by
  refine (dats m 0 c).arrAt_eq_of_covers 12 _ (by decide +kernel) fun t _ y => ?_
  blk_simp
  rw [after0_12]; frame_out
  rw [show k0_pay38 (iblk m c 0 t) (iblk m c 1 t) (iblk m c 2 t) (iblk m c 3 t) (iblk m c 4 t) (iblk m c 5 t) (iblk m c 6 t) (iblk m c 7 t) (iblk m c 8 t) = rows from rfl, query_tap_3, query_tap_2, query_tap_1, query_tap_0, actQ_blk, blk0]
  canon_tiles x e using View.cover_of_tiledBy _ ![1, 128] (by sl_kernel_rfl) _
  · refine (tapGrad_of (chan (hd t)) (cols 1536 (m ((c : Thread nD τ).loc main_arg0))) (gradQ (m ((c : Thread nD τ).loc main_arg0)) (m ((c : Thread nD τ).loc main_arg1)) (m ((c : Thread nD τ).loc main_arg2))) 3 (x 1)).trans ?_
    unfold tapQ
    refine congrArg₂ (tapGrad (cols 1536 (m ((c : Thread nD τ).loc main_arg0))) (gradQ (m ((c : Thread nD τ).loc main_arg0)) (m ((c : Thread nD τ).loc main_arg1)) (m ((c : Thread nD τ).loc main_arg2)))) (Fin.ext ?_) (Fin.ext ?_)
    · blk_simp [idx t] <;> omega
    · show t.val * 128 + (x 1).val = _
      blk_simp [idx t] <;> omega
  · refine (tapGrad_of (chan (hd t)) (cols 1536 (m ((c : Thread nD τ).loc main_arg0))) (gradQ (m ((c : Thread nD τ).loc main_arg0)) (m ((c : Thread nD τ).loc main_arg1)) (m ((c : Thread nD τ).loc main_arg2))) 2 (x 1)).trans ?_
    unfold tapQ
    refine congrArg₂ (tapGrad (cols 1536 (m ((c : Thread nD τ).loc main_arg0))) (gradQ (m ((c : Thread nD τ).loc main_arg0)) (m ((c : Thread nD τ).loc main_arg1)) (m ((c : Thread nD τ).loc main_arg2)))) (Fin.ext ?_) (Fin.ext ?_)
    · blk_simp [idx t] <;> omega
    · show t.val * 128 + (x 1).val = _
      blk_simp [idx t] <;> omega
  · refine (tapGrad_of (chan (hd t)) (cols 1536 (m ((c : Thread nD τ).loc main_arg0))) (gradQ (m ((c : Thread nD τ).loc main_arg0)) (m ((c : Thread nD τ).loc main_arg1)) (m ((c : Thread nD τ).loc main_arg2))) 1 (x 1)).trans ?_
    unfold tapQ
    refine congrArg₂ (tapGrad (cols 1536 (m ((c : Thread nD τ).loc main_arg0))) (gradQ (m ((c : Thread nD τ).loc main_arg0)) (m ((c : Thread nD τ).loc main_arg1)) (m ((c : Thread nD τ).loc main_arg2)))) (Fin.ext ?_) (Fin.ext ?_)
    · blk_simp [idx t] <;> omega
    · show t.val * 128 + (x 1).val = _
      blk_simp [idx t] <;> omega
  · refine (tapGrad_of (chan (hd t)) (cols 1536 (m ((c : Thread nD τ).loc main_arg0))) (gradQ (m ((c : Thread nD τ).loc main_arg0)) (m ((c : Thread nD τ).loc main_arg1)) (m ((c : Thread nD τ).loc main_arg2))) 0 (x 1)).trans ?_
    unfold tapQ
    refine congrArg₂ (tapGrad (cols 1536 (m ((c : Thread nD τ).loc main_arg0))) (gradQ (m ((c : Thread nD τ).loc main_arg0)) (m ((c : Thread nD τ).loc main_arg1)) (m ((c : Thread nD τ).loc main_arg2)))) (Fin.ext ?_) (Fin.ext ?_)
    · blk_simp [idx t] <;> omega
    · show t.val * 128 + (x 1).val = _
      blk_simp [idx t] <;> omega

theorem gradK_blk (c : Dev nD) (t : Fin cfg0.N) : keyGrad 1 all (tap (iblk m c 4 t)) (tok (iblk m c 1 t)) (tok (iblk m c 7 t)) = fun r l =>
    gradK (m ((c : Thread nD τ).loc main_arg0)) (m ((c : Thread nD τ).loc main_arg1)) (m ((c : Thread nD τ).loc main_arg3)) r (chan (hd t) l) := by
  rw [blk1, blk4, blk7]
  exact keyGrad_of (chan (hd t)) heads all (heads_chan (hd t)) _ _ _ _

theorem actK_blk (c : Dev nD) (t : Fin cfg0.N) : k0_pay44 (F := Ideal) (iblk m c 0 t) (iblk m c 1 t) (iblk m c 2 t) (iblk m c 3 t) (iblk m c 4 t) (iblk m c 5 t) (iblk m c 6 t) (iblk m c 7 t) (iblk m c 8 t) =
    (fun j => gradK (m ((c : Thread nD τ).loc main_arg0)) (m ((c : Thread nD τ).loc main_arg1)) (m ((c : Thread nD τ).loc main_arg3)) (j 0) (chan (hd t) (j 1)) : FVec Ideal S2048x128 .f32) := by
  unfold k0_pay44 k0_pay43 k0_pay42 k0_pay38
  simp only [ldX, ldW]
  rw [key_grad, gradK_blk]

/-- Block `t` holds the 128 columns of head `t`. -/
theorem final10 (c : Dev nD) : (dats m 0 c).arrAt 10 (cfgs 0).N =
    inK (m ((c : Thread nD τ).loc main_arg0)) (m ((c : Thread nD τ).loc main_arg1)) (m ((c : Thread nD τ).loc main_arg3)) := by
  refine (dats m 0 c).arrAt_eq_of_covers 10 _ (by decide +kernel) fun t _ y => ?_
  blk_simp
  rw [after0_10]; frame_out
  have e : k0_pay14 (k0_pay42 (iblk m c 0 t) (iblk m c 1 t) (iblk m c 2 t) (iblk m c 3 t) (iblk m c 4 t) (iblk m c 5 t) (iblk m c 6 t) (iblk m c 7 t) (iblk m c 8 t)) (k0_pay43 (iblk m c 0 t) (iblk m c 1 t) (iblk m c 2 t) (iblk m c 3 t) (iblk m c 4 t) (iblk m c 5 t) (iblk m c 6 t) (iblk m c 7 t) (iblk m c 8 t)) (iblk m c 7 t) = k0_pay44 (iblk m c 0 t) (iblk m c 1 t) (iblk m c 2 t) (iblk m c 3 t) (iblk m c 4 t) (iblk m c 5 t) (iblk m c 6 t) (iblk m c 7 t) (iblk m c 8 t) := by
    unfold k0_pay44
    rw [ldX]
  rw [show k0_pay38 (iblk m c 0 t) (iblk m c 1 t) (iblk m c 2 t) (iblk m c 3 t) (iblk m c 4 t) (iblk m c 5 t) (iblk m c 6 t) (iblk m c 7 t) (iblk m c 8 t) = rows from rfl]
  refine (congrFun (key_input _ _ _ _ _ e) y).trans ?_
  rw [actK_blk, blk4]
  refine (convGrad_of (chan (hd t)) (wts 512 (m ((c : Thread nD τ).loc main_arg1))) (gradK (m ((c : Thread nD τ).loc main_arg0)) (m ((c : Thread nD τ).loc main_arg1)) (m ((c : Thread nD τ).loc main_arg3))) (y 0) (y 1)).trans ?_
  unfold inK
  refine congrArg₂ (convGrad (wts 512 (m ((c : Thread nD τ).loc main_arg1))) (gradK (m ((c : Thread nD τ).loc main_arg0)) (m ((c : Thread nD τ).loc main_arg1)) (m ((c : Thread nD τ).loc main_arg3)))) (Fin.ext ?_) (Fin.ext ?_) <;> blk_simp [chan, hd, idx t] <;> omega

theorem final13 (c : Dev nD) : (dats m 0 c).arrAt 13 (cfgs 0).N =
    tapK (m ((c : Thread nD τ).loc main_arg0)) (m ((c : Thread nD τ).loc main_arg1)) (m ((c : Thread nD τ).loc main_arg3)) := by
  refine (dats m 0 c).arrAt_eq_of_covers 13 _ (by decide +kernel) fun t _ y => ?_
  blk_simp
  rw [after0_13]; frame_out
  rw [show k0_pay38 (iblk m c 0 t) (iblk m c 1 t) (iblk m c 2 t) (iblk m c 3 t) (iblk m c 4 t) (iblk m c 5 t) (iblk m c 6 t) (iblk m c 7 t) (iblk m c 8 t) = rows from rfl, key_tap_3, key_tap_2, key_tap_1, key_tap_0, actK_blk, blk1]
  canon_tiles x e using View.cover_of_tiledBy _ ![1, 128] (by sl_kernel_rfl) _
  · refine (tapGrad_of (chan (hd t)) (cols 2048 (m ((c : Thread nD τ).loc main_arg0))) (gradK (m ((c : Thread nD τ).loc main_arg0)) (m ((c : Thread nD τ).loc main_arg1)) (m ((c : Thread nD τ).loc main_arg3))) 3 (x 1)).trans ?_
    unfold tapK
    refine congrArg₂ (tapGrad (cols 2048 (m ((c : Thread nD τ).loc main_arg0))) (gradK (m ((c : Thread nD τ).loc main_arg0)) (m ((c : Thread nD τ).loc main_arg1)) (m ((c : Thread nD τ).loc main_arg3)))) (Fin.ext ?_) (Fin.ext ?_)
    · blk_simp [idx t] <;> omega
    · show t.val * 128 + (x 1).val = _
      blk_simp [idx t] <;> omega
  · refine (tapGrad_of (chan (hd t)) (cols 2048 (m ((c : Thread nD τ).loc main_arg0))) (gradK (m ((c : Thread nD τ).loc main_arg0)) (m ((c : Thread nD τ).loc main_arg1)) (m ((c : Thread nD τ).loc main_arg3))) 2 (x 1)).trans ?_
    unfold tapK
    refine congrArg₂ (tapGrad (cols 2048 (m ((c : Thread nD τ).loc main_arg0))) (gradK (m ((c : Thread nD τ).loc main_arg0)) (m ((c : Thread nD τ).loc main_arg1)) (m ((c : Thread nD τ).loc main_arg3)))) (Fin.ext ?_) (Fin.ext ?_)
    · blk_simp [idx t] <;> omega
    · show t.val * 128 + (x 1).val = _
      blk_simp [idx t] <;> omega
  · refine (tapGrad_of (chan (hd t)) (cols 2048 (m ((c : Thread nD τ).loc main_arg0))) (gradK (m ((c : Thread nD τ).loc main_arg0)) (m ((c : Thread nD τ).loc main_arg1)) (m ((c : Thread nD τ).loc main_arg3))) 1 (x 1)).trans ?_
    unfold tapK
    refine congrArg₂ (tapGrad (cols 2048 (m ((c : Thread nD τ).loc main_arg0))) (gradK (m ((c : Thread nD τ).loc main_arg0)) (m ((c : Thread nD τ).loc main_arg1)) (m ((c : Thread nD τ).loc main_arg3)))) (Fin.ext ?_) (Fin.ext ?_)
    · blk_simp [idx t] <;> omega
    · show t.val * 128 + (x 1).val = _
      blk_simp [idx t] <;> omega
  · refine (tapGrad_of (chan (hd t)) (cols 2048 (m ((c : Thread nD τ).loc main_arg0))) (gradK (m ((c : Thread nD τ).loc main_arg0)) (m ((c : Thread nD τ).loc main_arg1)) (m ((c : Thread nD τ).loc main_arg3))) 0 (x 1)).trans ?_
    unfold tapK
    refine congrArg₂ (tapGrad (cols 2048 (m ((c : Thread nD τ).loc main_arg0))) (gradK (m ((c : Thread nD τ).loc main_arg0)) (m ((c : Thread nD τ).loc main_arg1)) (m ((c : Thread nD τ).loc main_arg3)))) (Fin.ext ?_) (Fin.ext ?_)
    · blk_simp [idx t] <;> omega
    · show t.val * 128 + (x 1).val = _
      blk_simp [idx t] <;> omega

theorem gradV_blk (c : Dev nD) (t : Fin cfg0.N) : valueGrad (tap (iblk m c 5 t)) (tok (iblk m c 2 t)) (tok (iblk m c 8 t)) = fun r l =>
    gradV (m ((c : Thread nD τ).loc main_arg0)) (m ((c : Thread nD τ).loc main_arg1)) (m ((c : Thread nD τ).loc main_arg4)) r (chan (hd t) l) := by
  rw [blk2, blk5, blk8]
  rfl

theorem actV_blk (c : Dev nD) (t : Fin cfg0.N) : k0_pay49 (F := Ideal) (iblk m c 0 t) (iblk m c 1 t) (iblk m c 2 t) (iblk m c 3 t) (iblk m c 4 t) (iblk m c 5 t) (iblk m c 6 t) (iblk m c 7 t) (iblk m c 8 t) =
    (fun j => gradV (m ((c : Thread nD τ).loc main_arg0)) (m ((c : Thread nD τ).loc main_arg1)) (m ((c : Thread nD τ).loc main_arg4)) (j 0) (chan (hd t) (j 1)) : FVec Ideal S2048x128 .f32) := by
  unfold k0_pay49 k0_pay48 k0_pay47 k0_pay46 k0_pay45 k0_pay38
  simp only [ldX, ldW]
  rw [value_grad, gradV_blk]

/-- Block `t` holds the 128 columns of head `t`. -/
theorem final11 (c : Dev nD) : (dats m 0 c).arrAt 11 (cfgs 0).N =
    inV (m ((c : Thread nD τ).loc main_arg0)) (m ((c : Thread nD τ).loc main_arg1)) (m ((c : Thread nD τ).loc main_arg4)) := by
  refine (dats m 0 c).arrAt_eq_of_covers 11 _ (by decide +kernel) fun t _ y => ?_
  blk_simp
  rw [after0_11]; frame_out
  have e : k0_pay28 (k0_pay45 (iblk m c 0 t) (iblk m c 1 t) (iblk m c 2 t) (iblk m c 3 t) (iblk m c 4 t) (iblk m c 5 t) (iblk m c 6 t) (iblk m c 7 t) (iblk m c 8 t)) (k0_pay46 (iblk m c 0 t) (iblk m c 1 t) (iblk m c 2 t) (iblk m c 3 t) (iblk m c 4 t) (iblk m c 5 t) (iblk m c 6 t) (iblk m c 7 t) (iblk m c 8 t)) (k0_pay47 (iblk m c 0 t) (iblk m c 1 t) (iblk m c 2 t) (iblk m c 3 t) (iblk m c 4 t) (iblk m c 5 t) (iblk m c 6 t) (iblk m c 7 t) (iblk m c 8 t)) (k0_pay48 (iblk m c 0 t) (iblk m c 1 t) (iblk m c 2 t) (iblk m c 3 t) (iblk m c 4 t) (iblk m c 5 t) (iblk m c 6 t) (iblk m c 7 t) (iblk m c 8 t)) (Scalar.ofBits .f32 0x00000000#32) (iblk m c 8 t) = k0_pay49 (iblk m c 0 t) (iblk m c 1 t) (iblk m c 2 t) (iblk m c 3 t) (iblk m c 4 t) (iblk m c 5 t) (iblk m c 6 t) (iblk m c 7 t) (iblk m c 8 t) := by
    unfold k0_pay49
    rw [ldX]
  rw [show k0_pay38 (iblk m c 0 t) (iblk m c 1 t) (iblk m c 2 t) (iblk m c 3 t) (iblk m c 4 t) (iblk m c 5 t) (iblk m c 6 t) (iblk m c 7 t) (iblk m c 8 t) = rows from rfl]
  refine (congrFun (value_input _ _ _ _ _ _ _ _ e) y).trans ?_
  rw [actV_blk, blk5]
  refine (convGrad_of (chan (hd t)) (wts 1024 (m ((c : Thread nD τ).loc main_arg1))) (gradV (m ((c : Thread nD τ).loc main_arg0)) (m ((c : Thread nD τ).loc main_arg1)) (m ((c : Thread nD τ).loc main_arg4))) (y 0) (y 1)).trans ?_
  unfold inV
  refine congrArg₂ (convGrad (wts 1024 (m ((c : Thread nD τ).loc main_arg1))) (gradV (m ((c : Thread nD τ).loc main_arg0)) (m ((c : Thread nD τ).loc main_arg1)) (m ((c : Thread nD τ).loc main_arg4)))) (Fin.ext ?_) (Fin.ext ?_) <;> blk_simp [chan, hd, idx t] <;> omega

theorem final14 (c : Dev nD) : (dats m 0 c).arrAt 14 (cfgs 0).N =
    tapV (m ((c : Thread nD τ).loc main_arg0)) (m ((c : Thread nD τ).loc main_arg1)) (m ((c : Thread nD τ).loc main_arg4)) := by
  refine (dats m 0 c).arrAt_eq_of_covers 14 _ (by decide +kernel) fun t _ y => ?_
  blk_simp
  rw [after0_14]; frame_out
  rw [show k0_pay38 (iblk m c 0 t) (iblk m c 1 t) (iblk m c 2 t) (iblk m c 3 t) (iblk m c 4 t) (iblk m c 5 t) (iblk m c 6 t) (iblk m c 7 t) (iblk m c 8 t) = rows from rfl, value_tap_3, value_tap_2, value_tap_1, value_tap_0, actV_blk, blk2]
  canon_tiles x e using View.cover_of_tiledBy _ ![1, 128] (by sl_kernel_rfl) _
  · refine (tapGrad_of (chan (hd t)) (cols 2560 (m ((c : Thread nD τ).loc main_arg0))) (gradV (m ((c : Thread nD τ).loc main_arg0)) (m ((c : Thread nD τ).loc main_arg1)) (m ((c : Thread nD τ).loc main_arg4))) 3 (x 1)).trans ?_
    unfold tapV
    refine congrArg₂ (tapGrad (cols 2560 (m ((c : Thread nD τ).loc main_arg0))) (gradV (m ((c : Thread nD τ).loc main_arg0)) (m ((c : Thread nD τ).loc main_arg1)) (m ((c : Thread nD τ).loc main_arg4)))) (Fin.ext ?_) (Fin.ext ?_)
    · blk_simp [idx t] <;> omega
    · show t.val * 128 + (x 1).val = _
      blk_simp [idx t] <;> omega
  · refine (tapGrad_of (chan (hd t)) (cols 2560 (m ((c : Thread nD τ).loc main_arg0))) (gradV (m ((c : Thread nD τ).loc main_arg0)) (m ((c : Thread nD τ).loc main_arg1)) (m ((c : Thread nD τ).loc main_arg4))) 2 (x 1)).trans ?_
    unfold tapV
    refine congrArg₂ (tapGrad (cols 2560 (m ((c : Thread nD τ).loc main_arg0))) (gradV (m ((c : Thread nD τ).loc main_arg0)) (m ((c : Thread nD τ).loc main_arg1)) (m ((c : Thread nD τ).loc main_arg4)))) (Fin.ext ?_) (Fin.ext ?_)
    · blk_simp [idx t] <;> omega
    · show t.val * 128 + (x 1).val = _
      blk_simp [idx t] <;> omega
  · refine (tapGrad_of (chan (hd t)) (cols 2560 (m ((c : Thread nD τ).loc main_arg0))) (gradV (m ((c : Thread nD τ).loc main_arg0)) (m ((c : Thread nD τ).loc main_arg1)) (m ((c : Thread nD τ).loc main_arg4))) 1 (x 1)).trans ?_
    unfold tapV
    refine congrArg₂ (tapGrad (cols 2560 (m ((c : Thread nD τ).loc main_arg0))) (gradV (m ((c : Thread nD τ).loc main_arg0)) (m ((c : Thread nD τ).loc main_arg1)) (m ((c : Thread nD τ).loc main_arg4)))) (Fin.ext ?_) (Fin.ext ?_)
    · blk_simp [idx t] <;> omega
    · show t.val * 128 + (x 1).val = _
      blk_simp [idx t] <;> omega
  · refine (tapGrad_of (chan (hd t)) (cols 2560 (m ((c : Thread nD τ).loc main_arg0))) (gradV (m ((c : Thread nD τ).loc main_arg0)) (m ((c : Thread nD τ).loc main_arg1)) (m ((c : Thread nD τ).loc main_arg4))) 0 (x 1)).trans ?_
    unfold tapV
    refine congrArg₂ (tapGrad (cols 2560 (m ((c : Thread nD τ).loc main_arg0))) (gradV (m ((c : Thread nD τ).loc main_arg0)) (m ((c : Thread nD τ).loc main_arg1)) (m ((c : Thread nD τ).loc main_arg4)))) (Fin.ext ?_) (Fin.ext ?_)
    · blk_simp [idx t] <;> omega
    · show t.val * 128 + (x 1).val = _
      blk_simp [idx t] <;> omega

end Cert.ConvGradIdeal.Value

end
-- ==== Proof.ConvReference.lean ====
/-
The reference of the backward pass through the convolution: every run ends with the same arrays.
-/
module

public import proofs.«01_k».proof.Proof.ConvArrays
public import proofs.«01_k».proof.Proof.Gen.ConvGradReferenceIdeal.Run

@[expose] public section

set_option maxRecDepth 16384
set_option maxHeartbeats 400000

noncomputable section

open Idealize.ShloMosaic Idealize.ShloMosaic.TcCoe Idealize.SL.Sem
open scoped BigOperators

namespace Cert.ConvGradReferenceIdeal.Value

open Cert.ConvGradReferenceIdeal Cert.ConvGradReferenceIdeal.Gen Cert.Rows
open Cert.ConvGradIdeal.Value (inQ inK inV tapQ tapK tapV gradQ gradK gradV cols wts grd)

theorem later_1 (x : FVec Ideal S2048x512 .f32) :
    concatenate S2048x512 0 [⟨S1x512, (broadcastInDim S1x512 ![] bcast_S_S1x512 (constant (F := Ideal) S_ .f32 0x00000000#32))⟩, ⟨S2047x512, (extractStridedSlice S2047x512 ![0, 0] x slices_S2048x512_S2047x512_0_0)⟩] concatenates_S1x512_S2047x512_S2048x512_d0 =
      (fun j => later 1 (fun r l => x (ix2 r l)) (j 0) (j 1) : FVec Ideal S2048x512 .f32) := by
  funext j
  pointwise [later]
  rfl

theorem sooner_1 (x : FVec Ideal S2048x512 .f32) :
    concatenate S2048x512 0 [⟨S2047x512, (extractStridedSlice S2047x512 ![1, 0] x slices_S2048x512_S2047x512_1_0)⟩, ⟨S1x512, (broadcastInDim S1x512 ![] bcast_S_S1x512 (constant (F := Ideal) S_ .f32 0x00000000#32))⟩] concatenates_S2047x512_S1x512_S2048x512_d0 =
      (fun j => sooner 1 (fun r l => x (ix2 r l)) (j 0) (j 1) : FVec Ideal S2048x512 .f32) := by
  funext j
  pointwise [sooner]
  by_cases h : (j 0).val < 2047
  · have h' : (j 0).val + 1 < 2048 := by omega
    simp only [h, h', dite_true]
    exact congrArg (fun r => x (ix2 r (j 1))) (Fin.ext (by dsimp only; omega))
  · have h' : ¬ (j 0).val + 1 < 2048 := by omega
    simp only [h, h', dite_false]

theorem later_2 (x : FVec Ideal S2048x512 .f32) :
    concatenate S2048x512 0 [⟨S2x512, (broadcastInDim S2x512 ![] bcast_S_S2x512 (constant (F := Ideal) S_ .f32 0x00000000#32))⟩, ⟨S2046x512, (extractStridedSlice S2046x512 ![0, 0] x slices_S2048x512_S2046x512_0_0)⟩] concatenates_S2x512_S2046x512_S2048x512_d0 =
      (fun j => later 2 (fun r l => x (ix2 r l)) (j 0) (j 1) : FVec Ideal S2048x512 .f32) := by
  funext j
  pointwise [later]
  rfl

theorem sooner_2 (x : FVec Ideal S2048x512 .f32) :
    concatenate S2048x512 0 [⟨S2046x512, (extractStridedSlice S2046x512 ![2, 0] x slices_S2048x512_S2046x512_2_0)⟩, ⟨S2x512, (broadcastInDim S2x512 ![] bcast_S_S2x512 (constant (F := Ideal) S_ .f32 0x00000000#32))⟩] concatenates_S2046x512_S2x512_S2048x512_d0 =
      (fun j => sooner 2 (fun r l => x (ix2 r l)) (j 0) (j 1) : FVec Ideal S2048x512 .f32) := by
  funext j
  pointwise [sooner]
  by_cases h : (j 0).val < 2046
  · have h' : (j 0).val + 2 < 2048 := by omega
    simp only [h, h', dite_true]
    exact congrArg (fun r => x (ix2 r (j 1))) (Fin.ext (by dsimp only; omega))
  · have h' : ¬ (j 0).val + 2 < 2048 := by omega
    simp only [h, h', dite_false]

theorem later_3 (x : FVec Ideal S2048x512 .f32) :
    concatenate S2048x512 0 [⟨S3x512, (broadcastInDim S3x512 ![] bcast_S_S3x512 (constant (F := Ideal) S_ .f32 0x00000000#32))⟩, ⟨S2045x512, (extractStridedSlice S2045x512 ![0, 0] x slices_S2048x512_S2045x512_0_0)⟩] concatenates_S3x512_S2045x512_S2048x512_d0 =
      (fun j => later 3 (fun r l => x (ix2 r l)) (j 0) (j 1) : FVec Ideal S2048x512 .f32) := by
  funext j
  pointwise [later]
  rfl

theorem sooner_3 (x : FVec Ideal S2048x512 .f32) :
    concatenate S2048x512 0 [⟨S2045x512, (extractStridedSlice S2045x512 ![3, 0] x slices_S2048x512_S2045x512_3_0)⟩, ⟨S3x512, (broadcastInDim S3x512 ![] bcast_S_S3x512 (constant (F := Ideal) S_ .f32 0x00000000#32))⟩] concatenates_S2045x512_S3x512_S2048x512_d0 =
      (fun j => sooner 3 (fun r l => x (ix2 r l)) (j 0) (j 1) : FVec Ideal S2048x512 .f32) := by
  funext j
  pointwise [sooner]
  by_cases h : (j 0).val < 2045
  · have h' : (j 0).val + 3 < 2048 := by omega
    simp only [h, h', dite_true]
    exact congrArg (fun r => x (ix2 r (j 1))) (Fin.ext (by dsimp only; omega))
  · have h' : ¬ (j 0).val + 3 < 2048 := by omega
    simp only [h, h', dite_false]

theorem heads_heads (q : Fin 512) (k l : Fin 128) : heads (heads q k) l = heads q l := Fin.ext (by simp only [heads]; omega)

theorem chan_heads (q : Fin 512) (h : q.val / 128 < 4) (k : Fin 128) : chan ⟨q.val / 128, h⟩ k = heads q k := rfl

theorem chan_div (q : Fin 512) (h : q.val % 128 < 128) : heads q ⟨q.val % 128, h⟩ = q := Fin.ext (by simp only [heads]; omega)

variable (V0 : Valuation τ sig (Elt Ideal))

/-- The arguments. -/
abbrev A0 : FVec Ideal S2048x3712 .f32 := V0 (Proc.devRef .tc main_arg0)
abbrev A1 : FVec Ideal S4x1536 .f32 := V0 (Proc.devRef .tc main_arg1)
abbrev A2 : FVec Ideal S2048x512 .f32 := V0 (Proc.devRef .tc main_arg2)
abbrev A3 : FVec Ideal S2048x512 .f32 := V0 (Proc.devRef .tc main_arg3)
abbrev A4 : FVec Ideal S2048x512 .f32 := V0 (Proc.devRef .tc main_arg4)

theorem xQ : res_main_v0 V0 = (fun j => cols 1536 (A0 V0) (j 0) (j 1) : FVec Ideal S2048x512 .f32) := by
  funext j
  unfold res_main_v0
  pointwise [cols]

theorem wQ : res_main_v1 V0 = (fun j => wts 0 (A1 V0) (j 0) (j 1) : FVec Ideal S4x512 .f32) := by
  funext j
  unfold res_main_v1
  pointwise [wts]

theorem yQ : res_main_v25 V0 = (fun j => taps (wts 0 (A1 V0)) (cols 1536 (A0 V0)) (j 0) (j 1) : FVec Ideal S2048x512 .f32) := by
  unfold res_main_v25
  rw [later_1, later_2, later_3, xQ, wQ]
  funext j
  pointwise [taps]

theorem sQ : res_main_v31 V0 = (fun j => sigm (taps (wts 0 (A1 V0)) (cols 1536 (A0 V0))) (j 0) (j 1) : FVec Ideal S2048x512 .f32) := by
  unfold res_main_v31
  rw [yQ]
  funext j
  pointwise [sigm]

theorem xK : res_main_v107 V0 = (fun j => cols 2048 (A0 V0) (j 0) (j 1) : FVec Ideal S2048x512 .f32) := by
  funext j
  unfold res_main_v107
  pointwise [cols]

theorem wK : res_main_v108 V0 = (fun j => wts 512 (A1 V0) (j 0) (j 1) : FVec Ideal S4x512 .f32) := by
  funext j
  unfold res_main_v108
  pointwise [wts]

theorem yK : res_main_v132 V0 = (fun j => taps (wts 512 (A1 V0)) (cols 2048 (A0 V0)) (j 0) (j 1) : FVec Ideal S2048x512 .f32) := by
  unfold res_main_v132
  rw [later_1, later_2, later_3, xK, wK]
  funext j
  pointwise [taps]

theorem sK : res_main_v138 V0 = (fun j => sigm (taps (wts 512 (A1 V0)) (cols 2048 (A0 V0))) (j 0) (j 1) : FVec Ideal S2048x512 .f32) := by
  unfold res_main_v138
  rw [yK]
  funext j
  pointwise [sigm]

theorem xV : res_main_v214 V0 = (fun j => cols 2560 (A0 V0) (j 0) (j 1) : FVec Ideal S2048x512 .f32) := by
  funext j
  unfold res_main_v214
  pointwise [cols]

theorem wV : res_main_v215 V0 = (fun j => wts 1024 (A1 V0) (j 0) (j 1) : FVec Ideal S4x512 .f32) := by
  funext j
  unfold res_main_v215
  pointwise [wts]

theorem yV : res_main_v239 V0 = (fun j => taps (wts 1024 (A1 V0)) (cols 2560 (A0 V0)) (j 0) (j 1) : FVec Ideal S2048x512 .f32) := by
  unfold res_main_v239
  rw [later_1, later_2, later_3, xV, wV]
  funext j
  pointwise [taps]

theorem sV : res_main_v245 V0 = (fun j => sigm (taps (wts 1024 (A1 V0)) (cols 2560 (A0 V0))) (j 0) (j 1) : FVec Ideal S2048x512 .f32) := by
  unfold res_main_v245
  rw [yV]
  funext j
  pointwise [sigm]

theorem cQ : res_main_v33 V0 = (fun j => (fun r l => taps (wts 0 (A1 V0)) (cols 1536 (A0 V0)) r l * sigm (taps (wts 0 (A1 V0)) (cols 1536 (A0 V0))) r l) (j 0) (chan (j 1) (j 2)) : FVec Ideal S2048x4x128 .f32) := by
  unfold res_main_v33
  rw [yQ, sQ]
  funext j
  pointwise [chan]

theorem iQ : res_main_v40 V0 = (fun j => invLen heads (fun r l => taps (wts 0 (A1 V0)) (cols 1536 (A0 V0)) r l * sigm (taps (wts 0 (A1 V0)) (cols 1536 (A0 V0))) r l) (j 0) (chan (j 1) 0) : FVec Ideal S2048x4x1 .f32) := by
  unfold res_main_v40
  rw [cQ]
  funext j
  pointwise [invLen, heads_chan]

theorem gQ : res_main_v60 V0 = (fun j => gradQ (A0 V0) (A1 V0) (A2 V0) (j 0) (j 1) : FVec Ideal S2048x512 .f32) := by
  unfold res_main_v60 res_main_v42 res_main_v34
  rw [yQ, sQ, iQ, cQ]
  funext j
  pointwise [gradQ, keyGrad, siluGrad, unitGrad, invLen, heads_chan, heads_heads, chan_heads, chan_div, grd]
  rfl

theorem cK : res_main_v140 V0 = (fun j => (fun r l => taps (wts 512 (A1 V0)) (cols 2048 (A0 V0)) r l * sigm (taps (wts 512 (A1 V0)) (cols 2048 (A0 V0))) r l) (j 0) (chan (j 1) (j 2)) : FVec Ideal S2048x4x128 .f32) := by
  unfold res_main_v140
  rw [yK, sK]
  funext j
  pointwise [chan]

theorem iK : res_main_v147 V0 = (fun j => invLen heads (fun r l => taps (wts 512 (A1 V0)) (cols 2048 (A0 V0)) r l * sigm (taps (wts 512 (A1 V0)) (cols 2048 (A0 V0))) r l) (j 0) (chan (j 1) 0) : FVec Ideal S2048x4x1 .f32) := by
  unfold res_main_v147
  rw [cK]
  funext j
  pointwise [invLen, heads_chan]

theorem gK : res_main_v167 V0 = (fun j => gradK (A0 V0) (A1 V0) (A3 V0) (j 0) (j 1) : FVec Ideal S2048x512 .f32) := by
  unfold res_main_v167 res_main_v149 res_main_v141
  rw [yK, sK, iK, cK]
  funext j
  pointwise [gradK, keyGrad, siluGrad, unitGrad, invLen, heads_chan, heads_heads, chan_heads, chan_div, grd]
  rfl

theorem gV : res_main_v252 V0 = (fun j => gradV (A0 V0) (A1 V0) (A4 V0) (j 0) (j 1) : FVec Ideal S2048x512 .f32) := by
  unfold res_main_v252
  rw [yV, sV]
  funext j
  pointwise [gradV, valueGrad, siluGrad, grd]

variable (m : (ℓ : Loc nD τ sig) → Buf (Elt Ideal) ℓ) (ρ : Dev nD → PrngReg)

/-- Every run of the reference ends with the same and leaves its arguments. -/
theorem run_rows : θ_run defs (onTc (τ := τ) (main (F := Ideal))) ⟨m, fun _ => 0, ρ⟩ fun r => ∀ c : Dev nD,
    r.2.mem ((c.tc : Thread nD τ).loc main_v84) = inQ (m ((c.tc : Thread nD τ).loc main_arg0)) (m ((c.tc : Thread nD τ).loc main_arg1)) (m ((c.tc : Thread nD τ).loc main_arg2))
    ∧ r.2.mem ((c.tc : Thread nD τ).loc main_v191) = inK (m ((c.tc : Thread nD τ).loc main_arg0)) (m ((c.tc : Thread nD τ).loc main_arg1)) (m ((c.tc : Thread nD τ).loc main_arg3))
    ∧ r.2.mem ((c.tc : Thread nD τ).loc main_v276) = inV (m ((c.tc : Thread nD τ).loc main_arg0)) (m ((c.tc : Thread nD τ).loc main_arg1)) (m ((c.tc : Thread nD τ).loc main_arg4))
    ∧ r.2.mem ((c.tc : Thread nD τ).loc main_v106) = tapQ (m ((c.tc : Thread nD τ).loc main_arg0)) (m ((c.tc : Thread nD τ).loc main_arg1)) (m ((c.tc : Thread nD τ).loc main_arg2))
    ∧ r.2.mem ((c.tc : Thread nD τ).loc main_v213) = tapK (m ((c.tc : Thread nD τ).loc main_arg0)) (m ((c.tc : Thread nD τ).loc main_arg1)) (m ((c.tc : Thread nD τ).loc main_arg3))
    ∧ r.2.mem ((c.tc : Thread nD τ).loc main_v298) = tapV (m ((c.tc : Thread nD τ).loc main_arg0)) (m ((c.tc : Thread nD τ).loc main_arg1)) (m ((c.tc : Thread nD τ).loc main_arg4))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4) := by
  refine (θ_run defs _ _).mono (fun r h c => ?_) (run (F := Ideal) m ρ)
  obtain ⟨h0, h1, h2, h3, h4, h5, k⟩ := h c
  refine ⟨h0.trans ?_, h1.trans ?_, h2.trans ?_, h3.trans ?_, h4.trans ?_, h5.trans ?_, k⟩
  · rw [wQ, gQ, sooner_1, sooner_2, sooner_3]
    funext j
    pointwise [inQ, convGrad]
  · rw [wK, gK, sooner_1, sooner_2, sooner_3]
    funext j
    pointwise [inK, convGrad]
  · rw [wV, gV, sooner_1, sooner_2, sooner_3]
    funext j
    pointwise [inV, convGrad]
  · rw [xQ, gQ, later_1, later_2, later_3]
    funext j
    pointwise [tapQ]
    exact tapGrad_rows _ _ _ _
  · rw [xK, gK, later_1, later_2, later_3]
    funext j
    pointwise [tapK]
    exact tapGrad_rows _ _ _ _
  · rw [xV, gV, later_1, later_2, later_3]
    funext j
    pointwise [tapV]
    exact tapGrad_rows _ _ _ _

end Cert.ConvGradReferenceIdeal.Value

end
-- ==== Proof.Start.lean ====
/-
The launch of the all-gather's region.

A device of this kernel writes into the result arrays of the other devices, and nothing in the kernel tells it that
the other device has begun. That is sound only because a result array is memory that exists before the program
starts and that nobody else touches. So the proof hands every device, at the launch of the program, the slots of the
other devices' result arrays that it is going to write. This file proves the launch in that form: one global step
(`hglob`) sees, of all devices together, the semaphores at zero, the arrays at their initial contents and the launch
credit, and regroups them into what each device starts with.
-/
module

public import proofs.«01_k».proof.Proof.Gen.KernelIdeal
public import proofs.«01_k».proof.Proof.Gen.KernelIdeal.Launch
public import Idealize.ShloMosaic.Lib.Pipeline.Launch
public import Idealize.ShloMosaic.Lib.Pipeline.Kit
public import Idealize.ShloMosaic.Lib.Pipeline.RegionArrays
public import Idealize.ShloMosaic.Lib.Tactic

@[expose] public section

noncomputable section

namespace Cert.AllGatherProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {F : FTy → Type} [FloatOps F]

/-- The proof's ghost state: a copy of the rounds library for the region's own bookkeeping and one for the kernel's cells. -/
abbrev UU : Type := UR sig nD τ × UR sig nD τ

local notation "𝕄" => MT nD τ sig Unit (Elt F) ℕ UU ℕ

abbrev EP : Emb (UR sig nD τ) (MT nD τ sig Unit (Elt F) ℕ UU ℕ) := embL
abbrev ER : Emb (UR sig nD τ) (MT nD τ sig Unit (Elt F) ℕ UU ℕ) := embR

abbrev 𝒱₀ : Variants := Variants.none

section Launch

variable (m : (ℓ : Loc nD τ sig) → Buf (Elt F) ℓ) (ρ : Dev nD → PrngReg)
variable {K : Type} [Fintype K] {osem : K → SemLoc sig}

/-- The region's data: no window, one point; `A c` is held before it and `B c` after it, and `O c` is owed before it. -/
def regionDat (A B : Dev nD → sProp 𝕄) (O : Dev nD → CellTallies nD τ sig Unit) (_ : Fin 1) (c : Dev nD) :
    Dat τ (Elt F) Unit ℕ UU ℕ cfg0 c where
  A w := w.elim0
  after w _ := w.elim0
  Φ t := match t with
    | ⟨0, _⟩ => A c
    | ⟨_ + 1, _⟩ => B c
  q _ := fullShare
  owed t := match t with
    | ⟨0, _⟩ => O c
    | ⟨_ + 1, _⟩ => 0

/-- Every level fact of the machine, from the rights to assign levels that the devices are dealt. -/
theorem levels_assigned (L : GSem nD τ sig → Finset Unit) (lv : GSem nD τ sig → Unit → ℕ) (hL : ∀ g : GSem nD τ sig, g.1.2 ≠ .tc → L g = ∅) :
    (bigSep Finset.univ fun c : Dev nD => levels0 (Ix := Unit) (Val := Elt F) (Name := ℕ) (U := UU) (Lvl := ℕ) (τ := τ) (sig := sig) c)
      ⊢ (|==> levAts L lv : sProp 𝕄) := by
  refine (bigSep_mono fun c _ => lev_assign_cells (c.tc : Thread nD τ) L lv).trans <| (BI.bigSep_bupd _ _).trans <| BI.bupd_mono ?_
  have hother : (bigSep Finset.univ fun d : Dev nD => bigSep (Finset.univ.erase Proc.tc) fun p => (coreLevAts ((d, p) : Thread nD τ) L lv : sProp 𝕄)) = BI.emp := by
    refine (bigSep_congr (Ψ := fun _ : Dev nD => (BI.emp : sProp 𝕄)) fun d _ => ?_).trans (BI.bigSep_emp_const _)
    refine (bigSep_congr (Ψ := fun _ : Proc τ => (BI.emp : sProp 𝕄)) fun p hp => ?_).trans (BI.bigSep_emp_const _)
    unfold coreLevAts
    refine (bigSep_congr (Ψ := fun _ : SemLoc sig => (BI.emp : sProp 𝕄)) fun sm _ => ?_).trans (BI.bigSep_emp_const _)
    rw [hL (((d, p) : Thread nD τ), sm) (Finset.ne_of_mem_erase hp), BI.bigSep_empty]
  rw [show (levAts L lv : sProp 𝕄) = bigSep Finset.univ fun c : Thread nD τ => coreLevAts c L lv
      from (bigSep_univ_prod fun g : GSem nD τ sig => bigSep (L g) fun ι => levAt g ι (lv g ι)),
    bigSep_threads (fun c : Thread nD τ => coreLevAts c L lv), bigSep_sep']
  refine BIBase.Entails.trans ?_ (sep_mono_right (Entails.of_eq hother.symm))
  iintro ⟨-, H⟩
  isplitl [H]; · iexact H
  iempintro

/-- The region's configuration on every device, as the region rule names it. -/
abbrev pa : Dev nD → (p : Fin 1) → (pcfgs (F := F) p).Adm := fun _ p => (cfgs p).toPCfg_adm
@[inherit_doc pa] abbrev pd : Dev nD → Fin 1 → Cfg sig Λ₀ := pinD (pcfgs (F := F)) pa

/-- One device's @main is the region and nothing else. -/
theorem region_wp (A B : Dev nD → sProp 𝕄) (O₀ : Dev nD → CellTallies nD τ sig Unit) (c : Dev nD) (κ : GSem nD τ sig → ℕ)
    (hbody : BodyObligation (regionDat A B O₀ 0 c) (defs₀ (F := F)) 𝒱₀ () Set.univ)
    {Y I : sProp 𝕄}
    (hend : iprop(B c ∗ PerCore.cellsSems0 (pd (F := F)) (0 : Fin 1) c ∗ Dat.staging cfg0 c ∗ I)
        ⊢ iprop(Y ∗ scopedSems0 (c.tc : Thread nD τ) ∗ scopedBufs (c.tc : Thread nD τ)))
    (hbuf : (scopedBufs (c.tc : Thread nD τ) : sProp 𝕄) ⊢ iprop(Dat.staging cfg0 c ∗ Pipeline.scopedRest cfg0.spec c))
    {Q : PUnit → sProp 𝕄} :
    iprop(PerCore.EntryPre (pd (F := F)) (regionDat A B O₀) () EP κ (0 : Fin 1) c ∗ prefHeld (pcfgs (F := F) 0).pre c (fun _ => fullShare) (pa (F := F) c 0).1
        ∗ A c ∗ I ∗ scopedBufs (c.tc : Thread nD τ))
      ⊢ iprop(((PerCore.EntryPost (pd (F := F)) (regionDat A B O₀) () (0 : Fin 1) c ∗ Y ∗ scopedSems0 (c.tc : Thread nD τ) ∗ scopedBufs (c.tc : Thread nD τ))
            -∗ wp frame (wpE (defs (F := F)) (Variants.lift 𝒱₀) c none) Set.univ (.ret ⟨⟩) Q)
          -∗ wp frame (wpE (defs (F := F)) (Variants.lift 𝒱₀) c none) Set.univ (main (F := F) c) Q) := by
  have hmain : main (F := F) c = .op (.customCall (Pipeline.entry 0) ()) fun _ => .ret ⟨⟩ := rfl
  have hin : iprop(A c ∗ prefHeld (pcfgs (F := F) 0).pre c (fun _ => fullShare) (pa (F := F) c 0).1 ∗ Pipeline.scopedRest cfg0.spec c)
      ⊢ (regionDat A B O₀ 0 c).Φ 0 := by
    rw [show (regionDat A B O₀ 0 c).Φ 0 = A c from rfl]
    iintro ⟨HA, -, -⟩; iexact HA
  have hb : BodyObligationLoose (regionDat A B O₀ 0 c) (defs₀ (F := F)) 𝒱₀ () Set.univ := hbody.loose
  rw [hmain]
  unfold Cert.KernelIdeal.defs
  exact PerCore.wp_customCall_entry_frame (pcfgs (F := F)) pa (regionDat A B O₀) () EP κ cellOf_inj (0 : Fin 1)
    defs₀ 𝒱₀ (fun _ => fullShare) c Set.univ (fun _ _ => Set.mem_univ _) hb (fun w => w.elim0) none (fun u h => nomatch h)
    (X := A c) (Y := Y) (R := Pipeline.scopedRest cfg0.spec c) (I := I) hbuf hin hend
    (k := fun _ => .ret PUnit.unit)

/-- The launch: `hglob` regroups what all devices hold into what each device's body starts with (`A c`); the body's end
    (`B c`) gives the kernel's semaphores back at zero and keeps `Y c`, which `hY` reads against the final memory. -/
theorem run_of_start (ho : OwnSemFacts cfg0.spec osem)
    (A B : Dev nD → sProp 𝕄) (O₀ : Dev nD → CellTallies nD τ sig Unit)
    (hbody : ∀ c, BodyObligation (regionDat A B O₀ 0 c) (defs₀ (F := F)) 𝒱₀ () Set.univ)
    (L : GSem nD τ sig → Finset Unit) (lv : GSem nD τ sig → Unit → ℕ) (hL : ∀ g : GSem nD τ sig, g.1.2 ≠ .tc → L g = ∅)
    (G : Dev nD → sProp 𝕄) (u₀ : UU)
    (hu₀ : (ownU u₀ : sProp 𝕄)
      ⊢ |={Set.univ}=> iprop(BI.own (EP (initOf (cells cfgs cellOf_inj) (launchToks cfgs cellOf_inj))) ∗ bigSep Finset.univ G))
    (hglob : iprop(levAts L lv ∗ (bigSep Finset.univ fun c : Dev nD => (ownSems0 osem c : sProp 𝕄))
        ∗ (bigSep Finset.univ fun c : Dev nD => (unscopedBufs c fun b => m ((c.tc : Thread nD τ).loc b) : sProp 𝕄))
        ∗ (bigSep Finset.univ fun c : Dev nD => (launchCred O₀ c : sProp 𝕄)) ∗ bigSep Finset.univ G)
      ⊢ |={Set.univ}=> bigSep Finset.univ A)
    (Y : Dev nD → sProp 𝕄)
    (hout : ∀ c, B c ⊢ iprop(Y c ∗ ownSems0 osem c))
    (QY : Dev nD → MemSt nD τ sig (Elt F) → Prop)
    (hY : ∀ c (s' : Phys nD τ sig (Elt F)), iprop(Y c ∗ SI s') ⊢ |={Set.univ}=> iprop(⌜QY c s'.mem⌝ ∗ SI s'))
    {Q : PUnit × MemSt nD τ sig (Elt F) → Prop}
    (hQ : ∀ s : MemSt nD τ sig (Elt F), (∀ c : Dev nD, QY c s) →
      (∀ g' : GSem nD τ sig, (g'.1.2 ≠ .tc ∨ g'.2.isScoped .tc = true) → s.sem g' = 0) → Q (⟨⟩, s)) :
    θ_run defs (onTc (τ := τ) (main (F := F))) ⟨m, fun _ => 0, ρ⟩ Q := by
  classical
  -- the region's own staging semaphores and buffers: there are none, but the region rule asks for them
  have hss := fun c : Dev nD => PerCore.scopedSems0_split (pd (F := F)) cellOf_inj (0 : Fin 1) (fun _ => winFacts0.to₀) (fun _ => ho)
    (Ix := Unit) (Val := Elt F) (Name := ℕ) (U := UU) (Lvl := ℕ) c
  have hsb := fun c : Dev nD => PerCore.scopedBufs_split (pd (F := F)) (0 : Fin 1) c winFacts0.to₀.stage_scoped winFacts0.to₀.stage_inj stage_whole0
    (nD := nD) (τ := τ) (Ix := Unit) (Val := Elt F) (Name := ℕ) (U := UU) (Lvl := ℕ)
  let stageSems : Dev nD → sProp 𝕄 := fun c =>
    iprop(PerCore.cellsSems0 (pd (F := F)) (0 : Fin 1) c ∗ PerCore.idleSems0 (pd (F := F)) cellOf_inj (0 : Fin 1) (fun _ => ho) c)
  let stageGhost : Dev nD → sProp 𝕄 := fun c =>
    iprop(PerCore.cellsGhost (pd (F := F)) EP (0 : Fin 1) c ∗ PerCore.toksInit (pd (F := F)) EP (0 : Fin 1) c)
  let pre : Dev nD → sProp 𝕄 := fun c =>
    iprop(scopedBufs (c.tc : Thread nD τ) ∗ stageSems c ∗ stageGhost c ∗ owes (c.tc : Thread nD τ) (O₀ c) ∅ ∗ A c)
  let fin : Dev nD → sProp 𝕄 := fun c => iprop(Y c ∗ scopedSems0 (c.tc : Thread nD τ))
  refine (θ_run defs _ _).mono (Q := fun r => (∀ c : Dev nD, QY c r.2
      ∧ ∀ sm : SemLoc sig, sm.isScoped .tc = true → r.2.sem ((c.tc : Thread nD τ), sm) = 0)
      ∧ ∀ g' : GSem nD τ sig, g'.1.2 ≠ .tc → r.2.sem g' = 0)
    (fun r hr => hQ r.2 (fun c => (hr.1 c).1) (sems_of_reads (fun c => (hr.1 c).2) hr.2)) (adequate_tpu defs _ _ _
    (reflect_intro_fupd_tc_sems (X := Unit) (Variants.lift 𝒱₀) (owing O₀) 0 (noBookings fun _ => le_rfl) (owing_of_ne O₀) u₀ (fun _ => pre) (fun _ => fin)
      (fun _ => iprop(emp)) Set.univ ?_ (fun _ c => ?_) fun _ => ?_))
  · -- before @main: what the devices are dealt, split and regrouped
    have hcore (c : Dev nD) :
        coreInit (Ix := Unit) (Name := ℕ) (U := UU) (Lvl := ℕ) (owing O₀) 0 (⟨m, fun _ => 0, ρ⟩ : MemSt nD τ sig (Elt F)) (c.tc : Thread nD τ)
          ⊢ iprop((scopedBufs (c.tc : Thread nD τ) ∗ stageSems c ∗ owes (c.tc : Thread nD τ) (O₀ c) ∅)
              ∗ levels0 c ∗ ownSems0 osem c ∗ unscopedBufs c (fun b => m ((c.tc : Thread nD τ).loc b)) ∗ launchCred O₀ c) :=
      (coreInit_boundary_owing O₀ m ρ c).trans (by
        unfold boundary
        rw [hss c]
        simp only [stageSems]
        iintro ⟨⟨Hsc, ⟨⟨Hst, Hos⟩, Hid⟩, -⟩, Hub, -, HO, Hlv, -, Hcr⟩
        isplitl [Hsc Hst Hid HO]
        · isplitl [Hsc]; · iexact Hsc
          isplitl [Hst Hid]; · isplitl [Hst] <;> iassumption
          iexact HO
        isplitl [Hlv]; · iexact Hlv
        isplitl [Hos]; · iexact Hos
        isplitl [Hub] <;> iassumption)
    have hcores : (bigSep Finset.univ fun c : Dev nD =>
          coreInit (Ix := Unit) (Name := ℕ) (U := UU) (Lvl := ℕ) (owing O₀) 0 (⟨m, fun _ => 0, ρ⟩ : MemSt nD τ sig (Elt F)) (c.tc : Thread nD τ))
        ⊢ iprop(((bigSep Finset.univ fun c : Dev nD => scopedBufs (c.tc : Thread nD τ)) ∗ (bigSep Finset.univ stageSems)
              ∗ bigSep Finset.univ fun c : Dev nD => owes (c.tc : Thread nD τ) (O₀ c) ∅)
            ∗ (bigSep Finset.univ fun c : Dev nD => levels0 c) ∗ (bigSep Finset.univ fun c : Dev nD => ownSems0 osem c)
            ∗ (bigSep Finset.univ fun c : Dev nD => unscopedBufs c (fun b => m ((c.tc : Thread nD τ).loc b)))
            ∗ bigSep Finset.univ fun c : Dev nD => launchCred O₀ c) := by
      refine (bigSep_mono fun c _ => hcore c).trans ?_
      simp only [bigSep_sep']
      exact BI.Entails.refl _
    have hpick (Φ : Fin 1 → Dev nD → sProp 𝕄) :
        (bigSep Finset.univ fun c : Dev nD => bigSep Finset.univ fun p' => Φ p' c) ⊢ bigSep Finset.univ fun c : Dev nD => Φ 0 c :=
      bigSep_mono fun c _ => BI.bigSep_elim (Finset.mem_univ (0 : Fin 1))
    iintro ⟨Hcores, Hu⟩
    ihave Hc := hcores $$ Hcores
    icases Hc with ⟨⟨Hsc, Hst, HO⟩, Hlv, Hos, Hub, Hcr⟩
    imod (levels_assigned L lv hL) $$ Hlv with Hla
    imod hu₀ $$ Hu with ⟨HP, HG⟩
    imod (PerCore.fund_ghost (pd (F := F)) EP cellOf_inj) $$ HP with ⟨Hg, Ht⟩
    imod hglob $$ [Hla Hos Hub Hcr HG] with HA
    · isplitl [Hla]; · iexact Hla
      isplitl [Hos]; · iexact Hos
      isplitl [Hub]; · iexact Hub
      isplitl [Hcr] <;> iassumption
    imodintro
    iexists ()
    isplitr []
    · simp only [pre, stageGhost, bigSep_sep']
      isplitl [Hsc]; · iexact Hsc
      isplitl [Hst]; · simp only [stageSems, bigSep_sep']; iexact Hst
      isplitl [Hg Ht]
      · isplitl [Hg]; · iapply (hpick fun p' c => PerCore.cellsGhost (pd (F := F)) EP p' c); iexact Hg
        iapply (hpick fun p' c => PerCore.toksInit (pd (F := F)) EP p' c); iexact Ht
      isplitl [HO] <;> iassumption
    · iempintro
  · -- one device's @main: the region, then the return
    have hend : iprop((regionDat A B O₀ 0 c).Φ (Fin.last cfg0.N) ∗ PerCore.cellsSems0 (pd (F := F)) (0 : Fin 1) c ∗ Dat.staging cfg0 c
          ∗ PerCore.idleSems0 (pd (F := F)) cellOf_inj (0 : Fin 1) (fun _ => ho) c)
        ⊢ iprop(Y c ∗ scopedSems0 (c.tc : Thread nD τ) ∗ scopedBufs (c.tc : Thread nD τ)) := by
      rw [hss c, hsb c, show (regionDat A B O₀ 0 c).Φ (Fin.last cfg0.N) = B c from rfl]
      iintro ⟨HB, Hst, Hbuf, Hid⟩
      ihave H := (hout c) $$ HB
      icases H with ⟨HY, Hos⟩
      isplitl [HY]; · iexact HY
      isplitl [Hst Hos Hid]
      · isplitl [Hst Hos]; · isplitl [Hst] <;> iassumption
        iexact Hid
      isplitl [Hbuf]; · iexact Hbuf
      iapply (Entails.of_eq (scopedRest0_eq (Ix := Unit) (Val := Elt F) (Name := ℕ) (U := UU) (Lvl := ℕ) c).symm)
      iempintro
    simp only [pre, stageSems, stageGhost]
    iintro ⟨Hsc, ⟨Hst, Hid⟩, ⟨Hg, Ht⟩, HO, HA⟩
    iapply (fupd_wp frame (wpE defs (Variants.lift 𝒱₀) (c.tc : Thread nD τ) none) Set.univ _ _)
    imod (PerCore.cellsInit_alloc (pd (F := F)) (fun p c => (regionDat A B O₀ p c)) EP cellOf_inj (0 : Fin 1) c) $$ [Hst Hg] with ⟨%κ, -, Hinit⟩
    · isplitl [Hst] <;> iassumption
    imodintro
    iapply (region_wp A B O₀ c κ (hbody c) hend (Entails.of_eq (hsb c)) (Q := fun _ => post (liftTc fin BI.emp) (c.tc : Thread nD τ))) $$ [HO Hinit Ht HA Hid Hsc]
    · isplitl [HO Hinit Ht]
      · unfold PerCore.EntryPre Dat.arrays
        isplitr; · rw [Finset.univ_eq_empty, BI.bigSep_empty]; iempintro
        isplitl [HO]
        · unfold Dat.owesAt owesWithin
          iexists ∅; isplitr; · ipureintro; rw [Finset.coe_empty]; exact Set.empty_subset _
          iexact HO
        isplitr
        · have hw : (emp : sProp 𝕄) ⊢ PerCore.RDat.cellsWaits (pd (F := F)) (Dat.toRs (regionDat A B O₀)) () 0 c :=
            PerCore.RDat.cellsWaits_intro _ _ () 0 c (R := emp) (fun w => w.elim0)
          iapply hw; iempintro
        isplitl [Hinit] <;> iassumption
      isplitr; · rw [Pipeline.prefHeld_of_none _ rfl]; iempintro
      isplitl [HA]; · iexact HA
      isplitl [Hid]; · iexact Hid
      iexact Hsc
    iintro ⟨Hpost, HY, Hss2, -⟩
    rw [wp_ret]; imodintro
    unfold post; simp only [liftTc_tc, fin]
    isplitl [HY Hss2]
    · isplitl [HY] <;> iassumption
    · unfold PerCore.EntryPost Dat.owesAt owesWithin
      icases Hpost with ⟨-, ⟨%W, -, HW⟩⟩
      iexists W; iexact HW
  · -- the final memory
    have hread (c : Dev nD) (s' : Phys nD τ sig (Elt F)) : iprop(fin c ∗ SI s') ⊢ |={Set.univ}=>
        iprop(⌜QY c s'.mem ∧ ∀ sm : SemLoc sig, sm.isScoped .tc = true → s'.mem.sem ((c.tc : Thread nD τ), sm) = 0⌝ ∗ SI s') := by
      simp only [fin]
      iintro ⟨⟨HY, Hss⟩, HSI⟩
      ihave %hz := (tcScoped_read_pers c s') $$ [Hss HSI]
      · isplitl [Hss] <;> iassumption
      imod (hY c s') $$ [HY HSI] with ⟨%hy, HSI⟩
      · isplitl [HY] <;> iassumption
      imodintro
      isplitr
      · ipureintro; exact ⟨hy, hz⟩
      · iexact HSI
    iintro ⟨H, -, Hsc⟩ %s' HSI
    ihave %hsc := (scSems_read_zero m ρ s') $$ [Hsc HSI]
    · isplitl [Hsc] <;> iassumption
    imod (posts_fupd Finset.univ hread s') $$ [H HSI] with %h
    · isplitl [H] <;> iassumption
    imodintro
    ipureintro
    exact ⟨fun c => h c (Finset.mem_univ c), hsc⟩

end Launch

end Cert.AllGatherProof

end
-- ==== Proof.Steps.lean ====
/-
The all-gather's program, step by step.

Five arrays are gathered, each by the same steps, so everything here is indexed by the array `a : Fin 5`. A result
`out[a]` has eight SLOTS, one for each device; device `c` copies its block `in[a]` into its own slot `c`, sends it to
slot `c` of four other devices, relays three of the blocks it receives, and then waits for all of its transfers. This
file names the arrays, the slots and the semaphores, lists the steps, and proves that the printed kernel is the list.
-/
module

public import proofs.«01_k».proof.Proof.Start
public import proofs.«01_k».proof.Proof.Gen.KernelIdeal.Skeleton

@[expose] public section

noncomputable section

namespace Cert.AllGatherProof

open Cert.KernelIdeal Cert.KernelIdeal.Gen
open Idealize.ShloMosaic
open Idealize.ShloMosaic.TcCoe
open Idealize.SL.Sem

variable {F : FTy → Type} [FloatOps F]

/-! ## The five arrays -/

/-- Rows of a device's block of array `a`. -/
def nRow : Fin 5 → ℕ | 0 => 1024 | 1 => 128 | 2 => 1024 | 3 => 512 | 4 => 4
/-- Columns of a device's block of array `a`. -/
def nCol : Fin 5 → ℕ | 0 => 450 | 1 => 1024 | 2 => 512 | 3 => 1024 | 4 => 192
/-- A device's block of array `a`. -/
abbrev Blk (a : Fin 5) : Shape := ⟨2, ![nRow a, nCol a]⟩
/-- One slot of the gathered array `a`. -/
abbrev One (a : Fin 5) : Shape := ⟨3, ![1, nRow a, nCol a]⟩
/-- The gathered array `a`. -/
abbrev Big (a : Fin 5) : Shape := ⟨3, ![8, nRow a, nCol a]⟩
/-- Its element type. -/
def ety : Fin 5 → EltTy | 0 => .bf16 | 1 => .bf16 | 2 => .bf16 | 3 => .bf16 | 4 => .f32

/-- A device's block of array `a`, as the kernel is handed it. -/
def inM : (a : Fin 5) → Memref sig .tc .hbm (Blk a) (ety a)
  | 0 => Memref.whole main_arg0 | 1 => Memref.whole main_arg1 | 2 => Memref.whole main_arg2 | 3 => Memref.whole main_arg3 | 4 => Memref.whole main_arg4
/-- A device's copy of the gathered array `a`. -/
def outM : (a : Fin 5) → Memref sig .tc .hbm (Big a) (ety a)
  | 0 => Memref.whole main_v1_0 | 1 => Memref.whole main_v1_1 | 2 => Memref.whole main_v1_2 | 3 => Memref.whole main_v1_3 | 4 => Memref.whole main_v1_4

theorem one_squeezes (a : Fin 5) : (One a).Squeezes (Blk a) := by revert a; decide
theorem slot_inb (a : Fin 5) (k : Dev nD) (i : Fin (Big a).rank) : (![k.val, 0, 0] : Fin 3 → ℕ) i + (One a).size i ≤ (Big a).size i := by
  have := k.isLt
  match i with
  | 0 => show k.val + 1 ≤ 8; exact this
  | 1 => show 0 + nRow a ≤ nRow a; omega
  | 2 => show 0 + nCol a ≤ nCol a; omega

/-- Slot `k` of array `a`, at offsets equal to `(k, 0, 0)`. -/
def slotAt (a : Fin 5) (k : Dev nD) (off : Fin 3 → ℕ) (h : off = ![k.val, 0, 0]) : Memref sig .tc .hbm (Blk a) (ety a) :=
  ((outM a).slice (Rect.unit (s := Big a) off (One a).size (h ▸ slot_inb a k)) (fun _ => rfl)).squeeze (Blk a) (one_squeezes a)
/-- Slot `k` of array `a`. -/
abbrev slotM (a : Fin 5) (k : Dev nD) : Memref sig .tc .hbm (Blk a) (ety a) := slotAt a k ![k.val, 0, 0] rfl

theorem inM_exact : (a : Fin 5) → (inM a).view.WordExact
  | 0 => (Memref.isWhole_whole main_arg0).wordExact | 1 => (Memref.isWhole_whole main_arg1).wordExact | 2 => (Memref.isWhole_whole main_arg2).wordExact
  | 3 => (Memref.isWhole_whole main_arg3).wordExact | 4 => (Memref.isWhole_whole main_arg4).wordExact

theorem slot_exact (a : Fin 5) (k : Dev nD) (off : Fin 3 → ℕ) (h : off = ![k.val, 0, 0]) : (slotAt a k off h).view.WordExact := by
  subst h
  match a with
  | 0 => exact (((Memref.isWhole_whole main_v1_0).wordExact_slice rfl _ (.inr ⟨by decide, rfl, rfl, rfl⟩)).reshape _ _)
  | 1 => exact (((Memref.isWhole_whole main_v1_1).wordExact_slice rfl _ (.inr ⟨by decide, rfl, rfl, rfl⟩)).reshape _ _)
  | 2 => exact (((Memref.isWhole_whole main_v1_2).wordExact_slice rfl _ (.inr ⟨by decide, rfl, rfl, rfl⟩)).reshape _ _)
  | 3 => exact (((Memref.isWhole_whole main_v1_3).wordExact_slice rfl _ (.inr ⟨by decide, rfl, rfl, rfl⟩)).reshape _ _)
  | 4 => exact (View.wordExact_bits rfl).reshape _ _

theorem slot_tc (a : Fin 5) (k : Dev nD) (off : Fin 3 → ℕ) (h : off = ![k.val, 0, 0]) : (slotAt a k off h).view.ref.isScScratch = false := by
  match a with
  | 0 => rfl | 1 => rfl | 2 => rfl | 3 => rfl | 4 => rfl

/-! ## The semaphores -/

theorem sem_inb (a : Fin 5) (k : Fin 7) (i : Fin S5x7.rank) : (![a.val, k.val] : Fin 2 → ℕ) i + S1x1.size i ≤ S5x7.size i := by
  revert a k i; decide
theorem loc_inb (a : Fin 5) (i : Fin S5.rank) : (![a.val] : Fin 1 → ℕ) i + S1.size i ≤ S5.size i := by revert a i; decide

/-- The semaphore that tells a device that its `k`-th transfer of array `a` has left. -/
def sendS (a : Fin 5) (k : Fin 7) : DmaSem sig :=
  ((cc0_scratch0.slice (Rect.unit (s := S5x7) ![a.val, k.val] S1x1.size (sem_inb a k))).squeeze S_ squeezes_S1x1_S_).sem
/-- The semaphore that tells a device that the `k`-th transfer of array `a` to it has arrived. -/
def recvS (a : Fin 5) (k : Fin 7) : DmaSem sig :=
  ((cc0_scratch1.slice (Rect.unit (s := S5x7) ![a.val, k.val] S1x1.size (sem_inb a k))).squeeze S_ squeezes_S1x1_S_).sem
/-- The semaphore of a device's copy of its own block of array `a`. -/
def locS (a : Fin 5) : DmaSem sig :=
  ((cc0_scratch2.slice (Rect.unit (s := S5) ![a.val] S1.size (loc_inb a))).squeeze S_ squeezes_S1_S_).sem

/-! ## Who sends what to whom -/

/-- The device whose number differs from `c`'s in the bits of `n`. -/
def flip (n : Fin 8) (c : Dev nD) : Dev nD := ⟨(c.val ^^^ n.val) % 8, Nat.mod_lt _ (by decide)⟩

/-- Where a device's `k`-th transfer goes: the partner on its chip (0), the devices of the same place on the three other
    chips (1, 2, 3), and the partner again with what those three sent (4, 5, 6). -/
def tgtBits : Fin 7 → Fin 8 := ![1, 4, 2, 6, 1, 1, 1]
/-- Whose block a device's `k`-th transfer carries: its own, or one it received. -/
def sentBits : Fin 7 → Fin 8 := ![0, 0, 0, 0, 4, 2, 6]
/-- Whose block the `k`-th transfer to a device brings. -/
def landBits : Fin 7 → Fin 8 := ![1, 4, 2, 6, 5, 3, 7]

def tgt (k : Fin 7) (c : Dev nD) : Dev nD := flip (tgtBits k) c
def sent (k : Fin 7) (c : Dev nD) : Dev nD := flip (sentBits k) c
def land (k : Fin 7) (c : Dev nD) : Dev nD := flip (landBits k) c

theorem tgt_tgt (k : Fin 7) (c : Dev nD) : tgt k (tgt k c) = c := by revert k c; decide +kernel
theorem land_tgt (k : Fin 7) (c : Dev nD) : land k (tgt k c) = sent k c := by revert k c; decide +kernel

/-- The number of the transfer that brings the block that is relayed as the `j`-th. -/
def kIn : Fin 3 → Fin 7 := ![1, 2, 3]
/-- The number of the `j`-th relaying transfer. -/
def kOut : Fin 3 → Fin 7 := ![4, 5, 6]
/-- The number of the `k`-th transfer of the device's own block. -/
def kOwn : Fin 4 → Fin 7 := ![0, 1, 2, 3]

theorem sent_kOwn (k : Fin 4) (c : Dev nD) : sent (kOwn k) c = c := by revert k c; decide +kernel
theorem sent_kOut (j : Fin 3) (c : Dev nD) : sent (kOut j) c = land (kIn j) c := by revert j c; decide +kernel

/-! ## The steps -/

/-- The places the steps at device `c` name: its own slots, the slots it receives into and the devices it sends to. Each is
    determined; only the way it is computed may differ. -/
structure Places (c : Dev nD) where
  own : (a : Fin 5) → {off : Fin 3 → ℕ // off = ![c.val, 0, 0]}
  land : (a : Fin 5) → (k : Fin 7) → {off : Fin 3 → ℕ // off = ![(land k c).val, 0, 0]}
  dst : (a : Fin 5) → (k : Fin 7) → {d : Dev nD // d = tgt k c}

instance (c : Dev nD) : Subsingleton (Places c) := ⟨fun p q => by
  obtain ⟨o, l, t⟩ := p; obtain ⟨o', l', t'⟩ := q
  rw [Subsingleton.elim o o', Subsingleton.elim l l', Subsingleton.elim t t']⟩

/-- The steps of the kernel. -/
inductive Step
  /-- start the copy of the own block into the own slot -/
  | copy (a : Fin 5)
  /-- start the `k`-th transfer of the own block -/
  | send (a : Fin 5) (k : Fin 4)
  /-- start the `j`-th transfer of a received block -/
  | relay (a : Fin 5) (j : Fin 3)
  /-- wait for the `k`-th transfer to this device -/
  | recv (a : Fin 5) (k : Fin 7)
  /-- wait until the `k`-th transfer of the own block has left -/
  | sentOwn (a : Fin 5) (k : Fin 4)
  /-- wait until the `j`-th relaying transfer has left -/
  | sentRelay (a : Fin 5) (j : Fin 3)
  /-- wait for the copy of the own block -/
  | copied (a : Fin 5)

/-- The operation of a step. -/
def Step.op {c : Dev nD} (p : Places c) : Step → Prog (TpuEff nD τ sig (Elt F) Λ₀ .tc) PUnit
  | .copy a => Prog.lift (.enqueueDma (inM a) (.here (slotAt a c _ (p.own a).2)) (.dma (locS a)) (inM_exact a) (slot_exact a c _ (p.own a).2)
      ⟨Or.inl rfl, trivial⟩)
  | .send a k => Prog.lift (.enqueueDma (inM a)
      (.remote (Dev.tc (p.dst a (kOwn k)).1) (slotAt a c _ (p.own a).2) (.dma (sendS a (kOwn k))) (slot_tc a c _ (p.own a).2)) (.dma (recvS a (kOwn k)))
      (inM_exact a) (slot_exact a c _ (p.own a).2) ⟨⟨rfl, Or.inl rfl⟩, trivial⟩)
  | .relay a j => Prog.lift (.enqueueDma (slotAt a _ _ (p.land a (kIn j)).2)
      (.remote (Dev.tc (p.dst a (kOut j)).1) (slotAt a _ _ (p.land a (kIn j)).2) (.dma (sendS a (kOut j))) (slot_tc a _ _ (p.land a (kIn j)).2))
      (.dma (recvS a (kOut j))) (slot_exact a _ _ (p.land a (kIn j)).2) (slot_exact a _ _ (p.land a (kIn j)).2) ⟨⟨rfl, Or.inl rfl⟩, trivial⟩)
  | .recv a k => Prog.lift (.waitDma2 (recvS a k) (slotAt a _ _ (p.land a k).2) (slotAt a _ _ (p.land a k).2)
      (slot_exact a _ _ (p.land a k).2) (slot_exact a _ _ (p.land a k).2))
  | .sentOwn a k => Prog.lift (.waitDma2 (sendS a (kOwn k)) (slotAt a c _ (p.own a).2) (inM a) (slot_exact a c _ (p.own a).2) (inM_exact a))
  | .sentRelay a j => Prog.lift (.waitDma2 (sendS a (kOut j)) (slotAt a _ _ (p.land a (kIn j)).2) (slotAt a _ _ (p.land a (kIn j)).2)
      (slot_exact a _ _ (p.land a (kIn j)).2) (slot_exact a _ _ (p.land a (kIn j)).2))
  | .copied a => Prog.lift (.waitDma2 (locS a) (inM a) (slotAt a c _ (p.own a).2) (inM_exact a) (slot_exact a c _ (p.own a).2))

/-- The operations of a list of steps, then `k`. -/
def runs {c : Dev nD} (p : Places c) (l : List Step) (k : Prog (TpuEff nD τ sig (Elt F) Λ₀ .tc) PUnit) : Prog (TpuEff nD τ sig (Elt F) Λ₀ .tc) PUnit :=
  l.foldr (fun s k => (s.op p).bind fun _ => k) k

/-- The arrays in order. -/
def arrs : List (Fin 5) := [0, 1, 2, 3, 4]
def own4 : List (Fin 4) := [0, 1, 2, 3]
def rel3 : List (Fin 3) := [0, 1, 2]

def copies : List Step := arrs.map .copy
def sends : List Step := arrs.flatMap fun a => own4.map (.send a)
def relays : List Step := arrs.flatMap fun a => rel3.flatMap fun j => [.recv a (kIn j), .relay a j]
def recvs : List Step := arrs.flatMap fun a => .recv a 0 :: rel3.map fun j => .recv a (kOut j)
def lefts : List Step := (arrs.flatMap fun a => own4.map (.sentOwn a)) ++ arrs.flatMap fun a => rel3.map (.sentRelay a)
def copieds : List Step := arrs.map .copied

/-- The steps of the kernel in its order. -/
def steps : List Step := copies ++ (sends ++ (relays ++ (recvs ++ (lefts ++ copieds))))

/-! ## The printed kernel is the list -/

/-- The printed offsets of a device's own slots. -/
def prOwn : Fin 5 → Dev nD → Fin 3 → ℕ := ![k0_off1, k0_off2, k0_off3, k0_off4, k0_off5]
/-- The printed offsets of the slots a device receives into. -/
def prRow (near : Dev nD → Fin 3 → ℕ) (far beyond : Dev nD → BitVec 32 → BitVec 32 → Fin 3 → ℕ) : Fin 7 → Dev nD → Fin 3 → ℕ :=
  ![near, fun c => far c 1#32 0#32, fun c => far c 0#32 1#32, fun c => far c 1#32 1#32,
    fun c => beyond c 1#32 0#32, fun c => beyond c 0#32 1#32, fun c => beyond c 1#32 1#32]
@[inherit_doc prRow] def prLand : Fin 5 → Fin 7 → Dev nD → Fin 3 → ℕ :=
  ![prRow k0_off11 k0_off6 k0_off12, prRow k0_off13 k0_off7 k0_off14, prRow k0_off15 k0_off8 k0_off16, prRow k0_off17 k0_off9 k0_off18,
    prRow k0_off19 k0_off10 k0_off20]
/-- The printed numbers of the devices a device sends to. -/
def prTo : Fin 5 → Fin 7 → Dev nD → ℕ :=
  ![![k0_dev1, k0_dev2, k0_dev3, k0_dev4, k0_dev21, k0_dev22, k0_dev23],
    ![k0_dev5, k0_dev6, k0_dev7, k0_dev8, k0_dev24, k0_dev25, k0_dev26],
    ![k0_dev9, k0_dev10, k0_dev11, k0_dev12, k0_dev27, k0_dev28, k0_dev29],
    ![k0_dev13, k0_dev14, k0_dev15, k0_dev16, k0_dev30, k0_dev31, k0_dev32],
    ![k0_dev17, k0_dev18, k0_dev19, k0_dev20, k0_dev33, k0_dev34, k0_dev35]]

theorem prOwn_eq (a : Fin 5) (c : Dev nD) : prOwn a c = ![c.val, 0, 0] := by revert a c; decide +kernel
theorem prLand_eq (a : Fin 5) (k : Fin 7) (c : Dev nD) : prLand a k c = ![(land k c).val, 0, 0] := by revert a k c; decide +kernel
theorem prTo_lt (a : Fin 5) (k : Fin 7) (c : Dev nD) : prTo a k c < nD := by revert a k c; decide +kernel
theorem prTo_eq (a : Fin 5) (k : Fin 7) (c : Dev nD) : (⟨prTo a k c, prTo_lt a k c⟩ : Dev nD) = tgt k c := by revert a k c; decide +kernel

/-- The places as the printed kernel computes them. -/
def printed (c : Dev nD) : Places c := ⟨fun a => ⟨prOwn a c, prOwn_eq a c⟩, fun a k => ⟨prLand a k c, prLand_eq a k c⟩, fun a k => ⟨⟨prTo a k c, prTo_lt a k c⟩, prTo_eq a k c⟩⟩
/-- The places themselves. -/
def places (c : Dev nD) : Places c := ⟨fun a => ⟨_, rfl⟩, fun a k => ⟨_, rfl⟩, fun a k => ⟨_, rfl⟩⟩

/-- The kernel on the launch's own arrays. -/
abbrev kernel : Prog (TpuEff nD τ sig (Elt F) Λ₀ .tc) PUnit :=
  cc0_all_gather_weights (Memref.whole main_arg0) (Memref.isWhole_whole _) (Memref.whole main_arg1) (Memref.isWhole_whole _)
    (Memref.whole main_arg2) (Memref.isWhole_whole _) (Memref.whole main_arg3) (Memref.isWhole_whole _)
    (Memref.whole main_arg4) (Memref.isWhole_whole _) (Memref.whole main_v1_0) (Memref.isWhole_whole _)
    (Memref.whole main_v1_1) (Memref.isWhole_whole _) (Memref.whole main_v1_2) (Memref.isWhole_whole _)
    (Memref.whole main_v1_3) (Memref.isWhole_whole _) (Memref.whole main_v1_4) (Memref.isWhole_whole _)
    cc0_scratch0 cc0_scratch1 cc0_scratch2

set_option maxRecDepth 65536 in
set_option maxHeartbeats 4000000 in
theorem kernel_eq : kernel (F := F) = (Prog.lift .deviceId).bind fun c : Dev nD => runs (printed c) steps (.ret ⟨⟩) := by
  unfold kernel
  rfl

end Cert.AllGatherProof

end
-- ==== Proof.Slots.lean ====
/-
The slots of the gathered arrays and what they hold.

The eight slots of `out[a]` are disjoint and make it up, so a device's result array can be handed out slot by slot and
put together again. `gath a c` is what `out[a]` holds in the end: block `k` of the devices in slot `k`.
-/
module

public import proofs.«01_k».proof.Proof.Steps
public import Idealize.ShloMosaic.Lib.Ring
public import Idealize.ShloMosaic.Lib.ViewIndex
public import Idealize.ShloMosaic.Lib.ValueLayout
public import Idealize.ShloMosaic.Lib.SparseCore.Stream

@[expose] public section

noncomputable section

namespace Cert.AllGatherProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Ring (pointsTo_blocks)

variable {F : FTy → Type} [FloatOps F]

local notation "𝕄" => MT nD τ sig Unit (Elt F) ℕ UU ℕ

variable (m : (ℓ : Loc nD τ sig) → Buf (Elt F) ℓ)

/-! ## The elements of a slot -/

theorem in_set (a : Fin 5) : (inM a).view.set = Finset.univ := by
  match a with
  | 0 => exact View.set_whole _ | 1 => exact View.set_whole _ | 2 => exact View.set_whole _ | 3 => exact View.set_whole _ | 4 => exact View.set_whole _
theorem out_set (a : Fin 5) : (outM a).view.set = Finset.univ := by
  match a with
  | 0 => exact View.set_whole _ | 1 => exact View.set_whole _ | 2 => exact View.set_whole _ | 3 => exact View.set_whole _ | 4 => exact View.set_whole _

/-- An index of a block is the pair of its coordinates. -/
theorem blk_eta (a : Fin 5) (z : (Blk a).Idx) : ix2 (n0 := nRow a) (n1 := nCol a) (z 0) (z 1) = z := by
  funext i
  match i with
  | ⟨0, _⟩ => rfl
  | ⟨1, _⟩ => rfl

/-- Element `(x, y)` of slot `k` is element `(k, x, y)` of the array. -/
theorem slot_emb (a : Fin 5) (k : Dev nD) (x : Fin (nRow a)) (y : Fin (nCol a)) :
    (slotM a k).view.emb (ix2 x y) = (outM a).view.emb (ix3 (k : Fin 8) x y) := by
  show (outM a).view.emb ((Rect.unit (s := Big a) ![k.val, 0, 0] (One a).size (slot_inb a k)).emb (Shape.reshapeEquiv _ (ix2 x y))) = _
  rw [reshapeEquiv_ix2_1ab]
  refine congrArg _ (Shape.idx3_ext ?_ ?_ ?_)
  · show k.val + 1 * 0 = k.val; omega
  · show 0 + 1 * x.val = x.val; omega
  · show 0 + 1 * y.val = y.val; omega

theorem slot_emb_at (a : Fin 5) (k : Dev nD) (z : (Blk a).Idx) : (slotM a k).view.emb z = (outM a).view.emb (ix3 (n1 := nRow a) (n2 := nCol a) (k : Fin 8) (z 0) (z 1)) :=
  (congrArg _ (blk_eta a z)).symm.trans (slot_emb a k (z 0) (z 1))

/-- The elements of slot `k`. -/
def slotSet (a : Fin 5) (k : Dev nD) : Finset (outM a).view.ty.Idx := (slotM a k).view.set

theorem slot_disjoint (a : Fin 5) (k k' : Dev nD) (h : k ≠ k') : Disjoint (slotSet a k) (slotSet a k') := by
  rw [Finset.disjoint_left]
  intro i hi hi'
  obtain ⟨z, -, hz⟩ := Finset.mem_map.mp hi
  obtain ⟨z', -, hz'⟩ := Finset.mem_map.mp hi'
  have := (outM a).view.emb.injective ((slot_emb_at a k z).symm.trans (hz.trans (hz'.symm.trans (slot_emb_at a k' z'))))
  exact h (congrFun this 0)

theorem slot_cover (a : Fin 5) : (Finset.univ.biUnion fun k : Dev nD => slotSet a k) = Finset.univ := by
  refine Finset.eq_univ_of_forall fun i => ?_
  have hi : i ∈ (outM a).view.set := by rw [out_set]; exact Finset.mem_univ i
  obtain ⟨y, -, rfl⟩ := Finset.mem_map.mp hi
  refine Finset.mem_biUnion.mpr ⟨(y 0 : Fin 8), Finset.mem_univ _, ?_⟩
  exact Finset.mem_map.mpr ⟨ix2 (y 1) (y 2), Finset.mem_univ _,
    (slot_emb a (y 0 : Fin 8) (y 1) (y 2)).trans (congrArg _ (Shape.idx3_ext rfl rfl rfl))⟩

/-! ## The contents -/

/-- Device `d`'s block of array `a` at the start. -/
def blkIn (a : Fin 5) (d : Dev nD) : (Blk a).Idx → Elt F (ety a) := (inM a).view.read (Elt F) (m ((inM a).view.loc (d : Thread nD τ)))

/-- The gathered array: the devices' blocks, one after the other. -/
def gathV (a : Fin 5) : (Big a).Idx → Elt F (ety a) := fun x => blkIn m a (x 0) (ix2 (x 1) (x 2))

/-- The gathered array `a` as the contents of device `c`'s result. -/
def gath (a : Fin 5) (c : Dev nD) : Buf (Elt F) ((outM a).view.loc (c : Thread nD τ)) :=
  (outM a).view.write (Elt F) (m ((outM a).view.loc (c : Thread nD τ))) (gathV m a) Finset.univ

omit [FloatOps F] in
/-- Slot `k` of the gathered array is device `k`'s block. -/
theorem slot_read (a : Fin 5) (k c : Dev nD) : (slotM a k).view.read (Elt F) (gath m a c) = blkIn m a k := by
  funext z
  have h : gath m a c ((outM a).view.emb (ix3 (n1 := nRow a) (n2 := nCol a) (k : Fin 8) (z 0) (z 1))) = cast _ (gathV m a (ix3 (k : Fin 8) (z 0) (z 1))) :=
    View.write_emb_of_mem _ _ (Finset.mem_univ _)
  have h' : gathV m a (ix3 (n1 := nRow a) (n2 := nCol a) (k : Fin 8) (z 0) (z 1)) = blkIn m a k z := congrArg (blkIn m a k) (blk_eta a z)
  rw [← h']
  refine (View.read_apply (v := (slotM a k).view) (gath m a c) z).trans ?_
  refine (congrArg (fun i : (outM a).view.ty.Idx => cast _ (gath m a c i)) (slot_emb_at a k z)).trans ?_
  refine (congrArg (cast _) h).trans ?_
  exact (cast_cast _ _ _).trans (cast_eq _ _)

/-! ## The points-to facts -/

/-- Device `c` holds slot `k` of its `out[a]` at the contents `f` (of which only slot `k` matters). -/
def slotPts (c : Dev nD) (a : Fin 5) (k : Dev nD) (f : Buf (Elt F) ((outM a).view.loc (c : Thread nD τ))) : sProp 𝕄 :=
  (outM a).view.loc (c : Thread nD τ) ↦[slotSet a k]{fullShare} f

/-- Slot `k` of device `c`'s `out[a]` with device `k`'s block in it. -/
def slotGot (c : Dev nD) (a : Fin 5) (k : Dev nD) : sProp 𝕄 := slotPts c a k (gath m a c)

/-- The share `i` of five of device `c`'s block of array `a`: one for its own copy, four for its transfers. -/
def inPts (c : Dev nD) (a i : Fin 5) : sProp 𝕄 :=
  (inM a).view.loc (c : Thread nD τ) ↦[(inM a).view.set]{pieceOf fullShare 5 (by decide) i} m ((inM a).view.loc (c : Thread nD τ))

omit [FloatOps F] in
instance slotPts_storable (c : Dev nD) (a : Fin 5) (k : Dev nD) (f) : BI.Storable (upEmb : UEmb _ 𝕄) (slotPts (F := F) c a k f) := by unfold slotPts; infer_instance
omit [FloatOps F] in
instance slotGot_storable (c : Dev nD) (a : Fin 5) (k : Dev nD) : BI.Storable (upEmb : UEmb _ 𝕄) (slotGot (F := F) m c a k) := by unfold slotGot; infer_instance
omit [FloatOps F] in
instance inPts_storable (c : Dev nD) (a i : Fin 5) : BI.Storable (upEmb : UEmb _ 𝕄) (inPts (F := F) m c a i) := by unfold inPts; infer_instance

omit [FloatOps F] in
/-- Writing device `k`'s block into slot `k`, whatever was there before. -/
theorem slot_written (c : Dev nD) (a : Fin 5) (k : Dev nD) (f : Buf (Elt F) ((outM a).view.loc (c : Thread nD τ))) (v : (Blk a).Idx → Elt F (ety a))
    (hv : v = blkIn m a k) : slotPts c a k ((slotM a k).view.write (Elt F) f v Finset.univ) = slotGot m c a k := by
  rw [hv, ← slot_read m a k c]
  unfold slotGot slotPts
  refine pointsTo_congr fun i hi => ?_
  exact (congrFun (View.write_read_eq_piecewise (v := (slotM a k).view) f (gath m a c) Finset.univ) i).trans (Finset.piecewise_eq_of_mem _ _ _ hi)

omit [FloatOps F] in
/-- A result array is its slots. -/
theorem out_slots (c : Dev nD) (a : Fin 5) (f : Buf (Elt F) ((outM a).view.loc (c : Thread nD τ))) :
    ((outM a).view.loc (c : Thread nD τ) ↦{fullShare} f : sProp 𝕄) = bigSep Finset.univ fun k : Dev nD => slotPts c a k f :=
  pointsTo_blocks (ℓ := (outM a).view.loc (c : Thread nD τ)) (fun k : Dev nD => slotSet a k) (slot_disjoint a) (slot_cover a) f

omit [FloatOps F] in
/-- An argument array is its five shares. -/
theorem in_shares (c : Dev nD) (a : Fin 5) :
    ((inM a).view.loc (c : Thread nD τ) ↦{fullShare} m ((inM a).view.loc (c : Thread nD τ)) : sProp 𝕄) = bigSep Finset.univ fun i : Fin 5 => inPts m c a i := by
  unfold inPts
  rw [in_set]
  exact pointsTo_piecesOf Finset.univ _ (by decide) fullShare

end Cert.AllGatherProof

end
-- ==== Proof.Protocol.lean ====
/-
The protocol of the all-gather.

Every semaphore of the kernel is used once on each device: one transfer raises it by the size of a block, and its owner
waits for that much. So each is a cell of one round with one duty. What the transfer hands to the owner:
  • `recv k` of array `a` at device `c`: slot `land k c` of `c`'s result `a`, with that device's block in it;
  • `send k`: the source of the transfer back (a share of the own block, or the slot that was relayed);
  • `loc`: the own slot with the own block in it, and the share of the block that was copied.
The receive cells 1, 2, 3 lie on a lower level than the others, because a device waits for them while it still owes the
blocks it is to relay.
-/
module

public import proofs.«01_k».proof.Proof.Slots

@[expose] public section

noncomputable section

namespace Cert.AllGatherProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The cells -/

/-- The semaphores of one array. -/
inductive Tag
  | send (k : Fin 7)
  | recv (k : Fin 7)
  | loc
  deriving DecidableEq

/-- The semaphores of one array, listed. -/
def tags : List Tag :=
  [.send 0, .send 1, .send 2, .send 3, .send 4, .send 5, .send 6, .recv 0, .recv 1, .recv 2, .recv 3, .recv 4, .recv 5, .recv 6, .loc]

instance : Fintype Tag := ⟨tags.toFinset, fun t => by
  cases t with
  | send k => revert k; decide
  | recv k => revert k; decide
  | loc => decide⟩

/-- The kernel's semaphores, as locations. -/
def osem : Fin 5 × Tag → SemLoc sig
  | (a, .send k) => .dma (sendS a k)
  | (a, .recv k) => .dma (recvS a k)
  | (a, .loc) => .dma (locS a)

theorem osem_injective : Function.Injective osem := by decide +kernel

open Classical in
/-- Which of the kernel's semaphores a location is, if one. -/
def tagOf (s : SemLoc sig) : Option (Fin 5 × Tag) := if h : ∃ q, osem q = s then some h.choose else none

theorem tagOf_osem (q : Fin 5 × Tag) : tagOf (osem q) = some q := by
  have h : ∃ q', osem q' = osem q := ⟨q, rfl⟩
  unfold tagOf
  rw [dif_pos h]
  exact congrArg some (osem_injective h.choose_spec)

/-- The cell of a semaphore on a device. -/
def cell (c : Dev nD) (q : Fin 5 × Tag) : GSem nD τ sig := ((c : Thread nD τ), osem q)

theorem cell_injective : Function.Injective fun x : Dev nD × (Fin 5 × Tag) => cell x.1 x.2 := by
  rintro ⟨c, q⟩ ⟨c', q'⟩ h
  have h1 : c = c' := congrArg (fun g : GSem nD τ sig => g.1.1) h
  have h2 : q = q' := osem_injective (congrArg Prod.snd h)
  rw [h1, h2]

/-- The size of a block of array `a`, as semaphores count it. -/
def amt (a : Fin 5) : ℕ := (inM a).view.dmaCredit
theorem amt_pos (a : Fin 5) : 0 < amt a := View.dmaCredit_pos _ (by revert a; decide)
theorem amt_slot (a : Fin 5) (k : Dev nD) : (slotM a k).view.dmaCredit = amt a := by
  match a with
  | 0 => rfl | 1 => rfl | 2 => rfl | 3 => rfl | 4 => rfl

/-! ## The schedule -/

/-- Which share of the own block its `k`-th transfer reads. -/
def shareOf : Fin 4 → Fin 5 := ![1, 2, 3, 4]

/-- What comes back from a transfer when it has left: the share of the own block, or the slot that was relayed. -/
def leftPay (c : Dev nD) (a : Fin 5) : Fin 7 → sProp 𝕄 :=
  ![inPts m c a 1, inPts m c a 2, inPts m c a 3, inPts m c a 4, slotGot m c a (sent 4 c), slotGot m c a (sent 5 c), slotGot m c a (sent 6 c)]

/-- What the transfer on a cell hands to the cell's owner. -/
def pay (c : Dev nD) : Fin 5 × Tag → sProp 𝕄
  | (a, .send k) => leftPay m c a k
  | (a, .recv k) => slotGot m c a (land k c)
  | (a, .loc) => iprop(slotGot m c a c ∗ inPts m c a 0)

omit [FloatOps F] in
theorem leftPay_own (c : Dev nD) (a : Fin 5) (k : Fin 4) : leftPay m c a (kOwn k) = inPts m c a (shareOf k) := by
  match k with
  | 0 => rfl | 1 => rfl | 2 => rfl | 3 => rfl
omit [FloatOps F] in
theorem leftPay_relay (c : Dev nD) (a : Fin 5) (j : Fin 3) : leftPay m c a (kOut j) = slotGot m c a (land (kIn j) c) := by
  rw [← sent_kOut]
  match j with
  | 0 => rfl | 1 => rfl | 2 => rfl

omit [FloatOps F] in
instance pay_storable (c : Dev nD) (q : Fin 5 × Tag) : BI.Storable (upEmb : UEmb _ 𝕄) (pay (F := F) m c q) := by
  obtain ⟨a, t⟩ := q
  match t with
  | .send k =>
    match k with
    | 0 => exact inPts_storable m c a 1 | 1 => exact inPts_storable m c a 2 | 2 => exact inPts_storable m c a 3 | 3 => exact inPts_storable m c a 4
    | 4 => exact slotGot_storable m c a _ | 5 => exact slotGot_storable m c a _ | 6 => exact slotGot_storable m c a _
  | .recv k => exact slotGot_storable m c a _
  | .loc => unfold pay; infer_instance

/-- One round at each cell, with one duty. -/
def sched : Rounds.Schedule (GSem nD τ sig) Unit 𝕄 where
  duties g r := if r = 0 ∧ g.1.2 = .tc ∧ (tagOf g.2).isSome then {()} else ∅
  unitless _ := False
  amount g _ _ := match tagOf g.2 with | some q => amt q.1 | none => 1
  payload g _ _ := match tagOf g.2 with | some q => pay m g.1.1 q | none => iprop(emp)
  amount_pos g _ _ _ := by
    match tagOf g.2 with
    | some q => exact amt_pos q.1
    | none => exact Nat.one_pos

instance sched_storable (g : GSem nD τ sig) (r : ℕ) (d : Unit) : BI.Storable (upEmb : UEmb _ 𝕄) ((sched (F := F) m).payload g r d) := by
  show BI.Storable upEmb (match tagOf g.2 with | some q => pay m g.1.1 q | none => iprop(emp))
  cases tagOf g.2 with
  | some q => exact pay_storable m g.1.1 q
  | none => infer_instance

section Tables
variable (c : Dev nD) (q : Fin 5 × Tag)

omit [FloatOps F] in
theorem duties_cell : (sched (F := F) m).duties (cell c q) 0 = {()} := by
  dsimp only [sched, cell]; rw [tagOf_osem]; exact if_pos ⟨rfl, rfl, rfl⟩
omit [FloatOps F] in
theorem duty_mem : () ∈ (sched (F := F) m).duties (cell c q) 0 := by rw [duties_cell]; exact Finset.mem_singleton_self _
omit [FloatOps F] in
theorem duties_later (g : GSem nD τ sig) : ∀ r, 1 ≤ r → (sched (F := F) m).duties g r = ∅ :=
  fun r hr => by dsimp only [sched]; exact if_neg fun h => by omega
omit [FloatOps F] in
theorem amount_cell (u : Unit) : (sched (F := F) m).amount (cell c q) 0 u = amt q.1 := by
  dsimp only [sched, cell]; rw [tagOf_osem]
omit [FloatOps F] in
theorem payload_cell (u : Unit) : (sched (F := F) m).payload (cell c q) 0 u = pay m c q := by
  dsimp only [sched, cell]; rw [tagOf_osem]
omit [FloatOps F] in
theorem expect_cell : (sched (F := F) m).expect (cell c q) 0 = amt q.1 := by
  unfold Schedule.expect Schedule.amountOf; rw [duties_cell, Finset.sum_singleton, amount_cell]
omit [FloatOps F] in
theorem rest_cell : bigSep ((sched (F := F) m).duties (cell c q) 0 \ ∅) (fun u => (sched (F := F) m).payload (cell c q) 0 u) = pay m c q := by
  rw [Finset.sdiff_empty, duties_cell, bigSep_singleton, payload_cell]

end Tables

/-! ## The levels -/

/-- The label of a cell's credit; only the cells of the kernel's own processor are labelled. -/
def L (g : GSem nD τ sig) : Finset Unit := if g.1.2 = .tc then {()} else ∅
theorem L_of_ne (g : GSem nD τ sig) (h : g.1.2 ≠ .tc) : L g = ∅ := if_neg h

/-- The level of a cell: what must be received before it can be relayed is lower. -/
def lvTag : Tag → ℕ
  | .recv 0 => 2 | .recv 1 => 1 | .recv 2 => 1 | .recv 3 => 1 | .recv 4 => 2 | .recv 5 => 2 | .recv 6 => 2
  | _ => 0
def lv (g : GSem nD τ sig) (_ : Unit) : ℕ := match tagOf g.2 with | some q => lvTag q.2 | none => 0

theorem lv_cell (c : Dev nD) (q : Fin 5 × Tag) (u : Unit) : lv (cell c q) u = lvTag q.2 := by
  dsimp only [lv, cell]; rw [tagOf_osem]
theorem L_cell (c : Dev nD) (q : Fin 5 × Tag) : L (cell c q) = {()} := if_pos rfl

/-- Only cells above level 1 are owed. -/
def Above (O : CellTallies nD τ sig Unit) : Prop := ∀ (g : GSem nD τ sig) (u : Unit), 0 < O g u → g.1.2 = .tc ∧ 1 < lv g u

theorem above_zero : Above 0 := fun g u h => absurd h (Nat.lt_irrefl 0)
theorem above_add (O : CellTallies nD τ sig Unit) (hO : Above O) (c : Dev nD) (q : Fin 5 × Tag) (hq : 1 < lvTag q.2) (n : ℕ) :
    Above (O + tallyAt (cell c q) () n) := by
  intro g u h
  rw [Pi.add_apply, Finsupp.add_apply, tallyAt_apply] at h
  by_cases hg : g = cell c q
  · rw [hg, lv_cell]; exact ⟨rfl, hq⟩
  · rw [if_neg (fun h' => hg h'.1), Nat.add_zero] at h
    exact hO g u h

omit [FloatOps F] in
/-- A wait on level 1 or below is allowed while only higher cells are owed. -/
theorem mayWait_low (c : Dev nD) (q : Fin 5 × Tag) (hq : lvTag q.2 ≤ 1) (O : CellTallies nD τ sig Unit) (hO : Above O) :
    (levAts L lv : sProp 𝕄) ⊢ MayWait (c : Thread nD τ) (osem q) () O :=
  MayOwe.of_cut (L := L) (lev := lv) 1
    (fun p hp => by rw [Finset.mem_singleton.mp hp]; exact (L_cell c q).symm ▸ Finset.mem_singleton_self _)
    (fun g u hg => by unfold L; rw [if_pos (hO g u hg).1]; exact Finset.mem_singleton_self _)
    (fun p hp => by rw [Finset.mem_singleton.mp hp]; exact (lv_cell c q ()).le.trans hq)
    (fun g u hg => (hO g u hg).2)

end Cert.AllGatherProof

end
-- ==== Proof.Body.lean ====
/-
One device's body.

`Does` says what a list of steps needs, what it gives and what it pays off of what the device owes. Each kind of step is
proved once, for any array and any device, and the kernel's six phases are put together from them.
-/
module

public import proofs.«01_k».proof.Proof.Protocol
public import Idealize.ShloMosaic.Lib.Pipeline.BigSepL

@[expose] public section

noncomputable section

namespace Cert.AllGatherProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## What every device knows -/

/-- The devices' cells. -/
abbrev Cells : Type := Dev nD × (Fin 5 × Tag)

/-- The invariants of all cells, that they have begun, and their levels. -/
def base (K : Cells → ℕ) : sProp 𝕄 :=
  iprop((bigSep Finset.univ fun x : Cells => cellInv ER (sched m) (K x) (cell x.1 x.2))
    ∗ (bigSep Finset.univ fun x : Cells => reached ER (cell x.1 x.2) 0) ∗ levAts L lv)

instance base_persistent (K : Cells → ℕ) : BI.Persistent (base m K) := by unfold base; infer_instance

omit [FloatOps F] in
theorem inv_at (K : Cells → ℕ) (c : Dev nD) (q : Fin 5 × Tag) : base m K ⊢ cellInv ER (sched m) (K (c, q)) (cell c q) := by
  have h : (bigSep Finset.univ fun x : Cells => (cellInv ER (sched m) (K x) (cell x.1 x.2) : sProp 𝕄)) ⊢ cellInv ER (sched m) (K (c, q)) (cell c q) :=
    bigSep_elim (Finset.mem_univ (c, q))
  unfold base
  iintro ⟨H, -, -⟩
  iapply h
  iexact H
omit [FloatOps F] in
theorem reached_at (K : Cells → ℕ) (c : Dev nD) (q : Fin 5 × Tag) : base m K ⊢ reached ER (cell c q) 0 := by
  have h : (bigSep Finset.univ fun x : Cells => (reached ER (cell x.1 x.2) 0 : sProp 𝕄)) ⊢ reached ER (cell c q) 0 := bigSep_elim (Finset.mem_univ (c, q))
  unfold base
  iintro ⟨-, H, -⟩
  iapply h
  iexact H
omit [FloatOps F] in
theorem levels_at (K : Cells → ℕ) : base m K ⊢ levAts L lv := by
  unfold base
  iintro ⟨-, -, H⟩
  iexact H

/-! ## The parts a device holds -/

/-- The credit of a cell. -/
def credit (c : Dev nD) (q : Fin 5 × Tag) : sProp 𝕄 := cred (tallyAt (cell c q) () (amt q.1))
/-- The duty of a cell, not yet done. -/
def duty (c : Dev nD) (q : Fin 5 × Tag) : sProp 𝕄 := dutyTok ER (cell c q) 0 ()
/-- The owner's place at a cell before it has waited, -/
def before (c : Dev nD) (q : Fin 5 × Tag) : sProp 𝕄 := atPos ER (cell c q) 0 ∅ 0
/-- and after. -/
def after (c : Dev nD) (q : Fin 5 × Tag) : sProp 𝕄 := atPos ER (cell c q) 1 ∅ 0
/-- What a device owes, whatever it has waited for. -/
def owing' (c : Dev nD) (O : CellTallies nD τ sig Unit) : sProp 𝕄 := iprop(∃ W : Waits sig Unit, owes (c : Thread nD τ) O W)

/-- Slot `k` of device `c`'s result `a` as it was at the start. -/
def slotInit (c : Dev nD) (a : Fin 5) (k : Dev nD) : sProp 𝕄 := slotPts c a k (m ((outM a).view.loc (c : Thread nD τ)))

/-- What device `c` is handed to write into it: the slot its `k`-th incoming transfer fills, and that transfer's duty. -/
def door (c : Dev nD) (a : Fin 5) (k : Fin 7) : sProp 𝕄 := iprop(slotInit m c a (land k c) ∗ duty c (a, .recv k))

/-! ## Lists of steps -/

abbrev wpAt (c : Dev nD) (k : Prog (TpuEff nD τ sig (Elt F) Λ₀ .tc) PUnit) (Q : PUnit → sProp 𝕄) : sProp 𝕄 :=
  wp frame (wpE (defs₀ (F := F)) 𝒱₀ (c : Thread nD τ) none) Set.univ k Q

/-- On device `c` the steps `l` need `A`, give `B`, and bring what is owed from `O` to `O'`. -/
def Does (K : Cells → ℕ) (c : Dev nD) (l : List Step) (A B : sProp 𝕄) (O O' : CellTallies nD τ sig Unit) : Prop :=
  ∀ (k : Prog (TpuEff nD τ sig (Elt F) Λ₀ .tc) PUnit) (Q : PUnit → sProp 𝕄),
    iprop(base m K ∗ A ∗ owing' c O) ⊢ iprop(((B ∗ owing' c O') -∗ wpAt c k Q) -∗ wpAt c (runs (places c) l k) Q)

section Lists
variable {m} {K : Cells → ℕ} {c : Dev nD}

theorem Does.nil (O : CellTallies nD τ sig Unit) : Does m K c [] BI.emp BI.emp O O := fun k Q => by
  iintro ⟨-, -, HO⟩ Hk
  iapply Hk
  isplitr; · iempintro
  iexact HO

theorem Does.seq {l l' : List Step} {A B A' B' : sProp 𝕄} {O O₁ O₂ : CellTallies nD τ sig Unit} (h : Does m K c l A B O O₁)
    (h' : Does m K c l' A' B' O₁ O₂) : Does m K c (l ++ l') iprop(A ∗ A') iprop(B ∗ B') O O₂ := fun k Q => by
  rw [show runs (F := F) (places c) (l ++ l') k = runs (places c) l (runs (places c) l' k) from List.foldr_append]
  iintro ⟨#HR, ⟨HA, HA'⟩, HO⟩ Hk
  iapply (h _ Q) $$ [HA HO]
  · isplitr; · iexact HR
    isplitl [HA] <;> iassumption
  iintro ⟨HB, HO⟩
  iapply (h' k Q) $$ [HA' HO]
  · isplitr; · iexact HR
    isplitl [HA'] <;> iassumption
  iintro ⟨HB', HO⟩
  iapply Hk
  isplitl [HB HB']
  · isplitl [HB] <;> iassumption
  iexact HO

/-- The second list uses what the first gives. -/
theorem Does.andThen {l l' : List Step} {A B A' B₁ B' : sProp 𝕄} {O O₁ O₂ : CellTallies nD τ sig Unit} (h : Does m K c l A iprop(B ∗ B₁) O O₁)
    (h' : Does m K c l' iprop(B₁ ∗ A') B' O₁ O₂) : Does m K c (l ++ l') iprop(A ∗ A') iprop(B ∗ B') O O₂ := fun k Q => by
  rw [show runs (F := F) (places c) (l ++ l') k = runs (places c) l (runs (places c) l' k) from List.foldr_append]
  iintro ⟨#HR, ⟨HA, HA'⟩, HO⟩ Hk
  iapply (h _ Q) $$ [HA HO]
  · isplitr; · iexact HR
    isplitl [HA] <;> iassumption
  iintro ⟨⟨HB, HB₁⟩, HO⟩
  iapply (h' k Q) $$ [HA' HB₁ HO]
  · isplitr; · iexact HR
    isplitr [HO]
    · isplitl [HB₁] <;> iassumption
    iexact HO
  iintro ⟨HB', HO⟩
  iapply Hk
  isplitl [HB HB']
  · isplitl [HB] <;> iassumption
  iexact HO

/-- The same steps for every entry of a list, each paying `pays` of what is owed. -/
theorem Does.each {X : Type} (f : X → List Step) (A B : X → sProp 𝕄) (pays : X → CellTallies nD τ sig Unit) (P : CellTallies nD τ sig Unit → Prop)
    (hP : ∀ x O, P O → P (O + pays x)) (h : ∀ x O, P O → Does m K c (f x) (A x) (B x) (O + pays x) O) (xs : List X) :
    ∀ O, P O → Does m K c (xs.flatMap f) (bigSepL xs A) (bigSepL xs B) (O + (xs.map pays).sum) O ∧ P (O + (xs.map pays).sum) := by
  induction xs with
  | nil => intro O hO; rw [List.map_nil, List.sum_nil, add_zero]; exact ⟨Does.nil O, hO⟩
  | cons x xs ih =>
    intro O hO
    obtain ⟨h1, h2⟩ := ih O hO
    rw [List.map_cons, List.sum_cons, add_comm (pays x), ← add_assoc, List.flatMap_cons, bigSepL_cons', bigSepL_cons']
    exact ⟨(h x _ h2).seq h1, hP x _ h2⟩

end Lists

/-! ## One step -/

section Steps
variable (K : Cells → ℕ) (c : Dev nD)

/-- A wait for one of the kernel's cells: the owner gets what the transfer hands over. -/
theorem wait_rule (q : Fin 5 × Tag) (s : DmaSem sig) (hs : osem q = .dma s) {src dst : Memref sig .tc .hbm (Blk q.1) (ety q.1)}
    {hsrc : src.view.WordExact} {hdst : dst.view.WordExact} (hN : dst.view.dmaCredit = amt q.1)
    (O : CellTallies nD τ sig Unit) (hmay : (levAts L lv : sProp 𝕄) ⊢ MayWait (c : Thread nD τ) (osem q) () O)
    (k : Prog (TpuEff nD τ sig (Elt F) Λ₀ .tc) PUnit) (Q : PUnit → sProp 𝕄) :
    iprop(base m K ∗ (credit c q ∗ before c q) ∗ owing' c O)
      ⊢ iprop((((after c q ∗ pay m c q) ∗ owing' c O) -∗ wpAt c k Q)
          -∗ wpAt c ((Prog.lift (.waitDma2 s src dst hsrc hdst)).bind fun _ => k) Q) := by
  have hc : cell c q = ((c : Thread nD τ), .dma s) := by unfold cell; rw [hs]
  unfold owing' credit before after
  iintro ⟨#HR, ⟨Hc, Ha⟩, ⟨%W, HO⟩⟩ Hk
  iapply (Rounds.wp_wait_rest_token 𝒱₀ ER (sched m) (c : Thread nD τ) none (κ := K (c, q)) (sm := .dma s)
      (wpE_waitDma2_eq 𝒱₀ (c : Thread nD τ) none Set.univ) (Set.mem_univ _) () (O := O) (W := W) (R := 0) (m := 0) (T := ∅)
      (by rw [Nat.zero_add, ← hc, expect_cell, hN])) $$ [Hc HO Ha]
  · rw [← hc, hN]
    isplitr; · iapply (inv_at m K c q); iexact HR
    isplitl [Hc]; · iexact Hc
    isplitl [HO]; · iexact HO
    isplitr; · rw [← hs]; iapply hmay; iapply (levels_at m K); iexact HR
    iexact Ha
  rw [← hc]
  iintro ⟨HO, Ha, -, Hpay⟩
  ihave Hp := (Entails.of_eq (rest_cell m c q)) $$ Hpay
  iapply Hk
  isplitr [HO]
  · isplitl [Ha]; · iexact Ha
    iexact Hp
  iexists _; iexact HO

/-- The start of a transfer to another device. -/
theorem send_rule (a : Fin 5) (k : Fin 7) (d : Dev nD) (q : PosShare TreeShare) (src : Memref sig .tc .hbm (Blk a) (ety a))
    (fs : Buf (Elt F) (src.view.loc (c : Thread nD τ))) (e : Dev nD) (hf : src.view.read (Elt F) fs = blkIn m a e) (he : e = land k d)
    {hsc} {hsrc : src.view.WordExact} {hdst : (slotM a e).view.WordExact} {hsem}
    (hleft : (src.view.loc (c : Thread nD τ) ↦[src.view.set]{q} fs : sProp 𝕄) ⊢ pay m c (a, .send k))
    (O : CellTallies nD τ sig Unit) (kk : Prog (TpuEff nD τ sig (Elt F) Λ₀ .tc) PUnit) (Q : PUnit → sProp 𝕄) :
    iprop(base m K ∗ ((src.view.loc (c : Thread nD τ) ↦[src.view.set]{q} fs) ∗ slotInit m d a e ∗ duty c (a, .send k) ∗ duty d (a, .recv k))
        ∗ owing' c (O + tallyAt (cell d (a, .recv k)) () (amt a)))
      ⊢ iprop(((credit c (a, .send k) ∗ owing' c O) -∗ wpAt c kk Q)
          -∗ wpAt c ((Prog.lift (.enqueueDma src (.remote (Dev.tc d : Thread nD τ) (slotM a e) (.dma (sendS a k)) hsc) (.dma (recvS a k)) hsrc hdst hsem)).bind
              fun _ => kk) Q) := by
  unfold owing' slotInit slotPts duty credit
  iintro ⟨#HR, ⟨Hs, Hd, Ht, Ht'⟩, ⟨%W, HO⟩⟩ Hk
  iapply (Rounds.wp_send_pointsTo 𝒱₀ ER (sched m) (c : Thread nD τ) none (c' := (d : Thread nD τ)) (dst := slotM a e)
      (sS := .dma (sendS a k)) (sem := .dma (recvS a k)) (κ₁ := K (c, (a, .send k))) (κ₂ := K (d, (a, .recv k)))
      (r₁ := 0) (r₂ := 0) (d₁ := ()) (d₂ := ()) (fs := fs) (fd := m ((outM a).view.loc (d : Thread nD τ)))
      (duty_mem m c (a, .send k)) (duty_mem m d (a, .recv k)) () () (amt a) (amt_slot a e) (amount_cell m c (a, .send k) ())
      (amount_cell m d (a, .recv k) ()) O rfl (W := W)
      (by rw [show (((c : Thread nD τ), SemLoc.dma (sendS a k)) : GSem nD τ sig) = cell c (a, .send k) from rfl, payload_cell]; exact hleft)
      (by
        rw [show (((d : Thread nD τ), SemLoc.dma (recvS a k)) : GSem nD τ sig) = cell d (a, .recv k) from rfl, payload_cell]
        refine (Entails.of_eq (slot_written m d a e _ _ hf)).trans ?_
        rw [he]; exact BI.Entails.refl _)) $$ [Hs Hd HO Ht Ht']
  · isplitr; · iapply (inv_at m K c (a, .send k)); iexact HR
    isplitr; · iapply (inv_at m K d (a, .recv k)); iexact HR
    isplitl [Hs]; · iexact Hs
    isplitl [Hd]; · iexact Hd
    isplitl [HO]; · iexact HO
    isplitl [Ht]; · iexact Ht
    isplitr; · iapply (reached_at m K c (a, .send k)); iexact HR
    isplitl [Ht']; · iexact Ht'
    iapply (reached_at m K d (a, .recv k)); iexact HR
  iintro ⟨Hc, HO⟩
  iapply Hk
  isplitl [Hc]; · iexact Hc
  iexists W; iexact HO

/-- The copy of the own block into the own slot. -/
theorem copy_does (a : Fin 5) (O : CellTallies nD τ sig Unit) :
    Does m K c [.copy a] iprop(inPts m c a 0 ∗ slotInit m c a c ∗ duty c (a, .loc)) (credit c (a, .loc)) O O := fun k Q => by
  unfold slotInit slotPts inPts duty credit
  iintro ⟨#HR, ⟨Hs, Hd, Ht⟩, HO⟩ Hk
  iapply (Rounds.wp_copy_pointsTo 𝒱₀ ER (sched m) (c : Thread nD τ) none (src := inM a) (dst := slotM a c) (sem := .dma (locS a)) (κ := K (c, (a, .loc)))
      (r := 0) (d := ()) (fs := m ((inM a).view.loc (c : Thread nD τ))) (fd := m ((outM a).view.loc (c : Thread nD τ)))
      (duty_mem m c (a, .loc)) () (amt a) (amt_slot a c) (amount_cell m c (a, .loc) ())
      (by
        rw [show (((c : Thread nD τ), SemLoc.dma (locS a)) : GSem nD τ sig) = cell c (a, .loc) from rfl, payload_cell]
        exact sep_mono_left (Entails.of_eq (slot_written m c a c _ _ rfl)))) $$ [Hs Hd Ht]
  · isplitr; · iapply (inv_at m K c (a, .loc)); iexact HR
    isplitl [Hs]; · iexact Hs
    isplitl [Hd]; · iexact Hd
    isplitl [Ht]; · iexact Ht
    iapply (reached_at m K c (a, .loc)); iexact HR
  iintro Hc
  iapply Hk
  isplitl [Hc]; · iexact Hc
  iexact HO

/-- A transfer of the own block. -/
theorem send_does (a : Fin 5) (k : Fin 4) (O : CellTallies nD τ sig Unit) :
    Does m K c [.send a k]
      iprop(inPts m c a (shareOf k) ∗ slotInit m (tgt (kOwn k) c) a c ∗ duty c (a, .send (kOwn k)) ∗ duty (tgt (kOwn k) c) (a, .recv (kOwn k)))
      (credit c (a, .send (kOwn k))) (O + tallyAt (cell (tgt (kOwn k) c) (a, .recv (kOwn k))) () (amt a)) O := fun kk Q =>
  send_rule m K c a (kOwn k) (tgt (kOwn k) c) _ (inM a) (m ((inM a).view.loc (c : Thread nD τ))) c rfl (by rw [land_tgt, sent_kOwn])
    (Entails.of_eq (leftPay_own m c a k).symm) O kk Q

/-- A transfer of a block that was received. -/
theorem relay_does (a : Fin 5) (j : Fin 3) (O : CellTallies nD τ sig Unit) :
    Does m K c [.relay a j]
      iprop(slotGot m c a (land (kIn j) c) ∗ slotInit m (tgt (kOut j) c) a (land (kIn j) c) ∗ duty c (a, .send (kOut j))
        ∗ duty (tgt (kOut j) c) (a, .recv (kOut j)))
      (credit c (a, .send (kOut j))) (O + tallyAt (cell (tgt (kOut j) c) (a, .recv (kOut j))) () (amt a)) O := fun kk Q =>
  send_rule m K c a (kOut j) (tgt (kOut j) c) fullShare (slotM a (land (kIn j) c)) (gath m a c) (land (kIn j) c) (slot_read m a _ c)
    (by rw [land_tgt, sent_kOut]) (Entails.of_eq (leftPay_relay m c a j).symm) O kk Q

/-- A wait for a block. -/
theorem recv_does (a : Fin 5) (k : Fin 7) (O : CellTallies nD τ sig Unit)
    (hmay : (levAts L lv : sProp 𝕄) ⊢ MayWait (c : Thread nD τ) (osem (a, .recv k)) () O) :
    Does m K c [.recv a k] iprop(credit c (a, .recv k) ∗ before c (a, .recv k)) iprop(after c (a, .recv k) ∗ slotGot m c a (land k c)) O O := fun kk Q =>
  wait_rule m K c (a, .recv k) (recvS a k) rfl (amt_slot a _) O hmay kk Q

omit [FloatOps F] in
theorem may_zero (s : SemLoc sig) : (levAts L lv : sProp 𝕄) ⊢ MayWait (c : Thread nD τ) s () 0 := by
  rw [MayWait_zero]; iintro -; iempintro

/-- A wait until a transfer of the own block has left. -/
theorem sentOwn_does (a : Fin 5) (k : Fin 4) :
    Does m K c [.sentOwn a k] iprop(credit c (a, .send (kOwn k)) ∗ before c (a, .send (kOwn k)))
      iprop(after c (a, .send (kOwn k)) ∗ inPts m c a (shareOf k)) 0 0 := fun kk Q => by
  rw [← leftPay_own]
  exact wait_rule m K c (a, .send (kOwn k)) (sendS a (kOwn k)) rfl rfl 0 (may_zero c _) kk Q

/-- A wait until a relaying transfer has left. -/
theorem sentRelay_does (a : Fin 5) (j : Fin 3) :
    Does m K c [.sentRelay a j] iprop(credit c (a, .send (kOut j)) ∗ before c (a, .send (kOut j)))
      iprop(after c (a, .send (kOut j)) ∗ slotGot m c a (land (kIn j) c)) 0 0 := fun kk Q => by
  rw [← leftPay_relay]
  exact wait_rule m K c (a, .send (kOut j)) (sendS a (kOut j)) rfl (amt_slot a _) 0 (may_zero c _) kk Q

/-- A wait for the own copy. -/
theorem copied_does (a : Fin 5) :
    Does m K c [.copied a] iprop(credit c (a, .loc) ∗ before c (a, .loc))
      iprop(after c (a, .loc) ∗ slotGot m c a c ∗ inPts m c a 0) 0 0 := fun kk Q =>
  wait_rule m K c (a, .loc) (locS a) rfl (amt_slot a _) 0 (may_zero c _) kk Q

theorem lv_in (j : Fin 3) : lvTag (.recv (kIn j)) ≤ 1 := by revert j; decide
theorem lv_out (j : Fin 3) : 1 < lvTag (.recv (kOut j)) := by revert j; decide

/-- A block received and relayed. -/
theorem pass_does (a : Fin 5) (j : Fin 3) (O : CellTallies nD τ sig Unit) (hO : Above O) :
    Does m K c [.recv a (kIn j), .relay a j]
      iprop((credit c (a, .recv (kIn j)) ∗ before c (a, .recv (kIn j)))
        ∗ slotInit m (tgt (kOut j) c) a (land (kIn j) c) ∗ duty c (a, .send (kOut j)) ∗ duty (tgt (kOut j) c) (a, .recv (kOut j)))
      iprop(after c (a, .recv (kIn j)) ∗ credit c (a, .send (kOut j)))
      (O + tallyAt (cell (tgt (kOut j) c) (a, .recv (kOut j))) () (amt a)) O :=
  (recv_does m K c a (kIn j) _ (mayWait_low c (a, .recv (kIn j)) (lv_in j) _
    (above_add O hO (tgt (kOut j) c) (a, .recv (kOut j)) (lv_out j) _))).andThen (relay_does m K c a j O)

end Steps

end Cert.AllGatherProof

end
-- ==== Proof.Device.lean ====
/-
One device, from its start to its end.

`holds` is what a device starts with, array by array; `body_obligation` says that the kernel's body takes it to the
gathered arrays, the untouched blocks and the semaphores at zero.
-/
module

public import proofs.«01_k».proof.Proof.Body

@[expose] public section

noncomputable section

namespace Cert.AllGatherProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ)

/-! ## Splitting what is held by number -/

omit [FloatOps F] in
/-- If the images of two maps list a type, what is held over it is what is held over the two. -/
theorem bigSep_two {I A B : Type} [Fintype I] [DecidableEq I] [Fintype A] [DecidableEq A] [Fintype B] [DecidableEq B]
    (f : A → I) (g : B → I) (xs : List A) (ys : List B) (hxs : Finset.univ = xs.toFinset) (nxs : xs.Nodup) (hys : Finset.univ = ys.toFinset) (nys : ys.Nodup)
    (h : Finset.univ = (xs.map f ++ ys.map g).toFinset) (n : (xs.map f ++ ys.map g).Nodup) (Φ : I → sProp 𝕄) :
    bigSep Finset.univ Φ = iprop((bigSep Finset.univ fun a => Φ (f a)) ∗ bigSep Finset.univ fun b => Φ (g b)) := by
  rw [bigSep_univ_eq_bigSepL _ h n, bigSep_univ_eq_bigSepL xs hxs nxs, bigSep_univ_eq_bigSepL ys hys nys, bigSepL_append, bigSepL_map, bigSepL_map]

/-- The numbers of the transfers to a device whose blocks are not relayed. -/
def kRest : Fin 4 → Fin 7 := ![0, 4, 5, 6]

omit [FloatOps F] in
theorem split_out (Φ : Fin 7 → sProp 𝕄) :
    bigSep Finset.univ Φ = iprop((bigSep Finset.univ fun k : Fin 4 => Φ (kOwn k)) ∗ bigSep Finset.univ fun j : Fin 3 => Φ (kOut j)) :=
  bigSep_two kOwn kOut own4 rel3 (by decide) (by decide) (by decide) (by decide) (by decide) (by decide) Φ
omit [FloatOps F] in
theorem split_in (Φ : Fin 7 → sProp 𝕄) :
    bigSep Finset.univ Φ = iprop((bigSep Finset.univ fun k : Fin 4 => Φ (kRest k)) ∗ bigSep Finset.univ fun j : Fin 3 => Φ (kIn j)) :=
  bigSep_two kRest kIn own4 rel3 (by decide) (by decide) (by decide) (by decide) (by decide) (by decide) Φ
omit [FloatOps F] in
theorem split_share (Φ : Fin 5 → sProp 𝕄) : bigSep Finset.univ Φ = iprop(Φ 0 ∗ bigSep Finset.univ fun k : Fin 4 => Φ (shareOf k)) := by
  rw [bigSep_two (fun _ : Unit => (0 : Fin 5)) shareOf [()] own4 (by decide) (by decide) (by decide) (by decide) (by decide) (by decide) Φ,
    bigSep_univ_eq_bigSepL [()] (by decide) (by decide)]
  rfl
omit [FloatOps F] in
theorem split_tag (Φ : Tag → sProp 𝕄) :
    bigSep Finset.univ Φ = iprop((bigSep Finset.univ fun k : Fin 7 => Φ (.send k)) ∗ (bigSep Finset.univ fun k : Fin 7 => Φ (.recv k)) ∗ Φ .loc) := by
  have h7 : (Finset.univ : Finset (Fin 7)) = ([0, 1, 2, 3, 4, 5, 6] : List (Fin 7)).toFinset := by decide
  rw [bigSep_univ_eq_bigSepL (([0, 1, 2, 3, 4, 5, 6] : List (Fin 7)).map Tag.send ++ (([0, 1, 2, 3, 4, 5, 6] : List (Fin 7)).map Tag.recv ++ [Tag.loc]))
      (by decide) (by decide), bigSep_univ_eq_bigSepL _ h7 (by decide), bigSep_univ_eq_bigSepL _ h7 (by decide), bigSepL_append, bigSepL_append,
    bigSepL_map, bigSepL_map]
  rfl
omit [FloatOps F] in
/-- The devices, from `c`: itself, those whose blocks it receives last, and those whose blocks it relays. -/
theorem split_dev (c : Dev nD) (Φ : Dev nD → sProp 𝕄) :
    bigSep Finset.univ Φ
      = iprop(Φ c ∗ (bigSep Finset.univ fun k : Fin 4 => Φ (land (kRest k) c)) ∗ bigSep Finset.univ fun j : Fin 3 => Φ (land (kIn j) c)) := by
  have h4 : (Finset.univ : Finset (Fin 4)) = own4.toFinset := by decide
  have h3 : (Finset.univ : Finset (Fin 3)) = rel3.toFinset := by decide
  rw [bigSep_univ_eq_bigSepL ([c] ++ (own4.map (fun k => land (kRest k) c) ++ rel3.map (fun j => land (kIn j) c)))
      (by revert c; decide +kernel) (by revert c; decide +kernel), bigSep_univ_eq_bigSepL _ h4 (by decide), bigSep_univ_eq_bigSepL _ h3 (by decide),
    bigSepL_append, bigSepL_append, bigSepL_map, bigSepL_map]
  rfl

/-! ## The phases -/

/-- The numbers of an array and a transfer, in order. -/
def byOwn : List (Fin 5 × Fin 4) := arrs.flatMap fun a => own4.map fun k => (a, k)
def byRel : List (Fin 5 × Fin 3) := arrs.flatMap fun a => rel3.map fun j => (a, j)

theorem copies_list : copies = arrs.flatMap fun a => [Step.copy a] := rfl
theorem sends_list : sends = byOwn.flatMap fun x => [Step.send x.1 x.2] := rfl
theorem relays_list : relays = byRel.flatMap fun x => [Step.recv x.1 (kIn x.2), Step.relay x.1 x.2] := rfl
theorem recvs_list : recvs = byOwn.flatMap fun x => [Step.recv x.1 (kRest x.2)] := rfl
theorem lefts_list : lefts = (byOwn.flatMap fun x => [Step.sentOwn x.1 x.2]) ++ byRel.flatMap fun x => [Step.sentRelay x.1 x.2] := rfl
theorem copieds_list : copieds = arrs.flatMap fun a => [Step.copied a] := rfl

section Phases
variable (c : Dev nD)

def copyNeed (a : Fin 5) : sProp 𝕄 := iprop(inPts m c a 0 ∗ slotInit m c a c ∗ duty c (a, .loc))
def sendNeed (a : Fin 5) (k : Fin 4) : sProp 𝕄 :=
  iprop(inPts m c a (shareOf k) ∗ slotInit m (tgt (kOwn k) c) a c ∗ duty c (a, .send (kOwn k)) ∗ duty (tgt (kOwn k) c) (a, .recv (kOwn k)))
def passNeed (a : Fin 5) (j : Fin 3) : sProp 𝕄 :=
  iprop((credit c (a, .recv (kIn j)) ∗ before c (a, .recv (kIn j)))
    ∗ slotInit m (tgt (kOut j) c) a (land (kIn j) c) ∗ duty c (a, .send (kOut j)) ∗ duty (tgt (kOut j) c) (a, .recv (kOut j)))
def recvNeed (a : Fin 5) (k : Fin 4) : sProp 𝕄 := iprop(credit c (a, .recv (kRest k)) ∗ before c (a, .recv (kRest k)))

/-- What is owed for a transfer of the own block, and for a relaying one. -/
def sendPays (x : Fin 5 × Fin 4) : CellTallies nD τ sig Unit := tallyAt (cell (tgt (kOwn x.2) c) (x.1, .recv (kOwn x.2))) () (amt x.1)
def relayPays (x : Fin 5 × Fin 3) : CellTallies nD τ sig Unit := tallyAt (cell (tgt (kOut x.2) c) (x.1, .recv (kOut x.2))) () (amt x.1)

/-- What a device owes at the start: all its transfers' arrivals. -/
def O₀ : CellTallies nD τ sig Unit := 0 + (byRel.map (relayPays c)).sum + (byOwn.map (sendPays c)).sum

/-- What a device starts with, of array `a`, sorted by the phases that need it. -/
def sorted (a : Fin 5) : sProp 𝕄 :=
  iprop(copyNeed m c a ∗ (bigSep Finset.univ fun k => sendNeed m c a k) ∗ (bigSep Finset.univ fun j => passNeed m c a j)
    ∗ (bigSep Finset.univ fun k => recvNeed (F := F) c a k) ∗ (bigSep Finset.univ fun k : Fin 4 => before c (a, .send (kOwn k)))
    ∗ (bigSep Finset.univ fun j : Fin 3 => before c (a, .send (kOut j))) ∗ before c (a, .loc))

/-- What the phases give, of array `a`. -/
def given (a : Fin 5) : sProp 𝕄 :=
  iprop((bigSep Finset.univ fun j : Fin 3 => after c (a, .recv (kIn j)))
    ∗ (bigSep Finset.univ fun k : Fin 4 => iprop(after c (a, .recv (kRest k)) ∗ slotGot m c a (land (kRest k) c)))
    ∗ (bigSep Finset.univ fun k : Fin 4 => iprop(after c (a, .send (kOwn k)) ∗ inPts m c a (shareOf k)))
    ∗ (bigSep Finset.univ fun j : Fin 3 => iprop(after c (a, .send (kOut j)) ∗ slotGot m c a (land (kIn j) c)))
    ∗ after c (a, .loc) ∗ slotGot m c a c ∗ inPts m c a 0)

end Phases

omit [FloatOps F] in
theorem over_arrs (Φ : Fin 5 → sProp 𝕄) : (bigSep Finset.univ fun a : Fin 5 => Φ a) = bigSepL arrs Φ := bigSep_univ_eq_bigSepL arrs (by decide) (by decide) Φ
omit [FloatOps F] in
theorem over_own (Φ : Fin 5 → Fin 4 → sProp 𝕄) :
    (bigSep Finset.univ fun a : Fin 5 => bigSep Finset.univ fun k : Fin 4 => Φ a k) = bigSepL byOwn fun x => Φ x.1 x.2 := by
  rw [← bigSep_univ_eq_bigSepL byOwn (by decide) (by decide), bigSep_univ_prod]
omit [FloatOps F] in
theorem over_rel (Φ : Fin 5 → Fin 3 → sProp 𝕄) :
    (bigSep Finset.univ fun a : Fin 5 => bigSep Finset.univ fun k : Fin 3 => Φ a k) = bigSepL byRel fun x => Φ x.1 x.2 := by
  rw [← bigSep_univ_eq_bigSepL byRel (by decide) (by decide), bigSep_univ_prod]

section Device
variable (K : Cells → ℕ) (c : Dev nD)

/-- A phase that pays nothing. -/
theorem free_phase {X : Type} (f : X → List Step) (A B : X → sProp 𝕄) (O : CellTallies nD τ sig Unit)
    (h : ∀ x, Does m K c (f x) (A x) (B x) O O) (xs : List X) : Does m K c (xs.flatMap f) (bigSepL xs A) (bigSepL xs B) O O := by
  have := (Does.each (m := m) (K := K) (c := c) f A B (fun _ => 0) (fun O' => O' = O) (fun x O' h => by rw [h, add_zero])
    (fun x O' hO => by rw [hO, add_zero]; exact h x) xs O rfl).1
  rwa [show (xs.map fun _ => (0 : CellTallies nD τ sig Unit)).sum = 0 from List.sum_eq_zero (by simp), add_zero] at this

theorem copies_phase (O : CellTallies nD τ sig Unit) :
    Does m K c copies (bigSepL arrs fun a => copyNeed m c a) (bigSepL arrs fun a => credit c (a, .loc)) O O := by
  rw [copies_list]
  exact free_phase m K c (fun a => [.copy a]) _ _ O (fun a => copy_does m K c a O) arrs
theorem sends_phase (O : CellTallies nD τ sig Unit) :
    Does m K c sends (bigSepL byOwn fun x => sendNeed m c x.1 x.2) (bigSepL byOwn fun x => credit c (x.1, .send (kOwn x.2)))
      (O + (byOwn.map (sendPays c)).sum) O := by
  rw [sends_list]
  exact (Does.each (fun x : Fin 5 × Fin 4 => [.send x.1 x.2]) _ _ (sendPays c) (fun _ => True) (fun _ _ _ => trivial)
    (fun x O _ => send_does m K c x.1 x.2 O) byOwn O trivial).1
theorem relays_phase :
    Does m K c relays (bigSepL byRel fun x => passNeed m c x.1 x.2)
      (bigSepL byRel fun x => iprop(after c (x.1, .recv (kIn x.2)) ∗ credit c (x.1, .send (kOut x.2)))) (0 + (byRel.map (relayPays c)).sum) 0 := by
  rw [relays_list]
  exact (Does.each (fun x : Fin 5 × Fin 3 => [.recv x.1 (kIn x.2), .relay x.1 x.2]) _ _ (relayPays c) Above
    (fun x O hO => above_add O hO _ _ (lv_out x.2) _) (fun x O hO => pass_does m K c x.1 x.2 O hO) byRel 0 above_zero).1
theorem recvs_phase :
    Does m K c recvs (bigSepL byOwn fun x => recvNeed c x.1 x.2)
      (bigSepL byOwn fun x => iprop(after c (x.1, .recv (kRest x.2)) ∗ slotGot m c x.1 (land (kRest x.2) c))) 0 0 := by
  rw [recvs_list]
  exact free_phase m K c (fun x : Fin 5 × Fin 4 => [.recv x.1 (kRest x.2)])
    (fun x => recvNeed c x.1 x.2) (fun x => iprop(after c (x.1, .recv (kRest x.2)) ∗ slotGot m c x.1 (land (kRest x.2) c))) 0 (fun x => recv_does m K c x.1 (kRest x.2) 0 (may_zero c _)) byOwn
theorem lefts_phase :
    Does m K c lefts
      iprop((bigSepL byOwn fun x => iprop(credit c (x.1, .send (kOwn x.2)) ∗ before c (x.1, .send (kOwn x.2))))
        ∗ bigSepL byRel fun x => iprop(credit c (x.1, .send (kOut x.2)) ∗ before c (x.1, .send (kOut x.2))))
      iprop((bigSepL byOwn fun x => iprop(after c (x.1, .send (kOwn x.2)) ∗ inPts m c x.1 (shareOf x.2)))
        ∗ bigSepL byRel fun x => iprop(after c (x.1, .send (kOut x.2)) ∗ slotGot m c x.1 (land (kIn x.2) c))) 0 0 := by
  rw [lefts_list]
  exact (free_phase m K c (fun x : Fin 5 × Fin 4 => [.sentOwn x.1 x.2])
    (fun x => iprop(credit c (x.1, .send (kOwn x.2)) ∗ before c (x.1, .send (kOwn x.2))))
    (fun x => iprop(after c (x.1, .send (kOwn x.2)) ∗ inPts m c x.1 (shareOf x.2))) 0 (fun x => sentOwn_does m K c x.1 x.2) byOwn).seq
    (free_phase m K c (fun x : Fin 5 × Fin 3 => [.sentRelay x.1 x.2])
    (fun x => iprop(credit c (x.1, .send (kOut x.2)) ∗ before c (x.1, .send (kOut x.2))))
    (fun x => iprop(after c (x.1, .send (kOut x.2)) ∗ slotGot m c x.1 (land (kIn x.2) c))) 0 (fun x => sentRelay_does m K c x.1 x.2) byRel)
theorem copieds_phase :
    Does m K c copieds (bigSepL arrs fun a => iprop(credit c (a, .loc) ∗ before c (a, .loc)))
      (bigSepL arrs fun a => iprop(after c (a, .loc) ∗ slotGot m c a c ∗ inPts m c a 0)) 0 0 := by
  rw [copieds_list]
  exact free_phase m K c (fun a => [.copied a]) _ _ 0 (fun a => copied_does m K c a) arrs

omit [FloatOps F] in
theorem bigSepL_sep' {X : Type} [DecidableEq X] (xs : List X) (hx : xs.Nodup) (Φ Ψ : X → sProp 𝕄) :
    bigSepL xs (fun x => iprop(Φ x ∗ Ψ x)) = iprop(bigSepL xs Φ ∗ bigSepL xs Ψ) := by
  rw [← bigSep_eq_bigSepL_of_eq xs rfl hx, ← bigSep_eq_bigSepL_of_eq xs rfl hx, ← bigSep_eq_bigSepL_of_eq xs rfl hx, bigSep_sep']

/-- All the steps. -/
theorem steps_run (k : Prog (TpuEff nD τ sig (Elt F) Λ₀ .tc) PUnit) (Q : PUnit → sProp 𝕄) :
    iprop(base m K ∗ (bigSep Finset.univ fun a : Fin 5 => sorted m c a) ∗ owing' c (O₀ c))
      ⊢ iprop((((bigSep Finset.univ fun a : Fin 5 => given m c a) ∗ owing' c 0) -∗ wpAt c k Q) -∗ wpAt c (runs (places c) steps k) Q) := by
  have no : byOwn.Nodup := by decide
  have nr : byRel.Nodup := by decide
  have na : arrs.Nodup := by decide
  have happ (l l' : List Step) (k' : Prog (TpuEff nD τ sig (Elt F) Λ₀ .tc) PUnit) :
      runs (places c) (l ++ l') k' = runs (places c) l (runs (places c) l' k') := List.foldr_append
  unfold sorted given steps
  rw [happ, happ, happ, happ, happ]
  simp only [bigSep_sep', over_own, over_rel]
  rw [over_arrs, over_arrs (fun a => before c (a, .loc)), over_arrs (fun a => after c (a, .loc)), over_arrs, over_arrs]
  unfold O₀
  iintro ⟨#HR, ⟨Hcopy, Hsend, Hpass, Hrecv, Hbo, Hbr, Hbl⟩, HO⟩ Hk
  iapply (copies_phase m K c _ _ Q) $$ [Hcopy HO]
  · isplitr; · iexact HR
    isplitl [Hcopy] <;> iassumption
  iintro ⟨Hcl, HO⟩
  iapply (sends_phase m K c _ _ Q) $$ [Hsend HO]
  · isplitr; · iexact HR
    isplitl [Hsend] <;> iassumption
  iintro ⟨Hco, HO⟩
  iapply (relays_phase m K c _ Q) $$ [Hpass HO]
  · isplitr; · iexact HR
    isplitl [Hpass] <;> iassumption
  rw [bigSepL_sep' byRel nr]
  iintro ⟨⟨Hai, Hcr⟩, HO⟩
  iapply (recvs_phase m K c _ Q) $$ [Hrecv HO]
  · isplitr; · iexact HR
    isplitl [Hrecv] <;> iassumption
  rw [bigSepL_sep' byOwn no]
  iintro ⟨⟨Har, Hgr⟩, HO⟩
  iapply (lefts_phase m K c _ Q) $$ [Hco Hbo Hcr Hbr HO]
  · isplitr; · iexact HR
    rw [bigSepL_sep' byOwn no, bigSepL_sep' byRel nr]
    isplitr [HO]
    · isplitl [Hco Hbo]
      · isplitl [Hco] <;> iassumption
      isplitl [Hcr] <;> iassumption
    iexact HO
  rw [bigSepL_sep' byOwn no, bigSepL_sep' byRel nr]
  iintro ⟨⟨⟨Hao, Hio⟩, ⟨Hax, Hgx⟩⟩, HO⟩
  iapply (copieds_phase m K c _ Q) $$ [Hcl Hbl HO]
  · isplitr; · iexact HR
    rw [bigSepL_sep' arrs na]
    isplitr [HO]
    · isplitl [Hcl] <;> iassumption
    iexact HO
  rw [bigSepL_sep' arrs na, bigSepL_sep' arrs na]
  iintro ⟨⟨Hal, Hgl, Hil⟩, HO⟩
  iapply Hk
  isplitr [HO]
  · isplitl [Hai]; · iexact Hai
    isplitl [Har Hgr]; · isplitl [Har] <;> iassumption
    isplitl [Hao Hio]; · isplitl [Hao] <;> iassumption
    isplitl [Hax Hgx]; · isplitl [Hax] <;> iassumption
    isplitl [Hal]; · iexact Hal
    isplitl [Hgl] <;> iassumption
  iexact HO

end Device

/-! ## The start and the end -/

/-- What a device starts with, of array `a`: the shares of its block, its own slot, its place at its cells, the duties it
    does on its own cells, the slots it writes on other devices with the duties there, and the credit of its receive cells. -/
def holds (c : Dev nD) (a : Fin 5) : sProp 𝕄 :=
  iprop((bigSep Finset.univ fun i : Fin 5 => inPts m c a i) ∗ slotInit m c a c ∗ (bigSep Finset.univ fun t : Tag => before c (a, t)) ∗ duty c (a, .loc)
    ∗ (bigSep Finset.univ fun k : Fin 7 => duty c (a, .send k)) ∗ (bigSep Finset.univ fun k : Fin 7 => door m (tgt k c) a k)
    ∗ bigSep Finset.univ fun k : Fin 7 => credit c (a, .recv k))

/-- Array `a`'s gathered result, and its block. -/
def outPts (c : Dev nD) (a : Fin 5) : sProp 𝕄 := (outM a).view.loc (c : Thread nD τ) ↦{fullShare} gath m a c
@[inherit_doc outPts] def blkPts (c : Dev nD) (a : Fin 5) : sProp 𝕄 := (inM a).view.loc (c : Thread nD τ) ↦{fullShare} m ((inM a).view.loc (c : Thread nD τ))

omit [FloatOps F] in
theorem door_own (c : Dev nD) (a : Fin 5) (k : Fin 4) :
    door m (tgt (kOwn k) c) a (kOwn k) = iprop(slotInit m (tgt (kOwn k) c) a c ∗ duty (tgt (kOwn k) c) (a, .recv (kOwn k))) := by
  unfold door; rw [land_tgt, sent_kOwn]
omit [FloatOps F] in
theorem door_out (c : Dev nD) (a : Fin 5) (j : Fin 3) :
    door m (tgt (kOut j) c) a (kOut j) = iprop(slotInit m (tgt (kOut j) c) a (land (kIn j) c) ∗ duty (tgt (kOut j) c) (a, .recv (kOut j))) := by
  unfold door; rw [land_tgt, sent_kOut]

omit [FloatOps F] in
theorem holds_sorted (c : Dev nD) (a : Fin 5) : holds m c a ⊢ sorted m c a := by
  unfold holds sorted copyNeed sendNeed passNeed recvNeed
  rw [split_share, split_tag, split_out (fun k => duty c (a, .send k)), split_out (fun k => door m (tgt k c) a k),
    split_in (fun k => credit c (a, .recv k)), split_out (fun k => before c (a, .send k)), split_in (fun k => before c (a, .recv k))]
  simp only [door_own, door_out, bigSep_sep']
  iintro ⟨⟨Hi, His⟩, Hs, ⟨⟨Hbo, Hbx⟩, ⟨Hbr, Hbi⟩, Hbl⟩, Hd, ⟨Hdo, Hdx⟩, ⟨⟨Hso, Hto⟩, ⟨Hsx, Htx⟩⟩, ⟨Hcr, Hci⟩⟩
  isplitl [Hi Hs Hd]
  · isplitl [Hi]; · iexact Hi
    isplitl [Hs] <;> iassumption
  isplitl [His Hso Hdo Hto]
  · isplitl [His]; · iexact His
    isplitl [Hso]; · iexact Hso
    isplitl [Hdo] <;> iassumption
  isplitl [Hci Hbi Hsx Hdx Htx]
  · isplitl [Hci Hbi]; · isplitl [Hci] <;> iassumption
    isplitl [Hsx]; · iexact Hsx
    isplitl [Hdx] <;> iassumption
  isplitl [Hcr Hbr]; · isplitl [Hcr] <;> iassumption
  isplitl [Hbo]; · iexact Hbo
  isplitl [Hbx] <;> iassumption

omit [FloatOps F] in
theorem given_joined (c : Dev nD) (a : Fin 5) : given m c a ⊢ iprop((bigSep Finset.univ fun t : Tag => after c (a, t)) ∗ outPts m c a ∗ blkPts m c a) := by
  unfold given outPts blkPts slotGot
  rw [out_slots, in_shares, split_share, split_tag, split_out (fun k => after c (a, .send k)), split_in (fun k => after c (a, .recv k)), split_dev c]
  simp only [bigSep_sep']
  iintro ⟨Hai, ⟨Har, Hgr⟩, ⟨Hao, Hio⟩, ⟨Hax, Hgx⟩, Hal, Hgl, Hil⟩
  isplitl [Hai Har Hao Hax Hal]
  · isplitl [Hao Hax]; · isplitl [Hao] <;> iassumption
    isplitl [Har Hai]; · isplitl [Har] <;> iassumption
    iexact Hal
  isplitl [Hgr Hgx Hgl]
  · isplitl [Hgl]; · iexact Hgl
    isplitl [Hgr] <;> iassumption
  isplitl [Hil] <;> iassumption

/-- Before the body, -/
def begun (c : Dev nD) : sProp 𝕄 := iprop(∃ K : Cells → ℕ, base m K ∗ bigSep Finset.univ fun a : Fin 5 => holds m c a)
/-- and after it. -/
def ended (c : Dev nD) : sProp 𝕄 :=
  iprop((bigSep Finset.univ fun a : Fin 5 => iprop(outPts m c a ∗ blkPts m c a)) ∗ bigSep Finset.univ fun q : Fin 5 × Tag => semVal (cell c q) 0)

omit [FloatOps F] in
/-- What is known throughout can be used at every index. -/
theorem each_knowing {I : Type} [DecidableEq I] {S : Finset I} {R : sProp 𝕄} [BI.Persistent R] {Φ Ψ : I → sProp 𝕄} (h : ∀ i, iprop(R ∗ Φ i) ⊢ Ψ i) :
    iprop(R ∗ bigSep S Φ) ⊢ bigSep S Ψ :=
  (sep_mono_left (BI.bigSep_of_persistent S R)).trans ((Entails.of_eq (bigSep_sep' S _ _).symm).trans (bigSep_mono fun i _ => h i))

/-- A cell whose round is over gives its semaphore back. -/
theorem close_one (K : Cells → ℕ) (c : Dev nD) (q : Fin 5 × Tag) : iprop(base m K ∗ after c q) ⊢ (|={Set.univ}=> semVal (cell c q) 0 : sProp 𝕄) := by
  unfold after
  iintro ⟨HR, Ha⟩
  ihave HI := (inv_at m K c q) $$ HR
  iapply (cell_close ER (sched m) (Set.mem_univ _) (fun h => h) (R := 1) (duties_later m (cell c q)))
  isplitl [HI] <;> iassumption

/-- All cells. -/
theorem close_all (K : Cells → ℕ) (c : Dev nD) :
    iprop(base m K ∗ bigSep Finset.univ fun a : Fin 5 => bigSep Finset.univ fun t : Tag => after c (a, t))
      ⊢ (|={Set.univ}=> bigSep Finset.univ fun q : Fin 5 × Tag => semVal (cell c q) 0 : sProp 𝕄) := by
  rw [← bigSep_univ_prod fun q : Fin 5 × Tag => after (F := F) c q]
  exact (each_knowing fun q => close_one m K c q).trans (bigSep_fupd _ _)

/-- Asking for the own number gives it. -/
theorem asks_device (c : Dev nD) (f : Dev nD → Prog (TpuEff nD τ sig (Elt F) Λ₀ .tc) PUnit) (Q : PUnit → sProp 𝕄) :
    wpAt c ((Prog.lift .deviceId).bind f) Q = wpAt c (f c) Q :=
  wp_deviceId (Λ := Λ₀) 𝒱₀ (c : Thread nD τ) none Set.univ (k := f)

/-- The body. -/
theorem body_run (c : Dev nD) (Q : PUnit → sProp 𝕄) :
    iprop(begun m c ∗ owing' c (O₀ c)) ⊢ iprop(((ended m c ∗ owing' c 0) -∗ Q ⟨⟩) -∗ wpAt c kernel Q) := by
  unfold begun
  have hk : (wpAt c kernel Q : sProp 𝕄) = wpAt c (runs (places c) steps (.ret ⟨⟩)) Q := by
    rw [kernel_eq]
    exact (asks_device c _ Q).trans (congrArg (fun p => wpAt c (runs p steps (.ret ⟨⟩)) Q) (Subsingleton.elim (printed c) (places c)))
  have hs : (bigSep Finset.univ fun a : Fin 5 => holds m c a) ⊢ bigSep Finset.univ fun a : Fin 5 => sorted m c a := bigSep_mono fun a _ => holds_sorted m c a
  have hg : (bigSep Finset.univ fun a : Fin 5 => given m c a) ⊢ iprop((bigSep Finset.univ fun a : Fin 5 => bigSep Finset.univ fun t : Tag => after c (a, t))
      ∗ bigSep Finset.univ fun a : Fin 5 => iprop(outPts m c a ∗ blkPts m c a)) :=
    (bigSep_mono fun a _ => given_joined m c a).trans (Entails.of_eq (bigSep_sep' _ _ _))
  rw [hk]
  iintro ⟨⟨%K, #HR, HA⟩, HO⟩ Hk
  iapply (steps_run m K c (.ret ⟨⟩) Q) $$ [HA HO]
  · isplitr; · iexact HR
    isplitl [HA]; · iapply hs; iexact HA
    iexact HO
  iintro ⟨HB, HO⟩
  ihave HB := hg $$ HB
  icases HB with ⟨Haft, Hpts⟩
  rw [show (wpAt c (.ret ⟨⟩) Q : sProp 𝕄) = iprop(|={Set.univ}=> Q ⟨⟩) from rfl]
  imod (close_all m K c) $$ [Haft] with Hsem
  · isplitr; · iexact HR
    iexact Haft
  imodintro
  iapply Hk
  isplitr [HO]
  · unfold ended
    isplitl [Hpts] <;> iassumption
  iexact HO

/-- The region's body is the kernel. -/
theorem body_kernel (t : Fin cfg0.N) : (defs₀ (F := F) .tc cfg0.body (cfg0.bodyArgs t (cfg0.slots t))) = kernel := by
  delta kernel
  rfl

/-- The body's obligation to the region. -/
theorem body_obligation (c : Dev nD) : BodyObligation (regionDat (begun m) (ended m) O₀ 0 c) (defs₀ (F := F)) 𝒱₀ () Set.univ := fun t => by
  rw [fin_N0 t, Finset.univ_eq_empty, BI.bigSep_empty, body_kernel]
  have h : iprop(begun m c ∗ (∃ W : Waits sig Unit, ⌜↑W ⊆ (regionDat (begun m) (ended m) O₀ 0 c).bound () 0⌝ ∗ owes (c : Thread nD τ) (O₀ c) W) ∗ emp)
      ⊢ wpAt c kernel fun _ => iprop(ended m c
        ∗ (∃ W : Waits sig Unit, ⌜↑W ⊆ (regionDat (begun m) (ended m) O₀ 0 c).bound () 1⌝ ∗ owes (c : Thread nD τ) 0 W) ∗ emp) := by
    have h := body_run m c fun _ => iprop(ended m c
        ∗ (∃ W : Waits sig Unit, ⌜↑W ⊆ (regionDat (begun m) (ended m) O₀ 0 c).bound () 1⌝ ∗ owes (c : Thread nD τ) 0 W) ∗ emp)
    iintro ⟨HA, ⟨%W, -, HO⟩, -⟩
    iapply h $$ [HA HO]
    · isplitl [HA]; · iexact HA
      unfold owing'; iexists W; iexact HO
    iintro ⟨HB, HO⟩
    unfold owing'
    icases HO with ⟨%W', HO⟩
    isplitl [HB]; · iexact HB
    isplitl [HO]
    · iexists W'
      isplitr; · ipureintro; exact fun _ _ => Or.inl trivial
      iexact HO
    iempintro
  revert h
  generalize kernel (F := F) = p
  intro h
  exact h

end Cert.AllGatherProof

end
-- ==== Proof.Run.lean ====
/-
The whole machine: what the launch deals to the devices, and the run.

A device starts with its own slots and their receive duties; it needs the slots it writes on other devices. `doors_around`
hands them over: transfer `k` of device `c` goes to `tgt k c`, and `tgt k` is its own inverse.
-/
module

public import proofs.«01_k».proof.Proof.Device

@[expose] public section

noncomputable section

namespace Cert.AllGatherProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

theorem ownSemFacts : Pipeline.OwnSemFacts cfg0.spec osem := by decide +kernel

/-! ## The ghost state at the start -/

/-- All cells, and the duty of each. -/
def allCells : Finset (GSem nD τ sig) := Finset.univ.map ⟨fun x : Cells => cell x.1 x.2, cell_injective⟩
def allDuties : Finset (GSem nD τ sig × ℕ × Unit) :=
  Finset.univ.map ⟨fun x : Cells => (cell x.1 x.2, 0, ()), fun _ _ h => cell_injective (congrArg Prod.fst h)⟩

def u₀ : UU := (initOf (Pipeline.cells cfgs cellOf_inj) (Pipeline.launchToks cfgs cellOf_inj), initOf allCells allDuties)

/-- What device `c` gets of it. -/
def dealt (c : Dev nD) : sProp 𝕄 :=
  iprop((bigSep Finset.univ fun q : Fin 5 × Tag => roundState ER (sched m) (cell c q) 0) ∗ (bigSep Finset.univ fun q : Fin 5 × Tag => reached ER (cell c q) 0)
    ∗ (bigSep Finset.univ fun q : Fin 5 × Tag => before c q) ∗ bigSep Finset.univ fun q : Fin 5 × Tag => duty c q)

omit [FloatOps F] in
theorem deal : BI.own (ER (initOf allCells allDuties)) ⊢ (|==> bigSep Finset.univ (dealt m) : sProp 𝕄) := by
  have hC (Φ : GSem nD τ sig → sProp 𝕄) :
      bigSep allCells Φ = bigSep Finset.univ fun c : Dev nD => bigSep Finset.univ fun q : Fin 5 × Tag => Φ (cell c q) := by
    unfold allCells; rw [bigSep_map, bigSep_univ_prod]; rfl
  have hD : bigSep allDuties (fun x => (dutyTok ER x.1 x.2.1 x.2.2 : sProp 𝕄))
      = bigSep Finset.univ fun c : Dev nD => bigSep Finset.univ fun q : Fin 5 × Tag => duty c q := by
    unfold allDuties; rw [bigSep_map, bigSep_univ_prod]; rfl
  iintro HX
  imod (Rounds.fund ER (sched m) allCells allDuties) $$ HX with ⟨Hst, Hr, Hat, Htok⟩
  imodintro
  ihave Hst' := (Entails.of_eq (hC fun g => roundState ER (sched m) g 0)) $$ Hst
  ihave Hat' := (Entails.of_eq (hC fun g => atPos ER g 0 ∅ 0)) $$ Hat
  ihave Hr' := (Entails.of_eq (hC fun g => reached ER g 0)) $$ Hr
  ihave Htok' := (Entails.of_eq hD) $$ Htok
  unfold dealt; simp only [bigSep_sep']
  isplitl [Hst']; · iexact Hst'
  isplitl [Hr']; · iexact Hr'
  isplitl [Hat']; · iexact Hat'
  iexact Htok'

omit [FloatOps F] in
/-- The invariants of all cells. -/
theorem open_all :
    iprop((bigSep Finset.univ fun c : Dev nD => (Pipeline.ownSems0 osem c : sProp 𝕄))
        ∗ bigSep Finset.univ fun c : Dev nD => bigSep Finset.univ fun q : Fin 5 × Tag => roundState ER (sched m) (cell c q) 0)
      ⊢ |={Set.univ}=> iprop(∃ K : Cells → ℕ, bigSep Finset.univ fun x : Cells => cellInv ER (sched m) (K x) (cell x.1 x.2)) := by
  have h0 : (bigSep Finset.univ fun c : Dev nD => (Pipeline.ownSems0 osem c : sProp 𝕄)) = bigSep Finset.univ fun x : Cells => semVal (cell x.1 x.2) 0 :=
    (bigSep_univ_prod fun x : Cells => (semVal (cell x.1 x.2) 0 : sProp 𝕄)).symm
  rw [h0, ← bigSep_univ_prod (fun x : Cells => (roundState ER (sched m) (cell x.1 x.2) 0 : sProp 𝕄)), ← bigSep_sep']
  exact ((bigSep_mono fun x _ => (Rounds.body_intro ER (sched m) (cell x.1 x.2)).trans inv_alloc).trans (bigSep_fupd _ _)).trans
    (BI.fupd_mono (BI.bigSep_exists_pi Finset.univ (fun (x : Cells) (κ : ℕ) => (cellInv ER (sched m) κ (cell x.1 x.2) : sProp 𝕄))))

/-! ## The credit at the start -/

/-- What the transfer numbered `x` of device `d` owes. -/
def pays (d : Dev nD) (x : Fin 5 × Fin 7) : CellTallies nD τ sig Unit := tallyAt (cell (tgt x.2 d) (x.1, .recv x.2)) () (amt x.1)

/-- What a device owes at the start, over all its transfers. -/
theorem owed_sum (d : Dev nD) : O₀ d = ∑ x : Fin 5 × Fin 7, pays d x := by
  have h : (Finset.univ : Finset (Fin 5 × Fin 7))
      = ((byRel.map fun x => (x.1, kOut x.2)) ++ byOwn.map fun x => (x.1, kOwn x.2)).toFinset := by decide
  rw [h, List.sum_toFinset _ (by decide), List.map_append, List.sum_append, List.map_map, List.map_map]
  unfold O₀
  rw [zero_add]
  rfl

theorem owed_at (d c : Dev nD) (a : Fin 5) (k : Fin 7) : O₀ d (cell c (a, .recv k)) () = if d = tgt k c then amt a else 0 := by
  rw [owed_sum, Finset.sum_apply, Finsupp.finset_sum_apply, Finset.sum_eq_single (a, k)]
  · unfold pays
    rw [tallyAt_apply]
    by_cases h : d = tgt k c
    · rw [if_pos h, if_pos ⟨by rw [h, tgt_tgt], rfl⟩]
    · rw [if_neg h, if_neg]
      rintro ⟨h', -⟩
      have h2 : c = tgt k d := congrArg (fun g : GSem nD τ sig => g.1.1) h'
      exact h (by rw [h2, tgt_tgt])
  · rintro ⟨a', k'⟩ - hne
    unfold pays
    rw [tallyAt_apply, if_neg]
    rintro ⟨h', -⟩
    have h2 := congrArg Prod.snd (cell_injective (a₁ := (c, (a, Tag.recv k))) (a₂ := (tgt k' d, (a', Tag.recv k'))) h')
    have h3 : a = a' := congrArg Prod.fst h2
    have h4 : k = k' := Tag.recv.inj (congrArg Prod.snd h2)
    exact hne (by rw [h3, h4])
  · exact fun h => absurd (Finset.mem_univ _) h

theorem launch_at (c : Dev nD) (a : Fin 5) (k : Fin 7) :
    tallyOn (cell c (a, .recv k)) (launchCredit (Pipeline.owing O₀) 0 (cell c (a, .recv k))) = (tallyAt (cell c (a, .recv k)) () (amt a) : CellTallies nD τ sig Unit) := by
  unfold tallyAt
  refine congrArg _ (Finsupp.ext fun u => ?_)
  cases u
  rw [Pipeline.launchCredit_owing, Finsupp.single_eq_same, Finset.sum_congr rfl fun d _ => owed_at d c a k, Finset.sum_ite_eq' Finset.univ (tgt k c) fun _ => amt a,
    if_pos (Finset.mem_univ _)]

/-- The receive semaphores, as locations. -/
def recvLoc : Fin 5 × Fin 7 ↪ SemLoc sig :=
  ⟨fun x => osem (x.1, .recv x.2), fun x y h => by
    have h2 : (x.1, Tag.recv x.2) = (y.1, Tag.recv y.2) := osem_injective h
    exact Prod.ext (congrArg (fun q : Fin 5 × Tag => q.1) h2) (Tag.recv.inj (congrArg (fun q : Fin 5 × Tag => q.2) h2))⟩

omit [FloatOps F] in
theorem credits (c : Dev nD) :
    (Pipeline.launchCred O₀ c : sProp 𝕄) ⊢ bigSep Finset.univ fun a : Fin 5 => bigSep Finset.univ fun k : Fin 7 => credit c (a, .recv k) := by
  unfold Pipeline.launchCred
  refine (bigSep_subset (Finset.subset_univ (Finset.univ.map recvLoc))).trans ?_
  rw [bigSep_map, ← bigSep_univ_prod (fun x : Fin 5 × Fin 7 => (credit c (x.1, .recv x.2) : sProp 𝕄))]
  refine bigSep_mono fun x _ => ?_
  have h : (cred (tallyOn (cell c (x.1, .recv x.2)) (launchCredit (Pipeline.owing O₀) 0 (cell c (x.1, .recv x.2)))) : sProp 𝕄) ⊢ credit c (x.1, .recv x.2) :=
    Entails.of_eq (congrArg cred (launch_at c x.1 x.2))
  exact h

/-! ## The arrays at the start -/

omit [FloatOps F] in
theorem split_dev7 (c : Dev nD) (Φ : Dev nD → sProp 𝕄) : bigSep Finset.univ Φ = iprop(Φ c ∗ bigSep Finset.univ fun k : Fin 7 => Φ (land k c)) := by
  rw [split_dev c, split_in]

/-- Array `a`'s result as it was at the start, the own slot apart from those the transfers fill. -/
def outInit (c : Dev nD) (a : Fin 5) : sProp 𝕄 := iprop(slotInit m c a c ∗ bigSep Finset.univ fun k : Fin 7 => slotInit m c a (land k c))

omit [FloatOps F] in
theorem outInit_eq (c : Dev nD) (a : Fin 5) :
    ((outM a).view.loc (c : Thread nD τ) ↦{fullShare} m ((outM a).view.loc (c : Thread nD τ)) : sProp 𝕄) = outInit m c a := by
  unfold outInit slotInit
  rw [out_slots, split_dev7 c]

omit [FloatOps F] in
theorem five (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ

omit [FloatOps F] in
/-- The device's arrays. -/
theorem arrays_start (c : Dev nD) :
    (unscopedBufs c (fun b => m ((c.tc : Thread nD τ).loc b)) : sProp 𝕄)
      ⊢ iprop((bigSep Finset.univ fun a : Fin 5 => bigSep Finset.univ fun i : Fin 5 => inPts m c a i) ∗ bigSep Finset.univ fun a : Fin 5 => outInit m c a) := by
  have h : (Finset.univ.filter fun b : Ref sig .tc => ¬ b.isScoped)
      = ([main_arg0, main_arg1, main_arg2, main_arg3, main_arg4, main_v1_0, main_v1_1, main_v1_2, main_v1_3, main_v1_4] : List (Ref sig .tc)).toFinset := by decide
  have hl (Φ : Ref sig .tc → sProp 𝕄) : bigSep (Finset.univ.filter fun b : Ref sig .tc => ¬ b.isScoped) Φ
      = iprop(Φ main_arg0 ∗ Φ main_arg1 ∗ Φ main_arg2 ∗ Φ main_arg3 ∗ Φ main_arg4 ∗ Φ main_v1_0 ∗ Φ main_v1_1 ∗ Φ main_v1_2 ∗ Φ main_v1_3 ∗ Φ main_v1_4) :=
    bigSep_eq_bigSepL_of_eq _ h (by decide) Φ
  unfold unscopedBufs
  rw [hl, bigSep_congr (s := Finset.univ) (fun (a : Fin 5) _ => (in_shares m c a).symm),
    bigSep_congr (s := Finset.univ) (fun (a : Fin 5) _ => (outInit_eq m c a).symm),
    five, five]
  iintro ⟨H0, H1, H2, H3, H4, J0, J1, J2, J3, J4⟩
  isplitl [H0 H1 H2 H3 H4]
  · isplitl [H0]; · iexact H0
    isplitl [H1]; · iexact H1
    isplitl [H2]; · iexact H2
    isplitl [H3]; · iexact H3
    iexact H4
  · isplitl [J0]; · iexact J0
    isplitl [J1]; · iexact J1
    isplitl [J2]; · iexact J2
    isplitl [J3]; · iexact J3
    iexact J4

/-! ## Handing over -/

omit [FloatOps F] in
/-- Every device hands each of its doors to the device that is to use it. -/
theorem doors_around :
    (bigSep Finset.univ fun c : Dev nD => bigSep Finset.univ fun a : Fin 5 => bigSep Finset.univ fun k : Fin 7 => (door m c a k : sProp 𝕄))
      = bigSep Finset.univ fun c : Dev nD => bigSep Finset.univ fun a : Fin 5 => bigSep Finset.univ fun k : Fin 7 => door m (tgt k c) a k := by
  have h (Φ : Dev nD → Fin 5 × Fin 7 → sProp 𝕄) :
      (bigSep Finset.univ fun c : Dev nD => bigSep Finset.univ fun a : Fin 5 => bigSep Finset.univ fun k : Fin 7 => Φ c (a, k))
        = bigSep Finset.univ fun x : Fin 5 × Fin 7 => bigSep Finset.univ fun c : Dev nD => Φ c x := by
    rw [bigSep_congr (s := Finset.univ) (fun (c : Dev nD) _ => (bigSep_univ_prod (Φ c)).symm)]
    rw [← bigSep_univ_prod (fun y : Dev nD × (Fin 5 × Fin 7) => Φ y.1 y.2), bigSep_univ_equiv (Equiv.prodComm (Fin 5 × Fin 7) (Dev nD)), bigSep_univ_prod]
    rfl
  rw [h fun c x => door m c x.1 x.2, h fun c x => door m (tgt x.2 c) x.1 x.2]
  exact bigSep_congr fun x _ => bigSep_univ_equiv ⟨tgt x.2, tgt x.2, tgt_tgt x.2, tgt_tgt x.2⟩ fun c => door m c x.1 x.2

omit [FloatOps F] in
/-- What all devices hold at the start, sorted into what each body needs. -/
theorem handed :
    iprop((bigSep Finset.univ fun c : Dev nD => (unscopedBufs c (fun b => m ((c.tc : Thread nD τ).loc b)) : sProp 𝕄))
        ∗ (bigSep Finset.univ fun c : Dev nD => (Pipeline.launchCred O₀ c : sProp 𝕄))
        ∗ (bigSep Finset.univ fun c : Dev nD => bigSep Finset.univ fun q : Fin 5 × Tag => before c q)
        ∗ bigSep Finset.univ fun c : Dev nD => bigSep Finset.univ fun q : Fin 5 × Tag => duty c q)
      ⊢ bigSep Finset.univ fun c : Dev nD => bigSep Finset.univ fun a : Fin 5 => holds m c a := by
  have hA : (bigSep Finset.univ fun c : Dev nD => (unscopedBufs c (fun b => m ((c.tc : Thread nD τ).loc b)) : sProp 𝕄))
      ⊢ bigSep Finset.univ fun c : Dev nD => iprop((bigSep Finset.univ fun a : Fin 5 => bigSep Finset.univ fun i : Fin 5 => inPts m c a i)
        ∗ bigSep Finset.univ fun a : Fin 5 => outInit m c a) := bigSep_mono fun c _ => arrays_start m c
  have hC : (bigSep Finset.univ fun c : Dev nD => (Pipeline.launchCred O₀ c : sProp 𝕄))
      ⊢ bigSep Finset.univ fun c : Dev nD => bigSep Finset.univ fun a : Fin 5 => bigSep Finset.univ fun k : Fin 7 => credit c (a, .recv k) :=
    bigSep_mono fun c _ => credits c
  have hD : iprop((bigSep Finset.univ fun c : Dev nD => bigSep Finset.univ fun a : Fin 5 => bigSep Finset.univ fun k : Fin 7 => slotInit m c a (land k c))
        ∗ bigSep Finset.univ fun c : Dev nD => bigSep Finset.univ fun a : Fin 5 => bigSep Finset.univ fun k : Fin 7 => duty c (a, .recv k))
      ⊢ bigSep Finset.univ fun c : Dev nD => bigSep Finset.univ fun a : Fin 5 => bigSep Finset.univ fun k : Fin 7 => door m (tgt k c) a k := by
    rw [← doors_around]
    unfold door
    simp only [bigSep_sep']
    exact .rfl
  unfold holds
  unfold outInit at hA
  simp only [bigSep_sep', bigSep_univ_prod, split_tag] at hA ⊢
  iintro ⟨HA, HC, Hb, Hds, Hdr, Hdl⟩
  ihave HA := hA $$ HA
  ihave HC := hC $$ HC
  icases HA with ⟨Hi, Hs, Hl⟩
  isplitl [Hi]; · iexact Hi
  isplitl [Hs]; · iexact Hs
  isplitl [Hb]; · iexact Hb
  isplitl [Hdl]; · iexact Hdl
  isplitl [Hds]; · iexact Hds
  isplitl [Hl Hdr]
  · iapply hD
    isplitl [Hl] <;> iassumption
  iexact HC

omit [FloatOps F] in
theorem begun_intro (K : Cells → ℕ) (c : Dev nD) : iprop(base m K ∗ bigSep Finset.univ fun a : Fin 5 => holds m c a) ⊢ begun m c := by
  unfold begun
  iintro H
  iexists K
  iexact H

omit [FloatOps F] in
theorem launched :
    iprop(levAts L lv ∗ (bigSep Finset.univ fun c : Dev nD => (Pipeline.ownSems0 osem c : sProp 𝕄))
        ∗ (bigSep Finset.univ fun c : Dev nD => (unscopedBufs c fun b => m ((c.tc : Thread nD τ).loc b) : sProp 𝕄))
        ∗ (bigSep Finset.univ fun c : Dev nD => (Pipeline.launchCred O₀ c : sProp 𝕄)) ∗ bigSep Finset.univ (dealt m))
      ⊢ |={Set.univ}=> bigSep Finset.univ (begun m) := by
  have hH := handed m
  have hd : bigSep Finset.univ (dealt m) = iprop((bigSep Finset.univ fun c : Dev nD => bigSep Finset.univ fun q : Fin 5 × Tag => roundState ER (sched m) (cell c q) 0)
      ∗ (bigSep Finset.univ fun c : Dev nD => bigSep Finset.univ fun q : Fin 5 × Tag => reached ER (cell c q) 0)
      ∗ (bigSep Finset.univ fun c : Dev nD => bigSep Finset.univ fun q : Fin 5 × Tag => before c q)
      ∗ bigSep Finset.univ fun c : Dev nD => bigSep Finset.univ fun q : Fin 5 × Tag => duty c q) := by
    unfold dealt; simp only [bigSep_sep']
  have hb (K : Cells → ℕ) : iprop(base m K ∗ bigSep Finset.univ fun c : Dev nD => bigSep Finset.univ fun a : Fin 5 => holds m c a) ⊢ bigSep Finset.univ (begun m) :=
    each_knowing fun c => begun_intro m K c
  rw [hd, ← bigSep_univ_prod (fun x : Cells => (reached ER (cell x.1 x.2) 0 : sProp 𝕄))]
  iintro ⟨Hlev, Hsem, Hbuf, Hcr, Hst, Hr, Hat, Htok⟩
  imod (open_all m) $$ [Hsem Hst] with ⟨%K, HI⟩
  · isplitl [Hsem] <;> iassumption
  imodintro
  iapply (hb K)
  isplitl [Hlev Hr HI]
  · unfold base
    isplitl [HI]; · iexact HI
    isplitl [Hr] <;> iassumption
  iapply hH
  isplitl [Hbuf]; · iexact Hbuf
  isplitl [Hcr]; · iexact Hcr
  isplitl [Hat] <;> iassumption

/-! ## The end -/

/-- What a device keeps. -/
def kept (c : Dev nD) : sProp 𝕄 := bigSep Finset.univ fun a : Fin 5 => iprop(outPts m c a ∗ blkPts m c a)

/-- What is then read of the memory. -/
def readAs (c : Dev nD) (s : MemSt nD τ sig (Elt F)) : Prop :=
  ∀ a : Fin 5, s.mem ((outM a).view.loc (c : Thread nD τ)) = gath m a c ∧ s.mem ((inM a).view.loc (c : Thread nD τ)) = m ((inM a).view.loc (c : Thread nD τ))

theorem kept_read (c : Dev nD) (s' : Phys nD τ sig (Elt F)) : iprop(kept m c ∗ SI s') ⊢ |={Set.univ}=> iprop(⌜readAs m c s'.mem⌝ ∗ SI s') := by
  unfold kept outPts blkPts
  rw [five]
  iintro ⟨⟨⟨H0, I0⟩, ⟨H1, I1⟩, ⟨H2, I2⟩, ⟨H3, I3⟩, ⟨H4, I4⟩⟩, HSI⟩
  icombine HSI H0 gives %h0
  icombine HSI H1 gives %h1
  icombine HSI H2 gives %h2
  icombine HSI H3 gives %h3
  icombine HSI H4 gives %h4
  icombine HSI I0 gives %i0
  icombine HSI I1 gives %i1
  icombine HSI I2 gives %i2
  icombine HSI I3 gives %i3
  icombine HSI I4 gives %i4
  imodintro
  isplitr
  · ipureintro
    intro a
    match a with
    | 0 => exact ⟨funext fun i => h0 i (Finset.mem_univ i), funext fun i => i0 i (Finset.mem_univ i)⟩
    | 1 => exact ⟨funext fun i => h1 i (Finset.mem_univ i), funext fun i => i1 i (Finset.mem_univ i)⟩
    | 2 => exact ⟨funext fun i => h2 i (Finset.mem_univ i), funext fun i => i2 i (Finset.mem_univ i)⟩
    | 3 => exact ⟨funext fun i => h3 i (Finset.mem_univ i), funext fun i => i3 i (Finset.mem_univ i)⟩
    | 4 => exact ⟨funext fun i => h4 i (Finset.mem_univ i), funext fun i => i4 i (Finset.mem_univ i)⟩
  iexact HSI

/-- For any floats, from any memory with the semaphores at zero: the kernel ends on every device, each result array is the
    gathered one, the blocks are unchanged and every semaphore is at zero again. -/
theorem run_main : θ_run defs (onTc (τ := τ) (main (F := F))) ⟨m, fun _ => 0, ρ⟩ (fun r => (∀ c : Dev nD, readAs m c r.2) ∧ r.2.sem = fun _ => 0) :=
  run_of_start m ρ ownSemFacts (begun m) (ended m) O₀ (body_obligation m) L lv L_of_ne (dealt m) u₀
    (by
      unfold u₀
      iintro Hu
      ihave H := (ownU_pair _ _) $$ Hu
      icases H with ⟨HP, HX⟩
      imod (deal m) $$ HX with HG
      imodintro
      isplitl [HP] <;> iassumption)
    (launched m) (kept m) (fun c => Entails.of_eq rfl) (readAs m) (kept_read m)
    (fun s h hs => ⟨h, sem_eq_zero_of_scoped (by decide +kernel) hs⟩)

end Cert.AllGatherProof

end
-- ==== Proof.Value.lean ====
/-
The values: the gathered arrays are the whole arrays, regrouped so that the first axis counts the devices.

The reference reaches the same arrays by a reshape, and for the arrays cut along their columns a transposition besides.
-/
module

public import proofs.«01_k».proof.Proof.Run

@[expose] public section

noncomputable section

namespace Cert.AllGatherProof

open Cert.KernelIdeal Cert.KernelIdeal.Gen
open Idealize.ShloMosaic
open Idealize.ShloMosaic.ValueIdx
open Idealize.ShloMosaic.TcCoe
open Idealize.SL.Sem

/-! ## A whole array, cut into eight blocks, and its blocks stacked -/

section Stack

variable {α : Type} {r n N : ℕ}

/-- Cut along the rows: stacking the blocks is a reshape. -/
theorem stack_rows (hN : N = 8 * r) (w : (⟨2, ![N, n]⟩ : Shape).Idx → α) (hT : Layout.Tiles ⟨2, ![r, n]⟩ ⟨2, ![N, n]⟩ 0 8)
    (hc : (⟨2, ![N, n]⟩ : Shape).ShapeCasts ⟨3, ![8, r, n]⟩) (z : (⟨3, ![8, r, n]⟩ : Shape).Idx) :
    Layout.block ⟨2, ![r, n]⟩ ⟨2, ![N, n]⟩ 0 8 (z 0) w hT (ix2 (z 1) (z 2)) = shapeCast ⟨3, ![8, r, n]⟩ w hc z := by
  refine (shapeCast_apply w hc z _ ?_).symm
  rw [Shape.rowMajor_val_two, Shape.rowMajor_val_three]
  rfl

/-- Cut along the columns: stacking the blocks is a reshape, and a transposition. -/
theorem stack_cols (hN : N = 8 * n) (w : (⟨2, ![r, N]⟩ : Shape).Idx → α) (hT : Layout.Tiles ⟨2, ![r, n]⟩ ⟨2, ![r, N]⟩ 1 8)
    (hc : (⟨2, ![r, N]⟩ : Shape).ShapeCasts ⟨3, ![r, 8, n]⟩) (ht : (⟨3, ![r, 8, n]⟩ : Shape).Transposes [1, 0, 2] ⟨3, ![8, r, n]⟩)
    (z : (⟨3, ![8, r, n]⟩ : Shape).Idx) :
    Layout.block ⟨2, ![r, n]⟩ ⟨2, ![r, N]⟩ 1 8 (z 0) w hT (ix2 (z 1) (z 2)) = transpose ⟨3, ![8, r, n]⟩ [1, 0, 2] (shapeCast ⟨3, ![r, 8, n]⟩ w hc) ht z := by
  refine (shapeCast_apply w hc (ht.src z) _ ?_).symm
  rw [Shape.rowMajor_val_two, Shape.rowMajor_val_three]
  show (z 1).val * N + ((z 0).val * n + (z 2).val) = ((z 1).val * 8 + (z 0).val) * n + (z 2).val
  subst hN
  rw [Nat.add_mul, Nat.mul_assoc, Nat.add_assoc]

end Stack

/-! ## The run, read as values -/

variable {F : FTy → Type} [FloatOps F]

variable (m : (ℓ : Loc nD τ sig) → Buf (Elt F) ℓ) (ρ : Dev nD → PrngReg)

/-- What the devices' blocks are blocks of: the whole arrays `w₀ … w₄`. -/
def Holds (w₀ : (⟨2, ![1024, 3600]⟩ : Shape).Idx → Elt F .bf16) (w₁ : (⟨2, ![1024, 1024]⟩ : Shape).Idx → Elt F .bf16)
    (w₂ : (⟨2, ![1024, 4096]⟩ : Shape).Idx → Elt F .bf16) (w₃ : (⟨2, ![4096, 1024]⟩ : Shape).Idx → Elt F .bf16)
    (w₄ : (⟨2, ![4, 1536]⟩ : Shape).Idx → Elt F .f32) : Prop :=
  ∀ c : Dev nD, m ((c : Thread nD τ).loc main_arg0) = Layout.block ⟨2, ![1024, 450]⟩ ⟨2, ![1024, 3600]⟩ 1 8 c w₀
    ∧ m ((c : Thread nD τ).loc main_arg1) = Layout.block ⟨2, ![128, 1024]⟩ ⟨2, ![1024, 1024]⟩ 0 8 c w₁
    ∧ m ((c : Thread nD τ).loc main_arg2) = Layout.block ⟨2, ![1024, 512]⟩ ⟨2, ![1024, 4096]⟩ 1 8 c w₂
    ∧ m ((c : Thread nD τ).loc main_arg3) = Layout.block ⟨2, ![512, 1024]⟩ ⟨2, ![4096, 1024]⟩ 0 8 c w₃
    ∧ m ((c : Thread nD τ).loc main_arg4) = Layout.block ⟨2, ![4, 192]⟩ ⟨2, ![4, 1536]⟩ 1 8 c w₄

/-- The blocks are unchanged. -/
def ArgsKept (s : MemSt nD τ sig (Elt F)) (c : Dev nD) : Prop :=
  s.mem ((c : Thread nD τ).loc main_arg0) = m ((c : Thread nD τ).loc main_arg0)
    ∧ s.mem ((c : Thread nD τ).loc main_arg1) = m ((c : Thread nD τ).loc main_arg1)
    ∧ s.mem ((c : Thread nD τ).loc main_arg2) = m ((c : Thread nD τ).loc main_arg2)
    ∧ s.mem ((c : Thread nD τ).loc main_arg3) = m ((c : Thread nD τ).loc main_arg3)
    ∧ s.mem ((c : Thread nD τ).loc main_arg4) = m ((c : Thread nD τ).loc main_arg4)

theorem args_kept {c : Dev nD} {s : MemSt nD τ sig (Elt F)} (h : readAs m c s) : ArgsKept m s c :=
  ⟨(h 0).2, (h 1).2, (h 2).2, (h 3).2, (h 4).2⟩

/-- For any floats: every semaphore ends at zero and every block unchanged. -/
theorem run_frame : θ_run defs (onTc (τ := τ) (main (F := F))) ⟨m, fun _ => 0, ρ⟩ (fun r => (∀ c : Dev nD, ArgsKept m r.2 c) ∧ r.2.sem = fun _ => 0) :=
  (θ_run defs _ _).mono (fun _ h => ⟨fun c => args_kept m (h.1 c), h.2⟩) (run_main m ρ)

variable {w₀ : (⟨2, ![1024, 3600]⟩ : Shape).Idx → Elt F .bf16} {w₁ : (⟨2, ![1024, 1024]⟩ : Shape).Idx → Elt F .bf16}
  {w₂ : (⟨2, ![1024, 4096]⟩ : Shape).Idx → Elt F .bf16} {w₃ : (⟨2, ![4096, 1024]⟩ : Shape).Idx → Elt F .bf16}
  {w₄ : (⟨2, ![4, 1536]⟩ : Shape).Idx → Elt F .f32}

omit [FloatOps F] in
theorem gath_0 (H : Holds m w₀ w₁ w₂ w₃ w₄) (c : Dev nD) (hc : (⟨2, ![1024, 3600]⟩ : Shape).ShapeCasts ⟨3, ![1024, 8, 450]⟩)
    (ht : (⟨3, ![1024, 8, 450]⟩ : Shape).Transposes [1, 0, 2] ⟨3, ![8, 1024, 450]⟩) :
    gath m 0 c = transpose ⟨3, ![8, 1024, 450]⟩ [1, 0, 2] (shapeCast ⟨3, ![1024, 8, 450]⟩ w₀ hc) ht :=
  (View.write_whole_univ main_v1_0 _ _).trans (funext fun z =>
    (congrFun (H (z 0)).1 (ix2 (z 1) (z 2))).trans (stack_cols rfl w₀ (by decide) hc ht z))

omit [FloatOps F] in
theorem gath_1 (H : Holds m w₀ w₁ w₂ w₃ w₄) (c : Dev nD) (hc : (⟨2, ![1024, 1024]⟩ : Shape).ShapeCasts ⟨3, ![8, 128, 1024]⟩) :
    gath m 1 c = shapeCast ⟨3, ![8, 128, 1024]⟩ w₁ hc :=
  (View.write_whole_univ main_v1_1 _ _).trans (funext fun z =>
    (congrFun (H (z 0)).2.1 (ix2 (z 1) (z 2))).trans (stack_rows rfl w₁ (by decide) hc z))

omit [FloatOps F] in
theorem gath_2 (H : Holds m w₀ w₁ w₂ w₃ w₄) (c : Dev nD) (hc : (⟨2, ![1024, 4096]⟩ : Shape).ShapeCasts ⟨3, ![1024, 8, 512]⟩)
    (ht : (⟨3, ![1024, 8, 512]⟩ : Shape).Transposes [1, 0, 2] ⟨3, ![8, 1024, 512]⟩) :
    gath m 2 c = transpose ⟨3, ![8, 1024, 512]⟩ [1, 0, 2] (shapeCast ⟨3, ![1024, 8, 512]⟩ w₂ hc) ht :=
  (View.write_whole_univ main_v1_2 _ _).trans (funext fun z =>
    (congrFun (H (z 0)).2.2.1 (ix2 (z 1) (z 2))).trans (stack_cols rfl w₂ (by decide) hc ht z))

omit [FloatOps F] in
theorem gath_3 (H : Holds m w₀ w₁ w₂ w₃ w₄) (c : Dev nD) (hc : (⟨2, ![4096, 1024]⟩ : Shape).ShapeCasts ⟨3, ![8, 512, 1024]⟩) :
    gath m 3 c = shapeCast ⟨3, ![8, 512, 1024]⟩ w₃ hc :=
  (View.write_whole_univ main_v1_3 _ _).trans (funext fun z =>
    (congrFun (H (z 0)).2.2.2.1 (ix2 (z 1) (z 2))).trans (stack_rows rfl w₃ (by decide) hc z))

omit [FloatOps F] in
theorem gath_4 (H : Holds m w₀ w₁ w₂ w₃ w₄) (c : Dev nD) (hc : (⟨2, ![4, 1536]⟩ : Shape).ShapeCasts ⟨3, ![4, 8, 192]⟩)
    (ht : (⟨3, ![4, 8, 192]⟩ : Shape).Transposes [1, 0, 2] ⟨3, ![8, 4, 192]⟩) :
    gath m 4 c = transpose ⟨3, ![8, 4, 192]⟩ [1, 0, 2] (shapeCast ⟨3, ![4, 8, 192]⟩ w₄ hc) ht :=
  (View.write_whole_univ main_v1_4 _ _).trans (funext fun z =>
    (congrFun (H (z 0)).2.2.2.2 (ix2 (z 1) (z 2))).trans (stack_cols rfl w₄ (by decide) hc ht z))

/-- For any floats: when the devices hold the blocks of `w₀ … w₄`, each ends with the whole arrays stacked by device. -/
theorem run_values (H : Holds m w₀ w₁ w₂ w₃ w₄)
    (hc₀ : (⟨2, ![1024, 3600]⟩ : Shape).ShapeCasts ⟨3, ![1024, 8, 450]⟩) (ht₀ : (⟨3, ![1024, 8, 450]⟩ : Shape).Transposes [1, 0, 2] ⟨3, ![8, 1024, 450]⟩)
    (hc₁ : (⟨2, ![1024, 1024]⟩ : Shape).ShapeCasts ⟨3, ![8, 128, 1024]⟩)
    (hc₂ : (⟨2, ![1024, 4096]⟩ : Shape).ShapeCasts ⟨3, ![1024, 8, 512]⟩) (ht₂ : (⟨3, ![1024, 8, 512]⟩ : Shape).Transposes [1, 0, 2] ⟨3, ![8, 1024, 512]⟩)
    (hc₃ : (⟨2, ![4096, 1024]⟩ : Shape).ShapeCasts ⟨3, ![8, 512, 1024]⟩)
    (hc₄ : (⟨2, ![4, 1536]⟩ : Shape).ShapeCasts ⟨3, ![4, 8, 192]⟩) (ht₄ : (⟨3, ![4, 8, 192]⟩ : Shape).Transposes [1, 0, 2] ⟨3, ![8, 4, 192]⟩) :
    θ_run defs (onTc (τ := τ) (main (F := F))) ⟨m, fun _ => 0, ρ⟩ (fun r => ∀ c : Dev nD,
      r.2.mem ((c : Thread nD τ).loc main_v1_0) = transpose ⟨3, ![8, 1024, 450]⟩ [1, 0, 2] (shapeCast ⟨3, ![1024, 8, 450]⟩ w₀ hc₀) ht₀
      ∧ r.2.mem ((c : Thread nD τ).loc main_v1_1) = shapeCast ⟨3, ![8, 128, 1024]⟩ w₁ hc₁
      ∧ r.2.mem ((c : Thread nD τ).loc main_v1_2) = transpose ⟨3, ![8, 1024, 512]⟩ [1, 0, 2] (shapeCast ⟨3, ![1024, 8, 512]⟩ w₂ hc₂) ht₂
      ∧ r.2.mem ((c : Thread nD τ).loc main_v1_3) = shapeCast ⟨3, ![8, 512, 1024]⟩ w₃ hc₃
      ∧ r.2.mem ((c : Thread nD τ).loc main_v1_4) = transpose ⟨3, ![8, 4, 192]⟩ [1, 0, 2] (shapeCast ⟨3, ![4, 8, 192]⟩ w₄ hc₄) ht₄
      ∧ ArgsKept m r.2 c) :=
  (θ_run defs _ _).mono (fun _ h c => ⟨((h.1 c) 0).1.trans (gath_0 m H c hc₀ ht₀), ((h.1 c) 1).1.trans (gath_1 m H c hc₁),
    ((h.1 c) 2).1.trans (gath_2 m H c hc₂ ht₂), ((h.1 c) 3).1.trans (gath_3 m H c hc₃), ((h.1 c) 4).1.trans (gath_4 m H c hc₄ ht₄),
    args_kept m (h.1 c)⟩) (run_main m ρ)

end Cert.AllGatherProof

end
-- ==== Proof.lean ====
/-
The claims about the all-gather of the weights, AdamW of the small weights and eleven calls of the forward and backward passes, assembled.

Both frames and both value claims of the all-gather rest on one run of the kernel's text, proved over any floats (Proof/Run.lean, Proof/Value.lean).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Reference
public import proofs.«01_k».proof.Proof.Gen.Reference.Run
public import proofs.«01_k».proof.Proof.Gen.AdamIdeal
public import proofs.«01_k».proof.Proof.Gen.AdamIdeal.Skeleton
public import proofs.«01_k».proof.Proof.Gen.AdamIdeal.Launch
public import proofs.«01_k».proof.Proof.Gen.AdamIdeal.Points
public import proofs.«01_k».proof.Proof.Gen.AdamIdeal.Frame
public import proofs.«01_k».proof.Proof.Gen.AdamIdeal.Value
public import proofs.«01_k».proof.Proof.Gen.Adam
public import proofs.«01_k».proof.Proof.Gen.Adam.Frame
public import proofs.«01_k».proof.Proof.Gen.AdamReferenceIdeal
public import proofs.«01_k».proof.Proof.Gen.AdamReferenceIdeal.Run
public import proofs.«01_k».proof.Proof.Gen.LossIdeal.Skeleton
public import proofs.«01_k».proof.Proof.Gen.LossIdeal.Launch
public import proofs.«01_k».proof.Proof.Gen.LossIdeal.Points
public import proofs.«01_k».proof.Proof.Gen.LossIdeal.Frame
public import proofs.«01_k».proof.Proof.Gen.LossIdeal.Value
public import proofs.«01_k».proof.Proof.Gen.Loss.Frame
public import proofs.«01_k».proof.Proof.Gen.LossReferenceIdeal.Run
public import proofs.«01_k».proof.Proof.LossKernel
public import proofs.«01_k».proof.Proof.LossReference
public import proofs.«01_k».proof.Proof.Gen.GradXIdeal.Skeleton
public import proofs.«01_k».proof.Proof.Gen.GradXIdeal.Launch
public import proofs.«01_k».proof.Proof.Gen.GradXIdeal.Points
public import proofs.«01_k».proof.Proof.Gen.GradXIdeal.Frame
public import proofs.«01_k».proof.Proof.Gen.GradXIdeal.Value
public import proofs.«01_k».proof.Proof.Gen.GradX.Frame
public import proofs.«01_k».proof.Proof.Gen.GradXReferenceIdeal.Run
public import proofs.«01_k».proof.Proof.GradXKernel
public import proofs.«01_k».proof.Proof.GradXReference
public import proofs.«01_k».proof.Proof.Gen.MlpInIdeal.Skeleton
public import proofs.«01_k».proof.Proof.Gen.MlpInIdeal.Launch
public import proofs.«01_k».proof.Proof.Gen.MlpInIdeal.Points
public import proofs.«01_k».proof.Proof.Gen.MlpInIdeal.Frame
public import proofs.«01_k».proof.Proof.Gen.MlpInIdeal.Value
public import proofs.«01_k».proof.Proof.Gen.MlpIn.Frame
public import proofs.«01_k».proof.Proof.Gen.MlpInReferenceIdeal.Run
public import proofs.«01_k».proof.Proof.MlpInKernel
public import proofs.«01_k».proof.Proof.MlpInReference
public import proofs.«01_k».proof.Proof.Gen.DownGradIdeal.Skeleton
public import proofs.«01_k».proof.Proof.Gen.DownGradIdeal.Launch
public import proofs.«01_k».proof.Proof.Gen.DownGradIdeal.Points
public import proofs.«01_k».proof.Proof.Gen.DownGradIdeal.Frame
public import proofs.«01_k».proof.Proof.Gen.DownGradIdeal.Value
public import proofs.«01_k».proof.Proof.Gen.DownGrad.Frame
public import proofs.«01_k».proof.Proof.Gen.DownGradReferenceIdeal.Run
public import proofs.«01_k».proof.Proof.Gen.UpGradIdeal.Skeleton
public import proofs.«01_k».proof.Proof.Gen.UpGradIdeal.Launch
public import proofs.«01_k».proof.Proof.Gen.UpGradIdeal.Points
public import proofs.«01_k».proof.Proof.Gen.UpGradIdeal.Frame
public import proofs.«01_k».proof.Proof.Gen.UpGradIdeal.Value
public import proofs.«01_k».proof.Proof.Gen.UpGrad.Frame
public import proofs.«01_k».proof.Proof.Gen.UpGradReferenceIdeal.Run
public import proofs.«01_k».proof.Proof.Gen.OutGradIdeal.Skeleton
public import proofs.«01_k».proof.Proof.Gen.OutGradIdeal.Launch
public import proofs.«01_k».proof.Proof.Gen.OutGradIdeal.Points
public import proofs.«01_k».proof.Proof.Gen.OutGradIdeal.Frame
public import proofs.«01_k».proof.Proof.Gen.OutGradIdeal.Value
public import proofs.«01_k».proof.Proof.Gen.OutGrad.Frame
public import proofs.«01_k».proof.Proof.Gen.OutGradReferenceIdeal.Run
public import proofs.«01_k».proof.Proof.Gen.InGradIdeal.Skeleton
public import proofs.«01_k».proof.Proof.Gen.InGradIdeal.Launch
public import proofs.«01_k».proof.Proof.Gen.InGradIdeal.Points
public import proofs.«01_k».proof.Proof.Gen.InGradIdeal.Frame
public import proofs.«01_k».proof.Proof.Gen.InGradIdeal.Value
public import proofs.«01_k».proof.Proof.Gen.InGrad.Frame
public import proofs.«01_k».proof.Proof.Gen.InGradReferenceIdeal.Run
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjIdeal.Value
public import proofs.«01_k».proof.Proof.Gen.Proj.Frame
public import proofs.«01_k».proof.Proof.Gen.ProjReferenceIdeal.Run
public import proofs.«01_k».proof.Proof.Gen.UpIdeal.Skeleton
public import proofs.«01_k».proof.Proof.Gen.UpIdeal.Launch
public import proofs.«01_k».proof.Proof.Gen.UpIdeal.Points
public import proofs.«01_k».proof.Proof.Gen.UpIdeal.Frame
public import proofs.«01_k».proof.Proof.Gen.UpIdeal.Value
public import proofs.«01_k».proof.Proof.Gen.Up.Frame
public import proofs.«01_k».proof.Proof.Gen.UpReferenceIdeal.Run
public import proofs.«01_k».proof.Proof.Gen.ActIdeal.Skeleton
public import proofs.«01_k».proof.Proof.Gen.ActIdeal.Launch
public import proofs.«01_k».proof.Proof.Gen.ActIdeal.Points
public import proofs.«01_k».proof.Proof.Gen.ActIdeal.Frame
public import proofs.«01_k».proof.Proof.Gen.ActIdeal.Value
public import proofs.«01_k».proof.Proof.Gen.Act.Frame
public import proofs.«01_k».proof.Proof.Gen.ActReferenceIdeal.Run
public import proofs.«01_k».proof.Proof.Gen.ConvGradIdeal.Skeleton
public import proofs.«01_k».proof.Proof.Gen.ConvGradIdeal.Launch
public import proofs.«01_k».proof.Proof.Gen.ConvGradIdeal.Points
public import proofs.«01_k».proof.Proof.Gen.ConvGradIdeal.Frame
public import proofs.«01_k».proof.Proof.Gen.ConvGradIdeal.Value
public import proofs.«01_k».proof.Proof.Gen.ConvGrad.Frame
public import proofs.«01_k».proof.Proof.Gen.ConvGradReferenceIdeal.Run
public import proofs.«01_k».proof.Proof.WeightGrads
public import proofs.«01_k».proof.Proof.Products
public import proofs.«01_k».proof.Proof.ConvBlocks
public import proofs.«01_k».proof.Proof.ConvReference
public import proofs.«01_k».proof.Proof.Value
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem
open Cert.AllGatherProof

/-! ## Frames -/

theorem frame_kernel : Cert.quiescent_Kernel := fun m ρ _ =>
  (θ_run Cert.KernelIdeal.defs _ _).mono (fun _ h => h) (run_frame (F := Bits) m ρ)

theorem frame_kernelIdeal : Cert.quiescent_KernelIdeal := fun m ρ _ =>
  (θ_run Cert.KernelIdeal.defs _ _).mono (fun _ h => h) (run_frame (F := Ideal) m ρ)

theorem frame_reference : Cert.quiescent_Reference := fun m ρ _ =>
  (θ_run Cert.Reference.defs _ _).mono (fun _ h => ⟨fun c => (h c).2.2.2.2.2, sem_eq_zero_of_no_sems rfl _⟩)
    (Cert.Reference.Value.run (F := Bits) m ρ)

theorem frame_referenceIdeal : Cert.quiescent_ReferenceIdeal := fun m ρ _ =>
  (θ_run Cert.ReferenceIdeal.defs _ _).mono (fun _ h => ⟨fun c => (h c).2.2.2.2.2, sem_eq_zero_of_no_sems rfl _⟩)
    (Cert.ReferenceIdeal.Value.run (F := Ideal) m ρ)

/-! ## Values -/

theorem algebraic : Cert.algebraic_KernelIdeal_ReferenceIdeal := fun m ρ m' ρ' _ H =>
  ⟨_, _, _, _, _, run_values (F := Ideal) m ρ H _ _ _ _ _ _ _ _,
    (θ_run Cert.ReferenceIdeal.defs _ _).mono (fun _ h => h 0) (Cert.ReferenceIdeal.Value.run (F := Ideal) m' ρ')⟩

theorem bitexact : Cert.bitexact_Kernel_Reference := fun m ρ m' ρ' _ H =>
  ⟨_, _, _, _, _, run_values (F := Bits) m ρ H _ _ _ _ _ _ _ _,
    (θ_run Cert.Reference.defs _ _).mono (fun _ h => h 0) (Cert.Reference.Value.run (F := Bits) m' ρ')⟩

/-! ## AdamW of the small weights -/

theorem frame_adam : Cert.quiescent_Adam := fun m ρ _ => Cert.Adam.Gen.frame (F := Bits) m ρ

theorem frame_adamIdeal : Cert.quiescent_AdamIdeal := fun m ρ _ => Cert.AdamIdeal.Gen.frame (F := Ideal) m ρ

theorem frame_adamReferenceIdeal : Cert.quiescent_AdamReferenceIdeal := fun m ρ _ =>
  (θ_run Cert.AdamReferenceIdeal.defs _ _).mono (fun _ h => ⟨fun c => (h c).2.2.2, sem_eq_zero_of_no_sems rfl _⟩)
    (Cert.AdamReferenceIdeal.Value.run (F := Ideal) m ρ)

/-- The changes of the weights and their new moments are those of the reference: both do the same operations over the reals. -/
theorem algebraic_adam : Cert.algebraic_AdamIdeal_AdamReferenceIdeal := fun m ρ m' ρ' _ H =>
  ⟨_, _, _, Cert.AdamIdeal.Value.run (F := Ideal) m ρ,
    (θ_run Cert.AdamReferenceIdeal.defs _ _).mono (fun r h c => by
      obtain ⟨h0, h1, h2, h3⟩ := H c
      obtain ⟨r0, r1, r2, k⟩ := h c
      rw [h0, h1, h2, h3] at r0
      rw [h1, h2] at r1
      rw [h1, h3] at r2
      exact ⟨r0, r1, r2, k⟩) (Cert.AdamReferenceIdeal.Value.run (F := Ideal) m' ρ')⟩

/-! ## The loss and the gradients of the last projection's input -/

theorem frame_loss : Cert.quiescent_Loss := fun m ρ _ => Cert.Loss.Gen.frame (F := Bits) m ρ

theorem frame_lossIdeal : Cert.quiescent_LossIdeal := fun m ρ _ => Cert.LossIdeal.Gen.frame (F := Ideal) m ρ

theorem frame_lossReferenceIdeal : Cert.quiescent_LossReferenceIdeal := fun m ρ _ =>
  (θ_run Cert.LossReferenceIdeal.defs _ _).mono (fun _ h => ⟨fun c => (h c).2.2.2.2, sem_eq_zero_of_no_sems rfl _⟩)
    (Cert.LossReferenceIdeal.Value.run (F := Ideal) m ρ)

theorem algebraic_loss : Cert.algebraic_LossIdeal_LossReferenceIdeal := fun m ρ m' ρ' _ H =>
  ⟨_, _, _, _, (θ_run Cert.LossIdeal.defs _ _).mono (fun r h c => by
      obtain ⟨r0, r1, r2, r3, k⟩ := h c
      exact ⟨r0.trans (Cert.LossIdeal.Value.final5 m c), r1.trans (Cert.LossIdeal.Value.final6 m c), r2.trans (Cert.LossIdeal.Value.final7 m c), r3.trans (Cert.LossIdeal.Value.final8 m c), k⟩) (Cert.LossIdeal.Value.run_blocks (F := Ideal) m ρ),
    (θ_run Cert.LossReferenceIdeal.defs _ _).mono (fun r h c => by
      obtain ⟨h0, h1, h2, h3, h4⟩ := H c
      obtain ⟨r0, r1, r2, r3, k⟩ := h c
      rw [h0, h1, h2, h3, h4] at r0
      rw [h0, h1, h2, h3, h4] at r1
      rw [h0, h1, h2, h3, h4] at r2
      rw [h0, h1, h2, h3, h4] at r3
      exact ⟨r0, r1, r2, r3, k⟩) (Cert.LossReferenceIdeal.Value.run_rows m' ρ')⟩

/-! ## The way into the block, backwards -/

theorem frame_gradX : Cert.quiescent_GradX := fun m ρ _ => Cert.GradX.Gen.frame (F := Bits) m ρ

theorem frame_gradXIdeal : Cert.quiescent_GradXIdeal := fun m ρ _ => Cert.GradXIdeal.Gen.frame (F := Ideal) m ρ

theorem frame_gradXReferenceIdeal : Cert.quiescent_GradXReferenceIdeal := fun m ρ _ =>
  (θ_run Cert.GradXReferenceIdeal.defs _ _).mono (fun _ h => ⟨fun c => (h c).2.2.2, sem_eq_zero_of_no_sems rfl _⟩)
    (Cert.GradXReferenceIdeal.Value.run (F := Ideal) m ρ)

theorem algebraic_gradX : Cert.algebraic_GradXIdeal_GradXReferenceIdeal := fun m ρ m' ρ' _ H =>
  ⟨_, _, _, (θ_run Cert.GradXIdeal.defs _ _).mono (fun r h c => by
      obtain ⟨r0, r1, r2, k⟩ := h c
      exact ⟨r0.trans (Cert.GradXIdeal.Value.final12 m c), r1.trans (Cert.GradXIdeal.Value.final13 m c), r2.trans (Cert.GradXIdeal.Value.final14 m c), k⟩) (Cert.GradXIdeal.Value.run_blocks (F := Ideal) m ρ),
    (θ_run Cert.GradXReferenceIdeal.defs _ _).mono (fun r h c => by
      obtain ⟨h0, h1, h2, h3, h4, h5, h6, h7, h8, h9, h10, h11⟩ := H c
      obtain ⟨r0, r1, r2, k⟩ := h c
      rw [h0, h1, h2, h3, h4, h5, h6, h7] at r0
      rw [h0, h1, h2, h3, h4, h5, h6, h7, h8, h9, h10, h11] at r1
      rw [h0, h1, h2, h3, h4, h5, h6, h7, h8, h9] at r2
      exact ⟨r0, r1, r2, k⟩) (Cert.GradXReferenceIdeal.Value.run_rows m' ρ')⟩

/-! ## The way into the MLP, backwards -/

theorem frame_mlpIn : Cert.quiescent_MlpIn := fun m ρ _ => Cert.MlpIn.Gen.frame (F := Bits) m ρ

theorem frame_mlpInIdeal : Cert.quiescent_MlpInIdeal := fun m ρ _ => Cert.MlpInIdeal.Gen.frame (F := Ideal) m ρ

theorem frame_mlpInReferenceIdeal : Cert.quiescent_MlpInReferenceIdeal := fun m ρ _ =>
  (θ_run Cert.MlpInReferenceIdeal.defs _ _).mono (fun _ h => ⟨fun c => (h c).2.2.2.2, sem_eq_zero_of_no_sems rfl _⟩)
    (Cert.MlpInReferenceIdeal.Value.run (F := Ideal) m ρ)

theorem algebraic_mlpIn : Cert.algebraic_MlpInIdeal_MlpInReferenceIdeal := fun m ρ m' ρ' _ H =>
  ⟨_, _, _, _, (θ_run Cert.MlpInIdeal.defs _ _).mono (fun r h c => by
      obtain ⟨r0, r1, r2, r3, k⟩ := h c
      exact ⟨r0.trans (Cert.MlpInIdeal.Value.final7 m c), r1.trans (Cert.MlpInIdeal.Value.final8 m c), r2.trans (Cert.MlpInIdeal.Value.final9 m c), r3.trans (Cert.MlpInIdeal.Value.final10 m c), k⟩) (Cert.MlpInIdeal.Value.run_blocks (F := Ideal) m ρ),
    (θ_run Cert.MlpInReferenceIdeal.defs _ _).mono (fun r h c => by
      obtain ⟨h0, h1, h2, h3, h4, h5, h6⟩ := H c
      obtain ⟨r0, r1, r2, r3, k⟩ := h c
      rw [h0, h1, h2, h3, h4] at r0
      rw [h0, h1, h2, h3, h4, h5, h6] at r1
      rw [h0, h1, h2] at r2
      rw [h0, h1, h2, h3, h4, h5] at r3
      exact ⟨r0, r1, r2, r3, k⟩) (Cert.MlpInReferenceIdeal.Value.run_rows m' ρ')⟩

/-! ## The gradient of the second MLP weight -/

theorem frame_downGrad : Cert.quiescent_DownGrad := fun m ρ _ => Cert.DownGrad.Gen.frame (F := Bits) m ρ

theorem frame_downGradIdeal : Cert.quiescent_DownGradIdeal := fun m ρ _ => Cert.DownGradIdeal.Gen.frame (F := Ideal) m ρ

theorem frame_downGradReferenceIdeal : Cert.quiescent_DownGradReferenceIdeal := fun m ρ _ =>
  (θ_run Cert.DownGradReferenceIdeal.defs _ _).mono (fun _ h => ⟨fun c => (h c).2, sem_eq_zero_of_no_sems rfl _⟩)
    (Cert.DownGradReferenceIdeal.Value.run (F := Ideal) m ρ)

theorem algebraic_downGrad : Cert.algebraic_DownGradIdeal_DownGradReferenceIdeal := fun m ρ m' ρ' _ H =>
  ⟨_, (θ_run Cert.DownGradIdeal.defs _ _).mono (fun r h c => by
      obtain ⟨r0, k⟩ := h c
      exact ⟨r0.trans (Cert.DownGradIdeal.Value.final2 m c), k⟩) (Cert.DownGradIdeal.Value.run_blocks (F := Ideal) m ρ),
    (θ_run Cert.DownGradReferenceIdeal.defs _ _).mono (fun r h c => by
      obtain ⟨h0, h1⟩ := H c
      obtain ⟨r0, k⟩ := h c
      rw [h0, h1] at r0
      exact ⟨r0, k⟩) (Cert.DownGradReferenceIdeal.Value.run_rows m' ρ')⟩

/-! ## The gradient of the first MLP weight -/

theorem frame_upGrad : Cert.quiescent_UpGrad := fun m ρ _ => Cert.UpGrad.Gen.frame (F := Bits) m ρ

theorem frame_upGradIdeal : Cert.quiescent_UpGradIdeal := fun m ρ _ => Cert.UpGradIdeal.Gen.frame (F := Ideal) m ρ

theorem frame_upGradReferenceIdeal : Cert.quiescent_UpGradReferenceIdeal := fun m ρ _ =>
  (θ_run Cert.UpGradReferenceIdeal.defs _ _).mono (fun _ h => ⟨fun c => (h c).2, sem_eq_zero_of_no_sems rfl _⟩)
    (Cert.UpGradReferenceIdeal.Value.run (F := Ideal) m ρ)

theorem algebraic_upGrad : Cert.algebraic_UpGradIdeal_UpGradReferenceIdeal := fun m ρ m' ρ' _ H =>
  ⟨_, (θ_run Cert.UpGradIdeal.defs _ _).mono (fun r h c => by
      obtain ⟨r0, k⟩ := h c
      exact ⟨r0.trans (Cert.UpGradIdeal.Value.final2 m c), k⟩) (Cert.UpGradIdeal.Value.run_blocks (F := Ideal) m ρ),
    (θ_run Cert.UpGradReferenceIdeal.defs _ _).mono (fun r h c => by
      obtain ⟨h0, h1⟩ := H c
      obtain ⟨r0, k⟩ := h c
      rw [h0, h1] at r0
      exact ⟨r0, k⟩) (Cert.UpGradReferenceIdeal.Value.run_rows m' ρ')⟩

/-! ## The gradient of the output weight -/

theorem frame_outGrad : Cert.quiescent_OutGrad := fun m ρ _ => Cert.OutGrad.Gen.frame (F := Bits) m ρ

theorem frame_outGradIdeal : Cert.quiescent_OutGradIdeal := fun m ρ _ => Cert.OutGradIdeal.Gen.frame (F := Ideal) m ρ

theorem frame_outGradReferenceIdeal : Cert.quiescent_OutGradReferenceIdeal := fun m ρ _ =>
  (θ_run Cert.OutGradReferenceIdeal.defs _ _).mono (fun _ h => ⟨fun c => (h c).2, sem_eq_zero_of_no_sems rfl _⟩)
    (Cert.OutGradReferenceIdeal.Value.run (F := Ideal) m ρ)

theorem algebraic_outGrad : Cert.algebraic_OutGradIdeal_OutGradReferenceIdeal := fun m ρ m' ρ' _ H =>
  ⟨_, (θ_run Cert.OutGradIdeal.defs _ _).mono (fun r h c => by
      obtain ⟨r0, k⟩ := h c
      exact ⟨r0.trans (Cert.OutGradIdeal.Value.final2 m c), k⟩) (Cert.OutGradIdeal.Value.run_blocks (F := Ideal) m ρ),
    (θ_run Cert.OutGradReferenceIdeal.defs _ _).mono (fun r h c => by
      obtain ⟨h0, h1⟩ := H c
      obtain ⟨r0, k⟩ := h c
      rw [h0, h1] at r0
      exact ⟨r0, k⟩) (Cert.OutGradReferenceIdeal.Value.run_rows m' ρ')⟩

/-! ## The gradient of the input weight -/

theorem frame_inGrad : Cert.quiescent_InGrad := fun m ρ _ => Cert.InGrad.Gen.frame (F := Bits) m ρ

theorem frame_inGradIdeal : Cert.quiescent_InGradIdeal := fun m ρ _ => Cert.InGradIdeal.Gen.frame (F := Ideal) m ρ

theorem frame_inGradReferenceIdeal : Cert.quiescent_InGradReferenceIdeal := fun m ρ _ =>
  (θ_run Cert.InGradReferenceIdeal.defs _ _).mono (fun _ h => ⟨fun c => (h c).2, sem_eq_zero_of_no_sems rfl _⟩)
    (Cert.InGradReferenceIdeal.Value.run (F := Ideal) m ρ)

theorem algebraic_inGrad : Cert.algebraic_InGradIdeal_InGradReferenceIdeal := fun m ρ m' ρ' _ H =>
  ⟨_, (θ_run Cert.InGradIdeal.defs _ _).mono (fun r h c => by
      obtain ⟨r0, k⟩ := h c
      exact ⟨r0.trans (Cert.InGradIdeal.Value.final2 m c), k⟩) (Cert.InGradIdeal.Value.run_blocks (F := Ideal) m ρ),
    (θ_run Cert.InGradReferenceIdeal.defs _ _).mono (fun r h c => by
      obtain ⟨h0, h1⟩ := H c
      obtain ⟨r0, k⟩ := h c
      rw [h0, h1] at r0
      exact ⟨r0, k⟩) (Cert.InGradReferenceIdeal.Value.run_rows m' ρ')⟩

/-! ## The normalised input and its projections -/

theorem frame_proj : Cert.quiescent_Proj := fun m ρ _ => Cert.Proj.Gen.frame (F := Bits) m ρ

theorem frame_projIdeal : Cert.quiescent_ProjIdeal := fun m ρ _ => Cert.ProjIdeal.Gen.frame (F := Ideal) m ρ

theorem frame_projReferenceIdeal : Cert.quiescent_ProjReferenceIdeal := fun m ρ _ =>
  (θ_run Cert.ProjReferenceIdeal.defs _ _).mono (fun _ h => ⟨fun c => (h c).2.2, sem_eq_zero_of_no_sems rfl _⟩)
    (Cert.ProjReferenceIdeal.Value.run (F := Ideal) m ρ)

theorem algebraic_proj : Cert.algebraic_ProjIdeal_ProjReferenceIdeal := fun m ρ m' ρ' _ H =>
  ⟨_, _, (θ_run Cert.ProjIdeal.defs _ _).mono (fun r h c => by
      obtain ⟨r0, r1, k⟩ := h c
      exact ⟨r0.trans (Cert.ProjIdeal.Value.final3 m c), r1.trans (Cert.ProjIdeal.Value.final4 m c), k⟩) (Cert.ProjIdeal.Value.run_blocks (F := Ideal) m ρ),
    (θ_run Cert.ProjReferenceIdeal.defs _ _).mono (fun r h c => by
      obtain ⟨h0, h1, h2⟩ := H c
      obtain ⟨r0, r1, k⟩ := h c
      rw [h0, h1, h2] at r0
      rw [h0, h1] at r1
      exact ⟨r0, r1, k⟩) (Cert.ProjReferenceIdeal.Value.run_rows m' ρ')⟩

/-! ## The product with the first MLP weight -/

theorem frame_up : Cert.quiescent_Up := fun m ρ _ => Cert.Up.Gen.frame (F := Bits) m ρ

theorem frame_upIdeal : Cert.quiescent_UpIdeal := fun m ρ _ => Cert.UpIdeal.Gen.frame (F := Ideal) m ρ

theorem frame_upReferenceIdeal : Cert.quiescent_UpReferenceIdeal := fun m ρ _ =>
  (θ_run Cert.UpReferenceIdeal.defs _ _).mono (fun _ h => ⟨fun c => (h c).2, sem_eq_zero_of_no_sems rfl _⟩)
    (Cert.UpReferenceIdeal.Value.run (F := Ideal) m ρ)

theorem algebraic_up : Cert.algebraic_UpIdeal_UpReferenceIdeal := fun m ρ m' ρ' _ H =>
  ⟨_, (θ_run Cert.UpIdeal.defs _ _).mono (fun r h c => by
      obtain ⟨r0, k⟩ := h c
      exact ⟨r0.trans (Cert.UpIdeal.Value.final2 m c), k⟩) (Cert.UpIdeal.Value.run_blocks (F := Ideal) m ρ),
    (θ_run Cert.UpReferenceIdeal.defs _ _).mono (fun r h c => by
      obtain ⟨h0, h1⟩ := H c
      obtain ⟨r0, k⟩ := h c
      rw [h0, h1] at r0
      exact ⟨r0, k⟩) (Cert.UpReferenceIdeal.Value.run_rows m' ρ')⟩

/-! ## The gradient through the activation -/

theorem frame_act : Cert.quiescent_Act := fun m ρ _ => Cert.Act.Gen.frame (F := Bits) m ρ

theorem frame_actIdeal : Cert.quiescent_ActIdeal := fun m ρ _ => Cert.ActIdeal.Gen.frame (F := Ideal) m ρ

theorem frame_actReferenceIdeal : Cert.quiescent_ActReferenceIdeal := fun m ρ _ =>
  (θ_run Cert.ActReferenceIdeal.defs _ _).mono (fun _ h => ⟨fun c => (h c).2, sem_eq_zero_of_no_sems rfl _⟩)
    (Cert.ActReferenceIdeal.Value.run (F := Ideal) m ρ)

theorem algebraic_act : Cert.algebraic_ActIdeal_ActReferenceIdeal := fun m ρ m' ρ' _ H =>
  ⟨_, (θ_run Cert.ActIdeal.defs _ _).mono (fun r h c => by
      obtain ⟨r0, k⟩ := h c
      exact ⟨r0.trans (Cert.ActIdeal.Value.final3 m c), k⟩) (Cert.ActIdeal.Value.run_blocks (F := Ideal) m ρ),
    (θ_run Cert.ActReferenceIdeal.defs _ _).mono (fun r h c => by
      obtain ⟨h0, h1, h2⟩ := H c
      obtain ⟨r0, k⟩ := h c
      rw [h0, h1, h2] at r0
      exact ⟨r0, k⟩) (Cert.ActReferenceIdeal.Value.run_rows m' ρ')⟩

/-! ## Backward through the convolution -/

theorem frame_convGrad : Cert.quiescent_ConvGrad := fun m ρ _ => Cert.ConvGrad.Gen.frame (F := Bits) m ρ

theorem frame_convGradIdeal : Cert.quiescent_ConvGradIdeal := fun m ρ _ => Cert.ConvGradIdeal.Gen.frame (F := Ideal) m ρ

theorem frame_convGradReferenceIdeal : Cert.quiescent_ConvGradReferenceIdeal := fun m ρ _ =>
  (θ_run Cert.ConvGradReferenceIdeal.defs _ _).mono (fun _ h => ⟨fun c => (h c).2.2.2.2.2.2, sem_eq_zero_of_no_sems rfl _⟩)
    (Cert.ConvGradReferenceIdeal.Value.run (F := Ideal) m ρ)

theorem algebraic_convGrad : Cert.algebraic_ConvGradIdeal_ConvGradReferenceIdeal := fun m ρ m' ρ' _ H =>
  ⟨_, _, _, _, _, _, (θ_run Cert.ConvGradIdeal.defs _ _).mono (fun r h c => by
      obtain ⟨r0, r1, r2, r3, r4, r5, k⟩ := h c
      exact ⟨r0.trans (Cert.ConvGradIdeal.Value.final9 m c), r1.trans (Cert.ConvGradIdeal.Value.final10 m c), r2.trans (Cert.ConvGradIdeal.Value.final11 m c), r3.trans (Cert.ConvGradIdeal.Value.final12 m c), r4.trans (Cert.ConvGradIdeal.Value.final13 m c), r5.trans (Cert.ConvGradIdeal.Value.final14 m c), k⟩) (Cert.ConvGradIdeal.Value.run_blocks (F := Ideal) m ρ),
    (θ_run Cert.ConvGradReferenceIdeal.defs _ _).mono (fun r h c => by
      obtain ⟨h0, h1, h2, h3, h4⟩ := H c
      obtain ⟨r0, r1, r2, r3, r4, r5, k⟩ := h c
      rw [h0, h1, h2] at r0
      rw [h0, h1, h3] at r1
      rw [h0, h1, h4] at r2
      rw [h0, h1, h2] at r3
      rw [h0, h1, h3] at r4
      rw [h0, h1, h4] at r5
      exact ⟨r0, r1, r2, r3, r4, r5, k⟩) (Cert.ConvGradReferenceIdeal.Value.run_rows m' ρ')⟩

theorem claim : Cert.Claim := ⟨Cert.Kernel.Gen.facts, Cert.KernelIdeal.Gen.facts, Cert.ReferenceIdeal.Gen.facts, Cert.Reference.Gen.facts,
  Cert.Adam.Gen.facts, Cert.AdamIdeal.Gen.facts, Cert.AdamReferenceIdeal.Gen.facts,
  Cert.Loss.Gen.facts, Cert.LossIdeal.Gen.facts, Cert.LossReferenceIdeal.Gen.facts,
  Cert.GradX.Gen.facts, Cert.GradXIdeal.Gen.facts, Cert.GradXReferenceIdeal.Gen.facts,
  Cert.MlpIn.Gen.facts, Cert.MlpInIdeal.Gen.facts, Cert.MlpInReferenceIdeal.Gen.facts,
  Cert.DownGrad.Gen.facts, Cert.DownGradIdeal.Gen.facts, Cert.DownGradReferenceIdeal.Gen.facts,
  Cert.UpGrad.Gen.facts, Cert.UpGradIdeal.Gen.facts, Cert.UpGradReferenceIdeal.Gen.facts,
  Cert.OutGrad.Gen.facts, Cert.OutGradIdeal.Gen.facts, Cert.OutGradReferenceIdeal.Gen.facts,
  Cert.InGrad.Gen.facts, Cert.InGradIdeal.Gen.facts, Cert.InGradReferenceIdeal.Gen.facts,
  Cert.Proj.Gen.facts, Cert.ProjIdeal.Gen.facts, Cert.ProjReferenceIdeal.Gen.facts,
  Cert.Up.Gen.facts, Cert.UpIdeal.Gen.facts, Cert.UpReferenceIdeal.Gen.facts,
  Cert.Act.Gen.facts, Cert.ActIdeal.Gen.facts, Cert.ActReferenceIdeal.Gen.facts,
  Cert.ConvGrad.Gen.facts, Cert.ConvGradIdeal.Gen.facts, Cert.ConvGradReferenceIdeal.Gen.facts,
  frame_kernel, frame_kernelIdeal, frame_referenceIdeal, frame_reference, frame_adam, frame_adamIdeal, frame_adamReferenceIdeal,
  frame_loss, frame_lossIdeal, frame_lossReferenceIdeal, frame_gradX, frame_gradXIdeal, frame_gradXReferenceIdeal,
  frame_mlpIn, frame_mlpInIdeal, frame_mlpInReferenceIdeal,
  frame_downGrad, frame_downGradIdeal, frame_downGradReferenceIdeal,
  frame_upGrad, frame_upGradIdeal, frame_upGradReferenceIdeal,
  frame_outGrad, frame_outGradIdeal, frame_outGradReferenceIdeal,
  frame_inGrad, frame_inGradIdeal, frame_inGradReferenceIdeal,
  frame_proj, frame_projIdeal, frame_projReferenceIdeal,
  frame_up, frame_upIdeal, frame_upReferenceIdeal,
  frame_act, frame_actIdeal, frame_actReferenceIdeal,
  frame_convGrad, frame_convGradIdeal, frame_convGradReferenceIdeal,
  trivial, algebraic, bitexact, trivial, algebraic_adam, trivial, algebraic_loss, trivial, algebraic_gradX, trivial, algebraic_mlpIn,
  trivial, algebraic_downGrad, trivial, algebraic_upGrad, trivial, algebraic_outGrad, trivial, algebraic_inGrad, trivial, algebraic_proj, trivial, algebraic_up, trivial, algebraic_act,
  trivial, algebraic_convGrad⟩

end Cert.Proof

end
